-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_EvenInContext (m : (ℓ : Loc Cert.EvenInContext.nD Cert.EvenInContext.τ Cert.EvenInContext.sig) → Buf (Elt Bits) ℓ) : Prop :=
  True

def Pre_EvenInContextIdeal (m : (ℓ : Loc Cert.EvenInContextIdeal.nD Cert.EvenInContextIdeal.τ Cert.EvenInContextIdeal.sig) → Buf (Elt Ideal) ℓ) : Prop :=
  True

def Pre_EvenInContextReferenceIdeal (m : (ℓ : Loc Cert.EvenInContextReferenceIdeal.nD Cert.EvenInContextReferenceIdeal.τ Cert.EvenInContextReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_EvenOutContext (m : (ℓ : Loc Cert.EvenOutContext.nD Cert.EvenOutContext.τ Cert.EvenOutContext.sig) → Buf (Elt Bits) ℓ) : Prop :=
  True

def Pre_EvenOutContextIdeal (m : (ℓ : Loc Cert.EvenOutContextIdeal.nD Cert.EvenOutContextIdeal.τ Cert.EvenOutContextIdeal.sig) → Buf (Elt Ideal) ℓ) : Prop :=
  True

def Pre_EvenOutContextReferenceIdeal (m : (ℓ : Loc Cert.EvenOutContextReferenceIdeal.nD Cert.EvenOutContextReferenceIdeal.τ Cert.EvenOutContextReferenceIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_KeyScores (m : (ℓ : Loc Cert.KeyScores.nD Cert.KeyScores.τ Cert.KeyScores.sig) → Buf (Elt Bits) ℓ) : Prop :=
  True

def Pre_KeyScoresIdeal (m : (ℓ : Loc Cert.KeyScoresIdeal.nD Cert.KeyScoresIdeal.τ Cert.KeyScoresIdeal.sig) → Buf (Elt Ideal) ℓ) : Prop :=
  True

def Pre_KeyScoresReferenceIdeal (m : (ℓ : Loc Cert.KeyScoresReferenceIdeal.nD Cert.KeyScoresReferenceIdeal.τ Cert.KeyScoresReferenceIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1))
      ∧ r.2.sem = fun _ => 0)

def quiescent_EvenInContext [hEvenInContext : Cert.EvenInContext.Facts] : Prop :=
  ∀ (m : (ℓ : Loc Cert.EvenInContext.nD Cert.EvenInContext.τ Cert.EvenInContext.sig) → Buf (Elt Bits) ℓ) (g : Dev Cert.EvenInContext.nD → PrngReg), Pre_EvenInContext m →
    θ_run (Cert.EvenInContext.defs (F := Bits)) (onTc (τ := Cert.EvenInContext.τ) (Cert.EvenInContext.main (F := Bits))) ⟨m, fun _ => 0, g⟩ (fun r => (∀ c : Dev Cert.EvenInContext.nD,
      r.2.mem ((c.tc : Thread Cert.EvenInContext.nD Cert.EvenInContext.τ).loc Cert.EvenInContext.main_arg0) = m ((c.tc : Thread Cert.EvenInContext.nD Cert.EvenInContext.τ).loc Cert.EvenInContext.main_arg0)
      ∧ r.2.mem ((c.tc : Thread Cert.EvenInContext.nD Cert.EvenInContext.τ).loc Cert.EvenInContext.main_arg1) = m ((c.tc : Thread Cert.EvenInContext.nD Cert.EvenInContext.τ).loc Cert.EvenInContext.main_arg1))
      ∧ r.2.sem = fun _ => 0)

def quiescent_EvenInContextIdeal [hEvenInContextIdeal : Cert.EvenInContextIdeal.Facts] : Prop :=
  ∀ (m : (ℓ : Loc Cert.EvenInContextIdeal.nD Cert.EvenInContextIdeal.τ Cert.EvenInContextIdeal.sig) → Buf (Elt Ideal) ℓ) (g : Dev Cert.EvenInContextIdeal.nD → PrngReg), Pre_EvenInContextIdeal m →
    θ_run (Cert.EvenInContextIdeal.defs (F := Ideal)) (onTc (τ := Cert.EvenInContextIdeal.τ) (Cert.EvenInContextIdeal.main (F := Ideal))) ⟨m, fun _ => 0, g⟩ (fun r => (∀ c : Dev Cert.EvenInContextIdeal.nD,
      r.2.mem ((c.tc : Thread Cert.EvenInContextIdeal.nD Cert.EvenInContextIdeal.τ).loc Cert.EvenInContextIdeal.main_arg0) = m ((c.tc : Thread Cert.EvenInContextIdeal.nD Cert.EvenInContextIdeal.τ).loc Cert.EvenInContextIdeal.main_arg0)
      ∧ r.2.mem ((c.tc : Thread Cert.EvenInContextIdeal.nD Cert.EvenInContextIdeal.τ).loc Cert.EvenInContextIdeal.main_arg1) = m ((c.tc : Thread Cert.EvenInContextIdeal.nD Cert.EvenInContextIdeal.τ).loc Cert.EvenInContextIdeal.main_arg1))
      ∧ r.2.sem = fun _ => 0)

def quiescent_EvenInContextReferenceIdeal [hEvenInContextReferenceIdeal : Cert.EvenInContextReferenceIdeal.Facts] : Prop :=
  ∀ (m : (ℓ : Loc Cert.EvenInContextReferenceIdeal.nD Cert.EvenInContextReferenceIdeal.τ Cert.EvenInContextReferenceIdeal.sig) → Buf (Elt Ideal) ℓ) (g : Dev Cert.EvenInContextReferenceIdeal.nD → PrngReg), Pre_EvenInContextReferenceIdeal m →
    θ_run (Cert.EvenInContextReferenceIdeal.defs (F := Ideal)) (onTc (τ := Cert.EvenInContextReferenceIdeal.τ) (Cert.EvenInContextReferenceIdeal.main (F := Ideal))) ⟨m, fun _ => 0, g⟩ (fun r => (∀ c : Dev Cert.EvenInContextReferenceIdeal.nD,
      r.2.mem ((c.tc : Thread Cert.EvenInContextReferenceIdeal.nD Cert.EvenInContextReferenceIdeal.τ).loc Cert.EvenInContextReferenceIdeal.main_arg0) = m ((c.tc : Thread Cert.EvenInContextReferenceIdeal.nD Cert.EvenInContextReferenceIdeal.τ).loc Cert.EvenInContextReferenceIdeal.main_arg0)
      ∧ r.2.mem ((c.tc : Thread Cert.EvenInContextReferenceIdeal.nD Cert.EvenInContextReferenceIdeal.τ).loc Cert.EvenInContextReferenceIdeal.main_arg1) = m ((c.tc : Thread Cert.EvenInContextReferenceIdeal.nD Cert.EvenInContextReferenceIdeal.τ).loc Cert.EvenInContextReferenceIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1))
      ∧ r.2.sem = fun _ => 0)

def quiescent_EvenOutContext [hEvenOutContext : Cert.EvenOutContext.Facts] : Prop :=
  ∀ (m : (ℓ : Loc Cert.EvenOutContext.nD Cert.EvenOutContext.τ Cert.EvenOutContext.sig) → Buf (Elt Bits) ℓ) (g : Dev Cert.EvenOutContext.nD → PrngReg), Pre_EvenOutContext m →
    θ_run (Cert.EvenOutContext.defs (F := Bits)) (onTc (τ := Cert.EvenOutContext.τ) (Cert.EvenOutContext.main (F := Bits))) ⟨m, fun _ => 0, g⟩ (fun r => (∀ c : Dev Cert.EvenOutContext.nD,
      r.2.mem ((c.tc : Thread Cert.EvenOutContext.nD Cert.EvenOutContext.τ).loc Cert.EvenOutContext.main_arg0) = m ((c.tc : Thread Cert.EvenOutContext.nD Cert.EvenOutContext.τ).loc Cert.EvenOutContext.main_arg0)
      ∧ r.2.mem ((c.tc : Thread Cert.EvenOutContext.nD Cert.EvenOutContext.τ).loc Cert.EvenOutContext.main_arg1) = m ((c.tc : Thread Cert.EvenOutContext.nD Cert.EvenOutContext.τ).loc Cert.EvenOutContext.main_arg1))
      ∧ r.2.sem = fun _ => 0)

def quiescent_EvenOutContextIdeal [hEvenOutContextIdeal : Cert.EvenOutContextIdeal.Facts] : Prop :=
  ∀ (m : (ℓ : Loc Cert.EvenOutContextIdeal.nD Cert.EvenOutContextIdeal.τ Cert.EvenOutContextIdeal.sig) → Buf (Elt Ideal) ℓ) (g : Dev Cert.EvenOutContextIdeal.nD → PrngReg), Pre_EvenOutContextIdeal m →
    θ_run (Cert.EvenOutContextIdeal.defs (F := Ideal)) (onTc (τ := Cert.EvenOutContextIdeal.τ) (Cert.EvenOutContextIdeal.main (F := Ideal))) ⟨m, fun _ => 0, g⟩ (fun r => (∀ c : Dev Cert.EvenOutContextIdeal.nD,
      r.2.mem ((c.tc : Thread Cert.EvenOutContextIdeal.nD Cert.EvenOutContextIdeal.τ).loc Cert.EvenOutContextIdeal.main_arg0) = m ((c.tc : Thread Cert.EvenOutContextIdeal.nD Cert.EvenOutContextIdeal.τ).loc Cert.EvenOutContextIdeal.main_arg0)
      ∧ r.2.mem ((c.tc : Thread Cert.EvenOutContextIdeal.nD Cert.EvenOutContextIdeal.τ).loc Cert.EvenOutContextIdeal.main_arg1) = m ((c.tc : Thread Cert.EvenOutContextIdeal.nD Cert.EvenOutContextIdeal.τ).loc Cert.EvenOutContextIdeal.main_arg1))
      ∧ r.2.sem = fun _ => 0)

def quiescent_EvenOutContextReferenceIdeal [hEvenOutContextReferenceIdeal : Cert.EvenOutContextReferenceIdeal.Facts] : Prop :=
  ∀ (m : (ℓ : Loc Cert.EvenOutContextReferenceIdeal.nD Cert.EvenOutContextReferenceIdeal.τ Cert.EvenOutContextReferenceIdeal.sig) → Buf (Elt Ideal) ℓ) (g : Dev Cert.EvenOutContextReferenceIdeal.nD → PrngReg), Pre_EvenOutContextReferenceIdeal m →
    θ_run (Cert.EvenOutContextReferenceIdeal.defs (F := Ideal)) (onTc (τ := Cert.EvenOutContextReferenceIdeal.τ) (Cert.EvenOutContextReferenceIdeal.main (F := Ideal))) ⟨m, fun _ => 0, g⟩ (fun r => (∀ c : Dev Cert.EvenOutContextReferenceIdeal.nD,
      r.2.mem ((c.tc : Thread Cert.EvenOutContextReferenceIdeal.nD Cert.EvenOutContextReferenceIdeal.τ).loc Cert.EvenOutContextReferenceIdeal.main_arg0) = m ((c.tc : Thread Cert.EvenOutContextReferenceIdeal.nD Cert.EvenOutContextReferenceIdeal.τ).loc Cert.EvenOutContextReferenceIdeal.main_arg0)
      ∧ r.2.mem ((c.tc : Thread Cert.EvenOutContextReferenceIdeal.nD Cert.EvenOutContextReferenceIdeal.τ).loc Cert.EvenOutContextReferenceIdeal.main_arg1) = m ((c.tc : Thread Cert.EvenOutContextReferenceIdeal.nD Cert.EvenOutContextReferenceIdeal.τ).loc Cert.EvenOutContextReferenceIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1))
      ∧ r.2.sem = fun _ => 0)

def quiescent_KeyScores [hKeyScores : Cert.KeyScores.Facts] : Prop :=
  ∀ (m : (ℓ : Loc Cert.KeyScores.nD Cert.KeyScores.τ Cert.KeyScores.sig) → Buf (Elt Bits) ℓ) (g : Dev Cert.KeyScores.nD → PrngReg), Pre_KeyScores m →
    θ_run (Cert.KeyScores.defs (F := Bits)) (onTc (τ := Cert.KeyScores.τ) (Cert.KeyScores.main (F := Bits))) ⟨m, fun _ => 0, g⟩ (fun r => (∀ c : Dev Cert.KeyScores.nD,
      r.2.mem ((c.tc : Thread Cert.KeyScores.nD Cert.KeyScores.τ).loc Cert.KeyScores.main_arg0) = m ((c.tc : Thread Cert.KeyScores.nD Cert.KeyScores.τ).loc Cert.KeyScores.main_arg0)
      ∧ r.2.mem ((c.tc : Thread Cert.KeyScores.nD Cert.KeyScores.τ).loc Cert.KeyScores.main_arg1) = m ((c.tc : Thread Cert.KeyScores.nD Cert.KeyScores.τ).loc Cert.KeyScores.main_arg1)
      ∧ r.2.mem ((c.tc : Thread Cert.KeyScores.nD Cert.KeyScores.τ).loc Cert.KeyScores.main_arg2) = m ((c.tc : Thread Cert.KeyScores.nD Cert.KeyScores.τ).loc Cert.KeyScores.main_arg2))
      ∧ r.2.sem = fun _ => 0)

def quiescent_KeyScoresIdeal [hKeyScoresIdeal : Cert.KeyScoresIdeal.Facts] : Prop :=
  ∀ (m : (ℓ : Loc Cert.KeyScoresIdeal.nD Cert.KeyScoresIdeal.τ Cert.KeyScoresIdeal.sig) → Buf (Elt Ideal) ℓ) (g : Dev Cert.KeyScoresIdeal.nD → PrngReg), Pre_KeyScoresIdeal m →
    θ_run (Cert.KeyScoresIdeal.defs (F := Ideal)) (onTc (τ := Cert.KeyScoresIdeal.τ) (Cert.KeyScoresIdeal.main (F := Ideal))) ⟨m, fun _ => 0, g⟩ (fun r => (∀ c : Dev Cert.KeyScoresIdeal.nD,
      r.2.mem ((c.tc : Thread Cert.KeyScoresIdeal.nD Cert.KeyScoresIdeal.τ).loc Cert.KeyScoresIdeal.main_arg0) = m ((c.tc : Thread Cert.KeyScoresIdeal.nD Cert.KeyScoresIdeal.τ).loc Cert.KeyScoresIdeal.main_arg0)
      ∧ r.2.mem ((c.tc : Thread Cert.KeyScoresIdeal.nD Cert.KeyScoresIdeal.τ).loc Cert.KeyScoresIdeal.main_arg1) = m ((c.tc : Thread Cert.KeyScoresIdeal.nD Cert.KeyScoresIdeal.τ).loc Cert.KeyScoresIdeal.main_arg1)
      ∧ r.2.mem ((c.tc : Thread Cert.KeyScoresIdeal.nD Cert.KeyScoresIdeal.τ).loc Cert.KeyScoresIdeal.main_arg2) = m ((c.tc : Thread Cert.KeyScoresIdeal.nD Cert.KeyScoresIdeal.τ).loc Cert.KeyScoresIdeal.main_arg2))
      ∧ r.2.sem = fun _ => 0)

def quiescent_KeyScoresReferenceIdeal [hKeyScoresReferenceIdeal : Cert.KeyScoresReferenceIdeal.Facts] : Prop :=
  ∀ (m : (ℓ : Loc Cert.KeyScoresReferenceIdeal.nD Cert.KeyScoresReferenceIdeal.τ Cert.KeyScoresReferenceIdeal.sig) → Buf (Elt Ideal) ℓ) (g : Dev Cert.KeyScoresReferenceIdeal.nD → PrngReg), Pre_KeyScoresReferenceIdeal m →
    θ_run (Cert.KeyScoresReferenceIdeal.defs (F := Ideal)) (onTc (τ := Cert.KeyScoresReferenceIdeal.τ) (Cert.KeyScoresReferenceIdeal.main (F := Ideal))) ⟨m, fun _ => 0, g⟩ (fun r => (∀ c : Dev Cert.KeyScoresReferenceIdeal.nD,
      r.2.mem ((c.tc : Thread Cert.KeyScoresReferenceIdeal.nD Cert.KeyScoresReferenceIdeal.τ).loc Cert.KeyScoresReferenceIdeal.main_arg0) = m ((c.tc : Thread Cert.KeyScoresReferenceIdeal.nD Cert.KeyScoresReferenceIdeal.τ).loc Cert.KeyScoresReferenceIdeal.main_arg0)
      ∧ r.2.mem ((c.tc : Thread Cert.KeyScoresReferenceIdeal.nD Cert.KeyScoresReferenceIdeal.τ).loc Cert.KeyScoresReferenceIdeal.main_arg1) = m ((c.tc : Thread Cert.KeyScoresReferenceIdeal.nD Cert.KeyScoresReferenceIdeal.τ).loc Cert.KeyScoresReferenceIdeal.main_arg1)
      ∧ r.2.mem ((c.tc : Thread Cert.KeyScoresReferenceIdeal.nD Cert.KeyScoresReferenceIdeal.τ).loc Cert.KeyScoresReferenceIdeal.main_arg2) = m ((c.tc : Thread Cert.KeyScoresReferenceIdeal.nD Cert.KeyScoresReferenceIdeal.τ).loc Cert.KeyScoresReferenceIdeal.main_arg2))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v1) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v1) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1))

def preserves_EvenInContext_EvenInContextIdeal : Prop :=
  True

def algebraic_EvenInContextIdeal_EvenInContextReferenceIdeal [hEvenInContextIdeal : Cert.EvenInContextIdeal.Facts] [hEvenInContextReferenceIdeal : Cert.EvenInContextReferenceIdeal.Facts] : Prop :=
  ∀ (m : (ℓ : Loc Cert.EvenInContextIdeal.nD Cert.EvenInContextIdeal.τ Cert.EvenInContextIdeal.sig) → Buf (Elt Ideal) ℓ) (g : Dev Cert.EvenInContextIdeal.nD → PrngReg)
    (m' : (ℓ : Loc Cert.EvenInContextReferenceIdeal.nD Cert.EvenInContextReferenceIdeal.τ Cert.EvenInContextReferenceIdeal.sig) → Buf (Elt Ideal) ℓ) (g' : Dev Cert.EvenInContextReferenceIdeal.nD → PrngReg), Pre_EvenInContextIdeal m →
    (∀ c : Dev Cert.EvenInContextIdeal.nD,
      m' ((c.tc : Thread Cert.EvenInContextReferenceIdeal.nD Cert.EvenInContextReferenceIdeal.τ).loc Cert.EvenInContextReferenceIdeal.main_arg0) = m ((c.tc : Thread Cert.EvenInContextIdeal.nD Cert.EvenInContextIdeal.τ).loc Cert.EvenInContextIdeal.main_arg0)
      ∧ m' ((c.tc : Thread Cert.EvenInContextReferenceIdeal.nD Cert.EvenInContextReferenceIdeal.τ).loc Cert.EvenInContextReferenceIdeal.main_arg1) = m ((c.tc : Thread Cert.EvenInContextIdeal.nD Cert.EvenInContextIdeal.τ).loc Cert.EvenInContextIdeal.main_arg1)) →
    ∃ (v0 : (c : Dev Cert.EvenInContextIdeal.nD) → Buf (Elt Ideal) ((c.tc : Thread Cert.EvenInContextIdeal.nD Cert.EvenInContextIdeal.τ).loc Cert.EvenInContextIdeal.main_v1)),
      θ_run (Cert.EvenInContextIdeal.defs (F := Ideal)) (onTc (τ := Cert.EvenInContextIdeal.τ) (Cert.EvenInContextIdeal.main (F := Ideal))) ⟨m, fun _ => 0, g⟩ (fun r => ∀ c : Dev Cert.EvenInContextIdeal.nD,
          r.2.mem ((c.tc : Thread Cert.EvenInContextIdeal.nD Cert.EvenInContextIdeal.τ).loc Cert.EvenInContextIdeal.main_v1) = v0 c
          ∧ r.2.mem ((c.tc : Thread Cert.EvenInContextIdeal.nD Cert.EvenInContextIdeal.τ).loc Cert.EvenInContextIdeal.main_arg0) = m ((c.tc : Thread Cert.EvenInContextIdeal.nD Cert.EvenInContextIdeal.τ).loc Cert.EvenInContextIdeal.main_arg0)
          ∧ r.2.mem ((c.tc : Thread Cert.EvenInContextIdeal.nD Cert.EvenInContextIdeal.τ).loc Cert.EvenInContextIdeal.main_arg1) = m ((c.tc : Thread Cert.EvenInContextIdeal.nD Cert.EvenInContextIdeal.τ).loc Cert.EvenInContextIdeal.main_arg1))
      ∧ θ_run (Cert.EvenInContextReferenceIdeal.defs (F := Ideal)) (onTc (τ := Cert.EvenInContextReferenceIdeal.τ) (Cert.EvenInContextReferenceIdeal.main (F := Ideal))) ⟨m', fun _ => 0, g'⟩ (fun r => ∀ c : Dev Cert.EvenInContextReferenceIdeal.nD,
          r.2.mem ((c.tc : Thread Cert.EvenInContextReferenceIdeal.nD Cert.EvenInContextReferenceIdeal.τ).loc Cert.EvenInContextReferenceIdeal.main_v1) = v0 c
          ∧ r.2.mem ((c.tc : Thread Cert.EvenInContextReferenceIdeal.nD Cert.EvenInContextReferenceIdeal.τ).loc Cert.EvenInContextReferenceIdeal.main_arg0) = m' ((c.tc : Thread Cert.EvenInContextReferenceIdeal.nD Cert.EvenInContextReferenceIdeal.τ).loc Cert.EvenInContextReferenceIdeal.main_arg0)
          ∧ r.2.mem ((c.tc : Thread Cert.EvenInContextReferenceIdeal.nD Cert.EvenInContextReferenceIdeal.τ).loc Cert.EvenInContextReferenceIdeal.main_arg1) = m' ((c.tc : Thread Cert.EvenInContextReferenceIdeal.nD Cert.EvenInContextReferenceIdeal.τ).loc Cert.EvenInContextReferenceIdeal.main_arg1))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)
      ∧ m' ((c.tc : Thread Cert.OddInReferenceIdeal.nD Cert.OddInReferenceIdeal.τ).loc Cert.OddInReferenceIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v4) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)) →
    ∃ (v0 : (c : Dev Cert.EvenOutIdeal.nD) → Buf (Elt Ideal) ((c.tc : Thread Cert.EvenOutIdeal.nD Cert.EvenOutIdeal.τ).loc Cert.EvenOutIdeal.main_v1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v1) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v1) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1))

def preserves_EvenOutContext_EvenOutContextIdeal : Prop :=
  True

def algebraic_EvenOutContextIdeal_EvenOutContextReferenceIdeal [hEvenOutContextIdeal : Cert.EvenOutContextIdeal.Facts] [hEvenOutContextReferenceIdeal : Cert.EvenOutContextReferenceIdeal.Facts] : Prop :=
  ∀ (m : (ℓ : Loc Cert.EvenOutContextIdeal.nD Cert.EvenOutContextIdeal.τ Cert.EvenOutContextIdeal.sig) → Buf (Elt Ideal) ℓ) (g : Dev Cert.EvenOutContextIdeal.nD → PrngReg)
    (m' : (ℓ : Loc Cert.EvenOutContextReferenceIdeal.nD Cert.EvenOutContextReferenceIdeal.τ Cert.EvenOutContextReferenceIdeal.sig) → Buf (Elt Ideal) ℓ) (g' : Dev Cert.EvenOutContextReferenceIdeal.nD → PrngReg), Pre_EvenOutContextIdeal m →
    (∀ c : Dev Cert.EvenOutContextIdeal.nD,
      m' ((c.tc : Thread Cert.EvenOutContextReferenceIdeal.nD Cert.EvenOutContextReferenceIdeal.τ).loc Cert.EvenOutContextReferenceIdeal.main_arg0) = m ((c.tc : Thread Cert.EvenOutContextIdeal.nD Cert.EvenOutContextIdeal.τ).loc Cert.EvenOutContextIdeal.main_arg0)
      ∧ m' ((c.tc : Thread Cert.EvenOutContextReferenceIdeal.nD Cert.EvenOutContextReferenceIdeal.τ).loc Cert.EvenOutContextReferenceIdeal.main_arg1) = m ((c.tc : Thread Cert.EvenOutContextIdeal.nD Cert.EvenOutContextIdeal.τ).loc Cert.EvenOutContextIdeal.main_arg1)) →
    ∃ (v0 : (c : Dev Cert.EvenOutContextIdeal.nD) → Buf (Elt Ideal) ((c.tc : Thread Cert.EvenOutContextIdeal.nD Cert.EvenOutContextIdeal.τ).loc Cert.EvenOutContextIdeal.main_v1)),
      θ_run (Cert.EvenOutContextIdeal.defs (F := Ideal)) (onTc (τ := Cert.EvenOutContextIdeal.τ) (Cert.EvenOutContextIdeal.main (F := Ideal))) ⟨m, fun _ => 0, g⟩ (fun r => ∀ c : Dev Cert.EvenOutContextIdeal.nD,
          r.2.mem ((c.tc : Thread Cert.EvenOutContextIdeal.nD Cert.EvenOutContextIdeal.τ).loc Cert.EvenOutContextIdeal.main_v1) = v0 c
          ∧ r.2.mem ((c.tc : Thread Cert.EvenOutContextIdeal.nD Cert.EvenOutContextIdeal.τ).loc Cert.EvenOutContextIdeal.main_arg0) = m ((c.tc : Thread Cert.EvenOutContextIdeal.nD Cert.EvenOutContextIdeal.τ).loc Cert.EvenOutContextIdeal.main_arg0)
          ∧ r.2.mem ((c.tc : Thread Cert.EvenOutContextIdeal.nD Cert.EvenOutContextIdeal.τ).loc Cert.EvenOutContextIdeal.main_arg1) = m ((c.tc : Thread Cert.EvenOutContextIdeal.nD Cert.EvenOutContextIdeal.τ).loc Cert.EvenOutContextIdeal.main_arg1))
      ∧ θ_run (Cert.EvenOutContextReferenceIdeal.defs (F := Ideal)) (onTc (τ := Cert.EvenOutContextReferenceIdeal.τ) (Cert.EvenOutContextReferenceIdeal.main (F := Ideal))) ⟨m', fun _ => 0, g'⟩ (fun r => ∀ c : Dev Cert.EvenOutContextReferenceIdeal.nD,
          r.2.mem ((c.tc : Thread Cert.EvenOutContextReferenceIdeal.nD Cert.EvenOutContextReferenceIdeal.τ).loc Cert.EvenOutContextReferenceIdeal.main_v1) = v0 c
          ∧ r.2.mem ((c.tc : Thread Cert.EvenOutContextReferenceIdeal.nD Cert.EvenOutContextReferenceIdeal.τ).loc Cert.EvenOutContextReferenceIdeal.main_arg0) = m' ((c.tc : Thread Cert.EvenOutContextReferenceIdeal.nD Cert.EvenOutContextReferenceIdeal.τ).loc Cert.EvenOutContextReferenceIdeal.main_arg0)
          ∧ r.2.mem ((c.tc : Thread Cert.EvenOutContextReferenceIdeal.nD Cert.EvenOutContextReferenceIdeal.τ).loc Cert.EvenOutContextReferenceIdeal.main_arg1) = m' ((c.tc : Thread Cert.EvenOutContextReferenceIdeal.nD Cert.EvenOutContextReferenceIdeal.τ).loc Cert.EvenOutContextReferenceIdeal.main_arg1))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v1) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1))

def preserves_KeyScores_KeyScoresIdeal : Prop :=
  True

def algebraic_KeyScoresIdeal_KeyScoresReferenceIdeal [hKeyScoresIdeal : Cert.KeyScoresIdeal.Facts] [hKeyScoresReferenceIdeal : Cert.KeyScoresReferenceIdeal.Facts] : Prop :=
  ∀ (m : (ℓ : Loc Cert.KeyScoresIdeal.nD Cert.KeyScoresIdeal.τ Cert.KeyScoresIdeal.sig) → Buf (Elt Ideal) ℓ) (g : Dev Cert.KeyScoresIdeal.nD → PrngReg)
    (m' : (ℓ : Loc Cert.KeyScoresReferenceIdeal.nD Cert.KeyScoresReferenceIdeal.τ Cert.KeyScoresReferenceIdeal.sig) → Buf (Elt Ideal) ℓ) (g' : Dev Cert.KeyScoresReferenceIdeal.nD → PrngReg), Pre_KeyScoresIdeal m →
    (∀ c : Dev Cert.KeyScoresIdeal.nD,
      m' ((c.tc : Thread Cert.KeyScoresReferenceIdeal.nD Cert.KeyScoresReferenceIdeal.τ).loc Cert.KeyScoresReferenceIdeal.main_arg0) = m ((c.tc : Thread Cert.KeyScoresIdeal.nD Cert.KeyScoresIdeal.τ).loc Cert.KeyScoresIdeal.main_arg0)
      ∧ m' ((c.tc : Thread Cert.KeyScoresReferenceIdeal.nD Cert.KeyScoresReferenceIdeal.τ).loc Cert.KeyScoresReferenceIdeal.main_arg1) = m ((c.tc : Thread Cert.KeyScoresIdeal.nD Cert.KeyScoresIdeal.τ).loc Cert.KeyScoresIdeal.main_arg1)
      ∧ m' ((c.tc : Thread Cert.KeyScoresReferenceIdeal.nD Cert.KeyScoresReferenceIdeal.τ).loc Cert.KeyScoresReferenceIdeal.main_arg2) = m ((c.tc : Thread Cert.KeyScoresIdeal.nD Cert.KeyScoresIdeal.τ).loc Cert.KeyScoresIdeal.main_arg2)) →
    ∃ (v0 : (c : Dev Cert.KeyScoresIdeal.nD) → Buf (Elt Ideal) ((c.tc : Thread Cert.KeyScoresIdeal.nD Cert.KeyScoresIdeal.τ).loc Cert.KeyScoresIdeal.main_v5_0)),
      θ_run (Cert.KeyScoresIdeal.defs (F := Ideal)) (onTc (τ := Cert.KeyScoresIdeal.τ) (Cert.KeyScoresIdeal.main (F := Ideal))) ⟨m, fun _ => 0, g⟩ (fun r => ∀ c : Dev Cert.KeyScoresIdeal.nD,
          r.2.mem ((c.tc : Thread Cert.KeyScoresIdeal.nD Cert.KeyScoresIdeal.τ).loc Cert.KeyScoresIdeal.main_v5_0) = v0 c
          ∧ r.2.mem ((c.tc : Thread Cert.KeyScoresIdeal.nD Cert.KeyScoresIdeal.τ).loc Cert.KeyScoresIdeal.main_arg0) = m ((c.tc : Thread Cert.KeyScoresIdeal.nD Cert.KeyScoresIdeal.τ).loc Cert.KeyScoresIdeal.main_arg0)
          ∧ r.2.mem ((c.tc : Thread Cert.KeyScoresIdeal.nD Cert.KeyScoresIdeal.τ).loc Cert.KeyScoresIdeal.main_arg1) = m ((c.tc : Thread Cert.KeyScoresIdeal.nD Cert.KeyScoresIdeal.τ).loc Cert.KeyScoresIdeal.main_arg1)
          ∧ r.2.mem ((c.tc : Thread Cert.KeyScoresIdeal.nD Cert.KeyScoresIdeal.τ).loc Cert.KeyScoresIdeal.main_arg2) = m ((c.tc : Thread Cert.KeyScoresIdeal.nD Cert.KeyScoresIdeal.τ).loc Cert.KeyScoresIdeal.main_arg2))
      ∧ θ_run (Cert.KeyScoresReferenceIdeal.defs (F := Ideal)) (onTc (τ := Cert.KeyScoresReferenceIdeal.τ) (Cert.KeyScoresReferenceIdeal.main (F := Ideal))) ⟨m', fun _ => 0, g'⟩ (fun r => ∀ c : Dev Cert.KeyScoresReferenceIdeal.nD,
          r.2.mem ((c.tc : Thread Cert.KeyScoresReferenceIdeal.nD Cert.KeyScoresReferenceIdeal.τ).loc Cert.KeyScoresReferenceIdeal.main_v7) = v0 c
          ∧ r.2.mem ((c.tc : Thread Cert.KeyScoresReferenceIdeal.nD Cert.KeyScoresReferenceIdeal.τ).loc Cert.KeyScoresReferenceIdeal.main_arg0) = m' ((c.tc : Thread Cert.KeyScoresReferenceIdeal.nD Cert.KeyScoresReferenceIdeal.τ).loc Cert.KeyScoresReferenceIdeal.main_arg0)
          ∧ r.2.mem ((c.tc : Thread Cert.KeyScoresReferenceIdeal.nD Cert.KeyScoresReferenceIdeal.τ).loc Cert.KeyScoresReferenceIdeal.main_arg1) = m' ((c.tc : Thread Cert.KeyScoresReferenceIdeal.nD Cert.KeyScoresReferenceIdeal.τ).loc Cert.KeyScoresReferenceIdeal.main_arg1)
          ∧ r.2.mem ((c.tc : Thread Cert.KeyScoresReferenceIdeal.nD Cert.KeyScoresReferenceIdeal.τ).loc Cert.KeyScoresReferenceIdeal.main_arg2) = m' ((c.tc : Thread Cert.KeyScoresReferenceIdeal.nD Cert.KeyScoresReferenceIdeal.τ).loc Cert.KeyScoresReferenceIdeal.main_arg2))

def preserves_Ssd_SsdIdeal : Prop :=
  True

def algebraic_SsdIdeal_SsdReferenceIdeal [hSsdIdeal : Cert.SsdIdeal.Facts] [hSsdReferenceIdeal : Cert.SsdReferenceIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)
      ∧ m' ((c.tc : Thread Cert.SsdReferenceIdeal.nD Cert.SsdReferenceIdeal.τ).loc Cert.SsdReferenceIdeal.main_arg4) = m ((c.tc : Thread Cert.SsdIdeal.nD Cert.SsdIdeal.τ).loc Cert.SsdIdeal.main_arg4)) →
    ∃ (v0 : (c : Dev Cert.SsdIdeal.nD) → Buf (Elt Ideal) ((c.tc : Thread Cert.SsdIdeal.nD Cert.SsdIdeal.τ).loc Cert.SsdIdeal.main_v26)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v26) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v111) = v0 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInReferenceIdeal : Cert.EvenInReferenceIdeal.Facts) (hEvenInContext : Cert.EvenInContext.Facts) (hEvenInContextIdeal : Cert.EvenInContextIdeal.Facts) (hEvenInContextReferenceIdeal : Cert.EvenInContextReferenceIdeal.Facts) (hOddIn : Cert.OddIn.Facts) (hOddInIdeal : Cert.OddInIdeal.Facts) (hOddInReferenceIdeal : Cert.OddInReferenceIdeal.Facts) (hEvenOut : Cert.EvenOut.Facts) (hEvenOutIdeal : Cert.EvenOutIdeal.Facts) (hEvenOutReferenceIdeal : Cert.EvenOutReferenceIdeal.Facts) (hEvenOutContext : Cert.EvenOutContext.Facts) (hEvenOutContextIdeal : Cert.EvenOutContextIdeal.Facts) (hEvenOutContextReferenceIdeal : Cert.EvenOutContextReferenceIdeal.Facts) (hOddOut : Cert.OddOut.Facts) (hOddOutIdeal : Cert.OddOutIdeal.Facts) (hOddOutReferenceIdeal : Cert.OddOutReferenceIdeal.Facts) (hKeyScores : Cert.KeyScores.Facts) (hKeyScoresIdeal : Cert.KeyScoresIdeal.Facts) (hKeyScoresReferenceIdeal : Cert.KeyScoresReferenceIdeal.Facts) (hSsd : Cert.Ssd.Facts) (hSsdIdeal : Cert.SsdIdeal.Facts) (hSsdReferenceIdeal : Cert.SsdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_EvenInContext (hEvenInContext := hEvenInContext)
    ∧ quiescent_EvenInContextIdeal (hEvenInContextIdeal := hEvenInContextIdeal)
    ∧ quiescent_EvenInContextReferenceIdeal (hEvenInContextReferenceIdeal := hEvenInContextReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_EvenOutContext (hEvenOutContext := hEvenOutContext)
    ∧ quiescent_EvenOutContextIdeal (hEvenOutContextIdeal := hEvenOutContextIdeal)
    ∧ quiescent_EvenOutContextReferenceIdeal (hEvenOutContextReferenceIdeal := hEvenOutContextReferenceIdeal)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_KeyScores (hKeyScores := hKeyScores)
    ∧ quiescent_KeyScoresIdeal (hKeyScoresIdeal := hKeyScoresIdeal)
    ∧ quiescent_KeyScoresReferenceIdeal (hKeyScoresReferenceIdeal := hKeyScoresReferenceIdeal)
    ∧ quiescent_Ssd (hSsd := hSsd)
    ∧ quiescent_SsdIdeal (hSsdIdeal := hSsdIdeal)
    ∧ quiescent_SsdReferenceIdeal (hSsdReferenceIdeal := hSsdReferenceIdeal)
    ∧ preserves_Kernel_KernelIdeal
    ∧ algebraic_KernelIdeal_ReferenceIdeal (hKernelIdeal := hKernelIdeal) (hReferenceIdeal := hReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_EvenInContext_EvenInContextIdeal
    ∧ algebraic_EvenInContextIdeal_EvenInContextReferenceIdeal (hEvenInContextIdeal := hEvenInContextIdeal) (hEvenInContextReferenceIdeal := hEvenInContextReferenceIdeal)
    ∧ preserves_OddIn_OddInIdeal
    ∧ algebraic_OddInIdeal_OddInReferenceIdeal (hOddInIdeal := hOddInIdeal) (hOddInReferenceIdeal := hOddInReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_EvenOutContext_EvenOutContextIdeal
    ∧ algebraic_EvenOutContextIdeal_EvenOutContextReferenceIdeal (hEvenOutContextIdeal := hEvenOutContextIdeal) (hEvenOutContextReferenceIdeal := hEvenOutContextReferenceIdeal)
    ∧ preserves_OddOut_OddOutIdeal
    ∧ algebraic_OddOutIdeal_OddOutReferenceIdeal (hOddOutIdeal := hOddOutIdeal) (hOddOutReferenceIdeal := hOddOutReferenceIdeal)
    ∧ preserves_KeyScores_KeyScoresIdeal
    ∧ algebraic_KeyScoresIdeal_KeyScoresReferenceIdeal (hKeyScoresIdeal := hKeyScoresIdeal) (hKeyScoresReferenceIdeal := hKeyScoresReferenceIdeal)
    ∧ preserves_Ssd_SsdIdeal
    ∧ algebraic_SsdIdeal_SsdReferenceIdeal (hSsdIdeal := hSsdIdeal) (hSsdReferenceIdeal := hSsdReferenceIdeal)
-- ==== Kernel.lean ====
abbrev S2x256x6176 : Shape := ⟨3, ![2, 256, 6176]⟩
abbrev S2x4096x6176 : Shape := ⟨3, ![2, 4096, 6176]⟩
abbrev S2x16x1024 : Shape := ⟨3, ![2, 16, 1024]⟩
abbrev S2x1024 : Shape := ⟨2, ![2, 1024]⟩
abbrev S2x4352x6176 : Shape := ⟨3, ![2, 4352, 6176]⟩
abbrev S_ : Shape := ⟨0, ![]⟩
abbrev S2x4352x6272 : Shape := ⟨3, ![2, 4352, 6272]⟩
abbrev S2x1x1024 : Shape := ⟨3, ![2, 1, 1024]⟩
abbrev S2x2x4352x2048 : Shape := ⟨4, ![2, 2, 4352, 2048]⟩
abbrev S1x64x1024 : Shape := ⟨3, ![1, 64, 1024]⟩
abbrev S1x64x2048 : Shape := ⟨3, ![1, 64, 2048]⟩
abbrev S1x64x128 : Shape := ⟨3, ![1, 64, 128]⟩
abbrev S1x16x1024 : Shape := ⟨3, ![1, 16, 1024]⟩
abbrev S1x1x1024 : Shape := ⟨3, ![1, 1, 1024]⟩
abbrev S1x1x64x2048 : Shape := ⟨4, ![1, 1, 64, 2048]⟩
abbrev S4x512x256 : Shape := ⟨3, ![4, 512, 256]⟩
abbrev S64x64 : Shape := ⟨2, ![64, 64]⟩
abbrev S1x64x16 : Shape := ⟨3, ![1, 64, 16]⟩
abbrev S64x16 : Shape := ⟨2, ![64, 16]⟩
abbrev S16x1024 : Shape := ⟨2, ![16, 1024]⟩
abbrev S64x1024 : Shape := ⟨2, ![64, 1024]⟩
abbrev S1x1024 : Shape := ⟨2, ![1, 1024]⟩
abbrev S64x256 : Shape := ⟨2, ![64, 256]⟩
abbrev S1x256 : Shape := ⟨2, ![1, 256]⟩
abbrev S1x64x256 : Shape := ⟨3, ![1, 64, 256]⟩
abbrev S1x64x512 : Shape := ⟨3, ![1, 64, 512]⟩
abbrev S64x512 : Shape := ⟨2, ![64, 512]⟩
abbrev S1x512x256 : Shape := ⟨3, ![1, 512, 256]⟩
abbrev S512x256 : Shape := ⟨2, ![512, 256]⟩
abbrev S1x1x64x512 : Shape := ⟨4, ![1, 1, 64, 512]⟩

abbrev nBuf : Space → Nat
  | .hbm => 10
  | .vmem => 15
  | .smem => 0
  | _ => 0

abbrev bufTy : (tb : Table) → Fin (tcTables nBuf tb) → BufTy
  | .hbm, ⟨0, _⟩ => ⟨S2x256x6176, .f32⟩
  | .hbm, ⟨1, _⟩ => ⟨S2x4096x6176, .f32⟩
  | .hbm, ⟨2, _⟩ => ⟨S2x16x1024, .f32⟩
  | .hbm, ⟨3, _⟩ => ⟨S2x1024, .f32⟩
  | .hbm, ⟨4, _⟩ => ⟨S2x4352x6176, .f32⟩
  | .hbm, ⟨5, _⟩ => ⟨S_, .i32⟩
  | .hbm, ⟨6, _⟩ => ⟨S_, .f32⟩
  | .hbm, ⟨7, _⟩ => ⟨S2x4352x6272, .f32⟩
  | .hbm, ⟨8, _⟩ => ⟨S2x1x1024, .f32⟩
  | .hbm, ⟨9, _⟩ => ⟨S2x2x4352x2048, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x2048, .f32⟩
  | .local _ .vmem, ⟨5, _⟩ => ⟨S1x64x2048, .f32⟩
  | .local _ .vmem, ⟨6, _⟩ => ⟨S1x64x128, .f32⟩
  | .local _ .vmem, ⟨7, _⟩ => ⟨S1x64x128, .f32⟩
  | .local _ .vmem, ⟨8, _⟩ => ⟨S1x16x1024, .f32⟩
  | .local _ .vmem, ⟨9, _⟩ => ⟨S1x16x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x64x2048, .f32⟩
  | .local _ .vmem, ⟨13, _⟩ => ⟨S1x1x64x2048, .f32⟩
  | .local _ .vmem, ⟨14, _⟩ => ⟨S4x512x256, .f32⟩
  | _, _ => ⟨S2x256x6176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 2, 1, 68], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c0_i32 : BitVec 32 := 0#32
  ![arg0.toNat, v6.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c1_i32 : BitVec 32 := 1#32
  let v7 : BitVec 32 := Scalar.addi c1_i32 arg2
  let c0_i32 : BitVec 32 := 0#32
  ![arg0.toNat, v6.toNat, v7.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c1_i32 : BitVec 32 := 1#32
  let v7 : BitVec 32 := Scalar.addi c1_i32 arg2
  let c0_i32 : BitVec 32 := 0#32
  ![arg0.toNat, v6.toNat, v7.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c48_i32 : BitVec 32 := 48#32
  let c0_i32 : BitVec 32 := 0#32
  ![arg0.toNat, v6.toNat, c48_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c0_i32 : BitVec 32 := 0#32
  ![arg1.toNat, arg0.toNat, v6.toNat, arg2.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false]

abbrev stage0_6 : Fin 2 → Memref sig .tc .vmem S1x1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== ReferenceIdeal.lean ====
abbrev S2x256x6176 : Shape := ⟨3, ![2, 256, 6176]⟩
abbrev S2x4096x6176 : Shape := ⟨3, ![2, 4096, 6176]⟩
abbrev S2x16x1024 : Shape := ⟨3, ![2, 16, 1024]⟩
abbrev S2x1024 : Shape := ⟨2, ![2, 1024]⟩
abbrev S2x256x1024 : Shape := ⟨3, ![2, 256, 1024]⟩
abbrev S2x256x2048 : Shape := ⟨3, ![2, 256, 2048]⟩
abbrev S2x256x32 : Shape := ⟨3, ![2, 256, 32]⟩
abbrev S2x256x4x256 : Shape := ⟨4, ![2, 256, 4, 256]⟩
abbrev S_ : Shape := ⟨0, ![]⟩
abbrev S2x256x4x512 : Shape := ⟨4, ![2, 256, 4, 512]⟩
abbrev S2x256x2x16 : Shape := ⟨4, ![2, 256, 2, 16]⟩
abbrev S2x1024x2x256 : Shape := ⟨4, ![2, 1024, 2, 256]⟩
abbrev S2x256x2x1024 : Shape := ⟨4, ![2, 256, 2, 1024]⟩
abbrev S1x1x2x1024 : Shape := ⟨4, ![1, 1, 2, 1024]⟩
abbrev S2x256x2x4x256 : Shape := ⟨5, ![2, 256, 2, 4, 256]⟩
abbrev S2x256x1x4x256 : Shape := ⟨5, ![2, 256, 1, 4, 256]⟩
abbrev S2x4096x1024 : Shape := ⟨3, ![2, 4096, 1024]⟩
abbrev S2x4096x2048 : Shape := ⟨3, ![2, 4096, 2048]⟩
abbrev S2x4096x32 : Shape := ⟨3, ![2, 4096, 32]⟩
abbrev S2x4096x4x256 : Shape := ⟨4, ![2, 4096, 4, 256]⟩
abbrev S2x4096x4x512 : Shape := ⟨4, ![2, 4096, 4, 512]⟩
abbrev S2x4096x2x16 : Shape := ⟨4, ![2, 4096, 2, 16]⟩
abbrev S2x1024x2x4096 : Shape := ⟨4, ![2, 1024, 2, 4096]⟩
abbrev S2x4096x2x1024 : Shape := ⟨4, ![2, 4096, 2, 1024]⟩
abbrev S2x4096x2x4x256 : Shape := ⟨5, ![2, 4096, 2, 4, 256]⟩
abbrev S2x4096x1x4x256 : Shape := ⟨5, ![2, 4096, 1, 4, 256]⟩
abbrev S2x4352x4x256 : Shape := ⟨4, ![2, 4352, 4, 256]⟩
abbrev S2x4352x4x512 : Shape := ⟨4, ![2, 4352, 4, 512]⟩
abbrev S4x4x256x512 : Shape := ⟨4, ![4, 4, 256, 512]⟩
abbrev S4x4352x4x256 : Shape := ⟨4, ![4, 4352, 4, 256]⟩
abbrev S4x4352x4x512 : Shape := ⟨4, ![4, 4352, 4, 512]⟩
abbrev S4x68x64x4x256 : Shape := ⟨5, ![4, 68, 64, 4, 256]⟩
abbrev S4x4x68x64x256 : Shape := ⟨5, ![4, 4, 68, 64, 256]⟩
abbrev S4x68x64x4x512 : Shape := ⟨5, ![4, 68, 64, 4, 512]⟩
abbrev S4x4x68x64x512 : Shape := ⟨5, ![4, 4, 68, 64, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x4x68x64x64 : Shape := ⟨5, ![4, 4, 68, 64, 64]⟩
abbrev S4x4x68x1x256 : Shape := ⟨5, ![4, 4, 68, 1, 256]⟩
abbrev S4x4x68x256 : Shape := ⟨4, ![4, 4, 68, 256]⟩
abbrev S68x4x4x64x256 : Shape := ⟨5, ![68, 4, 4, 64, 256]⟩
abbrev S68x4x4x64x512 : Shape := ⟨5, ![68, 4, 4, 64, 512]⟩
abbrev S68x4x4x256 : Shape := ⟨4, ![68, 4, 4, 256]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S1x4x4x256 : Shape := ⟨4, ![1, 4, 4, 256]⟩
abbrev S4x4x256 : Shape := ⟨3, ![4, 4, 256]⟩
abbrev S4x4x256x1 : Shape := ⟨4, ![4, 4, 256, 1]⟩
abbrev S2x2x4352x2048 : Shape := ⟨4, ![2, 2, 4352, 2048]⟩
abbrev S1x2x256x2048 : Shape := ⟨4, ![1, 2, 256, 2048]⟩
abbrev S1x2x4096x2048 : Shape := ⟨4, ![1, 2, 4096, 2048]⟩
abbrev S2x4352x2048 : Shape := ⟨3, ![2, 4352, 2048]⟩
abbrev S1x2x4352x2048 : Shape := ⟨4, ![1, 2, 4352, 2048]⟩

abbrev nBuf : Space → Nat
  | .hbm => 227
  | .vmem => 0
  | .smem => 0
  | _ => 0

abbrev hbmTy0_0 (i : Nat) : BufTy := match i % 128 with
  | 0 => ⟨S2x256x6176, .f32⟩
  | 1 => ⟨S2x4096x6176, .f32⟩
  | 2 => ⟨S2x16x1024, .f32⟩
  | 3 => ⟨S2x1024, .f32⟩
  | 4 => ⟨S2x256x1024, .f32⟩
  | 5 => ⟨S2x256x1024, .f32⟩
  | 6 => ⟨S2x256x2048, .f32⟩
  | 7 => ⟨S2x256x2048, .f32⟩
  | 8 => ⟨S2x256x32, .f32⟩
  | 9 => ⟨S2x256x4x256, .f32⟩
  | 10 => ⟨S_, .f32⟩
  | 11 => ⟨S2x256x4x256, .f32⟩
  | 12 => ⟨S2x256x4x256, .f32⟩
  | 13 => ⟨S2x256x4x256, .f32⟩
  | 14 => ⟨S2x256x4x512, .f32⟩
  | 15 => ⟨S2x256x2x16, .f32⟩
  | 16 => ⟨S2x1024x2x256, .f32⟩
  | 17 => ⟨S2x256x2x1024, .f32⟩
  | 18 => ⟨S1x1x2x1024, .f32⟩
  | 19 => ⟨S2x256x2x1024, .f32⟩
  | 20 => ⟨S2x256x2x1024, .f32⟩
  | 21 => ⟨S2x256x2x1024, .f32⟩
  | 22 => ⟨S_, .f32⟩
  | 23 => ⟨S2x256x2x1024, .f32⟩
  | 24 => ⟨S2x256x2x1024, .f32⟩
  | 25 => ⟨S2x256x2x1024, .f32⟩
  | 26 => ⟨S2x256x2x1024, .f32⟩
  | 27 => ⟨S2x256x2x1024, .i1⟩
  | 28 => ⟨S2x256x2x1024, .f32⟩
  | 29 => ⟨S2x256x2x1024, .f32⟩
  | 30 => ⟨S2x256x2x1024, .f32⟩
  | 31 => ⟨S2x256x2x1024, .f32⟩
  | 32 => ⟨S2x256x2x1024, .f32⟩
  | 33 => ⟨S2x256x2x1024, .f32⟩
  | 34 => ⟨S2x256x2x1024, .f32⟩
  | 35 => ⟨S2x256x2x1024, .f32⟩
  | 36 => ⟨S2x256x2x1024, .f32⟩
  | 37 => ⟨S_, .f32⟩
  | 38 => ⟨S2x256x2x1024, .f32⟩
  | 39 => ⟨S2x256x2x1024, .f32⟩
  | 40 => ⟨S2x256x2x4x256, .f32⟩
  | 41 => ⟨S2x256x1x4x256, .f32⟩
  | 42 => ⟨S2x256x4x256, .f32⟩
  | 43 => ⟨S2x256x1x4x256, .f32⟩
  | 44 => ⟨S2x256x4x256, .f32⟩
  | 45 => ⟨S2x4096x1024, .f32⟩
  | 46 => ⟨S2x4096x1024, .f32⟩
  | 47 => ⟨S2x4096x2048, .f32⟩
  | 48 => ⟨S2x4096x2048, .f32⟩
  | 49 => ⟨S2x4096x32, .f32⟩
  | 50 => ⟨S2x4096x4x256, .f32⟩
  | 51 => ⟨S_, .f32⟩
  | 52 => ⟨S2x4096x4x256, .f32⟩
  | 53 => ⟨S2x4096x4x256, .f32⟩
  | 54 => ⟨S2x4096x4x256, .f32⟩
  | 55 => ⟨S2x4096x4x512, .f32⟩
  | 56 => ⟨S2x4096x2x16, .f32⟩
  | 57 => ⟨S2x1024x2x4096, .f32⟩
  | 58 => ⟨S2x4096x2x1024, .f32⟩
  | 59 => ⟨S1x1x2x1024, .f32⟩
  | 60 => ⟨S2x4096x2x1024, .f32⟩
  | 61 => ⟨S2x4096x2x1024, .f32⟩
  | 62 => ⟨S2x4096x2x1024, .f32⟩
  | 63 => ⟨S_, .f32⟩
  | 64 => ⟨S2x4096x2x1024, .f32⟩
  | 65 => ⟨S2x4096x2x1024, .f32⟩
  | 66 => ⟨S2x4096x2x1024, .f32⟩
  | 67 => ⟨S2x4096x2x1024, .f32⟩
  | 68 => ⟨S2x4096x2x1024, .i1⟩
  | 69 => ⟨S2x4096x2x1024, .f32⟩
  | 70 => ⟨S2x4096x2x1024, .f32⟩
  | 71 => ⟨S2x4096x2x1024, .f32⟩
  | 72 => ⟨S2x4096x2x1024, .f32⟩
  | 73 => ⟨S2x4096x2x1024, .f32⟩
  | 74 => ⟨S2x4096x2x1024, .f32⟩
  | 75 => ⟨S2x4096x2x1024, .f32⟩
  | 76 => ⟨S2x4096x2x1024, .f32⟩
  | 77 => ⟨S2x4096x2x1024, .f32⟩
  | 78 => ⟨S_, .f32⟩
  | 79 => ⟨S2x4096x2x1024, .f32⟩
  | 80 => ⟨S2x4096x2x1024, .f32⟩
  | 81 => ⟨S2x4096x2x4x256, .f32⟩
  | 82 => ⟨S2x4096x1x4x256, .f32⟩
  | 83 => ⟨S2x4096x4x256, .f32⟩
  | 84 => ⟨S2x4096x1x4x256, .f32⟩
  | 85 => ⟨S2x4096x4x256, .f32⟩
  | 86 => ⟨S2x4352x4x256, .f32⟩
  | 87 => ⟨S2x4352x4x256, .f32⟩
  | 88 => ⟨S2x4352x4x512, .f32⟩
  | 89 => ⟨S2x4352x4x256, .f32⟩
  | 90 => ⟨S2x256x4x256, .f32⟩
  | 91 => ⟨S2x4096x4x256, .f32⟩
  | 92 => ⟨S2x4352x4x256, .f32⟩
  | 93 => ⟨S2x256x4x256, .f32⟩
  | 94 => ⟨S2x4096x4x256, .f32⟩
  | 95 => ⟨S2x4352x4x256, .f32⟩
  | 96 => ⟨S2x256x4x512, .f32⟩
  | 97 => ⟨S2x4096x4x512, .f32⟩
  | 98 => ⟨S2x4352x4x512, .f32⟩
  | 99 => ⟨S2x256x4x256, .f32⟩
  | 100 => ⟨S2x4096x4x256, .f32⟩
  | 101 => ⟨S2x4352x4x256, .f32⟩
  | 102 => ⟨S_, .f32⟩
  | 103 => ⟨S4x4x256x512, .f32⟩
  | 104 => ⟨S4x4352x4x256, .f32⟩
  | 105 => ⟨S4x4352x4x256, .f32⟩
  | 106 => ⟨S4x4352x4x512, .f32⟩
  | 107 => ⟨S4x4352x4x256, .f32⟩
  | 108 => ⟨S4x68x64x4x256, .f32⟩
  | 109 => ⟨S4x4x68x64x256, .f32⟩
  | 110 => ⟨S4x68x64x4x256, .f32⟩
  | 111 => ⟨S4x4x68x64x256, .f32⟩
  | 112 => ⟨S4x68x64x4x512, .f32⟩
  | 113 => ⟨S4x4x68x64x512, .f32⟩
  | 114 => ⟨S4x68x64x4x256, .f32⟩
  | 115 => ⟨S4x4x68x64x256, .f32⟩
  | 116 => ⟨S_, .f32⟩
  | 117 => ⟨S_, .f32⟩
  | 118 => ⟨S4x4x68x64x256, .f32⟩
  | 119 => ⟨S4x4x68x64x256, .f32⟩
  | 120 => ⟨S4x4x68x64x256, .f32⟩
  | 121 => ⟨S4x4x68x64x256, .f32⟩
  | 122 => ⟨S4x4x68x64x256, .f32⟩
  | 123 => ⟨S4x4x68x64x256, .f32⟩
  | 124 => ⟨S64, .i32⟩
  | 125 => ⟨S64x1, .i32⟩
  | 126 => ⟨S1x64, .i32⟩
  | 127 => ⟨S64x64, .i32⟩
  | _ => ⟨S2x256x6176, .f32⟩

abbrev hbmTy0_1 (i : Nat) : BufTy := match i % 128 with
  | 0 => ⟨S64x64, .i32⟩
  | 1 => ⟨S64x64, .i1⟩
  | 2 => ⟨S64x1, .i32⟩
  | 3 => ⟨S1x64, .i32⟩
  | 4 => ⟨S64x64, .i32⟩
  | 5 => ⟨S64x64, .i32⟩
  | 6 => ⟨S64x64, .i1⟩
  | 7 => ⟨S4x4x68x64x64, .f32⟩
  | 8 => ⟨S_, .f32⟩
  | 9 => ⟨S_, .f32⟩
  | 10 => ⟨S4x4x68x64x64, .i1⟩
  | 11 => ⟨S4x4x68x64x64, .f32⟩
  | 12 => ⟨S4x4x68x64x64, .f32⟩
  | 13 => ⟨S4x4x68x64x512, .f32⟩
  | 14 => ⟨S4x4x68x1x256, .f32⟩
  | 15 => ⟨S4x4x68x256, .f32⟩
  | 16 => ⟨S4x4x68x1x256, .f32⟩
  | 17 => ⟨S4x4x68x64x256, .f32⟩
  | 18 => ⟨S4x4x68x64x256, .f32⟩
  | 19 => ⟨S4x4x68x64x256, .f32⟩
  | 20 => ⟨S4x4x68x64x256, .f32⟩
  | 21 => ⟨S4x4x68x256, .f32⟩
  | 22 => ⟨S68x4x4x64x256, .f32⟩
  | 23 => ⟨S68x4x4x64x256, .f32⟩
  | 24 => ⟨S68x4x4x64x512, .f32⟩
  | 25 => ⟨S68x4x4x256, .f32⟩
  | 26 => ⟨S68x4x4x64x512, .f32⟩
  | 27 => ⟨S_, .f32⟩
  | 28 => ⟨S68x4x4x64x512, .f32⟩
  | 29 => ⟨S_, .i32⟩
  | 30 => ⟨S68x4x4x64x256, .f32⟩
  | 31 => ⟨S68x4x4x64x256, .f32⟩
  | 32 => ⟨S68x4x4x64x512, .f32⟩
  | 33 => ⟨S68x4x4x256, .f32⟩
  | 34 => ⟨S68x4x4x64x512, .f32⟩
  | 35 => ⟨S_, .i32⟩
  | 36 => ⟨S4x4x256x512, .f32⟩
  | 37 => ⟨S68x4x4x64x512, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x4x4x64x256, .f32⟩
  | 45 => ⟨S4x4x64x256, .f32⟩
  | 46 => ⟨S_, .i32⟩
  | 47 => ⟨S_, .i32⟩
  | 48 => ⟨S_, .i32⟩
  | 49 => ⟨S_, .i32⟩
  | 50 => ⟨S1x4x4x64x256, .f32⟩
  | 51 => ⟨S4x4x64x256, .f32⟩
  | 52 => ⟨S_, .i32⟩
  | 53 => ⟨S_, .i32⟩
  | 54 => ⟨S_, .i32⟩
  | 55 => ⟨S_, .i32⟩
  | 56 => ⟨S1x4x4x64x512, .f32⟩
  | 57 => ⟨S4x4x64x512, .f32⟩
  | 58 => ⟨S_, .i32⟩
  | 59 => ⟨S_, .i32⟩
  | 60 => ⟨S_, .i32⟩
  | 61 => ⟨S1x4x4x256, .f32⟩
  | 62 => ⟨S4x4x256, .f32⟩
  | 63 => ⟨S_, .i32⟩
  | 64 => ⟨S_, .i32⟩
  | 65 => ⟨S_, .i32⟩
  | 66 => ⟨S_, .i32⟩
  | 67 => ⟨S1x4x4x64x512, .f32⟩
  | 68 => ⟨S4x4x64x512, .f32⟩
  | 69 => ⟨S4x4x64x512, .f32⟩
  | 70 => ⟨S4x4x64x512, .f32⟩
  | 71 => ⟨S4x4x256x1, .f32⟩
  | 72 => ⟨S4x4x256x512, .f32⟩
  | 73 => ⟨S4x4x256x512, .f32⟩
  | 74 => ⟨S4x4x256x512, .f32⟩
  | 75 => ⟨S4x4x256x512, .f32⟩
  | 76 => ⟨S1x4x4x64x512, .f32⟩
  | 77 => ⟨S_, .i32⟩
  | 78 => ⟨S_, .i32⟩
  | 79 => ⟨S_, .i32⟩
  | 80 => ⟨S_, .i32⟩
  | 81 => ⟨S68x4x4x64x512, .f32⟩
  | 82 => ⟨S_, .i32⟩
  | 83 => ⟨S_, .i32⟩
  | 84 => ⟨S4x68x64x4x512, .f32⟩
  | 85 => ⟨S4x4352x4x512, .f32⟩
  | 86 => ⟨S2x2x4352x2048, .f32⟩
  | 87 => ⟨S1x2x256x2048, .f32⟩
  | 88 => ⟨S2x256x2048, .f32⟩
  | 89 => ⟨S2x256x2048, .f32⟩
  | 90 => ⟨S1x2x4096x2048, .f32⟩
  | 91 => ⟨S2x4096x2048, .f32⟩
  | 92 => ⟨S2x4096x2048, .f32⟩
  | 93 => ⟨S2x4352x2048, .f32⟩
  | 94 => ⟨S1x2x4352x2048, .f32⟩
  | 95 => ⟨S2x4352x2048, .f32⟩
  | 96 => ⟨S1x2x4352x2048, .f32⟩
  | 97 => ⟨S1x2x4352x2048, .f32⟩
  | 98 => ⟨S2x2x4352x2048, .f32⟩
  | _ => ⟨S2x256x6176, .f32⟩

abbrev hbmTy (i : Nat) : BufTy := match i / 128 with
  | 0 => hbmTy0_0 i
  | 1 => hbmTy0_1 i
  | _ => ⟨S2x256x6176, .f32⟩

abbrev bufTy : (tb : Table) → Fin (tcTables nBuf tb) → BufTy
  | .hbm, ⟨i, _⟩ => hbmTy i
  | _, _ => ⟨S2x256x6176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v43 : Ref sig .tc := ⟨.hbm, 76, rfl⟩
abbrev main_v44 : Ref sig .tc := ⟨.hbm, 77, rfl⟩
abbrev main_cst_2 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_3 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_4 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_5 : Ref sig .tc := ⟨.hbm, 155, rfl⟩
abbrev main_v114 : Ref sig .tc := ⟨.hbm, 156, rfl⟩
abbrev main_c : Ref sig .tc := ⟨.hbm, 157, rfl⟩
abbrev main_v115_0 : Ref sig .tc := ⟨.hbm, 158, rfl⟩
abbrev main_v115_1 : Ref sig .tc := ⟨.hbm, 159, rfl⟩
abbrev main_v115_2 : Ref sig .tc := ⟨.hbm, 160, rfl⟩
abbrev main_v115_3 : Ref sig .tc := ⟨.hbm, 161, rfl⟩
abbrev main_v115_4 : Ref sig .tc := ⟨.hbm, 162, rfl⟩
abbrev main_v115_5 : Ref sig .tc := ⟨.hbm, 163, rfl⟩
abbrev main_v115_6 : Ref sig .tc := ⟨.hbm, 164, rfl⟩
abbrev main_v115_7 : Ref sig .tc := ⟨.hbm, 165, rfl⟩
abbrev main_while0c_c_13 : Ref sig .tc := ⟨.hbm, 166, rfl⟩
abbrev main_while0c_v131 : Ref sig .tc := ⟨.hbm, 167, rfl⟩
abbrev main_while0b_call4_c : Ref sig .tc := ⟨.hbm, 168, rfl⟩
abbrev main_while0b_call4_c_0 : Ref sig .tc := ⟨.hbm, 169, rfl⟩
abbrev main_while0b_call4_c_1 : Ref sig .tc := ⟨.hbm, 170, rfl⟩
abbrev main_while0b_call4_c_2 : Ref sig .tc := ⟨.hbm, 171, rfl⟩
abbrev main_while0b_call4_v0 : Ref sig .tc := ⟨.hbm, 172, rfl⟩
abbrev main_while0b_v131 : Ref sig .tc := ⟨.hbm, 173, rfl⟩
abbrev main_while0b_call5_c : Ref sig .tc := ⟨.hbm, 174, rfl⟩
abbrev main_while0b_call5_c_0 : Ref sig .tc := ⟨.hbm, 175, rfl⟩
abbrev main_while0b_call5_c_1 : Ref sig .tc := ⟨.hbm, 176, rfl⟩
abbrev main_while0b_call5_c_2 : Ref sig .tc := ⟨.hbm, 177, rfl⟩
abbrev main_while0b_call5_v0 : Ref sig .tc := ⟨.hbm, 178, rfl⟩
abbrev main_while0b_v132 : Ref sig .tc := ⟨.hbm, 179, rfl⟩
abbrev main_while0b_call6_c : Ref sig .tc := ⟨.hbm, 180, rfl⟩
abbrev main_while0b_call6_c_0 : Ref sig .tc := ⟨.hbm, 181, rfl⟩
abbrev main_while0b_call6_c_1 : Ref sig .tc := ⟨.hbm, 182, rfl⟩
abbrev main_while0b_call6_c_2 : Ref sig .tc := ⟨.hbm, 183, rfl⟩
abbrev main_while0b_call6_v0 : Ref sig .tc := ⟨.hbm, 184, rfl⟩
abbrev main_while0b_v133 : Ref sig .tc := ⟨.hbm, 185, rfl⟩
abbrev main_while0b_call7_c : Ref sig .tc := ⟨.hbm, 186, rfl⟩
abbrev main_while0b_call7_c_0 : Ref sig .tc := ⟨.hbm, 187, rfl⟩
abbrev main_while0b_call7_c_1 : Ref sig .tc := ⟨.hbm, 188, rfl⟩
abbrev main_while0b_call7_v0 : Ref sig .tc := ⟨.hbm, 189, rfl⟩
abbrev main_while0b_v134 : Ref sig .tc := ⟨.hbm, 190, rfl⟩
abbrev main_while0b_call8_c : Ref sig .tc := ⟨.hbm, 191, rfl⟩
abbrev main_while0b_call8_c_0 : Ref sig .tc := ⟨.hbm, 192, rfl⟩
abbrev main_while0b_call8_c_1 : Ref sig .tc := ⟨.hbm, 193, rfl⟩
abbrev main_while0b_call8_c_2 : Ref sig .tc := ⟨.hbm, 194, rfl⟩
abbrev main_while0b_call8_v0 : Ref sig .tc := ⟨.hbm, 195, rfl⟩
abbrev main_while0b_v135 : Ref sig .tc := ⟨.hbm, 196, rfl⟩
abbrev main_while0b_v136 : Ref sig .tc := ⟨.hbm, 197, rfl⟩
abbrev main_while0b_v137 : Ref sig .tc := ⟨.hbm, 198, rfl⟩
abbrev main_while0b_v138 : Ref sig .tc := ⟨.hbm, 199, rfl⟩
abbrev main_while0b_v139 : Ref sig .tc := ⟨.hbm, 200, rfl⟩
abbrev main_while0b_v140 : Ref sig .tc := ⟨.hbm, 201, rfl⟩
abbrev main_while0b_v141 : Ref sig .tc := ⟨.hbm, 202, rfl⟩
abbrev main_while0b_v142 : Ref sig .tc := ⟨.hbm, 203, rfl⟩
abbrev main_while0b_call9_v0 : Ref sig .tc := ⟨.hbm, 204, rfl⟩
abbrev main_while0b_call9_c : Ref sig .tc := ⟨.hbm, 205, rfl⟩
abbrev main_while0b_call9_c_0 : Ref sig .tc := ⟨.hbm, 206, rfl⟩
abbrev main_while0b_call9_c_1 : Ref sig .tc := ⟨.hbm, 207, rfl⟩
abbrev main_while0b_call9_c_2 : Ref sig .tc := ⟨.hbm, 208, rfl⟩
abbrev main_while0b_v143 : Ref sig .tc := ⟨.hbm, 209, rfl⟩
abbrev main_while0b_c_13 : Ref sig .tc := ⟨.hbm, 210, rfl⟩
abbrev main_while0b_v144 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩

abbrev nD : Nat := 1
abbrev τ : Topo := Topo.v7x

variable {F : FTy → Type} [FloatOps F]

abbrev main_while0_count : Scf.Loop 32 := ⟨0#32, 68#32, 1#32⟩
-- ==== EvenIn.lean ====
abbrev S2x4096x2048 : Shape := ⟨3, ![2, 4096, 2048]⟩
abbrev S2048x13440 : Shape := ⟨2, ![2048, 13440]⟩
abbrev S8192x2048 : Shape := ⟨2, ![8192, 2048]⟩
abbrev S8192x13440 : Shape := ⟨2, ![8192, 13440]⟩
abbrev S512x2048 : Shape := ⟨2, ![512, 2048]⟩
abbrev S2048x640 : Shape := ⟨2, ![2048, 640]⟩
abbrev S512x640 : Shape := ⟨2, ![512, 640]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x13440, .f32⟩
  | .hbm, ⟨2, _⟩ => ⟨S8192x2048, .f32⟩
  | .hbm, ⟨3, _⟩ => ⟨S8192x13440, .f32⟩
  | .local _ .vmem, ⟨0, _⟩ => ⟨S512x2048, .f32⟩
  | .local _ .vmem, ⟨1, _⟩ => ⟨S512x2048, .f32⟩
  | .local _ .vmem, ⟨2, _⟩ => ⟨S2048x640, .f32⟩
  | .local _ .vmem, ⟨3, _⟩ => ⟨S2048x640, .f32⟩
  | .local _ .vmem, ⟨4, _⟩ => ⟨S512x640, .f32⟩
  | .local _ .vmem, ⟨5, _⟩ => ⟨S512x640, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![21, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInIdeal.lean ====
abbrev S2x4096x2048 : Shape := ⟨3, ![2, 4096, 2048]⟩
abbrev S2048x13440 : Shape := ⟨2, ![2048, 13440]⟩
abbrev S8192x2048 : Shape := ⟨2, ![8192, 2048]⟩
abbrev S8192x13440 : Shape := ⟨2, ![8192, 13440]⟩
abbrev S512x2048 : Shape := ⟨2, ![512, 2048]⟩
abbrev S2048x640 : Shape := ⟨2, ![2048, 640]⟩
abbrev S512x640 : Shape := ⟨2, ![512, 640]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x13440, .f32⟩
  | .hbm, ⟨2, _⟩ => ⟨S8192x2048, .f32⟩
  | .hbm, ⟨3, _⟩ => ⟨S8192x13440, .f32⟩
  | .local _ .vmem, ⟨0, _⟩ => ⟨S512x2048, .f32⟩
  | .local _ .vmem, ⟨1, _⟩ => ⟨S512x2048, .f32⟩
  | .local _ .vmem, ⟨2, _⟩ => ⟨S2048x640, .f32⟩
  | .local _ .vmem, ⟨3, _⟩ => ⟨S2048x640, .f32⟩
  | .local _ .vmem, ⟨4, _⟩ => ⟨S512x640, .f32⟩
  | .local _ .vmem, ⟨5, _⟩ => ⟨S512x640, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![21, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInReferenceIdeal.lean ====
abbrev S2x4096x2048 : Shape := ⟨3, ![2, 4096, 2048]⟩
abbrev S2048x13440 : Shape := ⟨2, ![2048, 13440]⟩
abbrev S2x4096x13440 : Shape := ⟨3, ![2, 4096, 13440]⟩
abbrev S8192x13440 : Shape := ⟨2, ![8192, 13440]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x13440, .f32⟩
  | .hbm, ⟨2, _⟩ => ⟨S2x4096x13440, .f32⟩
  | .hbm, ⟨3, _⟩ => ⟨S8192x13440, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== EvenInContext.lean ====
abbrev S2x256x2048 : Shape := ⟨3, ![2, 256, 2048]⟩
abbrev S2048x13440 : Shape := ⟨2, ![2048, 13440]⟩
abbrev S512x2048 : Shape := ⟨2, ![512, 2048]⟩
abbrev S512x13440 : Shape := ⟨2, ![512, 13440]⟩
abbrev S2048x640 : Shape := ⟨2, ![2048, 640]⟩
abbrev S512x640 : Shape := ⟨2, ![512, 640]⟩

abbrev nBuf : Space → Nat
  | .hbm => 4
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S2048x13440, .f32⟩
  | .hbm, ⟨2, _⟩ => ⟨S512x2048, .f32⟩
  | .hbm, ⟨3, _⟩ => ⟨S512x13440, .f32⟩
  | .local _ .vmem, ⟨0, _⟩ => ⟨S512x2048, .f32⟩
  | .local _ .vmem, ⟨1, _⟩ => ⟨S2048x640, .f32⟩
  | .local _ .vmem, ⟨2, _⟩ => ⟨S2048x640, .f32⟩
  | .local _ .vmem, ⟨3, _⟩ => ⟨S512x640, .f32⟩
  | .local _ .vmem, ⟨4, _⟩ => ⟨S512x640, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![21, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInContextReferenceIdeal.lean ====
abbrev S2x256x2048 : Shape := ⟨3, ![2, 256, 2048]⟩
abbrev S2048x13440 : Shape := ⟨2, ![2048, 13440]⟩
abbrev S2x256x13440 : Shape := ⟨3, ![2, 256, 13440]⟩
abbrev S512x13440 : Shape := ⟨2, ![512, 13440]⟩

abbrev nBuf : Space → Nat
  | .hbm => 4
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048x13440, .f32⟩
  | .hbm, ⟨2, _⟩ => ⟨S2x256x13440, .f32⟩
  | .hbm, ⟨3, _⟩ => ⟨S512x13440, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddIn.lean ====
abbrev S2x256x2048 : Shape := ⟨3, ![2, 256, 2048]⟩
abbrev S2x4096x2048 : Shape := ⟨3, ![2, 4096, 2048]⟩
abbrev S2048x6176 : Shape := ⟨2, ![2048, 6176]⟩
abbrev S2x4352x2048 : Shape := ⟨3, ![2, 4352, 2048]⟩
abbrev S_ : Shape := ⟨0, ![]⟩
abbrev S2048x6272 : Shape := ⟨2, ![2048, 6272]⟩
abbrev S8704x2048 : Shape := ⟨2, ![8704, 2048]⟩
abbrev S8704x6272 : Shape := ⟨2, ![8704, 6272]⟩
abbrev S512x2048 : Shape := ⟨2, ![512, 2048]⟩
abbrev S2048x896 : Shape := ⟨2, ![2048, 896]⟩
abbrev S512x896 : Shape := ⟨2, ![512, 896]⟩

abbrev nBuf : Space → Nat
  | .hbm => 9
  | .vmem => 6
  | .smem => 0
  | _ => 0

abbrev bufTy : (tb : Table) → Fin (tcTables nBuf tb) → BufTy
  | .hbm, ⟨0, _⟩ => ⟨S2x256x2048, .f32⟩
  | .hbm, ⟨1, _⟩ => ⟨S2x4096x2048, .f32⟩
  | .hbm, ⟨2, _⟩ => ⟨S2048x6176, .f32⟩
  | .hbm, ⟨3, _⟩ => ⟨S2x4352x2048, .f32⟩
  | .hbm, ⟨4, _⟩ => ⟨S_, .i32⟩
  | .hbm, ⟨5, _⟩ => ⟨S_, .f32⟩
  | .hbm, ⟨6, _⟩ => ⟨S2048x6272, .f32⟩
  | .hbm, ⟨7, _⟩ => ⟨S8704x2048, .f32⟩
  | .hbm, ⟨8, _⟩ => ⟨S8704x6272, .f32⟩
  | .local _ .vmem, ⟨0, _⟩ => ⟨S512x2048, .f32⟩
  | .local _ .vmem, ⟨1, _⟩ => ⟨S512x2048, .f32⟩
  | .local _ .vmem, ⟨2, _⟩ => ⟨S2048x896, .f32⟩
  | .local _ .vmem, ⟨3, _⟩ => ⟨S2048x896, .f32⟩
  | .local _ .vmem, ⟨4, _⟩ => ⟨S512x896, .f32⟩
  | .local _ .vmem, ⟨5, _⟩ => ⟨S512x896, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInReferenceIdeal.lean ====
abbrev S2x256x2048 : Shape := ⟨3, ![2, 256, 2048]⟩
abbrev S2x4096x2048 : Shape := ⟨3, ![2, 4096, 2048]⟩
abbrev S2048x6176 : Shape := ⟨2, ![2048, 6176]⟩
abbrev S2x256x6176 : Shape := ⟨3, ![2, 256, 6176]⟩
abbrev S2x4096x6176 : Shape := ⟨3, ![2, 4096, 6176]⟩
abbrev S2x4352x6176 : Shape := ⟨3, ![2, 4352, 6176]⟩
abbrev S8704x6176 : Shape := ⟨2, ![8704, 6176]⟩
abbrev S_ : Shape := ⟨0, ![]⟩
abbrev S8704x6272 : Shape := ⟨2, ![8704, 6272]⟩

abbrev nBuf : Space → Nat
  | .hbm => 10
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x4096x2048, .f32⟩
  | .hbm, ⟨2, _⟩ => ⟨S2048x6176, .f32⟩
  | .hbm, ⟨3, _⟩ => ⟨S2x256x6176, .f32⟩
  | .hbm, ⟨4, _⟩ => ⟨S2x4096x6176, .f32⟩
  | .hbm, ⟨5, _⟩ => ⟨S2x4352x6176, .f32⟩
  | .hbm, ⟨6, _⟩ => ⟨S8704x6176, .f32⟩
  | .hbm, ⟨7, _⟩ => ⟨S_, .i32⟩
  | .hbm, ⟨8, _⟩ => ⟨S_, .f32⟩
  | .hbm, ⟨9, _⟩ => ⟨S8704x6272, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== EvenOut.lean ====
abbrev S2x4096x4096 : Shape := ⟨3, ![2, 4096, 4096]⟩
abbrev S4096x2048 : Shape := ⟨2, ![4096, 2048]⟩
abbrev S8192x4096 : Shape := ⟨2, ![8192, 4096]⟩
abbrev S8192x2048 : Shape := ⟨2, ![8192, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4096x2048, .f32⟩
  | .hbm, ⟨2, _⟩ => ⟨S8192x4096, .f32⟩
  | .hbm, ⟨3, _⟩ => ⟨S8192x2048, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenOutIdeal.lean ====
abbrev S2x4096x4096 : Shape := ⟨3, ![2, 4096, 4096]⟩
abbrev S4096x2048 : Shape := ⟨2, ![4096, 2048]⟩
abbrev S8192x4096 : Shape := ⟨2, ![8192, 4096]⟩
abbrev S8192x2048 : Shape := ⟨2, ![8192, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4096x2048, .f32⟩
  | .hbm, ⟨2, _⟩ => ⟨S8192x4096, .f32⟩
  | .hbm, ⟨3, _⟩ => ⟨S8192x2048, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenOutReferenceIdeal.lean ====
abbrev S2x4096x4096 : Shape := ⟨3, ![2, 4096, 4096]⟩
abbrev S4096x2048 : Shape := ⟨2, ![4096, 2048]⟩
abbrev S2x4096x2048 : Shape := ⟨3, ![2, 4096, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x2048, .f32⟩
  | .hbm, ⟨2, _⟩ => ⟨S2x4096x2048, .f32⟩
  | .hbm, ⟨3, _⟩ => ⟨S8192x2048, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== EvenOutContext.lean ====
abbrev S2x256x4096 : Shape := ⟨3, ![2, 256, 4096]⟩
abbrev S4096x2048 : Shape := ⟨2, ![4096, 2048]⟩
abbrev S512x4096 : Shape := ⟨2, ![512, 4096]⟩
abbrev S512x2048 : Shape := ⟨2, ![512, 2048]⟩
abbrev S4096x512 : Shape := ⟨2, ![4096, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S2x256x4096, .f32⟩
  | .hbm, ⟨1, _⟩ => ⟨S4096x2048, .f32⟩
  | .hbm, ⟨2, _⟩ => ⟨S512x4096, .f32⟩
  | .hbm, ⟨3, _⟩ => ⟨S512x2048, .f32⟩
  | .local _ .vmem, ⟨0, _⟩ => ⟨S512x4096, .f32⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenOutContextReferenceIdeal.lean ====
abbrev S2x256x4096 : Shape := ⟨3, ![2, 256, 4096]⟩
abbrev S4096x2048 : Shape := ⟨2, ![4096, 2048]⟩
abbrev S2x256x2048 : Shape := ⟨3, ![2, 256, 2048]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096x2048, .f32⟩
  | .hbm, ⟨2, _⟩ => ⟨S2x256x2048, .f32⟩
  | .hbm, ⟨3, _⟩ => ⟨S512x2048, .f32⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddOut.lean ====
abbrev S2x4352x2048 : Shape := ⟨3, ![2, 4352, 2048]⟩
abbrev S2048x2048 : Shape := ⟨2, ![2048, 2048]⟩
abbrev S8704x2048 : Shape := ⟨2, ![8704, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2x4352x2048, .f32⟩
  | .hbm, ⟨1, _⟩ => ⟨S2048x2048, .f32⟩
  | .hbm, ⟨2, _⟩ => ⟨S8704x2048, .f32⟩
  | .hbm, ⟨3, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | _, _ => ⟨S2x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddOutReferenceIdeal.lean ====
abbrev S2x4352x2048 : Shape := ⟨3, ![2, 4352, 2048]⟩
abbrev S2048x2048 : Shape := ⟨2, ![2048, 2048]⟩
abbrev S8704x2048 : Shape := ⟨2, ![8704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4352x2048, .f32⟩
  | .hbm, ⟨1, _⟩ => ⟨S2048x2048, .f32⟩
  | .hbm, ⟨2, _⟩ => ⟨S2x4352x2048, .f32⟩
  | .hbm, ⟨3, _⟩ => ⟨S8704x2048, .f32⟩
  | _, _ => ⟨S2x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KeyScores.lean ====
abbrev S2x4096x2048 : Shape := ⟨3, ![2, 4096, 2048]⟩
abbrev S2048x2048 : Shape := ⟨2, ![2048, 2048]⟩
abbrev S8x2x128x128 : Shape := ⟨4, ![8, 2, 128, 128]⟩
abbrev S8192x2048 : Shape := ⟨2, ![8192, 2048]⟩
abbrev S16x128x128 : Shape := ⟨3, ![16, 128, 128]⟩
abbrev S8x128x8192 : Shape := ⟨3, ![8, 128, 8192]⟩
abbrev S256x2048 : Shape := ⟨2, ![256, 2048]⟩
abbrev S8x128x256 : Shape := ⟨3, ![8, 128, 256]⟩
abbrev S8x256 : Shape := ⟨2, ![8, 256]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S1x256 : Shape := ⟨2, ![1, 256]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S8x2x128x128, .f32⟩
  | .hbm, ⟨3, _⟩ => ⟨S8192x2048, .f32⟩
  | .hbm, ⟨4, _⟩ => ⟨S8192x2048, .bf16⟩
  | .hbm, ⟨5, _⟩ => ⟨S16x128x128, .f32⟩
  | .hbm, ⟨6, _⟩ => ⟨S16x128x128, .bf16⟩
  | .hbm, ⟨7, _⟩ => ⟨S2048x2048, .bf16⟩
  | .hbm, ⟨8, _⟩ => ⟨S8x128x8192, .f32⟩
  | .hbm, ⟨9, _⟩ => ⟨S8x128x8192, .f32⟩
  | .hbm, ⟨10, _⟩ => ⟨S8x128x8192, .f32⟩
  | .hbm, ⟨11, _⟩ => ⟨S8x128x8192, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S16x128x128, .bf16⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S8x128x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KeyScoresReferenceIdeal.lean ====
abbrev S2x4096x2048 : Shape := ⟨3, ![2, 4096, 2048]⟩
abbrev S2048x2048 : Shape := ⟨2, ![2048, 2048]⟩
abbrev S8x2x128x128 : Shape := ⟨4, ![8, 2, 128, 128]⟩
abbrev S8192x2048 : Shape := ⟨2, ![8192, 2048]⟩
abbrev S8192x8x2x128 : Shape := ⟨4, ![8192, 8, 2, 128]⟩
abbrev S8x2x128x8192 : Shape := ⟨4, ![8, 2, 128, 8192]⟩
abbrev S8192x8x1x128 : Shape := ⟨4, ![8192, 8, 1, 128]⟩
abbrev S8192x8x128 : Shape := ⟨3, ![8192, 8, 128]⟩
abbrev S8x128x8192 : Shape := ⟨3, ![8, 128, 8192]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S8x2x128x128, .f32⟩
  | .hbm, ⟨3, _⟩ => ⟨S8192x2048, .f32⟩
  | .hbm, ⟨4, _⟩ => ⟨S8192x2048, .f32⟩
  | .hbm, ⟨5, _⟩ => ⟨S8192x8x2x128, .f32⟩
  | .hbm, ⟨6, _⟩ => ⟨S8x2x128x8192, .f32⟩
  | .hbm, ⟨7, _⟩ => ⟨S8192x8x2x128, .f32⟩
  | .hbm, ⟨8, _⟩ => ⟨S8192x8x1x128, .f32⟩
  | .hbm, ⟨9, _⟩ => ⟨S8192x8x128, .f32⟩
  | .hbm, ⟨10, _⟩ => ⟨S8x128x8192, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ssd.lean ====
abbrev S2x4352x2048 : Shape := ⟨3, ![2, 4352, 2048]⟩
abbrev S2x4352x512 : Shape := ⟨3, ![2, 4352, 512]⟩
abbrev S2x4352x2x32 : Shape := ⟨4, ![2, 4352, 2, 32]⟩
abbrev S2x68x64x2x32 : Shape := ⟨5, ![2, 68, 64, 2, 32]⟩
abbrev S2x68x64x1x32 : Shape := ⟨5, ![2, 68, 64, 1, 32]⟩
abbrev S2x68x64x32 : Shape := ⟨4, ![2, 68, 64, 32]⟩
abbrev S_ : Shape := ⟨0, ![]⟩
abbrev S2x68x2x32 : Shape := ⟨4, ![2, 68, 2, 32]⟩
abbrev S2x68x1x2x32 : Shape := ⟨5, ![2, 68, 1, 2, 32]⟩
abbrev S2x68x64x2x32x1 : Shape := ⟨6, ![2, 68, 64, 2, 32, 1]⟩
abbrev S2x68x64x2x32x3 : Shape := ⟨6, ![2, 68, 64, 2, 32, 3]⟩
abbrev S2x4352x2x4x24 : Shape := ⟨5, ![2, 4352, 2, 4, 24]⟩
abbrev S2x2x4x4352x24 : Shape := ⟨5, ![2, 2, 4, 4352, 24]⟩
abbrev S2x2x4x4352x128 : Shape := ⟨5, ![2, 2, 4, 4352, 128]⟩
abbrev S2x68x64x2x4x8 : Shape := ⟨6, ![2, 68, 64, 2, 4, 8]⟩
abbrev S2x2x4x68x8x64 : Shape := ⟨6, ![2, 2, 4, 68, 8, 64]⟩
abbrev S2x2x4352x2048 : Shape := ⟨4, ![2, 2, 4352, 2048]⟩
abbrev S1x64x512 : Shape := ⟨3, ![1, 64, 512]⟩
abbrev S1x64x128 : Shape := ⟨3, ![1, 64, 128]⟩
abbrev S1x1x1x64x128 : Shape := ⟨5, ![1, 1, 1, 64, 128]⟩
abbrev S1x1x1x1x8x64 : Shape := ⟨6, ![1, 1, 1, 1, 8, 64]⟩
abbrev S1x1x64x512 : Shape := ⟨4, ![1, 1, 64, 512]⟩
abbrev S8x64x128 : Shape := ⟨3, ![8, 64, 128]⟩
abbrev S64x64 : Shape := ⟨2, ![64, 64]⟩
abbrev S64x128 : Shape := ⟨2, ![64, 128]⟩
abbrev S8x64 : Shape := ⟨2, ![8, 64]⟩
abbrev S64x1 : Shape := ⟨2, ![64, 1]⟩
abbrev S1x64x64 : Shape := ⟨3, ![1, 64, 64]⟩
abbrev S1x64 : Shape := ⟨2, ![1, 64]⟩
abbrev S1x1x64x64 : Shape := ⟨4, ![1, 1, 64, 64]⟩
abbrev S1x1 : Shape := ⟨2, ![1, 1]⟩

abbrev nBuf : Space → Nat
  | .hbm => 41
  | .vmem => 13
  | .smem => 0
  | _ => 0

abbrev bufTy : (tb : Table) → Fin (tcTables nBuf tb) → BufTy
  | .hbm, ⟨0, _⟩ => ⟨S2x4352x2048, .f32⟩
  | .hbm, ⟨1, _⟩ => ⟨S2x4352x512, .f32⟩
  | .hbm, ⟨2, _⟩ => ⟨S2x4352x512, .f32⟩
  | .hbm, ⟨3, _⟩ => ⟨S2x4352x2x32, .f32⟩
  | .hbm, ⟨4, _⟩ => ⟨S2x4352x2x32, .f32⟩
  | .hbm, ⟨5, _⟩ => ⟨S2x68x64x2x32, .f32⟩
  | .hbm, ⟨6, _⟩ => ⟨S2x68x64x1x32, .f32⟩
  | .hbm, ⟨7, _⟩ => ⟨S2x68x64x32, .f32⟩
  | .hbm, ⟨8, _⟩ => ⟨S_, .f32⟩
  | .hbm, ⟨9, _⟩ => ⟨S_, .f32⟩
  | .hbm, ⟨10, _⟩ => ⟨S2x68x64x32, .f32⟩
  | .hbm, ⟨11, _⟩ => ⟨S2x68x64x1x32, .f32⟩
  | .hbm, ⟨12, _⟩ => ⟨S2x68x64x1x32, .f32⟩
  | .hbm, ⟨13, _⟩ => ⟨S2x68x64x32, .f32⟩
  | .hbm, ⟨14, _⟩ => ⟨S_, .f32⟩
  | .hbm, ⟨15, _⟩ => ⟨S_, .f32⟩
  | .hbm, ⟨16, _⟩ => ⟨S2x68x64x32, .f32⟩
  | .hbm, ⟨17, _⟩ => ⟨S2x68x64x32, .f32⟩
  | .hbm, ⟨18, _⟩ => ⟨S2x68x64x1x32, .f32⟩
  | .hbm, ⟨19, _⟩ => ⟨S2x68x64x1x32, .f32⟩
  | .hbm, ⟨20, _⟩ => ⟨S2x68x64x2x32, .f32⟩
  | .hbm, ⟨21, _⟩ => ⟨S_, .f32⟩
  | .hbm, ⟨22, _⟩ => ⟨S2x68x2x32, .f32⟩
  | .hbm, ⟨23, _⟩ => ⟨S2x68x1x2x32, .f32⟩
  | .hbm, ⟨24, _⟩ => ⟨S2x68x64x2x32, .f32⟩
  | .hbm, ⟨25, _⟩ => ⟨S2x68x64x2x32, .f32⟩
  | .hbm, ⟨26, _⟩ => ⟨S2x68x64x2x32x1, .f32⟩
  | .hbm, ⟨27, _⟩ => ⟨S2x68x64x2x32x1, .f32⟩
  | .hbm, ⟨28, _⟩ => ⟨S2x68x64x2x32x1, .f32⟩
  | .hbm, ⟨29, _⟩ => ⟨S2x68x64x2x32x3, .f32⟩
  | .hbm, ⟨30, _⟩ => ⟨S2x4352x2x4x24, .f32⟩
  | .hbm, ⟨31, _⟩ => ⟨S2x2x4x4352x24, .f32⟩
  | .hbm, ⟨32, _⟩ => ⟨S_, .i32⟩
  | .hbm, ⟨33, _⟩ => ⟨S_, .f32⟩
  | .hbm, ⟨34, _⟩ => ⟨S2x2x4x4352x128, .f32⟩
  | .hbm, ⟨35, _⟩ => ⟨S2x68x64x2x4x8, .f32⟩
  | .hbm, ⟨36, _⟩ => ⟨S2x2x4x68x8x64, .f32⟩
  | .hbm, ⟨37, _⟩ => ⟨S_, .i32⟩
  | .hbm, ⟨38, _⟩ => ⟨S_, .f32⟩
  | .hbm, ⟨39, _⟩ => ⟨S2x2x4x68x8x64, .f32⟩
  | .hbm, ⟨40, _⟩ => ⟨S2x2x4352x2048, .f32⟩
  | .local _ .vmem, ⟨0, _⟩ => ⟨S1x64x512, .f32⟩
  | .local _ .vmem, ⟨1, _⟩ => ⟨S1x64x512, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x1x1x64x128, .f32⟩
  | .local _ .vmem, ⟨7, _⟩ => ⟨S1x1x1x64x128, .f32⟩
  | .local _ .vmem, ⟨8, _⟩ => ⟨S1x1x1x1x8x64, .f32⟩
  | .local _ .vmem, ⟨9, _⟩ => ⟨S1x1x1x1x8x64, .f32⟩
  | .local _ .vmem, ⟨10, _⟩ => ⟨S1x1x64x512, .f32⟩
  | .local _ .vmem, ⟨11, _⟩ => ⟨S1x1x64x512, .f32⟩
  | .local _ .vmem, ⟨12, _⟩ => ⟨S8x64x128, .f32⟩
  | _, _ => ⟨S2x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_call0_cst : Ref sig .tc := ⟨.hbm, 14, rfl⟩
abbrev main_call1_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call2_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_0 : Ref sig .tc := ⟨.hbm, 37, rfl⟩
abbrev main_call3_v0 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 2, 4, 68], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c0_i32 : BitVec 32 := 0#32
  ![arg0.toNat, v6.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c0_i32 : BitVec 32 := 0#32
  ![arg0.toNat, v6.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c0_i32 : BitVec 32 := 0#32
  ![arg0.toNat, v6.toNat, arg2.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c0_i32 : BitVec 32 := 0#32
  let c0_i32_0 : BitVec 32 := 0#32
  ![arg0.toNat, arg1.toNat, arg2.toNat, v6.toNat, c0_i32.toNat]

def cc0_transform_4 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c0_i32 : BitVec 32 := 0#32
  let c0_i32_0 : BitVec 32 := 0#32
  let c0_i32_1 : BitVec 32 := 0#32
  ![arg0.toNat, arg1.toNat, arg2.toNat, v6.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 1 := Scalar.cmpi .slt arg3 c4_i32
  let c3_i32 : BitVec 32 := 3#32
  let v1 : BitVec 32 := Scalar.subi c3_i32 arg3
  let c71_i32 : BitVec 32 := 71#32
  let v2 : BitVec 32 := Scalar.subi c71_i32 arg3
  let v3 : BitVec 32 := Scalar.select v0 v1 v2
  let v4 : BitVec 32 := Scalar.subi v3 arg3
  let v5 : BitVec 32 := Scalar.muli arg1 v4
  let v6 : BitVec 32 := Scalar.addi arg3 v5
  let c0_i32 : BitVec 32 := 0#32
  ![arg1.toNat, arg0.toNat, v6.toNat, arg2.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x1x1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]
-- ==== SsdReferenceIdeal.lean ====
abbrev S2x4352x2048 : Shape := ⟨3, ![2, 4352, 2048]⟩
abbrev S2x4352x512 : Shape := ⟨3, ![2, 4352, 512]⟩
abbrev S2x4352x2x32 : Shape := ⟨4, ![2, 4352, 2, 32]⟩
abbrev S2x4352x32x64 : Shape := ⟨4, ![2, 4352, 32, 64]⟩
abbrev S2x4352x4x128 : Shape := ⟨4, ![2, 4352, 4, 128]⟩
abbrev S2x4352x1x32 : Shape := ⟨4, ![2, 4352, 1, 32]⟩
abbrev S2x4352x32 : Shape := ⟨3, ![2, 4352, 32]⟩
abbrev S2x256x32x64 : Shape := ⟨4, ![2, 256, 32, 64]⟩
abbrev S2x4096x32x64 : Shape := ⟨4, ![2, 4096, 32, 64]⟩
abbrev S2x256x32 : Shape := ⟨3, ![2, 256, 32]⟩
abbrev S2x4096x32 : Shape := ⟨3, ![2, 4096, 32]⟩
abbrev S2x256x4x128 : Shape := ⟨4, ![2, 256, 4, 128]⟩
abbrev S2x4096x4x128 : Shape := ⟨4, ![2, 4096, 4, 128]⟩
abbrev S_ : Shape := ⟨0, ![]⟩
abbrev S4x32x64x128 : Shape := ⟨4, ![4, 32, 64, 128]⟩
abbrev S4x4352x32x64 : Shape := ⟨4, ![4, 4352, 32, 64]⟩
abbrev S4x4352x32 : Shape := ⟨3, ![4, 4352, 32]⟩
abbrev S4x4352x4x128 : Shape := ⟨4, ![4, 4352, 4, 128]⟩
abbrev S4x4352x32x1 : Shape := ⟨4, ![4, 4352, 32, 1]⟩
abbrev S4x68x64x32x64 : Shape := ⟨5, ![4, 68, 64, 32, 64]⟩
abbrev S4x32x68x64x64 : Shape := ⟨5, ![4, 32, 68, 64, 64]⟩
abbrev S4x68x64x32 : Shape := ⟨4, ![4, 68, 64, 32]⟩
abbrev S4x32x68x64 : Shape := ⟨4, ![4, 32, 68, 64]⟩
abbrev S4x68x64x4x128 : Shape := ⟨5, ![4, 68, 64, 4, 128]⟩
abbrev S4x4x68x64x128 : Shape := ⟨5, ![4, 4, 68, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x32x68x64x1 : Shape := ⟨5, ![4, 32, 68, 64, 1]⟩
abbrev S4x32x68x1x64 : Shape := ⟨5, ![4, 32, 68, 1, 64]⟩
abbrev S4x4x68x64x64 : Shape := ⟨5, ![4, 4, 68, 64, 64]⟩
abbrev S4x4x8x68x64x64 : Shape := ⟨6, ![4, 4, 8, 68, 64, 64]⟩
abbrev S4x32x68x1 : Shape := ⟨4, ![4, 32, 68, 1]⟩
abbrev S4x32x68 : Shape := ⟨3, ![4, 32, 68]⟩
abbrev S68x4x4x64x128 : Shape := ⟨5, ![68, 4, 4, 64, 128]⟩
abbrev S68x4x32x64x64 : Shape := ⟨5, ![68, 4, 32, 64, 64]⟩
abbrev S68x4x32x64 : Shape := ⟨4, ![68, 4, 32, 64]⟩
abbrev S68x4x32 : Shape := ⟨3, ![68, 4, 32]⟩
abbrev S1x4x4x64x128 : Shape := ⟨5, ![1, 4, 4, 64, 128]⟩
abbrev S4x4x64x128 : Shape := ⟨4, ![4, 4, 64, 128]⟩
abbrev S1x4x32x64x64 : Shape := ⟨5, ![1, 4, 32, 64, 64]⟩
abbrev S4x32x64x64 : Shape := ⟨4, ![4, 32, 64, 64]⟩
abbrev S1x4x32x64 : Shape := ⟨4, ![1, 4, 32, 64]⟩
abbrev S4x32x64 : Shape := ⟨3, ![4, 32, 64]⟩
abbrev S1x4x32 : Shape := ⟨3, ![1, 4, 32]⟩
abbrev S4x32 : Shape := ⟨2, ![4, 32]⟩
abbrev S4x4x8x64x128 : Shape := ⟨5, ![4, 4, 8, 64, 128]⟩
abbrev S4x4x8x64x64 : Shape := ⟨5, ![4, 4, 8, 64, 64]⟩
abbrev S4x32x64x1 : Shape := ⟨4, ![4, 32, 64, 1]⟩
abbrev S4x32x1x1 : Shape := ⟨4, ![4, 32, 1, 1]⟩
abbrev S2x2x4352x2048 : Shape := ⟨4, ![2, 2, 4352, 2048]⟩
abbrev S1x2x4352x2048 : Shape := ⟨4, ![1, 2, 4352, 2048]⟩
abbrev S2x256x2048 : Shape := ⟨3, ![2, 256, 2048]⟩
abbrev S2x4096x2048 : Shape := ⟨3, ![2, 4096, 2048]⟩

abbrev nBuf : Space → Nat
  | .hbm => 196
  | .vmem => 0
  | .smem => 0
  | _ => 0

abbrev hbmTy0_0 (i : Nat) : BufTy := match i % 128 with
  | 0 => ⟨S2x4352x2048, .f32⟩
  | 1 => ⟨S2x4352x512, .f32⟩
  | 2 => ⟨S2x4352x512, .f32⟩
  | 3 => ⟨S2x4352x2x32, .f32⟩
  | 4 => ⟨S2x4352x2x32, .f32⟩
  | 5 => ⟨S2x4352x32x64, .f32⟩
  | 6 => ⟨S2x4352x4x128, .f32⟩
  | 7 => ⟨S2x4352x4x128, .f32⟩
  | 8 => ⟨S2x4352x1x32, .f32⟩
  | 9 => ⟨S2x4352x32, .f32⟩
  | 10 => ⟨S2x4352x1x32, .f32⟩
  | 11 => ⟨S2x4352x32, .f32⟩
  | 12 => ⟨S2x4352x1x32, .f32⟩
  | 13 => ⟨S2x4352x32, .f32⟩
  | 14 => ⟨S2x4352x1x32, .f32⟩
  | 15 => ⟨S2x4352x32, .f32⟩
  | 16 => ⟨S2x256x32x64, .f32⟩
  | 17 => ⟨S2x256x32x64, .f32⟩
  | 18 => ⟨S2x4096x32x64, .f32⟩
  | 19 => ⟨S2x4096x32x64, .f32⟩
  | 20 => ⟨S2x4352x32x64, .f32⟩
  | 21 => ⟨S2x256x32, .f32⟩
  | 22 => ⟨S2x256x32, .f32⟩
  | 23 => ⟨S2x4096x32, .f32⟩
  | 24 => ⟨S2x4096x32, .f32⟩
  | 25 => ⟨S2x4352x32, .f32⟩
  | 26 => ⟨S2x256x32, .f32⟩
  | 27 => ⟨S2x256x32, .f32⟩
  | 28 => ⟨S2x4096x32, .f32⟩
  | 29 => ⟨S2x4096x32, .f32⟩
  | 30 => ⟨S2x4352x32, .f32⟩
  | 31 => ⟨S2x256x4x128, .f32⟩
  | 32 => ⟨S2x256x4x128, .f32⟩
  | 33 => ⟨S2x4096x4x128, .f32⟩
  | 34 => ⟨S2x4096x4x128, .f32⟩
  | 35 => ⟨S2x4352x4x128, .f32⟩
  | 36 => ⟨S2x256x4x128, .f32⟩
  | 37 => ⟨S2x256x4x128, .f32⟩
  | 38 => ⟨S2x4096x4x128, .f32⟩
  | 39 => ⟨S2x4096x4x128, .f32⟩
  | 40 => ⟨S2x4352x4x128, .f32⟩
  | 41 => ⟨S_, .f32⟩
  | 42 => ⟨S4x32x64x128, .f32⟩
  | 43 => ⟨S4x4352x32x64, .f32⟩
  | 44 => ⟨S4x4352x32, .f32⟩
  | 45 => ⟨S4x4352x32, .f32⟩
  | 46 => ⟨S4x4352x4x128, .f32⟩
  | 47 => ⟨S4x4352x4x128, .f32⟩
  | 48 => ⟨S4x4352x32x1, .f32⟩
  | 49 => ⟨S4x4352x32x64, .f32⟩
  | 50 => ⟨S4x4352x32x64, .f32⟩
  | 51 => ⟨S4x68x64x32x64, .f32⟩
  | 52 => ⟨S4x32x68x64x64, .f32⟩
  | 53 => ⟨S4x68x64x32, .f32⟩
  | 54 => ⟨S4x32x68x64, .f32⟩
  | 55 => ⟨S_, .f32⟩
  | 56 => ⟨S_, .f32⟩
  | 57 => ⟨S4x32x68x64, .f32⟩
  | 58 => ⟨S4x68x64x4x128, .f32⟩
  | 59 => ⟨S4x4x68x64x128, .f32⟩
  | 60 => ⟨S4x68x64x4x128, .f32⟩
  | 61 => ⟨S4x4x68x64x128, .f32⟩
  | 62 => ⟨S64, .i32⟩
  | 63 => ⟨S64x1, .i32⟩
  | 64 => ⟨S1x64, .i32⟩
  | 65 => ⟨S64x64, .i32⟩
  | 66 => ⟨S64x64, .i32⟩
  | 67 => ⟨S64x64, .i1⟩
  | 68 => ⟨S64x1, .i32⟩
  | 69 => ⟨S1x64, .i32⟩
  | 70 => ⟨S64x64, .i32⟩
  | 71 => ⟨S64x64, .i32⟩
  | 72 => ⟨S64x64, .i1⟩
  | 73 => ⟨S4x32x68x64x1, .f32⟩
  | 74 => ⟨S4x32x68x1x64, .f32⟩
  | 75 => ⟨S4x32x68x64x64, .f32⟩
  | 76 => ⟨S4x32x68x64x64, .f32⟩
  | 77 => ⟨S4x32x68x64x64, .f32⟩
  | 78 => ⟨S_, .f32⟩
  | 79 => ⟨S_, .f32⟩
  | 80 => ⟨S4x32x68x64x64, .i1⟩
  | 81 => ⟨S4x32x68x64x64, .f32⟩
  | 82 => ⟨S4x32x68x64x64, .f32⟩
  | 83 => ⟨S4x32x68x64x64, .f32⟩
  | 84 => ⟨S_, .f32⟩
  | 85 => ⟨S_, .f32⟩
  | 86 => ⟨S4x32x68x64x64, .i1⟩
  | 87 => ⟨S4x32x68x64x64, .f32⟩
  | 88 => ⟨S4x32x68x64x64, .f32⟩
  | 89 => ⟨S4x4x68x64x64, .f32⟩
  | 90 => ⟨S4x4x8x68x64x64, .f32⟩
  | 91 => ⟨S4x32x68x64x64, .f32⟩
  | 92 => ⟨S4x32x68x64x64, .f32⟩
  | 93 => ⟨S4x32x68x64x64, .f32⟩
  | 94 => ⟨S4x32x68x1, .f32⟩
  | 95 => ⟨S4x32x68, .f32⟩
  | 96 => ⟨S4x32x68x1, .f32⟩
  | 97 => ⟨S4x32x68x64, .f32⟩
  | 98 => ⟨S4x32x68x64, .f32⟩
  | 99 => ⟨S4x32x68x64, .f32⟩
  | 100 => ⟨S4x32x68x64x1, .f32⟩
  | 101 => ⟨S4x32x68x64x64, .f32⟩
  | 102 => ⟨S4x32x68x64x64, .f32⟩
  | 103 => ⟨S4x32x68x64, .f32⟩
  | 104 => ⟨S4x32x68, .f32⟩
  | 105 => ⟨S68x4x4x64x128, .f32⟩
  | 106 => ⟨S68x4x4x64x128, .f32⟩
  | 107 => ⟨S68x4x32x64x64, .f32⟩
  | 108 => ⟨S68x4x32x64, .f32⟩
  | 109 => ⟨S68x4x32, .f32⟩
  | 110 => ⟨S68x4x32x64x64, .f32⟩
  | 111 => ⟨S_, .f32⟩
  | 112 => ⟨S68x4x32x64x64, .f32⟩
  | 113 => ⟨S_, .i32⟩
  | 114 => ⟨S68x4x4x64x128, .f32⟩
  | 115 => ⟨S68x4x4x64x128, .f32⟩
  | 116 => ⟨S68x4x32x64x64, .f32⟩
  | 117 => ⟨S68x4x32x64, .f32⟩
  | 118 => ⟨S68x4x32, .f32⟩
  | 119 => ⟨S68x4x32x64x64, .f32⟩
  | 120 => ⟨S_, .i32⟩
  | 121 => ⟨S4x32x64x128, .f32⟩
  | 122 => ⟨S68x4x32x64x64, .f32⟩
  | 123 => ⟨S_, .i32⟩
  | 124 => ⟨S_, .i1⟩
  | 125 => ⟨S_, .i32⟩
  | 126 => ⟨S_, .i32⟩
  | 127 => ⟨S_, .i32⟩
  | _ => ⟨S2x4352x2048, .f32⟩

abbrev hbmTy0_1 (i : Nat) : BufTy := match i % 128 with
  | 0 => ⟨S_, .i32⟩
  | 1 => ⟨S1x4x4x64x128, .f32⟩
  | 2 => ⟨S4x4x64x128, .f32⟩
  | 3 => ⟨S_, .i32⟩
  | 4 => ⟨S_, .i32⟩
  | 5 => ⟨S_, .i32⟩
  | 6 => ⟨S_, .i32⟩
  | 7 => ⟨S1x4x4x64x128, .f32⟩
  | 8 => ⟨S4x4x64x128, .f32⟩
  | 9 => ⟨S_, .i32⟩
  | 10 => ⟨S_, .i32⟩
  | 11 => ⟨S_, .i32⟩
  | 12 => ⟨S_, .i32⟩
  | 13 => ⟨S1x4x32x64x64, .f32⟩
  | 14 => ⟨S4x32x64x64, .f32⟩
  | 15 => ⟨S_, .i32⟩
  | 16 => ⟨S_, .i32⟩
  | 17 => ⟨S_, .i32⟩
  | 18 => ⟨S1x4x32x64, .f32⟩
  | 19 => ⟨S4x32x64, .f32⟩
  | 20 => ⟨S_, .i32⟩
  | 21 => ⟨S_, .i32⟩
  | 22 => ⟨S1x4x32, .f32⟩
  | 23 => ⟨S4x32, .f32⟩
  | 24 => ⟨S_, .i32⟩
  | 25 => ⟨S_, .i32⟩
  | 26 => ⟨S_, .i32⟩
  | 27 => ⟨S_, .i32⟩
  | 28 => ⟨S1x4x32x64x64, .f32⟩
  | 29 => ⟨S4x32x64x64, .f32⟩
  | 30 => ⟨S4x4x8x64x128, .f32⟩
  | 31 => ⟨S4x4x8x64x64, .f32⟩
  | 32 => ⟨S4x4x8x64x64, .f32⟩
  | 33 => ⟨S4x32x64x64, .f32⟩
  | 34 => ⟨S4x32x64x1, .f32⟩
  | 35 => ⟨S4x32x64x64, .f32⟩
  | 36 => ⟨S4x32x64x64, .f32⟩
  | 37 => ⟨S4x4x8x64x64, .f32⟩
  | 38 => ⟨S4x32x1x1, .f32⟩
  | 39 => ⟨S4x32x64x128, .f32⟩
  | 40 => ⟨S4x32x64x128, .f32⟩
  | 41 => ⟨S4x4x8x64x128, .f32⟩
  | 42 => ⟨S4x32x64x128, .f32⟩
  | 43 => ⟨S4x32x64x128, .f32⟩
  | 44 => ⟨S4x32x64x64, .f32⟩
  | 45 => ⟨S1x4x32x64x64, .f32⟩
  | 46 => ⟨S_, .i32⟩
  | 47 => ⟨S_, .i32⟩
  | 48 => ⟨S_, .i32⟩
  | 49 => ⟨S_, .i32⟩
  | 50 => ⟨S68x4x32x64x64, .f32⟩
  | 51 => ⟨S_, .i32⟩
  | 52 => ⟨S_, .i32⟩
  | 53 => ⟨S4x68x64x32x64, .f32⟩
  | 54 => ⟨S4x4352x32x64, .f32⟩
  | 55 => ⟨S2x2x4352x2048, .f32⟩
  | 56 => ⟨S1x2x4352x2048, .f32⟩
  | 57 => ⟨S2x4352x2048, .f32⟩
  | 58 => ⟨S1x2x4352x2048, .f32⟩
  | 59 => ⟨S2x4352x2048, .f32⟩
  | 60 => ⟨S2x256x2048, .f32⟩
  | 61 => ⟨S2x256x2048, .f32⟩
  | 62 => ⟨S2x4096x2048, .f32⟩
  | 63 => ⟨S2x4096x2048, .f32⟩
  | 64 => ⟨S2x4352x2048, .f32⟩
  | 65 => ⟨S1x2x4352x2048, .f32⟩
  | 66 => ⟨S1x2x4352x2048, .f32⟩
  | 67 => ⟨S2x2x4352x2048, .f32⟩
  | _ => ⟨S2x4352x2048, .f32⟩

abbrev hbmTy (i : Nat) : BufTy := match i / 128 with
  | 0 => hbmTy0_0 i
  | 1 => hbmTy0_1 i
  | _ => ⟨S2x4352x2048, .f32⟩

abbrev bufTy : (tb : Table) → Fin (tcTables nBuf tb) → BufTy
  | .hbm, ⟨i, _⟩ => hbmTy i
  | _, _ => ⟨S2x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_call0_cst : Ref sig .tc := ⟨.hbm, 55, rfl⟩
abbrev main_call0_v0 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_0 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v70 : Ref sig .tc := ⟨.hbm, 82, rfl⟩
abbrev main_v71 : Ref sig .tc := ⟨.hbm, 83, rfl⟩
abbrev main_cst_1 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_2 : Ref sig .tc := ⟨.hbm, 111, rfl⟩
abbrev main_v95 : Ref sig .tc := ⟨.hbm, 112, rfl⟩
abbrev main_c : Ref sig .tc := ⟨.hbm, 113, rfl⟩
abbrev main_v96_0 : Ref sig .tc := ⟨.hbm, 114, rfl⟩
abbrev main_v96_1 : Ref sig .tc := ⟨.hbm, 115, rfl⟩
abbrev main_v96_2 : Ref sig .tc := ⟨.hbm, 116, rfl⟩
abbrev main_v96_3 : Ref sig .tc := ⟨.hbm, 117, rfl⟩
abbrev main_v96_4 : Ref sig .tc := ⟨.hbm, 118, rfl⟩
abbrev main_v96_5 : Ref sig .tc := ⟨.hbm, 119, rfl⟩
abbrev main_v96_6 : Ref sig .tc := ⟨.hbm, 120, rfl⟩
abbrev main_v96_7 : Ref sig .tc := ⟨.hbm, 121, rfl⟩
abbrev main_v96_8 : Ref sig .tc := ⟨.hbm, 122, rfl⟩
abbrev main_while0c_c_11 : Ref sig .tc := ⟨.hbm, 123, rfl⟩
abbrev main_while0c_v112 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_call3_c_1 : Ref sig .tc := ⟨.hbm, 127, rfl⟩
abbrev main_while0b_call3_c_2 : Ref sig .tc := ⟨.hbm, 128, rfl⟩
abbrev main_while0b_call3_v0 : Ref sig .tc := ⟨.hbm, 129, rfl⟩
abbrev main_while0b_v112 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_call4_v0 : Ref sig .tc := ⟨.hbm, 135, rfl⟩
abbrev main_while0b_v113 : Ref sig .tc := ⟨.hbm, 136, rfl⟩
abbrev main_while0b_call5_c : Ref sig .tc := ⟨.hbm, 137, rfl⟩
abbrev main_while0b_call5_c_0 : Ref sig .tc := ⟨.hbm, 138, rfl⟩
abbrev main_while0b_call5_c_1 : Ref sig .tc := ⟨.hbm, 139, rfl⟩
abbrev main_while0b_call5_c_2 : Ref sig .tc := ⟨.hbm, 140, rfl⟩
abbrev main_while0b_call5_v0 : Ref sig .tc := ⟨.hbm, 141, rfl⟩
abbrev main_while0b_v114 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_v0 : Ref sig .tc := ⟨.hbm, 146, rfl⟩
abbrev main_while0b_v115 : Ref sig .tc := ⟨.hbm, 147, rfl⟩
abbrev main_while0b_call7_c : Ref sig .tc := ⟨.hbm, 148, rfl⟩
abbrev main_while0b_call7_c_0 : Ref sig .tc := ⟨.hbm, 149, rfl⟩
abbrev main_while0b_call7_v0 : Ref sig .tc := ⟨.hbm, 150, rfl⟩
abbrev main_while0b_v116 : Ref sig .tc := ⟨.hbm, 151, rfl⟩
abbrev main_while0b_call8_c : Ref sig .tc := ⟨.hbm, 152, rfl⟩
abbrev main_while0b_call8_c_0 : Ref sig .tc := ⟨.hbm, 153, rfl⟩
abbrev main_while0b_call8_c_1 : Ref sig .tc := ⟨.hbm, 154, rfl⟩
abbrev main_while0b_call8_c_2 : Ref sig .tc := ⟨.hbm, 155, rfl⟩
abbrev main_while0b_call8_v0 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_v121 : Ref sig .tc := ⟨.hbm, 161, rfl⟩
abbrev main_while0b_v122 : Ref sig .tc := ⟨.hbm, 162, rfl⟩
abbrev main_while0b_v123 : Ref sig .tc := ⟨.hbm, 163, rfl⟩
abbrev main_while0b_v124 : Ref sig .tc := ⟨.hbm, 164, rfl⟩
abbrev main_while0b_v125 : Ref sig .tc := ⟨.hbm, 165, rfl⟩
abbrev main_while0b_v126 : Ref sig .tc := ⟨.hbm, 166, rfl⟩
abbrev main_while0b_v127 : Ref sig .tc := ⟨.hbm, 167, rfl⟩
abbrev main_while0b_v128 : Ref sig .tc := ⟨.hbm, 168, rfl⟩
abbrev main_while0b_v129 : Ref sig .tc := ⟨.hbm, 169, rfl⟩
abbrev main_while0b_v130 : Ref sig .tc := ⟨.hbm, 170, rfl⟩
abbrev main_while0b_v131 : Ref sig .tc := ⟨.hbm, 171, rfl⟩
abbrev main_while0b_v132 : Ref sig .tc := ⟨.hbm, 172, rfl⟩
abbrev main_while0b_call9_v0 : Ref sig .tc := ⟨.hbm, 173, rfl⟩
abbrev main_while0b_call9_c : Ref sig .tc := ⟨.hbm, 174, rfl⟩
abbrev main_while0b_call9_c_0 : Ref sig .tc := ⟨.hbm, 175, rfl⟩
abbrev main_while0b_call9_c_1 : Ref sig .tc := ⟨.hbm, 176, rfl⟩
abbrev main_while0b_call9_c_2 : Ref sig .tc := ⟨.hbm, 177, rfl⟩
abbrev main_while0b_v133 : Ref sig .tc := ⟨.hbm, 178, rfl⟩
abbrev main_while0b_c_11 : Ref sig .tc := ⟨.hbm, 179, rfl⟩
abbrev main_while0b_v134 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩

abbrev nD : Nat := 1
abbrev τ : Topo := Topo.v7x

variable {F : FTy → Type} [FloatOps F]

abbrev main_while0_count : Scf.Loop 32 := ⟨0#32, 68#32, 1#32⟩
-- ==== Proof.Spec.lean ====
/- Gated linear attention on the extended reals, written once: what a token's projection is, the order in
   which each direction visits the tokens, the gate of a token, and the chunked recurrence of one head. Neither
   program is named here; the reference and the kernel are each shown to compute `out`. -/
module

public import Idealize.ShloMosaic.Lib.Pointwise
public import Idealize.ShloMosaic.Lib.ValueIdx

@[expose] public section

noncomputable section

namespace Cert.GLA

open Idealize.ShloMosaic

/-! ## The recurrence of one head, over chunks of 64 positions -/

section Head

variable (q k lg : ℕ → Fin 64 → Fin 256 → EReal) (v : ℕ → Fin 64 → Fin 512 → EReal)

/-- The running sum of the log gates inside chunk `n`, up to and with position `i`. -/
def cum (n : ℕ) (i : Fin 64) (c : Fin 256) : EReal := ∑ s : Fin 64, if s ≤ i then lg n s c else 0

/-- The decayed query. -/
def qd (n : ℕ) (i : Fin 64) (c : Fin 256) : EReal := q n i c * Ideal.exp (cum lg n i c)

/-- The key with its decay undone. -/
def ku (n : ℕ) (i : Fin 64) (c : Fin 256) : EReal := k n i c * Ideal.exp (-(cum lg n i c))

/-- The key with the decay left to the end of its chunk. -/
def kd (n : ℕ) (i : Fin 64) (c : Fin 256) : EReal := k n i c * Ideal.exp (cum lg n 63 c - cum lg n i c)

/-- The causal score of position `i` against position `s` of the same chunk. -/
def attn (n : ℕ) (i s : Fin 64) : EReal := if s ≤ i then ∑ c : Fin 256, qd q lg n i c * ku k lg n s c else 0

/-- What position `i` takes from its own chunk. -/
def intra (n : ℕ) (i : Fin 64) (e : Fin 512) : EReal := ∑ s : Fin 64, attn q k lg n i s * v n s e

/-- The carried matrix before chunk `n`. -/
def state : ℕ → Fin 256 → Fin 512 → EReal
  | 0 => fun _ _ => 0
  | n + 1 => fun c e => state n c e * Ideal.exp (cum lg n 63 c) + ∑ s : Fin 64, kd k lg n s c * v n s e

/-- The output of position `i` of chunk `n`. -/
def out (n : ℕ) (i : Fin 64) (e : Fin 512) : EReal :=
  intra q k lg v n i e + ∑ c : Fin 256, qd q lg n i c * state k lg v n c e

end Head

/-! ## The layer's two sequences -/

/-- Projected activations of the context tokens, and of the latent tokens. -/
abbrev Ctx := (⟨3, ![2, 256, 6176]⟩ : Shape).Idx → EReal
/-- Projected activations of the latent tokens. -/
abbrev Lat := (⟨3, ![2, 4096, 6176]⟩ : Shape).Idx → EReal

variable (pc : Ctx) (pn : Lat) (wg : (⟨3, ![2, 16, 1024]⟩ : Shape).Idx → EReal) (bg : (⟨2, ![2, 1024]⟩ : Shape).Idx → EReal)

/-- Column `c` of the projection of token `t` of batch row `b`, the context tokens first. -/
def proj (b : Fin 2) (t c : ℕ) : EReal :=
  if h : t < 256 ∧ c < 6176 then pc (ix3 b ⟨t, h.1⟩ ⟨c, h.2⟩)
  else if h : t - 256 < 4096 ∧ c < 6176 then pn (ix3 b ⟨t - 256, h.1⟩ ⟨c, h.2⟩) else 0

theorem proj_ctx (b : Fin 2) (t : Fin 256) (c : Fin 6176) : pc (ix3 b t c) = proj pc pn b t.val c.val := by
  unfold proj; rw [dif_pos ⟨t.isLt, c.isLt⟩]

theorem proj_lat (b : Fin 2) (t : Fin 4096) (c : Fin 6176) : pn (ix3 b t c) = proj pc pn b (t.val + 256) c.val := by
  unfold proj
  rw [dif_neg (by omega), dif_pos ⟨by omega, c.isLt⟩]
  congr 2

/-- The token that direction `d` visits at step `t`: in order, or the context backwards and then the latents
    backwards. -/
def pos (d t : ℕ) : ℕ := if d = 0 then t else if t < 256 then 255 - t else 4607 - t

/-- The token at position `i` of chunk `n` in direction `d`. -/
def tok (d n i : ℕ) : ℕ := pos d (n * 64 + i)

/-- The scaled query of a head. -/
def qs (d b : Fin 2) (h : Fin 4) (n : ℕ) (i : Fin 64) (c : Fin 256) : EReal :=
  proj pc pn b (tok d n i) (h * 256 + c) * Ideal.ofBits .f32 0x3D800000#32

/-- The key of a head. -/
def ks (d b : Fin 2) (h : Fin 4) (n : ℕ) (i : Fin 64) (c : Fin 256) : EReal :=
  proj pc pn b (tok d n i) (1024 + (h * 256 + c))

/-- The value of a head. -/
def vs (d b : Fin 2) (h : Fin 4) (n : ℕ) (i : Fin 64) (e : Fin 512) : EReal :=
  proj pc pn b (tok d n i) (2048 + (h * 512 + e))

/-- The gate's logit in channel `c` at token `t`. -/
def logit (d b : Fin 2) (t : ℕ) (c : Fin 1024) : EReal :=
  (∑ r : Fin 16, wg (ix3 d r c) * proj pc pn b t (6144 + (d * 16 + r))) + bg (ix2 d c)

/-- The logarithm of the gate, `-softplus(-x) / 16`. -/
def logGate (x : EReal) : EReal :=
  Ideal.div (-(max (-x) 0 + Ideal.log1p (Ideal.exp (-(FloatOps.absf (F := Ideal) (φ := .f32) (-x)))))) (Ideal.ofBits .f32 0x41800000#32)

/-- The log gate of a head. -/
def lgs (d b : Fin 2) (h : Fin 4) (n : ℕ) (i : Fin 64) (c : Fin 256) : EReal :=
  logGate (logit pc pn wg bg d b (tok d n i) ⟨h * 256 + c, by omega⟩)

/-- The output of direction `d`, batch row `b`, head `h`. -/
def gla (d b : Fin 2) (h : Fin 4) (n : ℕ) (i : Fin 64) (e : Fin 512) : EReal :=
  out (qs pc pn d b h) (ks pc pn d b h) (lgs pc pn wg bg d b h) (vs pc pn d b h) n i e

/-- Reading a projection at two spellings of the same place. -/
theorem proj_congr {b b' : Fin 2} {t t' c c' : ℕ} (hb : b = b') (ht : t = t') (hc : c = c') :
    proj pc pn b t c = proj pc pn b' t' c' := by rw [hb, ht, hc]

end Cert.GLA

end
-- ==== Proof.KerPoint.lean ====
/- One grid point of the kernel, head by head, read at an index. -/
module

public import proofs.«01_k».proof.Proof.Spec
public import proofs.«01_k».proof.Proof.Gen.KernelIdeal.Skeleton
public import Idealize.ShloMosaic.Lib.MatmulPlain
public import Idealize.ShloMosaic.Lib.Pointwise
public import Idealize.ShloMosaic.Lib.ValueIdx
public import Idealize.ShloMosaic.Lib.ValueLayout
public import Idealize.ShloMosaic.Lib.WordCmp

@[expose] public section

set_option maxRecDepth 16384

noncomputable section

namespace Cert.GLA.Ker

open Idealize Idealize.ShloMosaic
open Idealize.ShloMosaic.ValueIdx (contrEquiv1 contrEquiv1_symm_val)
open Cert.KernelIdeal Cert.KernelIdeal.Gen
open scoped BigOperators

/-- `[K,M]ᵀ × [K,N]` with the rows contracted, read at `(r, c)`. -/
theorem mm_rows (acc : FVec Ideal S512x256 .f32) (x : FVec Ideal S64x512 .bf16) (y : FVec Ideal S64x256 .bf16)
    (r : Fin 512) (c : Fin 256) :
    FloatOps.matmul dot_S64x512_S64x256_S512x256_0_0_1_1_n_n none x y acc (ix2 r c)
      = acc (ix2 r c) + ∑ k : Fin 64, x (ix2 k r) * y (ix2 k c) := by
  have hr : dot_S64x512_S64x256_S512x256_0_0_1_1_n_n.contr.rank = 1 := rfl
  have hs : dot_S64x512_S64x256_S512x256_0_0_1_1_n_n.contr.size ⟨0, by rw [hr]; exact Nat.one_pos⟩ = 64 := rfl
  rw [Ideal.matmul_apply, ← Equiv.sum_comp (contrEquiv1 _ 64 hr hs).symm]
  refine congrArg (acc (ix2 r c) + ·) (Finset.sum_congr rfl fun k _ => ?_)
  have hk := contrEquiv1_symm_val _ 64 hr hs k
  have el : dot_S64x512_S64x256_S512x256_0_0_1_1_n_n.lhsIdx (ix2 r c) ((contrEquiv1 _ 64 hr hs).symm k) = ix2 k r := by
    funext a; apply Fin.ext
    match a with
    | ⟨0, _⟩ => exact hk
    | ⟨1, _⟩ => rfl
  have er : dot_S64x512_S64x256_S512x256_0_0_1_1_n_n.rhsIdx (ix2 r c) ((contrEquiv1 _ 64 hr hs).symm k) = ix2 k c := by
    funext a; apply Fin.ext
    match a with
    | ⟨0, _⟩ => exact hk
    | ⟨1, _⟩ => rfl
  rw [el, er]

/-- The block of outputs of one head, from its cumulative gates, queries, keys, values and the state before. -/
def headOut (m : IVec S64x64 1) (b : FVec Ideal S64x256 .f32) (q k : Vec Ideal S1x64x256 .f32) (v : Vec Ideal S1x64x512 .f32)
    (S : Vec Ideal S1x512x256 .f32) : FVec Ideal S1x1x64x512 .f32 :=
  k0_pay55 (k0_pay29 v) (k0_pay39 m (k0_pay33 b (k0_pay21 q)) (k0_pay37 b k)) (k0_pay43 S) (k0_pay47 (k0_pay33 b (k0_pay21 q)))

/-- The state of one head after the point, from its cumulative gates, the chunk's total, keys, values and the state before. -/
def headState (b : FVec Ideal S64x256 .f32) (bl : FVec Ideal S1x256 .f32) (k : Vec Ideal S1x64x256 .f32) (v : Vec Ideal S1x64x512 .f32)
    (S : Vec Ideal S1x512x256 .f32) : FVec Ideal S1x512x256 .f32 :=
  k0_pay59 bl (k0_pay43 S) (k0_pay51 b bl (k0_pay25 k) (k0_pay29 v))

variable (m : IVec S64x64 1) (b : FVec Ideal S64x256 .f32) (bl : FVec Ideal S1x256 .f32) (q k : Vec Ideal S1x64x256 .f32)
  (v : Vec Ideal S1x64x512 .f32) (S : Vec Ideal S1x512x256 .f32)

theorem headOut_1 : k0_pay56 (k0_pay30 v) (k0_pay40 m (k0_pay26 k) (k0_pay34 b (k0_pay22 q)) (k0_pay38 b))
    (k0_pay48 (k0_pay34 b (k0_pay22 q)) (k0_pay44 S)) = headOut m b q k v S := rfl
theorem headOut_2 : k0_pay57 (k0_pay31 v) (k0_pay41 m b (k0_pay27 k) (k0_pay35 b (k0_pay23 q)))
    (k0_pay49 (k0_pay35 b (k0_pay23 q)) (k0_pay45 S)) = headOut m b q k v S := rfl
theorem headOut_3 : k0_pay58 (k0_pay32 v) (k0_pay42 m b (k0_pay28 k) (k0_pay36 b (k0_pay24 q)))
    (k0_pay50 (k0_pay36 b (k0_pay24 q)) (k0_pay46 S)) = headOut m b q k v S := rfl
theorem headState_1 : k0_pay60 bl (k0_pay44 S) (k0_pay52 b bl (k0_pay26 k) (k0_pay30 v)) = headState b bl k v S := rfl
theorem headState_2 : k0_pay1 bl (k0_pay45 S) (k0_pay53 b bl (k0_pay27 k) (k0_pay31 v)) = headState b bl k v S := rfl
theorem headState_3 : k0_pay2 bl (k0_pay46 S) (k0_pay54 b bl (k0_pay28 k) (k0_pay32 v)) = headState b bl k v S := rfl

theorem pay29_at (s : Fin 64) (e : Fin 512) : k0_pay29 v (ix2 s e) = v (ix3 0 s e) := by
  unfold k0_pay29
  pointwise
theorem pay25_at (s : Fin 64) (c : Fin 256) : k0_pay25 k (ix2 s c) = k (ix3 0 s c) := by
  unfold k0_pay25
  pointwise
theorem pay43_at (e : Fin 512) (c : Fin 256) : k0_pay43 S (ix2 e c) = S (ix3 0 e c) := by
  unfold k0_pay43
  pointwise
theorem pay33_at (s : Fin 64) (c : Fin 256) :
    k0_pay33 b (k0_pay21 q) (ix2 s c) = q (ix3 0 s c) * Ideal.ofBits .f32 0x3D800000#32 * Ideal.exp (b (ix2 s c)) := by
  unfold k0_pay33 k0_pay21
  pointwise
theorem pay37_at (s : Fin 64) (c : Fin 256) :
    k0_pay37 b k (ix2 s c) = k (ix3 0 s c) * Ideal.exp (-b (ix2 s c)) := by
  unfold k0_pay37 k0_pay25
  pointwise
  rw [zero_sub]
theorem pay39_at (x y : FVec Ideal S64x256 .f32) (r s : Fin 64) :
    k0_pay39 m x y (ix2 r s) = if m (ix2 r s) = 1#1 then ∑ c : Fin 256, x (ix2 r c) * y (ix2 s c) else 0 := by
  unfold k0_pay39
  pointwise
  rfl
theorem pay55_at (V : FVec Ideal S64x512 .f32) (A : FVec Ideal S64x64 .f32) (T : FVec Ideal S512x256 .f32)
    (Q : FVec Ideal S64x256 .f32) (r : Fin 64) (e : Fin 512) :
    k0_pay55 V A T (k0_pay47 Q) (ix4 0 0 r e)
      = ∑ s : Fin 64, A (ix2 r s) * V (ix2 s e) + ∑ c : Fin 256, Q (ix2 r c) * T (ix2 e c) := by
  unfold k0_pay55 k0_pay47
  pointwise

theorem pay59_at (B : FVec Ideal S64x256 .f32) (K : FVec Ideal S64x256 .f32) (V : FVec Ideal S64x512 .f32)
    (T : FVec Ideal S512x256 .f32) (e : Fin 512) (c : Fin 256) :
    k0_pay59 bl T (k0_pay51 B bl K V) (ix3 0 e c)
      = T (ix2 e c) * Ideal.exp (bl (ix2 0 c))
        + ∑ s : Fin 64, V (ix2 s e) * (K (ix2 s c) * Ideal.exp (bl (ix2 0 c) - B (ix2 s c))) := by
  unfold k0_pay59 k0_pay51
  pointwise

/-- One head's outputs: the masked scores times the values, plus the queries against the state before. -/
theorem headOut_at (r : Fin 64) (e : Fin 512) :
    headOut m b q k v S (ix4 0 0 r e)
      = (∑ s : Fin 64, (if m (ix2 r s) = 1#1 then
            ∑ c : Fin 256, (q (ix3 0 r c) * Ideal.ofBits .f32 0x3D800000#32 * Ideal.exp (b (ix2 r c)))
              * (k (ix3 0 s c) * Ideal.exp (-b (ix2 s c))) else 0) * v (ix3 0 s e))
        + ∑ c : Fin 256, (q (ix3 0 r c) * Ideal.ofBits .f32 0x3D800000#32 * Ideal.exp (b (ix2 r c))) * S (ix3 0 e c) := by
  unfold headOut
  rw [pay55_at]
  simp only [pay39_at, pay33_at, pay37_at, pay29_at, pay43_at]

/-- One head's state after the point: the decayed state before plus the chunk's keys times values. -/
theorem headState_at (e : Fin 512) (c : Fin 256) :
    headState b bl k v S (ix3 0 e c)
      = S (ix3 0 e c) * Ideal.exp (bl (ix2 0 c))
        + ∑ s : Fin 64, v (ix3 0 s e) * (k (ix3 0 s c) * Ideal.exp (bl (ix2 0 c) - b (ix2 s c))) := by
  unfold headState
  rw [pay59_at]
  simp only [pay25_at, pay29_at, pay43_at]

/-- The kernel's mask: the positions at or before the row's own, in the direction's order. -/
theorem mask_at (i : grid0.Coords) (r s : Fin 64) :
    k0_pay4 i (ix2 r s) = 1#1 ↔ (if (i 1).val = 0 then s ≤ r else r ≤ s) := by
  have hi : (i 1).val < 2 := (i 1).isLt
  unfold k0_pay4
  generalize (i 1).val = d at *
  interval_cases d
  · have h0 : Scalar.cmpi .eq (BitVec.ofNat 32 0) 0#32 = 1#1 := by decide
    simp only [h0]
    pointwise
    exact WordCmp.cmpi_sge_ofNat_eq_one_iff (by omega) (by omega)
  · have h0 : Scalar.cmpi .eq (BitVec.ofNat 32 1) 0#32 = 0#1 := by decide
    simp only [h0]
    pointwise
    exact WordCmp.cmpi_sge_ofNat_eq_one_iff (by omega) (by omega)

/-- The log gates of a chunk, in storage order, before the cumulative sum: the kernel's negated softplus. -/
def gateArg (i : grid0.Coords) (x y : Vec Ideal S1x64x16 .f32) (w : Vec Ideal S1x16x1024 .f32) (bb : Vec Ideal S1x1x1024 .f32)
    (s : Fin 64) (c : Fin 1024) : EReal :=
  (∑ j : Fin 16, (if (i 1).val = 0 then x (ix3 0 s j) else y (ix3 0 s j)) * w (ix3 0 j c)) + bb (ix3 0 0 c)

theorem pay5_at (i : grid0.Coords) (x y : Vec Ideal S1x64x16 .f32) (w : Vec Ideal S1x16x1024 .f32) (bb : Vec Ideal S1x1x1024 .f32)
    (s : Fin 64) (c : Fin 1024) : k0_pay5 i x y w bb (ix2 s c) = - gateArg i x y w bb s c := by
  have hi : (i 1).val < 2 := (i 1).isLt
  unfold k0_pay5 gateArg
  generalize (i 1).val = d at *
  interval_cases d
  · have h0 : Scalar.cmpi .eq (BitVec.ofNat 32 0) 0#32 = 1#1 := by decide
    simp only [h0]
    pointwise
    exact zero_sub _
  · have h0 : Scalar.cmpi .eq (BitVec.ofNat 32 1) 0#32 = 0#1 := by decide
    simp only [h0]
    pointwise
    exact zero_sub _

/-- The cumulative gates of a chunk, as the kernel forms them. -/
def gateSum (i : grid0.Coords) (x y : Vec Ideal S1x64x16 .f32) (w : Vec Ideal S1x16x1024 .f32) (bb : Vec Ideal S1x1x1024 .f32) :
    FVec Ideal S64x1024 .f32 :=
  k0_pay12 (k0_pay4 i) (k0_pay6 i x y w bb) (k0_pay8 i x y w bb) (k0_pay9 i x y w bb) (k0_pay10 i x y w bb) k0_pay11

/-- The word one as a real, and the word zero. -/
theorem one_word : FloatOps.sitofp (F := Ideal) .f32 (BitVec.setWidth 32 1#1) = 1 := by
  show (((BitVec.setWidth 32 1#1).toInt : ℝ) : EReal) = 1
  rw [show (BitVec.setWidth 32 1#1).toInt = 1 from by decide]
  simp
theorem zero_word : FloatOps.sitofp (F := Ideal) .f32 (BitVec.setWidth 32 0#1) = 0 := by
  show (((BitVec.setWidth 32 0#1).toInt : ℝ) : EReal) = 0
  rw [show (BitVec.setWidth 32 0#1).toInt = 0 from by decide]
  simp

theorem bit_zero {z : BitVec 1} (h : ¬z = 1#1) : z = 0#1 := by
  revert h; revert z; decide

theorem pay12_at (m : IVec S64x64 1) (z : FVec Ideal S64x1024 .f32) (u : FVec Ideal S64x1024 .f32) (r : Fin 64) (c : Fin 1024) :
    k0_pay12 m (maximumf u (broadcast S64x1024 (Scalar.ofBits (F := Ideal) .f32 0x00000000#32))) (cmpf .one z z) u (absf z) k0_pay11 (ix2 r c)
      = ∑ s : Fin 64, (if m (ix2 r s) = 1#1 then
          Ideal.div (-(max (u (ix2 s c)) 0 + Ideal.log1p (Ideal.exp (-(FloatOps.absf (F := Ideal) (φ := .f32) (z (ix2 s c)))))))
            (Ideal.ofBits .f32 0x41800000#32) else 0) := by
  unfold k0_pay12 k0_pay11
  pointwise
  refine Finset.sum_congr rfl fun s _ => ?_
  rw [if_neg (fun h => h rfl)]
  simp only [zero_sub]
  by_cases h : m (ix2 r s) = 1#1
  · rw [if_pos h, h, one_word, one_mul]
  · rw [if_neg h, bit_zero h, zero_word, zero_mul]

theorem gateSum_at (i : grid0.Coords) (x y : Vec Ideal S1x64x16 .f32) (w : Vec Ideal S1x16x1024 .f32) (bb : Vec Ideal S1x1x1024 .f32)
    (r : Fin 64) (c : Fin 1024) :
    gateSum i x y w bb (ix2 r c)
      = ∑ s : Fin 64, (if (if (i 1).val = 0 then s ≤ r else r ≤ s) then logGate (gateArg i x y w bb s c) else 0) := by
  have h8 : k0_pay7 i x y w bb = k0_pay5 i x y w bb := by
    funext j
    unfold k0_pay7
    generalize k0_pay5 i x y w bb = u
    rw [eq_ix2 j]
    pointwise
  have h9 : k0_pay9 i x y w bb = k0_pay5 i x y w bb := by
    funext j
    unfold k0_pay9
    generalize k0_pay5 i x y w bb = u
    rw [eq_ix2 j]
    pointwise
  unfold gateSum k0_pay8 k0_pay10 k0_pay6
  rw [h8, h9]
  refine (pay12_at _ _ _ r c).trans (Finset.sum_congr rfl fun s _ => ?_)
  simp only [pay5_at, mask_at]
  rfl

end Cert.GLA.Ker

end
-- ==== Proof.KerRun.lean ====
/- What the kernel's body leaves at one grid point, in its output block and in its carried state. -/
module

public import proofs.«01_k».proof.Proof.KerPoint
public import proofs.«01_k».proof.Proof.Gen.KernelIdeal.Value

@[expose] public section

set_option maxRecDepth 16384

noncomputable section

namespace Cert.GLA.Ker

open Idealize Idealize.ShloMosaic Idealize.ShloMosaic.TcCoe Idealize.ShloMosaic.Tactic
open Cert.KernelIdeal Cert.KernelIdeal.Gen
open scoped BigOperators

variable (i : grid0.Coords) (x0 x1 : Vec Ideal S1x64x1024 .f32) (x2 : Vec Ideal S1x64x2048 .f32) (x3 : Vec Ideal S1x64x128 .f32)
  (x4 : Vec Ideal S1x16x1024 .f32) (x5 : Vec Ideal S1x1x1024 .f32) (xs : Vec Ideal S4x512x256 .f32)

/-- The gate columns of the first direction, of the second, the gate's weights and its bias, as the body loads them. -/
abbrev ga : Vec Ideal S1x64x16 .f32 := View.ld x3 (Rect.unit ![0, 0, 0] ![1, 64, 16] inb_S1x64x128_S1x64x16_0_0_0)
abbrev gb : Vec Ideal S1x64x16 .f32 := View.ld x3 (Rect.unit ![0, 0, 16] ![1, 64, 16] inb_S1x64x128_S1x64x16_0_0_16)
abbrev gw : Vec Ideal S1x16x1024 .f32 := View.ld x4 (Rect.unit ![0, 0, 0] ![1, 16, 1024] inb_S1x16x1024_S1x16x1024_0_0_0)
abbrev gc : Vec Ideal S1x1x1024 .f32 := View.ld x5 (Rect.unit ![0, 0, 0] ![1, 1, 1024] inb_S1x1x1024_S1x1x1024_0_0_0)

/-- The cumulative gates of head 0, and their last row in the direction's order. -/
def cg0 : FVec Ideal S64x256 .f32 :=
  k0_pay13 (k0_pay4 i) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11
def cl0 : FVec Ideal S1x256 .f32 :=
  k0_pay17 (k0_pay4 i) (Scalar.cmpi .eq (BitVec.ofNat 32 (i 1).val) 0#32) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11
/-- Head 0's block of outputs and its state after the point. -/
def ho0 : FVec Ideal S1x1x64x512 .f32 :=
  headOut (k0_pay4 i) (cg0 i x3 x4 x5) (View.ld x0 (Rect.unit ![0, 0, 0] ![1, 64, 256] inb_S1x64x1024_S1x64x256_0_0_0))
    (View.ld x1 (Rect.unit ![0, 0, 0] ![1, 64, 256] inb_S1x64x1024_S1x64x256_0_0_0))
    (View.ld x2 (Rect.unit ![0, 0, 0] ![1, 64, 512] inb_S1x64x2048_S1x64x512_0_0_0))
    (View.ld xs (Rect.unit ![0, 0, 0] ![1, 512, 256] inb_S4x512x256_S1x512x256_0_0_0))
def hs0 : FVec Ideal S1x512x256 .f32 :=
  headState (cg0 i x3 x4 x5) (cl0 i x3 x4 x5)
    (View.ld x1 (Rect.unit ![0, 0, 0] ![1, 64, 256] inb_S1x64x1024_S1x64x256_0_0_0))
    (View.ld x2 (Rect.unit ![0, 0, 0] ![1, 64, 512] inb_S1x64x2048_S1x64x512_0_0_0))
    (View.ld xs (Rect.unit ![0, 0, 0] ![1, 512, 256] inb_S4x512x256_S1x512x256_0_0_0))

/-- The cumulative gates of head 1, and their last row in the direction's order. -/
def cg1 : FVec Ideal S64x256 .f32 :=
  k0_pay14 (k0_pay4 i) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11
def cl1 : FVec Ideal S1x256 .f32 :=
  k0_pay18 (k0_pay4 i) (Scalar.cmpi .eq (BitVec.ofNat 32 (i 1).val) 0#32) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11
/-- Head 1's block of outputs and its state after the point. -/
def ho1 : FVec Ideal S1x1x64x512 .f32 :=
  headOut (k0_pay4 i) (cg1 i x3 x4 x5) (View.ld x0 (Rect.unit ![0, 0, 256] ![1, 64, 256] inb_S1x64x1024_S1x64x256_0_0_256))
    (View.ld x1 (Rect.unit ![0, 0, 256] ![1, 64, 256] inb_S1x64x1024_S1x64x256_0_0_256))
    (View.ld x2 (Rect.unit ![0, 0, 512] ![1, 64, 512] inb_S1x64x2048_S1x64x512_0_0_512))
    (View.ld xs (Rect.unit ![1, 0, 0] ![1, 512, 256] inb_S4x512x256_S1x512x256_1_0_0))
def hs1 : FVec Ideal S1x512x256 .f32 :=
  headState (cg1 i x3 x4 x5) (cl1 i x3 x4 x5)
    (View.ld x1 (Rect.unit ![0, 0, 256] ![1, 64, 256] inb_S1x64x1024_S1x64x256_0_0_256))
    (View.ld x2 (Rect.unit ![0, 0, 512] ![1, 64, 512] inb_S1x64x2048_S1x64x512_0_0_512))
    (View.ld xs (Rect.unit ![1, 0, 0] ![1, 512, 256] inb_S4x512x256_S1x512x256_1_0_0))

/-- The cumulative gates of head 2, and their last row in the direction's order. -/
def cg2 : FVec Ideal S64x256 .f32 :=
  k0_pay15 (k0_pay4 i) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11
def cl2 : FVec Ideal S1x256 .f32 :=
  k0_pay19 (k0_pay4 i) (Scalar.cmpi .eq (BitVec.ofNat 32 (i 1).val) 0#32) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11
/-- Head 2's block of outputs and its state after the point. -/
def ho2 : FVec Ideal S1x1x64x512 .f32 :=
  headOut (k0_pay4 i) (cg2 i x3 x4 x5) (View.ld x0 (Rect.unit ![0, 0, 512] ![1, 64, 256] inb_S1x64x1024_S1x64x256_0_0_512))
    (View.ld x1 (Rect.unit ![0, 0, 512] ![1, 64, 256] inb_S1x64x1024_S1x64x256_0_0_512))
    (View.ld x2 (Rect.unit ![0, 0, 1024] ![1, 64, 512] inb_S1x64x2048_S1x64x512_0_0_1024))
    (View.ld xs (Rect.unit ![2, 0, 0] ![1, 512, 256] inb_S4x512x256_S1x512x256_2_0_0))
def hs2 : FVec Ideal S1x512x256 .f32 :=
  headState (cg2 i x3 x4 x5) (cl2 i x3 x4 x5)
    (View.ld x1 (Rect.unit ![0, 0, 512] ![1, 64, 256] inb_S1x64x1024_S1x64x256_0_0_512))
    (View.ld x2 (Rect.unit ![0, 0, 1024] ![1, 64, 512] inb_S1x64x2048_S1x64x512_0_0_1024))
    (View.ld xs (Rect.unit ![2, 0, 0] ![1, 512, 256] inb_S4x512x256_S1x512x256_2_0_0))

/-- The cumulative gates of head 3, and their last row in the direction's order. -/
def cg3 : FVec Ideal S64x256 .f32 :=
  k0_pay16 (k0_pay4 i) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11
def cl3 : FVec Ideal S1x256 .f32 :=
  k0_pay20 (k0_pay4 i) (Scalar.cmpi .eq (BitVec.ofNat 32 (i 1).val) 0#32) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11
/-- Head 3's block of outputs and its state after the point. -/
def ho3 : FVec Ideal S1x1x64x512 .f32 :=
  headOut (k0_pay4 i) (cg3 i x3 x4 x5) (View.ld x0 (Rect.unit ![0, 0, 768] ![1, 64, 256] inb_S1x64x1024_S1x64x256_0_0_768))
    (View.ld x1 (Rect.unit ![0, 0, 768] ![1, 64, 256] inb_S1x64x1024_S1x64x256_0_0_768))
    (View.ld x2 (Rect.unit ![0, 0, 1536] ![1, 64, 512] inb_S1x64x2048_S1x64x512_0_0_1536))
    (View.ld xs (Rect.unit ![3, 0, 0] ![1, 512, 256] inb_S4x512x256_S1x512x256_3_0_0))
def hs3 : FVec Ideal S1x512x256 .f32 :=
  headState (cg3 i x3 x4 x5) (cl3 i x3 x4 x5)
    (View.ld x1 (Rect.unit ![0, 0, 768] ![1, 64, 256] inb_S1x64x1024_S1x64x256_0_0_768))
    (View.ld x2 (Rect.unit ![0, 0, 1536] ![1, 64, 512] inb_S1x64x2048_S1x64x512_0_0_1536))
    (View.ld xs (Rect.unit ![3, 0, 0] ![1, 512, 256] inb_S4x512x256_S1x512x256_3_0_0))

/-- The stores into the output block, last first. -/
def outPieces : List (View.Piece (Elt Ideal) S1x1x64x2048 .f32) :=
  [⟨Rect.unit ![0, 0, 0, 1536] ![1, 1, 64, 512] inb_S1x1x64x2048_S1x1x64x512_0_0_0_1536, ho3 i x0 x1 x2 x3 x4 x5 xs⟩,
   ⟨Rect.unit ![0, 0, 0, 1024] ![1, 1, 64, 512] inb_S1x1x64x2048_S1x1x64x512_0_0_0_1024, ho2 i x0 x1 x2 x3 x4 x5 xs⟩,
   ⟨Rect.unit ![0, 0, 0, 512] ![1, 1, 64, 512] inb_S1x1x64x2048_S1x1x64x512_0_0_0_512, ho1 i x0 x1 x2 x3 x4 x5 xs⟩,
   ⟨Rect.unit ![0, 0, 0, 0] ![1, 1, 64, 512] inb_S1x1x64x2048_S1x1x64x512_0_0_0_0, ho0 i x0 x1 x2 x3 x4 x5 xs⟩]
/-- The stores into the carried state, last first. -/
def statePieces : List (View.Piece (Elt Ideal) S4x512x256 .f32) :=
  [⟨Rect.unit ![3, 0, 0] ![1, 512, 256] inb_S4x512x256_S1x512x256_3_0_0, hs3 i x1 x2 x3 x4 x5 xs⟩,
   ⟨Rect.unit ![2, 0, 0] ![1, 512, 256] inb_S4x512x256_S1x512x256_2_0_0, hs2 i x1 x2 x3 x4 x5 xs⟩,
   ⟨Rect.unit ![1, 0, 0] ![1, 512, 256] inb_S4x512x256_S1x512x256_1_0_0, hs1 i x1 x2 x3 x4 x5 xs⟩,
   ⟨Rect.unit ![0, 0, 0] ![1, 512, 256] inb_S4x512x256_S1x512x256_0_0_0, hs0 i x1 x2 x3 x4 x5 xs⟩]

variable (c : Dev nD) (a4 : Memref sig .tc .vmem S1x64x1024 .f32) (h4 : a4.IsWhole) (a5 : Memref sig .tc .vmem S1x64x1024 .f32) (h5 : a5.IsWhole) (a6 : Memref sig .tc .vmem S1x64x2048 .f32) (h6 : a6.IsWhole) (a7 : Memref sig .tc .vmem S1x64x128 .f32) (h7 : a7.IsWhole) (a8 : Memref sig .tc .vmem S1x16x1024 .f32) (h8 : a8.IsWhole) (a9 : Memref sig .tc .vmem S1x1x1024 .f32) (h9 : a9.IsWhole) (a10 : Memref sig .tc .vmem S1x1x64x2048 .f32) (h10 : a10.IsWhole) (a11 : Memref sig .tc .vmem S4x512x256 .f32) (h11 : a11.IsWhole)

theorem out_pieces_B (hc0 : ¬ cond0_0 i) :
    (kernelRun0_B (F := Ideal) c i a4 h4 a5 h5 a6 h6 a7 h7 a8 h8 a9 h9 a10 h10 a11 h11 hc0 x0 x1 x2 x3 x4 x5 xs).1 = outPieces i x0 x1 x2 x3 x4 x5 xs := by
  unfold kernelRun0_B
  dsimp only
  sl_unfold_words
  simp only [View.readAt_eq_ld, h4.read_unread, h5.read_unread, h6.read_unread, h7.read_unread, h8.read_unread, h9.read_unread, h11.read_unread]
  rfl

theorem state_pieces_B (hc0 : ¬ cond0_0 i) :
    (kernelRun0_B (F := Ideal) c i a4 h4 a5 h5 a6 h6 a7 h7 a8 h8 a9 h9 a10 h10 a11 h11 hc0 x0 x1 x2 x3 x4 x5 xs).2.1 = statePieces i x1 x2 x3 x4 x5 xs := by
  unfold kernelRun0_B
  dsimp only
  sl_unfold_words
  simp only [View.readAt_eq_ld, h4.read_unread, h5.read_unread, h6.read_unread, h7.read_unread, h8.read_unread, h9.read_unread, h11.read_unread]
  rfl

/-- Contents stored whole and read back through a rectangle. -/
theorem whole_read {sp : Space} {S : Shape} (v : View sig .tc sp S .f32) {off : Fin S.rank → ℕ} (h : off = fun _ => 0)
    (inb : ∀ a, off a + S.size a ≤ S.size a) (w : S.Idx → Elt Ideal .f32) (r : Rect S) :
    v.readCov [(⟨Rect.unit off S.size inb, w⟩ : View.Piece (Elt Ideal) S .f32)] r.toLoadRect = View.ld w r := by
  rw [View.readCov_eq_canon_ld v _ r (fun y => ⟨_, List.mem_singleton_self _, View.mem_set_unit_zero h inb y⟩)]
  rw [View.canon_unit_zero h]

theorem hz3 : (![0, 0, 0] : Fin 3 → ℕ) = fun _ => 0 := by funext a; fin_cases a <;> rfl

theorem out_pieces_A (hc0 : cond0_0 i) :
    (kernelRun0_A (F := Ideal) c i a4 h4 a5 h5 a6 h6 a7 h7 a8 h8 a9 h9 a10 h10 a11 h11 hc0 x0 x1 x2 x3 x4 x5).1 = outPieces i x0 x1 x2 x3 x4 x5 (k0_pay3 (F := Ideal)) := by
  unfold kernelRun0_A
  dsimp only
  sl_unfold_words
  simp only [View.readAt_eq_ld, h4.read_unread, h5.read_unread, h6.read_unread, h7.read_unread, h8.read_unread, h9.read_unread, h11.read_unread]
  simp only [whole_read (S := S4x512x256) _ hz3]
  rfl

theorem state_pieces_A (hc0 : cond0_0 i) :
    (kernelRun0_A (F := Ideal) c i a4 h4 a5 h5 a6 h6 a7 h7 a8 h8 a9 h9 a10 h10 a11 h11 hc0 x0 x1 x2 x3 x4 x5).2.1
      = statePieces i x1 x2 x3 x4 x5 (k0_pay3 (F := Ideal)) ++ [⟨Rect.unit ![0, 0, 0] S4x512x256.size inb_S4x512x256_S4x512x256_0_0_0, k0_pay3 (F := Ideal)⟩] := by
  unfold kernelRun0_A
  dsimp only
  sl_unfold_words
  simp only [View.readAt_eq_ld, h4.read_unread, h5.read_unread, h6.read_unread, h7.read_unread, h8.read_unread, h9.read_unread, h11.read_unread]
  simp only [whole_read (S := S4x512x256) _ hz3]
  rfl

end Cert.GLA.Ker

end
-- ==== Proof.KerHead.lean ====
/- The kernel's output block and carried state after one grid point, at an index. -/
module

public import proofs.«01_k».proof.Proof.KerRun

@[expose] public section

set_option maxRecDepth 16384

noncomputable section

namespace Cert.GLA.Ker

open Idealize Idealize.ShloMosaic Idealize.ShloMosaic.TcCoe Idealize.ShloMosaic.Tactic
open Cert.KernelIdeal Cert.KernelIdeal.Gen
open scoped BigOperators

/-- Head `h`'s column `c` of the keys' 1024, and its column `e` of the values' 2048. -/
def kc (h : Fin 4) (c : Fin 256) : Fin 1024 := ⟨h.val * 256 + c.val, by omega⟩
def vc (h : Fin 4) (e : Fin 512) : Fin 2048 := ⟨h.val * 512 + e.val, by omega⟩

theorem ld_k (x : Vec Ideal S1x64x1024 .f32) (h : Fin 4) (o : ℕ) (ho : o = h.val * 256)
    (inb : ∀ a, (![0, 0, o] : Fin 3 → ℕ) a + (![1, 64, 256] : Fin 3 → ℕ) a ≤ S1x64x1024.size a) (s : Fin 64) (c : Fin 256) :
    View.ld x (Rect.unit ![0, 0, o] ![1, 64, 256] inb) (ix3 0 s c) = x (ix3 0 s (kc h c)) := by
  subst ho
  refine congrArg x (funext fun a => Fin.ext ?_)
  fin_cases a <;> simp [Rect.emb, kc, ix3]

theorem ld_v (x : Vec Ideal S1x64x2048 .f32) (h : Fin 4) (o : ℕ) (ho : o = h.val * 512)
    (inb : ∀ a, (![0, 0, o] : Fin 3 → ℕ) a + (![1, 64, 512] : Fin 3 → ℕ) a ≤ S1x64x2048.size a) (s : Fin 64) (e : Fin 512) :
    View.ld x (Rect.unit ![0, 0, o] ![1, 64, 512] inb) (ix3 0 s e) = x (ix3 0 s (vc h e)) := by
  subst ho
  refine congrArg x (funext fun a => Fin.ext ?_)
  fin_cases a <;> simp [Rect.emb, vc, ix3]

theorem ld_s (x : Vec Ideal S4x512x256 .f32) (h : Fin 4) (o : ℕ) (ho : o = h.val)
    (inb : ∀ a, (![o, 0, 0] : Fin 3 → ℕ) a + (![1, 512, 256] : Fin 3 → ℕ) a ≤ S4x512x256.size a) (e : Fin 512) (c : Fin 256) :
    View.ld x (Rect.unit ![o, 0, 0] ![1, 512, 256] inb) (ix3 0 e c) = x (ix3 h e c) := by
  subst ho
  refine congrArg x (funext fun a => Fin.ext ?_)
  fin_cases a <;> simp [Rect.emb, ix3]

theorem ld_g (x : Vec Ideal S1x64x128 .f32) (o : ℕ) (ho : o + 16 ≤ 128)
    (inb : ∀ a, (![0, 0, o] : Fin 3 → ℕ) a + (![1, 64, 16] : Fin 3 → ℕ) a ≤ S1x64x128.size a) (s : Fin 64) (j : Fin 16) :
    View.ld x (Rect.unit ![0, 0, o] ![1, 64, 16] inb) (ix3 0 s j) = x (ix3 0 s ⟨o + j.val, by omega⟩) := by
  refine congrArg x (funext fun a => Fin.ext ?_)
  fin_cases a <;> simp [Rect.emb, ix3]

variable (i : grid0.Coords) (x0 x1 : Vec Ideal S1x64x1024 .f32) (x2 : Vec Ideal S1x64x2048 .f32) (x3 : Vec Ideal S1x64x128 .f32)
  (x4 : Vec Ideal S1x16x1024 .f32) (x5 : Vec Ideal S1x1x1024 .f32) (xs : Vec Ideal S4x512x256 .f32)

/-- The log gate of storage row `s` at column `c`, from the point's blocks. -/
def lgK (s : Fin 64) (c : Fin 1024) : EReal :=
  logGate ((∑ j : Fin 16, x3 (ix3 0 s (if (i 1).val = 0 then ⟨0 + j.val, by omega⟩ else ⟨16 + j.val, by omega⟩)) * x4 (ix3 0 j c))
    + x5 (ix3 0 0 c))
/-- Row `s` is at or before row `r` in the direction's order. -/
abbrev upto (r s : Fin 64) : Prop := if (i 1).val = 0 then s ≤ r else r ≤ s
/-- The cumulative gate of storage row `r` at column `c`. -/
def cumK (r : Fin 64) (c : Fin 1024) : EReal := ∑ s : Fin 64, if upto i r s then lgK i x3 x4 x5 s c else 0
/-- The last row in the direction's order. -/
def lastRow : Fin 64 := if (i 1).val = 0 then 63 else 0

/-- Head `h`'s query of row `r`, decayed from the chunk's start. -/
def qK (h : Fin 4) (r : Fin 64) (c : Fin 256) : EReal :=
  x0 (ix3 0 r (kc h c)) * Ideal.ofBits .f32 0x3D800000#32 * Ideal.exp (cumK i x3 x4 x5 r (kc h c))
/-- Head `h`'s outputs and state after the point, from the point's blocks and the state before. -/
def outK (h : Fin 4) (r : Fin 64) (e : Fin 512) : EReal :=
  (∑ s : Fin 64, (if upto i r s then
      ∑ c : Fin 256, qK i x0 x3 x4 x5 h r c * (x1 (ix3 0 s (kc h c)) * Ideal.exp (-cumK i x3 x4 x5 s (kc h c))) else 0)
      * x2 (ix3 0 s (vc h e)))
    + ∑ c : Fin 256, qK i x0 x3 x4 x5 h r c * xs (ix3 h e c)
def stateK (h : Fin 4) (e : Fin 512) (c : Fin 256) : EReal :=
  xs (ix3 h e c) * Ideal.exp (cumK i x3 x4 x5 (lastRow i) (kc h c))
    + ∑ s : Fin 64, x2 (ix3 0 s (vc h e)) * (x1 (ix3 0 s (kc h c))
        * Ideal.exp (cumK i x3 x4 x5 (lastRow i) (kc h c) - cumK i x3 x4 x5 s (kc h c)))

theorem gateArg_eq (s : Fin 64) (c : Fin 1024) :
    logGate (gateArg i (ga x3) (gb x3) (gw x4) (gc x5) s c) = lgK i x3 x4 x5 s c := by
  have h4 : gw x4 = x4 := View.ld_unit_zero (S := S1x16x1024) hz3 _ _
  have h5 : gc x5 = x5 := View.ld_unit_zero (S := S1x1x1024) hz3 _ _
  unfold gateArg lgK
  rw [h4, h5]
  by_cases h : (i 1).val = 0
  · simp only [if_pos h]
    exact congrArg (fun z => logGate (z + x5 (ix3 0 0 c))) (Finset.sum_congr rfl fun j _ =>
      congrArg (· * x4 (ix3 0 j c)) (ld_g x3 0 (by omega) _ s j))
  · simp only [if_neg h]
    exact congrArg (fun z => logGate (z + x5 (ix3 0 0 c))) (Finset.sum_congr rfl fun j _ =>
      congrArg (· * x4 (ix3 0 j c)) (ld_g x3 16 (by omega) _ s j))

theorem headOut_of {m : IVec S64x64 1} {b : FVec Ideal S64x256 .f32} {q k : Vec Ideal S1x64x256 .f32}
    {v : Vec Ideal S1x64x512 .f32} {S : Vec Ideal S1x512x256 .f32} {M : Fin 64 → Fin 64 → Prop} [∀ r s, Decidable (M r s)]
    {B Q K : Fin 64 → Fin 256 → EReal} {V : Fin 64 → Fin 512 → EReal} {T : Fin 512 → Fin 256 → EReal}
    (hm : ∀ r s, m (ix2 r s) = 1#1 ↔ M r s) (hb : ∀ r c, b (ix2 r c) = B r c) (hq : ∀ r c, q (ix3 0 r c) = Q r c)
    (hk : ∀ r c, k (ix3 0 r c) = K r c) (hv : ∀ r e, v (ix3 0 r e) = V r e) (hS : ∀ e c, S (ix3 0 e c) = T e c)
    (r : Fin 64) (e : Fin 512) :
    headOut m b q k v S (ix4 0 0 r e)
      = (∑ s : Fin 64, (if M r s then
            ∑ c : Fin 256, (Q r c * Ideal.ofBits .f32 0x3D800000#32 * Ideal.exp (B r c)) * (K s c * Ideal.exp (-B s c)) else 0) * V s e)
        + ∑ c : Fin 256, (Q r c * Ideal.ofBits .f32 0x3D800000#32 * Ideal.exp (B r c)) * T e c := by
  rw [headOut_at]
  simp only [hm, hb, hq, hk, hv, hS]

theorem headState_of {b : FVec Ideal S64x256 .f32} {bl : FVec Ideal S1x256 .f32} {k : Vec Ideal S1x64x256 .f32}
    {v : Vec Ideal S1x64x512 .f32} {S : Vec Ideal S1x512x256 .f32}
    {B K : Fin 64 → Fin 256 → EReal} {L : Fin 256 → EReal} {V : Fin 64 → Fin 512 → EReal} {T : Fin 512 → Fin 256 → EReal}
    (hb : ∀ r c, b (ix2 r c) = B r c) (hl : ∀ c, bl (ix2 0 c) = L c)
    (hk : ∀ r c, k (ix3 0 r c) = K r c) (hv : ∀ r e, v (ix3 0 r e) = V r e) (hS : ∀ e c, S (ix3 0 e c) = T e c)
    (e : Fin 512) (c : Fin 256) :
    headState b bl k v S (ix3 0 e c)
      = T e c * Ideal.exp (L c) + ∑ s : Fin 64, V s e * (K s c * Ideal.exp (L c - B s c)) := by
  rw [headState_at]
  simp only [hb, hl, hk, hv, hS]

theorem gate_at (r : Fin 64) (c : Fin 1024) :
    gateSum i (ga x3) (gb x3) (gw x4) (gc x5) (ix2 r c) = cumK i x3 x4 x5 r c := by
  rw [gateSum_at]
  unfold cumK
  simp only [gateArg_eq]

theorem cg0_at (r : Fin 64) (c : Fin 256) : cg0 i x3 x4 x5 (ix2 r c) = cumK i x3 x4 x5 r (kc 0 c) := by
  rw [← gate_at]
  show extractStridedSlice S64x256 ![0, 0] (gateSum i (ga x3) (gb x3) (gw x4) (gc x5)) slices_S64x1024_o0_0_S64x256 (ix2 r c) = _
  generalize gateSum i (ga x3) (gb x3) (gw x4) (gc x5) = G
  exact extractStridedSlice_apply _ _ _ _ (ix2 r (kc 0 c)) (fun a => by fin_cases a <;> simp [kc, ix2])
theorem cl0_at (c : Fin 256) : cl0 i x3 x4 x5 (ix2 0 c) = cumK i x3 x4 x5 (lastRow i) (kc 0 c) := by
  have hi : (i 1).val < 2 := (i 1).isLt
  rw [← cg0_at]
  unfold cl0 k0_pay17
  have hc : k0_pay13 (k0_pay4 i) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11 = cg0 i x3 x4 x5 := rfl
  rw [hc]
  generalize cg0 i x3 x4 x5 = G
  unfold lastRow
  by_cases h : (i 1).val = 0
  · rw [if_pos h, h]
    have h0 : Scalar.cmpi .eq (BitVec.ofNat 32 0) 0#32 = 1#1 := by decide
    rw [h0]
    pointwise
  · rw [if_neg h]
    have h1 : (i 1).val = 1 := by omega
    have h0 : Scalar.cmpi .eq (BitVec.ofNat 32 1) 0#32 = 0#1 := by decide
    rw [h1, h0]
    pointwise
theorem ho0_at (r : Fin 64) (e : Fin 512) : ho0 i x0 x1 x2 x3 x4 x5 xs (ix4 0 0 r e) = outK i x0 x1 x2 x3 x4 x5 xs 0 r e := by
  unfold ho0 outK qK
  exact headOut_of (mask_at i) (cg0_at i x3 x4 x5) (fun s c => ld_k x0 0 0 rfl _ s c) (fun s c => ld_k x1 0 0 rfl _ s c)
    (fun s e => ld_v x2 0 0 rfl _ s e) (fun e c => ld_s xs 0 0 rfl _ e c) r e
theorem hs0_at (e : Fin 512) (c : Fin 256) : hs0 i x1 x2 x3 x4 x5 xs (ix3 0 e c) = stateK i x1 x2 x3 x4 x5 xs 0 e c := by
  unfold hs0 stateK
  exact headState_of (cg0_at i x3 x4 x5) (cl0_at i x3 x4 x5) (fun s c => ld_k x1 0 0 rfl _ s c)
    (fun s e => ld_v x2 0 0 rfl _ s e) (fun e c => ld_s xs 0 0 rfl _ e c) e c

theorem cg1_at (r : Fin 64) (c : Fin 256) : cg1 i x3 x4 x5 (ix2 r c) = cumK i x3 x4 x5 r (kc 1 c) := by
  rw [← gate_at]
  show extractStridedSlice S64x256 ![0, 256] (gateSum i (ga x3) (gb x3) (gw x4) (gc x5)) slices_S64x1024_o0_256_S64x256 (ix2 r c) = _
  generalize gateSum i (ga x3) (gb x3) (gw x4) (gc x5) = G
  exact extractStridedSlice_apply _ _ _ _ (ix2 r (kc 1 c)) (fun a => by fin_cases a <;> simp [kc, ix2])
theorem cl1_at (c : Fin 256) : cl1 i x3 x4 x5 (ix2 0 c) = cumK i x3 x4 x5 (lastRow i) (kc 1 c) := by
  have hi : (i 1).val < 2 := (i 1).isLt
  rw [← cg1_at]
  unfold cl1 k0_pay18
  have hc : k0_pay14 (k0_pay4 i) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11 = cg1 i x3 x4 x5 := rfl
  rw [hc]
  generalize cg1 i x3 x4 x5 = G
  unfold lastRow
  by_cases h : (i 1).val = 0
  · rw [if_pos h, h]
    have h0 : Scalar.cmpi .eq (BitVec.ofNat 32 0) 0#32 = 1#1 := by decide
    rw [h0]
    pointwise
  · rw [if_neg h]
    have h1 : (i 1).val = 1 := by omega
    have h0 : Scalar.cmpi .eq (BitVec.ofNat 32 1) 0#32 = 0#1 := by decide
    rw [h1, h0]
    pointwise
theorem ho1_at (r : Fin 64) (e : Fin 512) : ho1 i x0 x1 x2 x3 x4 x5 xs (ix4 0 0 r e) = outK i x0 x1 x2 x3 x4 x5 xs 1 r e := by
  unfold ho1 outK qK
  exact headOut_of (mask_at i) (cg1_at i x3 x4 x5) (fun s c => ld_k x0 1 256 rfl _ s c) (fun s c => ld_k x1 1 256 rfl _ s c)
    (fun s e => ld_v x2 1 512 rfl _ s e) (fun e c => ld_s xs 1 1 rfl _ e c) r e
theorem hs1_at (e : Fin 512) (c : Fin 256) : hs1 i x1 x2 x3 x4 x5 xs (ix3 0 e c) = stateK i x1 x2 x3 x4 x5 xs 1 e c := by
  unfold hs1 stateK
  exact headState_of (cg1_at i x3 x4 x5) (cl1_at i x3 x4 x5) (fun s c => ld_k x1 1 256 rfl _ s c)
    (fun s e => ld_v x2 1 512 rfl _ s e) (fun e c => ld_s xs 1 1 rfl _ e c) e c

theorem cg2_at (r : Fin 64) (c : Fin 256) : cg2 i x3 x4 x5 (ix2 r c) = cumK i x3 x4 x5 r (kc 2 c) := by
  rw [← gate_at]
  show extractStridedSlice S64x256 ![0, 512] (gateSum i (ga x3) (gb x3) (gw x4) (gc x5)) slices_S64x1024_o0_512_S64x256 (ix2 r c) = _
  generalize gateSum i (ga x3) (gb x3) (gw x4) (gc x5) = G
  exact extractStridedSlice_apply _ _ _ _ (ix2 r (kc 2 c)) (fun a => by fin_cases a <;> simp [kc, ix2])
theorem cl2_at (c : Fin 256) : cl2 i x3 x4 x5 (ix2 0 c) = cumK i x3 x4 x5 (lastRow i) (kc 2 c) := by
  have hi : (i 1).val < 2 := (i 1).isLt
  rw [← cg2_at]
  unfold cl2 k0_pay19
  have hc : k0_pay15 (k0_pay4 i) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11 = cg2 i x3 x4 x5 := rfl
  rw [hc]
  generalize cg2 i x3 x4 x5 = G
  unfold lastRow
  by_cases h : (i 1).val = 0
  · rw [if_pos h, h]
    have h0 : Scalar.cmpi .eq (BitVec.ofNat 32 0) 0#32 = 1#1 := by decide
    rw [h0]
    pointwise
  · rw [if_neg h]
    have h1 : (i 1).val = 1 := by omega
    have h0 : Scalar.cmpi .eq (BitVec.ofNat 32 1) 0#32 = 0#1 := by decide
    rw [h1, h0]
    pointwise
theorem ho2_at (r : Fin 64) (e : Fin 512) : ho2 i x0 x1 x2 x3 x4 x5 xs (ix4 0 0 r e) = outK i x0 x1 x2 x3 x4 x5 xs 2 r e := by
  unfold ho2 outK qK
  exact headOut_of (mask_at i) (cg2_at i x3 x4 x5) (fun s c => ld_k x0 2 512 rfl _ s c) (fun s c => ld_k x1 2 512 rfl _ s c)
    (fun s e => ld_v x2 2 1024 rfl _ s e) (fun e c => ld_s xs 2 2 rfl _ e c) r e
theorem hs2_at (e : Fin 512) (c : Fin 256) : hs2 i x1 x2 x3 x4 x5 xs (ix3 0 e c) = stateK i x1 x2 x3 x4 x5 xs 2 e c := by
  unfold hs2 stateK
  exact headState_of (cg2_at i x3 x4 x5) (cl2_at i x3 x4 x5) (fun s c => ld_k x1 2 512 rfl _ s c)
    (fun s e => ld_v x2 2 1024 rfl _ s e) (fun e c => ld_s xs 2 2 rfl _ e c) e c

theorem cg3_at (r : Fin 64) (c : Fin 256) : cg3 i x3 x4 x5 (ix2 r c) = cumK i x3 x4 x5 r (kc 3 c) := by
  rw [← gate_at]
  show extractStridedSlice S64x256 ![0, 768] (gateSum i (ga x3) (gb x3) (gw x4) (gc x5)) slices_S64x1024_o0_768_S64x256 (ix2 r c) = _
  generalize gateSum i (ga x3) (gb x3) (gw x4) (gc x5) = G
  exact extractStridedSlice_apply _ _ _ _ (ix2 r (kc 3 c)) (fun a => by fin_cases a <;> simp [kc, ix2])
theorem cl3_at (c : Fin 256) : cl3 i x3 x4 x5 (ix2 0 c) = cumK i x3 x4 x5 (lastRow i) (kc 3 c) := by
  have hi : (i 1).val < 2 := (i 1).isLt
  rw [← cg3_at]
  unfold cl3 k0_pay20
  have hc : k0_pay16 (k0_pay4 i) (k0_pay6 i (ga x3) (gb x3) (gw x4) (gc x5)) (k0_pay8 i (ga x3) (gb x3) (gw x4) (gc x5)) (k0_pay9 i (ga x3) (gb x3) (gw x4) (gc x5)) (k0_pay10 i (ga x3) (gb x3) (gw x4) (gc x5)) k0_pay11 = cg3 i x3 x4 x5 := rfl
  rw [hc]
  generalize cg3 i x3 x4 x5 = G
  unfold lastRow
  by_cases h : (i 1).val = 0
  · rw [if_pos h, h]
    have h0 : Scalar.cmpi .eq (BitVec.ofNat 32 0) 0#32 = 1#1 := by decide
    rw [h0]
    pointwise
  · rw [if_neg h]
    have h1 : (i 1).val = 1 := by omega
    have h0 : Scalar.cmpi .eq (BitVec.ofNat 32 1) 0#32 = 0#1 := by decide
    rw [h1, h0]
    pointwise
theorem ho3_at (r : Fin 64) (e : Fin 512) : ho3 i x0 x1 x2 x3 x4 x5 xs (ix4 0 0 r e) = outK i x0 x1 x2 x3 x4 x5 xs 3 r e := by
  unfold ho3 outK qK
  exact headOut_of (mask_at i) (cg3_at i x3 x4 x5) (fun s c => ld_k x0 3 768 rfl _ s c) (fun s c => ld_k x1 3 768 rfl _ s c)
    (fun s e => ld_v x2 3 1536 rfl _ s e) (fun e c => ld_s xs 3 3 rfl _ e c) r e
theorem hs3_at (e : Fin 512) (c : Fin 256) : hs3 i x1 x2 x3 x4 x5 xs (ix3 0 e c) = stateK i x1 x2 x3 x4 x5 xs 3 e c := by
  unfold hs3 stateK
  exact headState_of (cg3_at i x3 x4 x5) (cl3_at i x3 x4 x5) (fun s c => ld_k x1 3 768 rfl _ s c)
    (fun s e => ld_v x2 3 1536 rfl _ s e) (fun e c => ld_s xs 3 3 rfl _ e c) e c

end Cert.GLA.Ker

end
-- ==== Proof.KerBlock.lean ====
/- What a grid point leaves, read off its stores. -/
module

public import proofs.«01_k».proof.Proof.KerHead

@[expose] public section

set_option maxRecDepth 16384

noncomputable section

namespace Cert.GLA.Ker

open Idealize Idealize.ShloMosaic Idealize.ShloMosaic.TcCoe Idealize.ShloMosaic.Tactic
open Cert.KernelIdeal Cert.KernelIdeal.Gen
open scoped BigOperators

variable (i : grid0.Coords) (x0 x1 : Vec Ideal S1x64x1024 .f32) (x2 : Vec Ideal S1x64x2048 .f32) (x3 : Vec Ideal S1x64x128 .f32)
  (x4 : Vec Ideal S1x16x1024 .f32) (x5 : Vec Ideal S1x1x1024 .f32) (xs : Vec Ideal S4x512x256 .f32)

theorem out_notmem (h : Fin 4) (r : Fin 64) (e : Fin 512) (o : ℕ) (ho : ∃ g : ℕ, o = g * 512 ∧ g ≠ h.val)
    (inb : ∀ a, (![0, 0, 0, o] : Fin 4 → ℕ) a + (![1, 1, 64, 512] : Fin 4 → ℕ) a ≤ S1x1x64x2048.size a) :
    (ix4 0 0 r (vc h e) : S1x1x64x2048.Idx) ∉ (Rect.unit ![0, 0, 0, o] ![1, 1, 64, 512] inb).set := by
  intro hm
  have h3 : o ≤ h.val * 512 + e.val ∧ h.val * 512 + e.val < o + 512 := (Rect.mem_set_unit.1 hm) 3
  obtain ⟨g, rfl, hg⟩ := ho
  omega

theorem out_emb (h : Fin 4) (r : Fin 64) (e : Fin 512) (o : ℕ) (ho : o = h.val * 512)
    (inb : ∀ a, (![0, 0, 0, o] : Fin 4 → ℕ) a + (![1, 1, 64, 512] : Fin 4 → ℕ) a ≤ S1x1x64x2048.size a) :
    (ix4 0 0 r (vc h e) : S1x1x64x2048.Idx) = (Rect.unit ![0, 0, 0, o] ![1, 1, 64, 512] inb).emb (ix4 0 0 r e) := by
  subst ho
  show _ = (Rect.unit (s := S1x1x64x2048) ![0, 0, 0, h.val * 512] ![1, 1, 64, 512] inb).idx (ix4 (0 : Fin 1) (0 : Fin 1) r e)
  refine funext fun a => Fin.ext ?_
  fin_cases a <;> simp [vc, ix4]

theorem state_notmem (h : Fin 4) (e : Fin 512) (c : Fin 256) (o : ℕ) (ho : o ≠ h.val)
    (inb : ∀ a, (![o, 0, 0] : Fin 3 → ℕ) a + (![1, 512, 256] : Fin 3 → ℕ) a ≤ S4x512x256.size a) :
    (ix3 h e c : S4x512x256.Idx) ∉ (Rect.unit ![o, 0, 0] ![1, 512, 256] inb).set := by
  intro hm
  have h3 : o ≤ h.val ∧ h.val < o + 1 := (Rect.mem_set_unit.1 hm) 0
  omega

theorem state_emb (h : Fin 4) (e : Fin 512) (c : Fin 256) (o : ℕ) (ho : o = h.val)
    (inb : ∀ a, (![o, 0, 0] : Fin 3 → ℕ) a + (![1, 512, 256] : Fin 3 → ℕ) a ≤ S4x512x256.size a) :
    (ix3 h e c : S4x512x256.Idx) = (Rect.unit ![o, 0, 0] ![1, 512, 256] inb).emb (ix3 0 e c) := by
  subst ho
  show _ = (Rect.unit (s := S4x512x256) ![h.val, 0, 0] ![1, 512, 256] inb).idx (ix3 (0 : Fin 1) e c)
  refine funext fun a => Fin.ext ?_
  fin_cases a <;> simp [ix3]

theorem out_skip (h : Fin 4) (r : Fin 64) (e : Fin 512) (o : ℕ) (ho : ∃ g : ℕ, o = g * 512 ∧ g ≠ h.val)
    (inb : ∀ a, (![0, 0, 0, o] : Fin 4 → ℕ) a + (![1, 1, 64, 512] : Fin 4 → ℕ) a ≤ S1x1x64x2048.size a)
    (w : FVec Ideal S1x1x64x512 .f32) (L : List (View.Piece (Elt Ideal) S1x1x64x2048 .f32)) :
    View.canon (⟨Rect.unit ![0, 0, 0, o] ![1, 1, 64, 512] inb, w⟩ :: L) (ix4 0 0 r (vc h e)) = View.canon L (ix4 0 0 r (vc h e)) :=
  View.canon_cons_of_not_mem _ _ (out_notmem h r e o ho inb)

theorem out_hit (h : Fin 4) (r : Fin 64) (e : Fin 512) (o : ℕ) (ho : o = h.val * 512)
    (inb : ∀ a, (![0, 0, 0, o] : Fin 4 → ℕ) a + (![1, 1, 64, 512] : Fin 4 → ℕ) a ≤ S1x1x64x2048.size a)
    (w : FVec Ideal S1x1x64x512 .f32) (L : List (View.Piece (Elt Ideal) S1x1x64x2048 .f32)) :
    View.canon (⟨Rect.unit ![0, 0, 0, o] ![1, 1, 64, 512] inb, w⟩ :: L) (ix4 0 0 r (vc h e)) = w (ix4 0 0 r e) := by
  rw [out_emb h r e o ho inb]
  exact View.canon_cons_emb _ _ _ _

theorem state_skip (h : Fin 4) (e : Fin 512) (c : Fin 256) (o : ℕ) (ho : o ≠ h.val)
    (inb : ∀ a, (![o, 0, 0] : Fin 3 → ℕ) a + (![1, 512, 256] : Fin 3 → ℕ) a ≤ S4x512x256.size a)
    (w : FVec Ideal S1x512x256 .f32) (L : List (View.Piece (Elt Ideal) S4x512x256 .f32)) :
    View.canon (⟨Rect.unit ![o, 0, 0] ![1, 512, 256] inb, w⟩ :: L) (ix3 h e c) = View.canon L (ix3 h e c) :=
  View.canon_cons_of_not_mem _ _ (state_notmem h e c o ho inb)

theorem state_hit (h : Fin 4) (e : Fin 512) (c : Fin 256) (o : ℕ) (ho : o = h.val)
    (inb : ∀ a, (![o, 0, 0] : Fin 3 → ℕ) a + (![1, 512, 256] : Fin 3 → ℕ) a ≤ S4x512x256.size a)
    (w : FVec Ideal S1x512x256 .f32) (L : List (View.Piece (Elt Ideal) S4x512x256 .f32)) :
    View.canon (⟨Rect.unit ![o, 0, 0] ![1, 512, 256] inb, w⟩ :: L) (ix3 h e c) = w (ix3 0 e c) := by
  rw [state_emb h e c o ho inb]
  exact View.canon_cons_emb _ _ _ _

theorem out_canon_0 (r : Fin 64) (e : Fin 512) :
    View.canon (outPieces i x0 x1 x2 x3 x4 x5 xs) (ix4 0 0 r (vc 0 e)) = outK i x0 x1 x2 x3 x4 x5 xs 0 r e := by
  unfold outPieces
  exact (out_skip 0 r e 1536 ⟨3, rfl, by decide⟩ _ _ _).trans ((out_skip 0 r e 1024 ⟨2, rfl, by decide⟩ _ _ _).trans ((out_skip 0 r e 512 ⟨1, rfl, by decide⟩ _ _ _).trans ((out_hit 0 r e 0 rfl _ _ _).trans (ho0_at i x0 x1 x2 x3 x4 x5 xs r e))))

theorem state_canon_0 (L : List (View.Piece (Elt Ideal) S4x512x256 .f32)) (e : Fin 512) (c : Fin 256) :
    View.canon (statePieces i x1 x2 x3 x4 x5 xs ++ L) (ix3 0 e c) = stateK i x1 x2 x3 x4 x5 xs 0 e c := by
  unfold statePieces
  simp only [List.cons_append, List.nil_append]
  exact (state_skip 0 e c 3 (by decide) _ _ _).trans ((state_skip 0 e c 2 (by decide) _ _ _).trans ((state_skip 0 e c 1 (by decide) _ _ _).trans ((state_hit 0 e c 0 rfl _ _ _).trans (hs0_at i x1 x2 x3 x4 x5 xs e c))))

theorem out_canon_1 (r : Fin 64) (e : Fin 512) :
    View.canon (outPieces i x0 x1 x2 x3 x4 x5 xs) (ix4 0 0 r (vc 1 e)) = outK i x0 x1 x2 x3 x4 x5 xs 1 r e := by
  unfold outPieces
  exact (out_skip 1 r e 1536 ⟨3, rfl, by decide⟩ _ _ _).trans ((out_skip 1 r e 1024 ⟨2, rfl, by decide⟩ _ _ _).trans ((out_hit 1 r e 512 rfl _ _ _).trans (ho1_at i x0 x1 x2 x3 x4 x5 xs r e)))

theorem state_canon_1 (L : List (View.Piece (Elt Ideal) S4x512x256 .f32)) (e : Fin 512) (c : Fin 256) :
    View.canon (statePieces i x1 x2 x3 x4 x5 xs ++ L) (ix3 1 e c) = stateK i x1 x2 x3 x4 x5 xs 1 e c := by
  unfold statePieces
  simp only [List.cons_append, List.nil_append]
  exact (state_skip 1 e c 3 (by decide) _ _ _).trans ((state_skip 1 e c 2 (by decide) _ _ _).trans ((state_hit 1 e c 1 rfl _ _ _).trans (hs1_at i x1 x2 x3 x4 x5 xs e c)))

theorem out_canon_2 (r : Fin 64) (e : Fin 512) :
    View.canon (outPieces i x0 x1 x2 x3 x4 x5 xs) (ix4 0 0 r (vc 2 e)) = outK i x0 x1 x2 x3 x4 x5 xs 2 r e := by
  unfold outPieces
  exact (out_skip 2 r e 1536 ⟨3, rfl, by decide⟩ _ _ _).trans ((out_hit 2 r e 1024 rfl _ _ _).trans (ho2_at i x0 x1 x2 x3 x4 x5 xs r e))

theorem state_canon_2 (L : List (View.Piece (Elt Ideal) S4x512x256 .f32)) (e : Fin 512) (c : Fin 256) :
    View.canon (statePieces i x1 x2 x3 x4 x5 xs ++ L) (ix3 2 e c) = stateK i x1 x2 x3 x4 x5 xs 2 e c := by
  unfold statePieces
  simp only [List.cons_append, List.nil_append]
  exact (state_skip 2 e c 3 (by decide) _ _ _).trans ((state_hit 2 e c 2 rfl _ _ _).trans (hs2_at i x1 x2 x3 x4 x5 xs e c))

theorem out_canon_3 (r : Fin 64) (e : Fin 512) :
    View.canon (outPieces i x0 x1 x2 x3 x4 x5 xs) (ix4 0 0 r (vc 3 e)) = outK i x0 x1 x2 x3 x4 x5 xs 3 r e := by
  unfold outPieces
  exact (out_hit 3 r e 1536 rfl _ _ _).trans (ho3_at i x0 x1 x2 x3 x4 x5 xs r e)

theorem state_canon_3 (L : List (View.Piece (Elt Ideal) S4x512x256 .f32)) (e : Fin 512) (c : Fin 256) :
    View.canon (statePieces i x1 x2 x3 x4 x5 xs ++ L) (ix3 3 e c) = stateK i x1 x2 x3 x4 x5 xs 3 e c := by
  unfold statePieces
  simp only [List.cons_append, List.nil_append]
  exact (state_hit 3 e c 3 rfl _ _ _).trans (hs3_at i x1 x2 x3 x4 x5 xs e c)

/-- The output block is every head's outputs; -/
theorem out_canon (h : Fin 4) (r : Fin 64) (e : Fin 512) :
    View.canon (outPieces i x0 x1 x2 x3 x4 x5 xs) (ix4 0 0 r (vc h e)) = outK i x0 x1 x2 x3 x4 x5 xs h r e := by
  fin_cases h
  · exact out_canon_0 i x0 x1 x2 x3 x4 x5 xs r e
  · exact out_canon_1 i x0 x1 x2 x3 x4 x5 xs r e
  · exact out_canon_2 i x0 x1 x2 x3 x4 x5 xs r e
  · exact out_canon_3 i x0 x1 x2 x3 x4 x5 xs r e

/-- the carried state is every head's state. -/
theorem state_canon (L : List (View.Piece (Elt Ideal) S4x512x256 .f32)) (h : Fin 4) (e : Fin 512) (c : Fin 256) :
    View.canon (statePieces i x1 x2 x3 x4 x5 xs ++ L) (ix3 h e c) = stateK i x1 x2 x3 x4 x5 xs h e c := by
  fin_cases h
  · exact state_canon_0 i x1 x2 x3 x4 x5 xs L e c
  · exact state_canon_1 i x1 x2 x3 x4 x5 xs L e c
  · exact state_canon_2 i x1 x2 x3 x4 x5 xs L e c
  · exact state_canon_3 i x1 x2 x3 x4 x5 xs L e c

variable (c : Dev nD) (a4 : Memref sig .tc .vmem S1x64x1024 .f32) (h4 : a4.IsWhole) (a5 : Memref sig .tc .vmem S1x64x1024 .f32) (h5 : a5.IsWhole) (a6 : Memref sig .tc .vmem S1x64x2048 .f32) (h6 : a6.IsWhole) (a7 : Memref sig .tc .vmem S1x64x128 .f32) (h7 : a7.IsWhole) (a8 : Memref sig .tc .vmem S1x16x1024 .f32) (h8 : a8.IsWhole) (a9 : Memref sig .tc .vmem S1x1x1024 .f32) (h9 : a9.IsWhole) (a10 : Memref sig .tc .vmem S1x1x64x2048 .f32) (h10 : a10.IsWhole) (a11 : Memref sig .tc .vmem S4x512x256 .f32) (h11 : a11.IsWhole)

theorem out_A (hc0 : cond0_0 i) (h : Fin 4) (r : Fin 64) (e : Fin 512) :
    out0_A_6 c i a4 h4 a5 h5 a6 h6 a7 h7 a8 h8 a9 h9 a10 h10 a11 h11 hc0 x0 x1 x2 x3 x4 x5 (ix4 0 0 r (vc h e)) = outK i x0 x1 x2 x3 x4 x5 (k0_pay3 (F := Ideal)) h r e := by
  unfold out0_A_6
  rw [View.read_writes_eq_canon _ _ _ (cover0_A_6 c i a4 h4 a5 h5 a6 h6 a7 h7 a8 h8 a9 h9 a10 h10 a11 h11 hc0 x0 x1 x2 x3 x4 x5), out_pieces_A]
  exact out_canon i x0 x1 x2 x3 x4 x5 _ h r e

theorem out_B (hc0 : ¬ cond0_0 i) (h : Fin 4) (r : Fin 64) (e : Fin 512) :
    out0_B_6 c i a4 h4 a5 h5 a6 h6 a7 h7 a8 h8 a9 h9 a10 h10 a11 h11 hc0 x0 x1 x2 x3 x4 x5 xs (ix4 0 0 r (vc h e)) = outK i x0 x1 x2 x3 x4 x5 xs h r e := by
  unfold out0_B_6
  rw [View.read_writes_eq_canon _ _ _ (cover0_B_6 c i a4 h4 a5 h5 a6 h6 a7 h7 a8 h8 a9 h9 a10 h10 a11 h11 hc0 x0 x1 x2 x3 x4 x5 xs), out_pieces_B]
  exact out_canon i x0 x1 x2 x3 x4 x5 xs h r e

theorem state_A (hc0 : cond0_0 i) (h : Fin 4) (e : Fin 512) (k : Fin 256) :
    sout0_A_0 c i a4 h4 a5 h5 a6 h6 a7 h7 a8 h8 a9 h9 a10 h10 a11 h11 hc0 x0 x1 x2 x3 x4 x5 (ix3 h e k) = stateK i x1 x2 x3 x4 x5 (k0_pay3 (F := Ideal)) h e k := by
  unfold sout0_A_0
  rw [View.read_writes_eq_canon _ _ _ (scover0_A_0 c i a4 h4 a5 h5 a6 h6 a7 h7 a8 h8 a9 h9 a10 h10 a11 h11 hc0 x0 x1 x2 x3 x4 x5), state_pieces_A]
  exact state_canon i x1 x2 x3 x4 x5 _ _ h e k

theorem state_B (hc0 : ¬ cond0_0 i) (h : Fin 4) (e : Fin 512) (k : Fin 256) :
    sout0_B_0 c i a4 h4 a5 h5 a6 h6 a7 h7 a8 h8 a9 h9 a10 h10 a11 h11 hc0 x0 x1 x2 x3 x4 x5 xs (ix3 h e k) = stateK i x1 x2 x3 x4 x5 xs h e k := by
  unfold sout0_B_0
  rw [View.read_writes_eq_canon _ _ _ (scover0_B_0 c i a4 h4 a5 h5 a6 h6 a7 h7 a8 h8 a9 h9 a10 h10 a11 h11 hc0 x0 x1 x2 x3 x4 x5 xs), state_pieces_B]
  have := state_canon i x1 x2 x3 x4 x5 xs [] h e k
  rwa [List.append_nil] at this

theorem zero_state (j : S4x512x256.Idx) : k0_pay3 (F := Ideal) j = 0 := by
  unfold k0_pay3
  rw [eq_ix3 j]
  pointwise

end Cert.GLA.Ker

end
-- ==== Proof.KerInput.lean ====
/- The blocks a grid point reads, at an index of the arguments. -/
module

public import proofs.«01_k».proof.Proof.KerBlock
public import Idealize.ShloMosaic.Lib.Claim
public import Idealize.ShloMosaic.Lib.KernelVsHost

@[expose] public section

set_option maxRecDepth 16384

noncomputable section

namespace Cert.GLA.Ker

open Idealize Idealize.ShloMosaic Idealize.ShloMosaic.TcCoe Idealize.ShloMosaic.Tactic
open Cert.KernelIdeal Cert.KernelIdeal.Gen
open Idealize.ShloMosaic.Pipeline (Dat Cfg Window)

/-- The batch row, the direction and the chunk of grid point `t`, and the chunk's place in the arrays. -/
def bOf (t : ℕ) : Fin 2 := ⟨t / 136 % 2, Nat.mod_lt _ (by decide)⟩
def dOf (t : ℕ) : Fin 2 := ⟨t / 68 % 2, Nat.mod_lt _ (by decide)⟩
def place (d n : ℕ) : ℕ := if d = 0 then n else if n < 4 then 3 - n else 71 - n

theorem coord_d (t : Fin cfg0.N) : (grid0.coords t 1).val = t.val / 68 % 2 := Pipeline.Grid.coords_val t 1 (by decide) rfl

theorem index0 : ∀ t : Fin grid0.N, win0_0.index t = ![t.val / 136 % 2, place (t.val / 68 % 2) (t.val % 68), 0] := by decide +kernel
theorem index1 : ∀ t : Fin grid0.N, win0_1.index t = ![t.val / 136 % 2, place (t.val / 68 % 2) (t.val % 68), 1] := by decide +kernel
theorem index2 : ∀ t : Fin grid0.N, win0_2.index t = ![t.val / 136 % 2, place (t.val / 68 % 2) (t.val % 68), 1] := by decide +kernel
theorem index3 : ∀ t : Fin grid0.N, win0_3.index t = ![t.val / 136 % 2, place (t.val / 68 % 2) (t.val % 68), 48] := by decide +kernel
theorem index4 : ∀ t : Fin grid0.N, win0_4.index t = ![t.val / 68 % 2, 0, 0] := by decide +kernel
theorem index5 : ∀ t : Fin grid0.N, win0_5.index t = ![t.val / 68 % 2, 0, 0] := by decide +kernel
theorem index6 : ∀ t : Fin grid0.N, win0_6.index t = ![t.val / 68 % 2, t.val / 136 % 2, place (t.val / 68 % 2) (t.val % 68), 0] := by decide +kernel

variable (m : (ℓ : Loc nD τ sig) → Buf (Elt Ideal) ℓ) (c : Dev nD)

/-- The arguments as arrays. -/
abbrev a0 : (⟨3, ![2, 256, 6176]⟩ : Shape).Idx → EReal := m (c.tc.loc main_arg0)
abbrev a1 : (⟨3, ![2, 4096, 6176]⟩ : Shape).Idx → EReal := m (c.tc.loc main_arg1)
abbrev a2 : (⟨3, ![2, 16, 1024]⟩ : Shape).Idx → EReal := m (c.tc.loc main_arg2)
abbrev a3 : (⟨2, ![2, 1024]⟩ : Shape).Idx → EReal := m (c.tc.loc main_arg3)

/-- The padded projections, read at a column that is not padding. -/
theorem padded_at (b : Fin 2) (t : Fin 4352) (k : Fin 6272) (hk : k.val < 6176) :
    V m c main_v1 (ix3 b t k) = proj (a0 m c) (a1 m c) b t.val k.val := by
  unfold V
  simp only [hostOps0, hostOps0_1, hostOps0_2, List.flatten_cons, List.flatten_nil, List.append_nil, List.cons_append, List.nil_append]
  after_results
  change pad S2x4352x6272 ![0, 0, 0] ![0, 0, 96] ![0, 0, 0] (concatenate S2x4352x6176 1
    [⟨S2x256x6176, a0 m c⟩, ⟨S2x4096x6176, a1 m c⟩] concatenates_S2x256x6176_S2x4096x6176_S2x4352x6176_d1)
    (sitofp (F := Ideal) .f32 (constantI S_ 32 0#32)) pads_S2x4352x6176_S2x4352x6272_000_000_0960 h_S_ (ix3 b t k) = _
  generalize a0 m c = p
  generalize a1 m c = q
  generalize sitofp (F := Ideal) .f32 (constantI S_ 32 0#32) = z
  refine (pad_apply_of_inside _ _ _ _ _ _ _ _ (ix3 b t (⟨k.val, hk⟩ : Fin 6176))
    (fun a => by fin_cases a <;> simp [ix3])).trans ?_
  by_cases h : t.val < 256
  · refine (concatenate_pair_apply_left (t := S2x4352x6176) 1 p q _ _ rfl (ix3 b (⟨t.val, h⟩ : Fin 256) (⟨k.val, hk⟩ : Fin 6176))
      (fun a => by fin_cases a <;> simp [ix3])).trans ?_
    exact proj_ctx p q b ⟨t.val, h⟩ ⟨k.val, hk⟩
  · refine (concatenate_pair_apply_right (t := S2x4352x6176) 1 p q _ _ rfl rfl
      (ix3 b (⟨t.val - 256, by omega⟩ : Fin 4096) (⟨k.val, hk⟩ : Fin 6176))
      (fun a ha => by fin_cases a <;> simp [ix3] at ha ⊢) (by simp [ix3]; omega)).trans ?_
    refine (proj_lat p q b ⟨t.val - 256, by omega⟩ ⟨k.val, hk⟩).trans ?_
    simp only []
    rw [show t.val - 256 + 256 = t.val by omega]

theorem bias_at (d : Fin 2) (k : Fin 1024) : V m c main_v2 (ix3 d 0 k) = a3 m c (ix2 d k) := by
  unfold V
  simp only [hostOps0, hostOps0_1, hostOps0_2, List.flatten_cons, List.flatten_nil, List.append_nil, List.cons_append, List.nil_append]
  after_results
  pointwise

theorem place_lt (t : ℕ) : place (dOf t) (t % 68) < 68 := by
  unfold place; split <;> [omega; split <;> omega]

/-- The token of storage row `s` at grid point `t`. -/
def row (t : ℕ) (s : Fin 64) : ℕ := place (dOf t) (t % 68) * 64 + s.val

theorem row_lt (t : ℕ) (s : Fin 64) : row t s < 4352 := by have := place_lt t; unfold row; omega

/-- The queries' block. -/
theorem X0_at (t : Fin cfg0.N) (s : Fin 64) (k : Fin 1024) :
    X0_0 m c t (ix3 0 s k) = proj (a0 m c) (a1 m c) (bOf t) (row t s) (k.val) := by
  rw [← padded_at m c (bOf t) ⟨row t s, row_lt t s⟩ ⟨k.val, by omega⟩ (by simp only; omega)]
  unfold X0_0 Pipeline.Window.fill
  rw [dif_pos (moved0_0 t _)]
  refine congrArg (V m c main_v1) (funext fun a => Fin.ext ?_)
  refine (Pipeline.Window.rect_emb_val win0_0 t _ a).trans ?_
  rw [index0]
  fin_cases a <;> simp [ix3, bOf, dOf, row]

/-- The keys' block. -/
theorem X1_at (t : Fin cfg0.N) (s : Fin 64) (k : Fin 1024) :
    X0_1 m c t (ix3 0 s k) = proj (a0 m c) (a1 m c) (bOf t) (row t s) (1024 + k.val) := by
  rw [← padded_at m c (bOf t) ⟨row t s, row_lt t s⟩ ⟨1024 + k.val, by omega⟩ (by simp only; omega)]
  unfold X0_1 Pipeline.Window.fill
  rw [dif_pos (moved0_1 t _)]
  refine congrArg (V m c main_v1) (funext fun a => Fin.ext ?_)
  refine (Pipeline.Window.rect_emb_val win0_1 t _ a).trans ?_
  rw [index1]
  fin_cases a <;> simp [ix3, bOf, dOf, row]

/-- The values' block. -/
theorem X2_at (t : Fin cfg0.N) (s : Fin 64) (k : Fin 2048) :
    X0_2 m c t (ix3 0 s k) = proj (a0 m c) (a1 m c) (bOf t) (row t s) (2048 + k.val) := by
  rw [← padded_at m c (bOf t) ⟨row t s, row_lt t s⟩ ⟨2048 + k.val, by omega⟩ (by simp only; omega)]
  unfold X0_2 Pipeline.Window.fill
  rw [dif_pos (moved0_2 t _)]
  refine congrArg (V m c main_v1) (funext fun a => Fin.ext ?_)
  refine (Pipeline.Window.rect_emb_val win0_2 t _ a).trans ?_
  rw [index2]
  fin_cases a <;> simp [ix3, bOf, dOf, row]

/-- The gate columns' block: only the first 32 columns are read. -/
theorem X3_at (t : Fin cfg0.N) (s : Fin 64) (k : Fin 128) (hk : k.val < 32) :
    iblk m c 3 t (ix3 0 s k) = proj (a0 m c) (a1 m c) (bOf t) (row t s) (6144 + k.val) := by
  rw [← padded_at m c (bOf t) ⟨row t s, row_lt t s⟩ ⟨6144 + k.val, by omega⟩ (by simp only; omega)]
  refine congrArg (V m c main_v1) (funext fun a => Fin.ext ?_)
  refine (Pipeline.Window.rect_emb_val win0_3 t _ a).trans ?_
  rw [index3]
  fin_cases a <;> simp [ix3, bOf, dOf, row]

/-- The gate weights' block. -/
theorem X4_at (t : Fin cfg0.N) (j : Fin 16) (k : Fin 1024) : iblk m c 4 t (ix3 0 j k) = a2 m c (ix3 (dOf t) j k) := by
  refine Eq.trans (b := V m c main_arg2 (ix3 (dOf t) j k)) ?_ (congrFun (V_main_arg2 m c) _)
  refine congrArg (V m c main_arg2) (funext fun a => Fin.ext ?_)
  refine (Pipeline.Window.rect_emb_val win0_4 t _ a).trans ?_
  rw [index4]
  fin_cases a <;> simp [ix3, dOf]

/-- The gate bias's block. -/
theorem X5_at (t : Fin cfg0.N) (k : Fin 1024) : iblk m c 5 t (ix3 0 0 k) = a3 m c (ix2 (dOf t) k) := by
  rw [← bias_at m c (dOf t) k]
  refine congrArg (V m c main_v2) (funext fun a => Fin.ext ?_)
  refine (Pipeline.Window.rect_emb_val win0_5 t _ a).trans ?_
  rw [index5]
  fin_cases a <;> simp [ix3, dOf]

end Cert.GLA.Ker
-- ==== Proof.KerState.lean ====
/- One grid point as one chunk of the recurrence: the storage rows in the direction's order, and the point's outputs
   and state as the recurrence's. -/
module

public import proofs.«01_k».proof.Proof.KerInput

@[expose] public section

set_option maxRecDepth 16384

noncomputable section

namespace Cert.GLA.Ker

open Idealize Idealize.ShloMosaic Idealize.ShloMosaic.TcCoe Idealize.ShloMosaic.Tactic
open Cert.KernelIdeal Cert.KernelIdeal.Gen
open Idealize.ShloMosaic.Pipeline (Dat Cfg Window)

/-- The storage row of position `i`: the backward direction's chunk lies in the arrays in reverse. -/
def flip (d : Fin 2) : Fin 64 ≃ Fin 64 := if d = 0 then Equiv.refl _ else Fin.revPerm

theorem flip_val (d : Fin 2) (i : Fin 64) : (flip d i).val = if d = 0 then i.val else 63 - i.val := by
  unfold flip
  split
  · rfl
  · simp [Fin.revPerm, Fin.val_rev]

theorem flip_flip (d : Fin 2) (i : Fin 64) : flip d (flip d i) = i := by
  apply Fin.ext
  rw [flip_val, flip_val]
  split <;> omega

theorem row_flip (t : ℕ) (i : Fin 64) : row t (flip (dOf t) i) = tok (dOf t) (t % 68) i := by
  unfold row place tok pos
  rw [flip_val]
  have h : t % 68 < 68 := Nat.mod_lt _ (by decide)
  have hd : (dOf t = 0) ↔ ((dOf t : Fin 2) : ℕ) = 0 := by rw [Fin.ext_iff]; rfl
  generalize dOf t = d at hd ⊢
  by_cases h0 : d = 0
  · simp [h0]
  · have : ¬ (d : ℕ) = 0 := fun h => h0 (hd.mpr h)
    simp only [h0, this, if_false]
    split <;> split <;> omega

theorem coord_zero (t : Fin cfg0.N) : (grid0.coords t 1).val = 0 ↔ dOf t = 0 := by
  rw [coord_d, Fin.ext_iff]; rfl

theorem upto_flip (t : Fin cfg0.N) (i s : Fin 64) :
    upto (grid0.coords t) (flip (dOf t) i) (flip (dOf t) s) ↔ s ≤ i := by
  unfold upto
  simp only [coord_zero, Fin.le_def, flip_val]
  split <;> omega

theorem last_flip (t : Fin cfg0.N) : lastRow (grid0.coords t) = flip (dOf t) 63 := by
  unfold lastRow
  apply Fin.ext
  rw [flip_val]
  simp only [coord_zero]
  split <;> rfl

variable (m : (ℓ : Loc nD τ sig) → Buf (Elt Ideal) ℓ) (c : Dev nD) (t : Fin cfg0.N)

/-- The queries, keys, log gates and values of head `h` in the direction and batch row of a grid point. -/
abbrev qh (t : ℕ) (h : Fin 4) := qs (a0 m c) (a1 m c) (dOf t) (bOf t) h
abbrev kh (t : ℕ) (h : Fin 4) := ks (a0 m c) (a1 m c) (dOf t) (bOf t) h
abbrev lh (t : ℕ) (h : Fin 4) := lgs (a0 m c) (a1 m c) (a2 m c) (a3 m c) (dOf t) (bOf t) h
abbrev vh (t : ℕ) (h : Fin 4) := vs (a0 m c) (a1 m c) (dOf t) (bOf t) h

/-- The gate of storage row `flip i` is the gate of position `i`. -/
theorem lg_at (h : Fin 4) (i : Fin 64) (k : Fin 256) :
    lgK (grid0.coords t) (iblk m c 3 t) (iblk m c 4 t) (iblk m c 5 t) (flip (dOf t) i) (kc h k)
      = lh m c t h (t.val % 68) i k := by
  unfold lgK lh lgs logit
  rw [X5_at, ← row_flip]
  refine congrArg (fun z => logGate (z + _)) (Finset.sum_congr rfl fun j _ => ?_)
  rw [X4_at, mul_comm]
  refine congrArg (_ * ·) ?_
  have hd : (dOf t).val = 0 ∨ (dOf t).val = 1 := by omega
  by_cases h0 : (grid0.coords t 1).val = 0
  · have h1 : dOf t = 0 := (coord_zero t).mp h0
    rw [if_pos h0, X3_at m c t _ _ (by simp only; omega)]
    exact proj_congr _ _ rfl rfl (by rw [h1]; simp)
  · have h1 : (dOf t).val = 1 := by
      rcases hd with hd | hd
      · exact absurd ((coord_zero t).mpr (Fin.ext hd)) h0
      · exact hd
    rw [if_neg h0, X3_at m c t _ _ (by simp only; omega)]
    exact proj_congr _ _ rfl rfl (by rw [h1])

/-- The running gate of storage row `flip i` is the running gate of position `i`. -/
theorem cum_at (h : Fin 4) (i : Fin 64) (k : Fin 256) :
    cumK (grid0.coords t) (iblk m c 3 t) (iblk m c 4 t) (iblk m c 5 t) (flip (dOf t) i) (kc h k)
      = cum (lh m c t h) (t.val % 68) i k := by
  unfold cumK cum
  rw [← Equiv.sum_comp (flip (dOf t))]
  refine Finset.sum_congr rfl fun s _ => ?_
  rw [lg_at]
  exact if_congr (upto_flip t i s) rfl rfl

theorem q_at (h : Fin 4) (i : Fin 64) (k : Fin 256) :
    qK (grid0.coords t) (X0_0 m c t) (iblk m c 3 t) (iblk m c 4 t) (iblk m c 5 t) h (flip (dOf t) i) k
      = qd (qh m c t h) (lh m c t h) (t.val % 68) i k := by
  unfold qK qd
  rw [cum_at, X0_at, row_flip]
  rfl

theorem k_at (h : Fin 4) (i : Fin 64) (k : Fin 256) :
    X0_1 m c t (ix3 0 (flip (dOf t) i) (kc h k)) = kh m c t h (t.val % 68) i k := by
  rw [X1_at, row_flip]; rfl

theorem v_at (h : Fin 4) (i : Fin 64) (e : Fin 512) :
    X0_2 m c t (ix3 0 (flip (dOf t) i) (vc h e)) = vh m c t h (t.val % 68) i e := by
  rw [X2_at, row_flip]; rfl

variable (xs : Vec Ideal S4x512x256 .f32)

/-- A grid point's outputs are its chunk's outputs, when the state it finds is the recurrence's. -/
theorem out_at (hx : ∀ (h : Fin 4) (e : Fin 512) (k : Fin 256),
      xs (ix3 h e k) = state (kh m c t h) (lh m c t h) (vh m c t h) (t.val % 68) k e)
    (h : Fin 4) (i : Fin 64) (e : Fin 512) :
    outK (grid0.coords t) (X0_0 m c t) (X0_1 m c t) (X0_2 m c t) (iblk m c 3 t) (iblk m c 4 t) (iblk m c 5 t) xs
        h (flip (dOf t) i) e
      = out (qh m c t h) (kh m c t h) (lh m c t h) (vh m c t h) (t.val % 68) i e := by
  unfold outK out intra attn
  refine congrArg₂ (· + ·) ?_ ?_
  · rw [← Equiv.sum_comp (flip (dOf t))]
    refine Finset.sum_congr rfl fun s _ => ?_
    rw [v_at]
    refine congrArg (· * _) (if_congr (upto_flip t i s) (Finset.sum_congr rfl fun k _ => ?_) rfl)
    rw [q_at, k_at, cum_at]
    rfl
  · refine Finset.sum_congr rfl fun k _ => ?_
    rw [q_at, hx]

/-- A grid point leaves the next chunk's state. -/
theorem next_at (hx : ∀ (h : Fin 4) (e : Fin 512) (k : Fin 256),
      xs (ix3 h e k) = state (kh m c t h) (lh m c t h) (vh m c t h) (t.val % 68) k e)
    (h : Fin 4) (e : Fin 512) (k : Fin 256) :
    stateK (grid0.coords t) (X0_1 m c t) (X0_2 m c t) (iblk m c 3 t) (iblk m c 4 t) (iblk m c 5 t) xs h e k
      = state (kh m c t h) (lh m c t h) (vh m c t h) (t.val % 68 + 1) k e := by
  unfold stateK
  rw [last_flip, cum_at, hx]
  refine congrArg (fun z : EReal => state (kh m c t h) (lh m c t h) (vh m c t h) (t.val % 68) k e
    * Ideal.exp (cum (lh m c t h) (t.val % 68) 63 k) + z) ?_
  rw [← Equiv.sum_comp (flip (dOf t))]
  refine Finset.sum_congr rfl fun s _ => ?_
  rw [v_at, k_at, cum_at, mul_comm]
  rfl

end Cert.GLA.Ker
-- ==== Proof.RefValue.lean ====
/- The arrays that the reference's loop reads, at an index, as the quantities of the recurrence. -/
module

public import proofs.«01_k».proof.Proof.Gen.ReferenceIdeal.Step
public import proofs.«01_k».proof.Proof.Spec

@[expose] public section

noncomputable section

namespace Cert.GLA.Ref

open Idealize.ShloMosaic Idealize.ShloMosaic.TcCoe
open Cert.ReferenceIdeal Cert.ReferenceIdeal.Gen Cert.ReferenceIdeal.Step

variable (a0 : (⟨S2x256x6176, .f32⟩ : BufTy).Contents (Elt Ideal)) (a1 : (⟨S2x4096x6176, .f32⟩ : BufTy).Contents (Elt Ideal))
  (a2 : (⟨S2x16x1024, .f32⟩ : BufTy).Contents (Elt Ideal)) (a3 : (⟨S2x1024, .f32⟩ : BufTy).Contents (Elt Ideal))

/-- The direction of a row of the stacked batch. -/
def dir (z : Fin 4) : Fin 2 := ⟨z.val / 2, by omega⟩
/-- The batch row of a row of the stacked batch. -/
def bat (z : Fin 4) : Fin 2 := ⟨z.val % 2, by omega⟩

/-! ## One token -/

theorem q_ctx (b : Fin 2) (t : Fin 256) (h : Fin 4) (k : Fin 256) :
    A_main_v7 a0 a1 a2 a3 (ix4 b t h k) = proj a0 a1 b t (h * 256 + k) * Ideal.ofBits .f32 0x3D800000#32 := by
  unfold A_main_v7 A_main_v5 A_main_v0 K_main_v6 K_main_cst
  pointwise
  rw [proj_ctx a0 a1]

theorem q_lat (b : Fin 2) (t : Fin 4096) (h : Fin 4) (k : Fin 256) :
    A_main_v33 a0 a1 a2 a3 (ix4 b t h k) = proj a0 a1 b (t + 256) (h * 256 + k) * Ideal.ofBits .f32 0x3D800000#32 := by
  unfold A_main_v33 A_main_v31 A_main_v26 K_main_v32 K_main_cst_1
  pointwise
  rw [proj_lat a0 a1]

theorem k_ctx (b : Fin 2) (t : Fin 256) (h : Fin 4) (k : Fin 256) :
    A_main_v8 a0 a1 a2 a3 (ix4 b t h k) = proj a0 a1 b t (1024 + (h * 256 + k)) := by
  unfold A_main_v8 A_main_v1
  pointwise
  rw [proj_ctx a0 a1]

theorem k_lat (b : Fin 2) (t : Fin 4096) (h : Fin 4) (k : Fin 256) :
    A_main_v34 a0 a1 a2 a3 (ix4 b t h k) = proj a0 a1 b (t + 256) (1024 + (h * 256 + k)) := by
  unfold A_main_v34 A_main_v27
  pointwise
  rw [proj_lat a0 a1]

theorem v_ctx (b : Fin 2) (t : Fin 256) (h : Fin 4) (e : Fin 512) :
    A_main_v9 a0 a1 a2 a3 (ix4 b t h e) = proj a0 a1 b t (2048 + (h * 512 + e)) := by
  unfold A_main_v9 A_main_v2
  pointwise
  rw [proj_ctx a0 a1]

theorem v_lat (b : Fin 2) (t : Fin 4096) (h : Fin 4) (e : Fin 512) :
    A_main_v35 a0 a1 a2 a3 (ix4 b t h e) = proj a0 a1 b (t + 256) (2048 + (h * 512 + e)) := by
  unfold A_main_v35 A_main_v28
  pointwise
  rw [proj_lat a0 a1]

theorem lg_ctx (b : Fin 2) (t : Fin 256) (d : Fin 2) (c : Fin 1024) :
    A_main_v20 a0 a1 a2 a3 (ix4 b t d c) = logGate (logit a0 a1 a2 a3 d b t c) := by
  simp only [A_main_v4, A_main_v10, A_main_v11, A_main_v12, A_main_v13, A_main_v14, A_main_v15, A_main_v16,
    A_main_call0_v1, A_main_call0_v3, A_main_call0_v4, A_main_call0_v6, A_main_call0_v7, A_main_call0_v8,
    A_main_call0_v9, A_main_call0_v10, A_main_call0_v11, A_main_v17, A_main_v18, A_main_v20, K_main_v19, K_main_cst_0,
    K_main_call0_v0, K_main_call0_cst, K_main_call0_v2, K_main_call0_v5]
  pointwise [dot_S2x16x1024_S2x256x2x16_S2x1024x2x256_1_3_2_01_0_2]
  simp only [ne_eq, not_true_eq_false, if_false, proj_ctx a0 a1]
  rfl

theorem lg_lat (b : Fin 2) (t : Fin 4096) (d : Fin 2) (c : Fin 1024) :
    A_main_v46 a0 a1 a2 a3 (ix4 b t d c) = logGate (logit a0 a1 a2 a3 d b (t + 256) c) := by
  simp only [A_main_v30, A_main_v36, A_main_v37, A_main_v38, A_main_v39, A_main_v40, A_main_v41, A_main_v42,
    A_main_call1_v1, A_main_call1_v3, A_main_call1_v4, A_main_call1_v6, A_main_call1_v7, A_main_call1_v8,
    A_main_call1_v9, A_main_call1_v10, A_main_call1_v11, A_main_v43, A_main_v44, A_main_v46, K_main_v45, K_main_cst_2,
    K_main_call1_v0, K_main_call1_cst, K_main_call1_v2, K_main_call1_v5]
  pointwise [dot_S2x16x1024_S2x4096x2x16_S2x1024x2x4096_1_3_2_01_0_2]
  simp only [ne_eq, not_true_eq_false, if_false, proj_lat a0 a1]
  rfl

/-! ## The stacked sequences -/

/-- Reading a stacked sequence: the first two rows forwards, the last two with each part backwards. -/
theorem seq_read (f : Fin 2 → Fin 2 → ℕ → EReal) (z : Fin 4) (t : Fin 4352) :
    (if h1 : z.val < 2 then
      (if h2 : t.val < 256 then f 0 ⟨z.val, h1⟩ t.val else f 0 ⟨z.val, h1⟩ (t.val - 256 + 256))
    else
      (if h2 : t.val < 256 then f 1 ⟨z.val - 2, by omega⟩ (256 - (t.val + 1))
        else f 1 ⟨z.val - 2, by omega⟩ (4096 - (t.val - 256 + 1) + 256)))
      = f (dir z) (bat z) (pos (dir z) t) := by
  have ht := t.isLt
  by_cases hz : z.val < 2
  · have e1 : dir z = 0 := Fin.ext (by unfold dir; simp only; show _ = 0; omega)
    have e2 : bat z = ⟨z.val, hz⟩ := Fin.ext (by unfold bat; simp only; omega)
    rw [dif_pos hz, e1, e2]
    have e3 : pos (0 : Fin 2).val t = t.val := rfl
    rw [e3]
    split
    · rfl
    · congr 1; omega
  · have e1 : dir z = 1 := Fin.ext (by unfold dir; simp only; show _ = 1; omega)
    have e2 : bat z = ⟨z.val - 2, by omega⟩ := Fin.ext (by unfold bat; simp only; omega)
    rw [dif_neg hz, e1, e2]
    have e3 : pos (1 : Fin 2).val t = if t.val < 256 then 255 - t.val else 4607 - t.val := rfl
    rw [e3]
    split
    · congr 1; omega
    · congr 1; omega

theorem q_seq (z : Fin 4) (t : Fin 4352) (h : Fin 4) (k : Fin 256) :
    A_main_v69 a0 a1 a2 a3 (ix4 z t h k) = proj a0 a1 (bat z) (pos (dir z) t) (h * 256 + k) * Ideal.ofBits .f32 0x3D800000#32 := by
  simp only [A_main_v69, A_main_v52, A_main_v58, A_main_v56, A_main_v57]
  pointwise
  simp only [List.mem_singleton, Fin.reduceEq, ↓reduceIte, if_false, if_true, q_ctx, q_lat, Fin.val_rev, Fin.isValue, zero_ne_one]
  exact seq_read (fun _ b t => proj a0 a1 b t (h * 256 + k) * Ideal.ofBits .f32 0x3D800000#32) z t

theorem k_seq (z : Fin 4) (t : Fin 4352) (h : Fin 4) (k : Fin 256) :
    A_main_v70 a0 a1 a2 a3 (ix4 z t h k) = proj a0 a1 (bat z) (pos (dir z) t) (1024 + (h * 256 + k)) := by
  simp only [A_main_v70, A_main_v53, A_main_v61, A_main_v59, A_main_v60]
  pointwise
  simp only [List.mem_singleton, Fin.reduceEq, ↓reduceIte, if_false, if_true, k_ctx, k_lat, Fin.val_rev, Fin.isValue, zero_ne_one]
  exact seq_read (fun _ b t => proj a0 a1 b t (1024 + (h * 256 + k))) z t

theorem v_seq (z : Fin 4) (t : Fin 4352) (h : Fin 4) (k : Fin 512) :
    A_main_v71 a0 a1 a2 a3 (ix4 z t h k) = proj a0 a1 (bat z) (pos (dir z) t) (2048 + (h * 512 + k)) := by
  simp only [A_main_v71, A_main_v54, A_main_v64, A_main_v62, A_main_v63]
  pointwise
  simp only [List.mem_singleton, Fin.reduceEq, ↓reduceIte, if_false, if_true, v_ctx, v_lat, Fin.val_rev, Fin.isValue, zero_ne_one]
  exact seq_read (fun _ b t => proj a0 a1 b t (2048 + (h * 512 + k))) z t

theorem lg_ctx0 (b : Fin 2) (t : Fin 256) (h : Fin 4) (k : Fin 256) :
    A_main_v23 a0 a1 a2 a3 (ix4 b t h k) = logGate (logit a0 a1 a2 a3 0 b t ⟨h * 256 + k, by omega⟩) := by
  unfold A_main_v23 A_main_v22 A_main_v21
  pointwise
  rw [lg_ctx]

theorem lg_ctx1 (b : Fin 2) (t : Fin 256) (h : Fin 4) (k : Fin 256) :
    A_main_v25 a0 a1 a2 a3 (ix4 b t h k) = logGate (logit a0 a1 a2 a3 1 b t ⟨h * 256 + k, by omega⟩) := by
  unfold A_main_v25 A_main_v24 A_main_v21
  pointwise
  rw [lg_ctx]

theorem lg_lat0 (b : Fin 2) (t : Fin 4096) (h : Fin 4) (k : Fin 256) :
    A_main_v49 a0 a1 a2 a3 (ix4 b t h k) = logGate (logit a0 a1 a2 a3 0 b (t + 256) ⟨h * 256 + k, by omega⟩) := by
  unfold A_main_v49 A_main_v48 A_main_v47
  pointwise
  rw [lg_lat]

theorem lg_lat1 (b : Fin 2) (t : Fin 4096) (h : Fin 4) (k : Fin 256) :
    A_main_v51 a0 a1 a2 a3 (ix4 b t h k) = logGate (logit a0 a1 a2 a3 1 b (t + 256) ⟨h * 256 + k, by omega⟩) := by
  unfold A_main_v51 A_main_v50 A_main_v47
  pointwise
  rw [lg_lat]

theorem lg_seq (z : Fin 4) (t : Fin 4352) (h : Fin 4) (k : Fin 256) :
    A_main_v72 a0 a1 a2 a3 (ix4 z t h k) = logGate (logit a0 a1 a2 a3 (dir z) (bat z) (pos (dir z) t) ⟨h * 256 + k, by omega⟩) := by
  simp only [A_main_v72, A_main_v55, A_main_v67, A_main_v65, A_main_v66]
  pointwise
  simp only [List.mem_singleton, Fin.reduceEq, ↓reduceIte, if_false, if_true, lg_ctx0, lg_ctx1, lg_lat0, lg_lat1, Fin.val_rev, Fin.isValue, zero_ne_one]
  exact seq_read (fun d b t => logGate (logit a0 a1 a2 a3 d b t ⟨h * 256 + k, by omega⟩)) z t

end Cert.GLA.Ref

end
-- ==== Proof.RefChunk.lean ====
/- The reference's arrays cut into chunks of 64, at an index. -/
module

public import proofs.«01_k».proof.Proof.RefValue

@[expose] public section

noncomputable section

namespace Cert.GLA.Ref

open Idealize.ShloMosaic Idealize.ShloMosaic.TcCoe
open Cert.ReferenceIdeal Cert.ReferenceIdeal.Gen Cert.ReferenceIdeal.Step

variable (a0 : (⟨S2x256x6176, .f32⟩ : BufTy).Contents (Elt Ideal)) (a1 : (⟨S2x4096x6176, .f32⟩ : BufTy).Contents (Elt Ideal))
  (a2 : (⟨S2x16x1024, .f32⟩ : BufTy).Contents (Elt Ideal)) (a3 : (⟨S2x1024, .f32⟩ : BufTy).Contents (Elt Ideal))

/-! ## Chunks of 64 -/

/-- Cutting the second of four axes into chunks. -/
theorem chunk_read {α : Type} {A L H K N M : ℕ} (hL : L = N * M) (x : (⟨4, ![A, L, H, K]⟩ : Shape).Idx → α)
    (hs : (⟨4, ![A, L, H, K]⟩ : Shape).ShapeCasts ⟨5, ![A, N, M, H, K]⟩) (a : Fin A) (n : Fin N) (m : Fin M) (h : Fin H)
    (k : Fin K) (hlt : n.val * M + m.val < L) :
    shapeCast ⟨5, ![A, N, M, H, K]⟩ x hs (ix5 a n m h k) = x (ix4 a ⟨n.val * M + m.val, hlt⟩ h k) := by
  rw [Pointwise.shapeCast_apply]
  refine congrArg x (Shape.reshapeEquiv_eq_of_vals _ _ _ _ _ (rowMajor_val4 _ _ _ _ rfl rfl rfl)
    (rowMajor_val5 _ _ _ _ _ rfl rfl rfl rfl) ?_)
  subst hL
  show a.val * (N * M * (H * K)) + (n.val * M + m.val) * (H * K) + h.val * K + k.val
    = a.val * (N * (M * (H * K))) + n.val * (M * (H * K)) + m.val * (H * K) + h.val * K + k.val
  ring

/-- The same, after the transposition that puts the head before the chunk. -/
theorem chunk_swap_read {α : Type} {A L H K N M : ℕ} (hL : L = N * M) (x : (⟨4, ![A, L, H, K]⟩ : Shape).Idx → α)
    (hs : (⟨4, ![A, L, H, K]⟩ : Shape).ShapeCasts ⟨5, ![A, N, M, H, K]⟩)
    (ht : (⟨5, ![A, N, M, H, K]⟩ : Shape).Transposes [0, 3, 1, 2, 4] ⟨5, ![A, H, N, M, K]⟩) (a : Fin A) (n : Fin N) (m : Fin M)
    (h : Fin H) (k : Fin K) (hlt : n.val * M + m.val < L) :
    transpose ⟨5, ![A, H, N, M, K]⟩ [0, 3, 1, 2, 4] (shapeCast ⟨5, ![A, N, M, H, K]⟩ x hs) ht (ix5 a h n m k)
      = x (ix4 a ⟨n.val * M + m.val, hlt⟩ h k) := by
  rw [← chunk_read hL x hs a n m h k hlt]
  refine transpose_apply _ _ ht _ _ fun b => ?_
  fin_cases b <;> rfl

theorem q_at (z h : Fin 4) (n : Fin 68) (i : Fin 64) (k : Fin 256) :
    A_main_v74 a0 a1 a2 a3 (ix5 z h n i k) = qs a0 a1 (dir z) (bat z) h n i k := by
  unfold A_main_v74 A_main_v73
  exact (chunk_swap_read (A := 4) (L := 4352) (H := 4) (K := 256) (N := 68) (M := 64) (by norm_num) (A_main_v69 a0 a1 a2 a3)
    shapeCasts_S4x4352x4x256_S4x68x64x4x256 _ z n i h k (by omega)).trans (q_seq a0 a1 a2 a3 z _ h k)

theorem k_at (z h : Fin 4) (n : Fin 68) (i : Fin 64) (k : Fin 256) :
    A_main_v76 a0 a1 a2 a3 (ix5 z h n i k) = ks a0 a1 (dir z) (bat z) h n i k := by
  unfold A_main_v76 A_main_v75
  exact (chunk_swap_read (A := 4) (L := 4352) (H := 4) (K := 256) (N := 68) (M := 64) (by norm_num) (A_main_v70 a0 a1 a2 a3)
    shapeCasts_S4x4352x4x256_S4x68x64x4x256 _ z n i h k (by omega)).trans (k_seq a0 a1 a2 a3 z _ h k)

theorem v_at (z h : Fin 4) (n : Fin 68) (i : Fin 64) (k : Fin 512) :
    A_main_v78 a0 a1 a2 a3 (ix5 z h n i k) = vs a0 a1 (dir z) (bat z) h n i k := by
  unfold A_main_v78 A_main_v77
  exact (chunk_swap_read (A := 4) (L := 4352) (H := 4) (K := 512) (N := 68) (M := 64) (by norm_num) (A_main_v71 a0 a1 a2 a3)
    shapeCasts_S4x4352x4x512_S4x68x64x4x512 _ z n i h k (by omega)).trans (v_seq a0 a1 a2 a3 z _ h k)

theorem lg_at (z h : Fin 4) (n : Fin 68) (i : Fin 64) (k : Fin 256) :
    A_main_v80 a0 a1 a2 a3 (ix5 z h n i k) = lgs a0 a1 a2 a3 (dir z) (bat z) h n i k := by
  unfold A_main_v80 A_main_v79
  exact (chunk_swap_read (A := 4) (L := 4352) (H := 4) (K := 256) (N := 68) (M := 64) (by norm_num) (A_main_v72 a0 a1 a2 a3)
    shapeCasts_S4x4352x4x256_S4x68x64x4x256 _ z n i h k (by omega)).trans (lg_seq a0 a1 a2 a3 z _ h k)

/-! ## The running sum -/

theorem foldl_add_sum {α : Type} (g : α → EReal) (l : List α) (v : EReal) :
    l.foldl (fun r n => r + g n) v = v + (l.map g).sum := by
  induction l generalizing v with
  | nil => simp
  | cons a l ih => simp only [List.foldl_cons, List.map_cons, List.sum_cons]; rw [ih, add_assoc]

/-- The indices of a window that is longer than one along its fourth axis only. -/
def windowEquiv : (⟨5, ![1, 1, 1, 64, 1]⟩ : Shape).Idx ≃ Fin 64 where
  toFun w := w 3
  invFun r := ix5 0 0 0 r 0
  left_inv w := by
    funext a
    fin_cases a <;> first | rfl | exact Subsingleton.elim (α := Fin 1) _ _
  right_inv r := rfl

/-- A window of 64 padded 63 low along an axis of 64 is the sum up to and with each position. -/
theorem window_sum (y : Fin 64 → EReal) (i : Fin 64) :
    (∑ r : Fin 64, if h : 63 ≤ i.val + r.val ∧ i.val + r.val - 63 < 64 then y ⟨i.val + r.val - 63, h.2⟩ else 0)
      = ∑ s : Fin 64, if s ≤ i then y s else 0 := by
  refine Fintype.sum_equiv (Equiv.addLeft (i + 1)) _ _ fun r => ?_
  have hv : (Equiv.addLeft (i + 1) r).val = ((i.val + 1) % 64 + r.val) % 64 := by
    simp [Equiv.coe_addLeft, Fin.val_add]; omega
  have hi := i.isLt
  have hr := r.isLt
  by_cases h : 63 ≤ i.val + r.val
  · have e : Equiv.addLeft (i + 1) r = ⟨i.val + r.val - 63, by omega⟩ := Fin.ext (by rw [hv]; simp only; omega)
    rw [dif_pos ⟨h, by omega⟩, e, if_pos (by rw [Fin.le_def]; simp only; omega)]
  · rw [dif_neg (by omega), if_neg (by rw [Fin.le_def, hv]; omega)]

theorem cumsum_read {A B C D : ℕ} {u : Shape} (x : (⟨5, ![A, B, C, 64, D]⟩ : Shape).Idx → EReal) (init : u.Idx → EReal)
    (hr : (⟨5, ![A, B, C, 64, D]⟩ : Shape).ReduceWindows ![1, 1, 1, 64, 1] ![1, 1, 1, 1, 1] ![0, 0, 0, 63, 0] ![0, 0, 0, 0, 0]
      ⟨5, ![A, B, C, 64, D]⟩) (hu : 0 < u.numel) (h0 : init (Shape.Idx.first hu) = 0)
    (a : Fin A) (b : Fin B) (c : Fin C) (i : Fin 64) (d : Fin D) :
    Host.reduceWindow (t := ⟨5, ![A, B, C, 64, D]⟩) (· + ·) ![1, 1, 1, 64, 1] ![1, 1, 1, 1, 1] ![0, 0, 0, 63, 0] ![0, 0, 0, 0, 0] x init hr hu
      (ix5 a b c i d) = ∑ s : Fin 64, if s ≤ i then x (ix5 a b c s d) else 0 := by
  unfold Host.reduceWindow
  simp only
  rw [foldl_add_sum, h0, zero_add, ← Fin.sum_univ_def, ← window_sum]
  refine Fintype.sum_equiv ((Shape.rowMajor (⟨5, ![1, 1, 1, 64, 1]⟩ : Shape)).symm.trans windowEquiv) _ _ fun n => ?_
  obtain ⟨w, rfl⟩ := (Shape.rowMajor (⟨5, ![1, 1, 1, 64, 1]⟩ : Shape)).surjective n
  obtain ⟨r, rfl⟩ := windowEquiv.symm.surjective w
  simp only [Equiv.trans_apply, Equiv.symm_apply_apply, Equiv.apply_symm_apply]
  by_cases h : 63 ≤ i.val + r.val ∧ i.val + r.val - 63 < 64
  · rw [dif_pos h, dif_pos]
    · refine congrArg x (funext fun t => Fin.ext ?_)
      fin_cases t
      · show a.val * 1 + 0 - 0 = a.val; omega
      · show b.val * 1 + 0 - 0 = b.val; omega
      · show c.val * 1 + 0 - 0 = c.val; omega
      · show i.val * 1 + r.val - 63 = i.val + r.val - 63; omega
      · show d.val * 1 + 0 - 0 = d.val; omega
    · intro t
      fin_cases t
      · exact ⟨Nat.zero_le _, show a.val * 1 + 0 - 0 < A by omega⟩
      · exact ⟨Nat.zero_le _, show b.val * 1 + 0 - 0 < B by omega⟩
      · exact ⟨Nat.zero_le _, show c.val * 1 + 0 - 0 < C by omega⟩
      · exact ⟨show 63 ≤ i.val * 1 + r.val by omega, show i.val * 1 + r.val - 63 < 64 by omega⟩
      · exact ⟨Nat.zero_le _, show d.val * 1 + 0 - 0 < D by omega⟩
  · rw [dif_neg h, dif_neg]
    intro hall
    have h3 := hall 3
    apply h
    refine ⟨?_, ?_⟩
    · have : 63 ≤ i.val * 1 + r.val := h3.1
      omega
    · have : i.val * 1 + r.val - 63 < 64 := h3.2
      omega

theorem cumsum_at {A B C D : ℕ} (x : FVec Ideal (⟨5, ![A, B, C, 64, D]⟩ : Shape) .f32) (init : (⟨0, ![]⟩ : Shape).Idx → EReal)
    (hr : (⟨5, ![A, B, C, 64, D]⟩ : Shape).ReduceWindows ![1, 1, 1, 64, 1] ![1, 1, 1, 1, 1] ![0, 0, 0, 63, 0] ![0, 0, 0, 0, 0]
      ⟨5, ![A, B, C, 64, D]⟩) (hu : 0 < (⟨0, ![]⟩ : Shape).numel) (h0 : ∀ j, init j = 0)
    (a : Fin A) (b : Fin B) (c : Fin C) (i : Fin 64) (d : Fin D) :
    Host.reduceWindowAdd (F := Ideal) (φ := .f32) (t := ⟨5, ![A, B, C, 64, D]⟩) ![1, 1, 1, 64, 1] ![1, 1, 1, 1, 1] ![0, 0, 0, 63, 0]
      ![0, 0, 0, 0, 0] x init hr hu (ix5 a b c i d) = ∑ s : Fin 64, if s ≤ i then x (ix5 a b c s d) else 0 := by
  have hu' : 0 < (⟨0, ![]⟩ : Shape).numel := by decide
  rw [← cumsum_read x (fun _ => 0) hr hu' rfl a b c i d]
  unfold Host.reduceWindowAdd
  rw [h0]
  rfl

end Cert.GLA.Ref

end
-- ==== Proof.RefLoop.lean ====
/- The reference's arrays that the loop takes per chunk, at an index. -/
module

public import Idealize.ShloMosaic.Lib.WordCmp
public import Idealize.ShloMosaic.Lib.DynamicIndex
public import proofs.«01_k».proof.Proof.RefChunk

@[expose] public section

noncomputable section

namespace Cert.GLA.Ref

open Idealize.ShloMosaic Idealize.ShloMosaic.TcCoe
open Cert.ReferenceIdeal Cert.ReferenceIdeal.Gen Cert.ReferenceIdeal.Step

variable (a0 : (⟨S2x256x6176, .f32⟩ : BufTy).Contents (Elt Ideal)) (a1 : (⟨S2x4096x6176, .f32⟩ : BufTy).Contents (Elt Ideal))
  (a2 : (⟨S2x16x1024, .f32⟩ : BufTy).Contents (Elt Ideal)) (a3 : (⟨S2x1024, .f32⟩ : BufTy).Contents (Elt Ideal))

theorem zero_const (j : S_.Idx) : K_main_call2_v0 (F := Ideal) j = 0 := by
  unfold K_main_call2_v0
  exact Ideal.ofBits_zero_f32

theorem cum_at (z h : Fin 4) (n : Fin 68) (i : Fin 64) (k : Fin 256) :
    A_main_v81 a0 a1 a2 a3 (ix5 z h n i k) = cum (lgs a0 a1 a2 a3 (dir z) (bat z) h) n i k := by
  unfold A_main_v81
  refine (cumsum_at (A := 4) (B := 4) (C := 68) (D := 256) (A_main_v80 a0 a1 a2 a3) (K_main_call2_v0 (F := Ideal)) _ _ zero_const z h n i k).trans ?_
  simp only [lg_at]
  unfold cum
  rfl

theorem qd_at (z h : Fin 4) (n : Fin 68) (i : Fin 64) (k : Fin 256) :
    A_main_v83 a0 a1 a2 a3 (ix5 z h n i k) = qd (qs a0 a1 (dir z) (bat z) h) (lgs a0 a1 a2 a3 (dir z) (bat z) h) n i k := by
  unfold A_main_v83 A_main_v82
  refine (mulf_apply _ _ _).trans ?_
  rw [q_at]
  refine congrArg₂ _ rfl ((Host.exp_apply _ _).trans ?_)
  rw [cum_at]
  rfl

theorem ku_at (z h : Fin 4) (n : Fin 68) (i : Fin 64) (k : Fin 256) :
    A_main_v86 a0 a1 a2 a3 (ix5 z h n i k) = ku (ks a0 a1 (dir z) (bat z) h) (lgs a0 a1 a2 a3 (dir z) (bat z) h) n i k := by
  unfold A_main_v86 A_main_v85 A_main_v84
  refine (mulf_apply _ _ _).trans ?_
  rw [k_at]
  refine congrArg₂ _ rfl ((Host.exp_apply _ _).trans ?_)
  rw [Host.negf_apply, cum_at]
  rfl

theorem edge_at (z h : Fin 4) (n : Fin 68) (k : Fin 256) :
    A_main_v102 a0 a1 a2 a3 (ix4 z h n k) = cum (lgs a0 a1 a2 a3 (dir z) (bat z) h) n 63 k := by
  rw [← cum_at]
  unfold A_main_v102 A_main_v101
  generalize A_main_v81 a0 a1 a2 a3 = x
  pointwise

theorem edge_wide (z h : Fin 4) (n : Fin 68) (i : Fin 64) (k : Fin 256) :
    A_main_v104 a0 a1 a2 a3 (ix5 z h n i k) = cum (lgs a0 a1 a2 a3 (dir z) (bat z) h) n 63 k := by
  rw [← edge_at]
  unfold A_main_v104 A_main_v103
  generalize A_main_v102 a0 a1 a2 a3 = x
  pointwise

theorem kd_at (z h : Fin 4) (n : Fin 68) (i : Fin 64) (k : Fin 256) :
    A_main_v107 a0 a1 a2 a3 (ix5 z h n i k) = kd (ks a0 a1 (dir z) (bat z) h) (lgs a0 a1 a2 a3 (dir z) (bat z) h) n i k := by
  unfold A_main_v107 A_main_v106 A_main_v105
  refine (mulf_apply _ _ _).trans ?_
  rw [k_at]
  refine congrArg₂ _ rfl ((Host.exp_apply _ _).trans ?_)
  rw [subf_apply, cum_at, edge_wide]
  rfl

theorem last_at (z h : Fin 4) (n : Fin 68) (k : Fin 256) :
    A_main_v108 a0 a1 a2 a3 (ix4 z h n k) = Ideal.exp (cum (lgs a0 a1 a2 a3 (dir z) (bat z) h) n 63 k) := by
  unfold A_main_v108
  refine (Host.exp_apply _ _).trans ?_
  rw [edge_at]
  rfl

theorem mask_at (z h : Fin 4) (n : Fin 68) (i s : Fin 64) :
    K_main_call3_v1 (F := Ideal) (ix5 z h n i s) = if s ≤ i then 1#1 else 0#1 := by
  unfold K_main_call3_v1 K_main_v92 K_main_v91 K_main_v90 K_main_v89 K_main_v88 K_main_v87
  pointwise
  rw [WordCmp.cmpi_sge_ofNat (by omega) (by omega)]
  by_cases hs : s ≤ i
  · rw [if_pos hs, decide_eq_true (Fin.le_def.1 hs)]; rfl
  · rw [if_neg hs, decide_eq_false (fun h => hs (Fin.le_def.2 h))]; rfl

theorem fill_at (j : S4x4x68x64x64.Idx) : K_main_call3_v2 (F := Ideal) j = 0 := by
  unfold K_main_call3_v2
  exact Ideal.ofBits_zero_f32

theorem attn_at (z h : Fin 4) (n : Fin 68) (i s : Fin 64) :
    A_main_v99 a0 a1 a2 a3 (ix5 z h n i s) = attn (qs a0 a1 (dir z) (bat z) h) (ks a0 a1 (dir z) (bat z) h) (lgs a0 a1 a2 a3 (dir z) (bat z) h) n i s := by
  have h1 := fun c => qd_at a0 a1 a2 a3 z h n i c
  have h2 := fun c => ku_at a0 a1 a2 a3 z h n s c
  unfold A_main_v99 A_main_v98
  revert h1 h2
  generalize A_main_v83 a0 a1 a2 a3 = x1
  generalize A_main_v86 a0 a1 a2 a3 = x2
  intro h1 h2
  pointwise [dot_S4x4x68x64x256_S4x4x68x64x256_S4x4x68x64x64_4_4_3_3_012_012]
  simp only [h1, h2]
  rw [mask_at, fill_at]
  unfold attn Scalar.select
  split <;> simp

theorem intra_at (z h : Fin 4) (n : Fin 68) (i : Fin 64) (e : Fin 512) :
    A_main_v100 a0 a1 a2 a3 (ix5 z h n i e) = intra (qs a0 a1 (dir z) (bat z) h) (ks a0 a1 (dir z) (bat z) h) (lgs a0 a1 a2 a3 (dir z) (bat z) h) (vs a0 a1 (dir z) (bat z) h) n i e := by
  have h1 := fun s => attn_at a0 a1 a2 a3 z h n i s
  have h2 := fun s => v_at a0 a1 a2 a3 z h n s e
  unfold A_main_v100
  revert h1 h2
  generalize A_main_v99 a0 a1 a2 a3 = x1
  generalize A_main_v78 a0 a1 a2 a3 = x2
  intro h1 h2
  pointwise [dot_S4x4x68x64x64_S4x4x68x64x512_S4x4x68x64x512_4_3_3_4_012_012]
  simp only [h1, h2]
  rfl

/-! ## The loop's five sequences, chunk first -/

theorem swap5_read {α : Type} {A B C D E : ℕ} (x : (⟨5, ![A, B, C, D, E]⟩ : Shape).Idx → α)
    (ht : (⟨5, ![A, B, C, D, E]⟩ : Shape).Transposes [2, 0, 1, 3, 4] ⟨5, ![C, A, B, D, E]⟩) (a : Fin A) (b : Fin B) (c : Fin C)
    (d : Fin D) (e : Fin E) :
    transpose ⟨5, ![C, A, B, D, E]⟩ [2, 0, 1, 3, 4] x ht (ix5 c a b d e) = x (ix5 a b c d e) := by
  refine transpose_apply _ _ ht _ _ fun t => ?_
  fin_cases t <;> rfl

theorem swap4_read {α : Type} {A B C D : ℕ} (x : (⟨4, ![A, B, C, D]⟩ : Shape).Idx → α)
    (ht : (⟨4, ![A, B, C, D]⟩ : Shape).Transposes [2, 0, 1, 3] ⟨4, ![C, A, B, D]⟩) (a : Fin A) (b : Fin B) (c : Fin C)
    (d : Fin D) : transpose ⟨4, ![C, A, B, D]⟩ [2, 0, 1, 3] x ht (ix4 c a b d) = x (ix4 a b c d) := by
  refine transpose_apply _ _ ht _ _ fun t => ?_
  fin_cases t <;> rfl

theorem loop_q (n : Fin 68) (z h : Fin 4) (i : Fin 64) (k : Fin 256) :
    A_main_v109 a0 a1 a2 a3 (ix5 n z h i k) = qd (qs a0 a1 (dir z) (bat z) h) (lgs a0 a1 a2 a3 (dir z) (bat z) h) n i k :=
  (swap5_read (A := 4) (B := 4) (C := 68) (D := 64) (E := 256) (A_main_v83 a0 a1 a2 a3) _ z h n i k).trans (qd_at a0 a1 a2 a3 z h n i k)

theorem loop_k (n : Fin 68) (z h : Fin 4) (i : Fin 64) (k : Fin 256) :
    A_main_v110 a0 a1 a2 a3 (ix5 n z h i k) = kd (ks a0 a1 (dir z) (bat z) h) (lgs a0 a1 a2 a3 (dir z) (bat z) h) n i k :=
  (swap5_read (A := 4) (B := 4) (C := 68) (D := 64) (E := 256) (A_main_v107 a0 a1 a2 a3) _ z h n i k).trans (kd_at a0 a1 a2 a3 z h n i k)

theorem loop_v (n : Fin 68) (z h : Fin 4) (i : Fin 64) (k : Fin 512) :
    A_main_v111 a0 a1 a2 a3 (ix5 n z h i k) = (vs a0 a1 (dir z) (bat z) h) n i k :=
  (swap5_read (A := 4) (B := 4) (C := 68) (D := 64) (E := 512) (A_main_v78 a0 a1 a2 a3) _ z h n i k).trans (v_at a0 a1 a2 a3 z h n i k)

theorem loop_intra (n : Fin 68) (z h : Fin 4) (i : Fin 64) (k : Fin 512) :
    A_main_v113 a0 a1 a2 a3 (ix5 n z h i k) = intra (qs a0 a1 (dir z) (bat z) h) (ks a0 a1 (dir z) (bat z) h) (lgs a0 a1 a2 a3 (dir z) (bat z) h) (vs a0 a1 (dir z) (bat z) h) n i k :=
  (swap5_read (A := 4) (B := 4) (C := 68) (D := 64) (E := 512) (A_main_v100 a0 a1 a2 a3) _ z h n i k).trans (intra_at a0 a1 a2 a3 z h n i k)

theorem loop_last (n : Fin 68) (z h : Fin 4) (k : Fin 256) :
    A_main_v112 a0 a1 a2 a3 (ix4 n z h k) = Ideal.exp (cum (lgs a0 a1 a2 a3 (dir z) (bat z) h) n 63 k) :=
  (swap4_read (A := 4) (B := 4) (C := 68) (D := 256) (A_main_v108 a0 a1 a2 a3) _ z h n k).trans (last_at a0 a1 a2 a3 z h n k)

end Cert.GLA.Ref

end
-- ==== Proof.RefStep.lean ====
/- One trip of the reference's loop, at an index. -/
module

public import proofs.«01_k».proof.Proof.RefLoop

@[expose] public section

noncomputable section

namespace Cert.GLA.Ref

open Idealize.ShloMosaic Idealize.ShloMosaic.TcCoe
open Cert.ReferenceIdeal Cert.ReferenceIdeal.Gen Cert.ReferenceIdeal.Step

variable (a0 : (⟨S2x256x6176, .f32⟩ : BufTy).Contents (Elt Ideal)) (a1 : (⟨S2x4096x6176, .f32⟩ : BufTy).Contents (Elt Ideal))
  (a2 : (⟨S2x16x1024, .f32⟩ : BufTy).Contents (Elt Ideal)) (a3 : (⟨S2x1024, .f32⟩ : BufTy).Contents (Elt Ideal))

/-! ## Reading and writing one row of a stacked array -/

theorem row5_read {α : Type} {A B C D E : ℕ} (x : (⟨5, ![A, B, C, D, E]⟩ : Shape).Idx → α) (st : Fin 5 → Int)
    (h : (⟨5, ![A, B, C, D, E]⟩ : Shape).Slices (fun _ => 0) ⟨5, ![1, B, C, D, E]⟩)
    (hc : (⟨5, ![1, B, C, D, E]⟩ : Shape).ShapeCasts ⟨4, ![B, C, D, E]⟩) (j : Fin A)
    (hs : ∀ a, st a = if a = 0 then (j.val : Int) else 0) (b : Fin B) (c : Fin C) (d : Fin D) (e : Fin E) :
    shapeCast ⟨4, ![B, C, D, E]⟩ (Host.dynamicSlice ⟨5, ![1, B, C, D, E]⟩ x st h) hc (ix4 b c d e) = x (ix5 j b c d e) := by
  have hsl : (⟨5, ![A, B, C, D, E]⟩ : Shape).Slices ![j.val, 0, 0, 0, 0] ⟨5, ![1, B, C, D, E]⟩ := by
    refine ⟨rfl, fun a => ?_⟩
    have := j.isLt
    fin_cases a
    · show j.val + 1 ≤ A; omega
    all_goals exact (Nat.zero_add _).le
  rw [Host.dynamicSlice_eq_extractStridedSlice _ _ _ ![j.val, 0, 0, 0, 0] h hsl
    (fun a => by rw [hs a]; fin_cases a <;> rfl), Pointwise.shapeCast_apply]
  rw [show Shape.reshapeEquiv hc (ix4 b c d e) = ix5 0 b c d e from
    Shape.reshapeEquiv_eq_of_vals _ _ _ _ _ (rowMajor_val5 _ _ _ _ _ rfl rfl rfl rfl) (rowMajor_val4 _ _ _ _ rfl rfl rfl)
      (by
        show 0 * (B * (C * (D * E))) + b.val * (C * (D * E)) + c.val * (D * E) + d.val * E + e.val
          = b.val * (C * (D * E)) + c.val * (D * E) + d.val * E + e.val
        rw [Nat.zero_mul, Nat.zero_add])]
  refine extractStridedSlice_apply _ _ _ _ _ fun a => ?_
  fin_cases a
  · show j.val = j.val + 0; rfl
  all_goals exact (Nat.zero_add _).symm

theorem row4_read {α : Type} {A B C D : ℕ} (x : (⟨4, ![A, B, C, D]⟩ : Shape).Idx → α) (st : Fin 4 → Int)
    (h : (⟨4, ![A, B, C, D]⟩ : Shape).Slices (fun _ => 0) ⟨4, ![1, B, C, D]⟩)
    (hc : (⟨4, ![1, B, C, D]⟩ : Shape).ShapeCasts ⟨3, ![B, C, D]⟩) (j : Fin A)
    (hs : ∀ a, st a = if a = 0 then (j.val : Int) else 0) (b : Fin B) (c : Fin C) (d : Fin D) :
    shapeCast ⟨3, ![B, C, D]⟩ (Host.dynamicSlice ⟨4, ![1, B, C, D]⟩ x st h) hc (ix3 b c d) = x (ix4 j b c d) := by
  have hsl : (⟨4, ![A, B, C, D]⟩ : Shape).Slices ![j.val, 0, 0, 0] ⟨4, ![1, B, C, D]⟩ := by
    refine ⟨rfl, fun a => ?_⟩
    have := j.isLt
    fin_cases a
    · show j.val + 1 ≤ A; omega
    all_goals exact (Nat.zero_add _).le
  rw [Host.dynamicSlice_eq_extractStridedSlice _ _ _ ![j.val, 0, 0, 0] h hsl
    (fun a => by rw [hs a]; fin_cases a <;> rfl), Pointwise.shapeCast_apply]
  rw [show Shape.reshapeEquiv hc (ix3 b c d) = ix4 0 b c d from
    Shape.reshapeEquiv_eq_of_vals _ _ _ _ _ (rowMajor_val4 _ _ _ _ rfl rfl rfl) (rowMajor_val3 _ _ _ rfl rfl)
      (by
        show 0 * (B * (C * D)) + b.val * (C * D) + c.val * D + d.val = b.val * (C * D) + c.val * D + d.val
        rw [Nat.zero_mul, Nat.zero_add])]
  refine extractStridedSlice_apply _ _ _ _ _ fun a => ?_
  fin_cases a
  · show j.val = j.val + 0; rfl
  all_goals exact (Nat.zero_add _).symm

theorem row5_write {α : Type} {A B C D E : ℕ} (x : (⟨5, ![A, B, C, D, E]⟩ : Shape).Idx → α)
    (u : (⟨5, ![1, B, C, D, E]⟩ : Shape).Idx → α) (st : Fin 5 → Int)
    (h : (⟨5, ![A, B, C, D, E]⟩ : Shape).Slices (fun _ => 0) ⟨5, ![1, B, C, D, E]⟩) (j : Fin A)
    (hs : ∀ a, st a = if a = 0 then (j.val : Int) else 0) (n : Fin A) (b : Fin B) (c : Fin C) (d : Fin D) (e : Fin E) :
    Host.dynamicUpdateSlice x u st h (ix5 n b c d e) = if n = j then u (ix5 0 b c d e) else x (ix5 n b c d e) := by
  have hsl : (⟨5, ![A, B, C, D, E]⟩ : Shape).Slices ![j.val, 0, 0, 0, 0] ⟨5, ![1, B, C, D, E]⟩ := by
    refine ⟨rfl, fun a => ?_⟩
    have := j.isLt
    fin_cases a
    · show j.val + 1 ≤ A; omega
    all_goals exact (Nat.zero_add _).le
  rw [Host.dynamicUpdateSlice_eq_updateSlice x u st h ![j.val, 0, 0, 0, 0] (fun a => by
    have := j.isLt
    rw [hs a]
    fin_cases a
    · show (min (max (j.val : Int) 0) ((A - 1 : ℕ) : Int)).toNat = j.val
      omega
    · show (min (max (0 : Int) 0) ((B - B : ℕ) : Int)).toNat = 0
      omega
    · show (min (max (0 : Int) 0) ((C - C : ℕ) : Int)).toNat = 0
      omega
    · show (min (max (0 : Int) 0) ((D - D : ℕ) : Int)).toNat = 0
      omega
    · show (min (max (0 : Int) 0) ((E - E : ℕ) : Int)).toNat = 0
      omega) hsl]
  unfold updateSlice
  by_cases hn : n = j
  · subst hn
    rw [if_pos rfl, dif_pos]
    · refine congrArg u (funext fun a => Fin.ext ?_)
      fin_cases a
      · exact Nat.sub_self _
      all_goals exact Nat.sub_zero _
    · intro a
      fin_cases a
      · exact ⟨le_refl _, Nat.lt_succ_self _⟩
      · exact ⟨Nat.zero_le _, by rw [Nat.add_comm]; exact b.isLt⟩
      · exact ⟨Nat.zero_le _, by rw [Nat.add_comm]; exact c.isLt⟩
      · exact ⟨Nat.zero_le _, by rw [Nat.add_comm]; exact d.isLt⟩
      · exact ⟨Nat.zero_le _, by rw [Nat.add_comm]; exact e.isLt⟩
  · rw [if_neg hn, dif_neg]
    intro hall
    have h0 : j.val ≤ n.val ∧ n.val < j.val + 1 := hall 0
    exact hn (Fin.ext (by omega))

/-- The loop counter as a start index. -/
theorem counter_toInt (j : ℕ) (hj : j < 68) : (BitVec.ofNat 32 j).toInt = (j : Int) := by
  rw [BitVec.toInt_eq_toNat_of_lt (by rw [BitVec.toNat_ofNat]; omega), BitVec.toNat_ofNat]
  omega

/-! ## The values of one trip -/

section Trip

variable (j : Fin 68) (s : State Ideal)

theorem b5_at (z h : Fin 4) (i : Fin 64) (k : Fin 256) :
    b5 j.val s (ix4 z h i k) = s.main_v115_0 (ix5 j z h i k) := by
  unfold b5 b4
  exact row5_read (A := 68) (B := 4) (C := 4) (D := 64) (E := 256) s.main_v115_0 _ _ _ j (fun a => by
    fin_cases a
    · exact counter_toInt j.val j.isLt
    all_goals rfl) z h i k

theorem b11_at (z h : Fin 4) (i : Fin 64) (k : Fin 256) :
    b11 j.val s (ix4 z h i k) = s.main_v115_1 (ix5 j z h i k) := by
  unfold b11 b10
  exact row5_read (A := 68) (B := 4) (C := 4) (D := 64) (E := 256) s.main_v115_1 _ _ _ j (fun a => by
    fin_cases a
    · exact counter_toInt j.val j.isLt
    all_goals rfl) z h i k

theorem b17_at (z h : Fin 4) (i : Fin 64) (k : Fin 512) :
    b17 j.val s (ix4 z h i k) = s.main_v115_2 (ix5 j z h i k) := by
  unfold b17 b16
  exact row5_read (A := 68) (B := 4) (C := 4) (D := 64) (E := 512) s.main_v115_2 _ _ _ j (fun a => by
    fin_cases a
    · exact counter_toInt j.val j.isLt
    all_goals rfl) z h i k

theorem b28_at (z h : Fin 4) (i : Fin 64) (k : Fin 512) :
    b28 j.val s (ix4 z h i k) = s.main_v115_4 (ix5 j z h i k) := by
  unfold b28 b27
  exact row5_read (A := 68) (B := 4) (C := 4) (D := 64) (E := 512) s.main_v115_4 _ _ _ j (fun a => by
    fin_cases a
    · exact counter_toInt j.val j.isLt
    all_goals rfl) z h i k

theorem b22_at (z h : Fin 4) (k : Fin 256) : b22 j.val s (ix3 z h k) = s.main_v115_3 (ix4 j z h k) := by
  unfold b22 b21
  exact row4_read (A := 68) (B := 4) (C := 4) (D := 256) s.main_v115_3 _ _ _ j (fun a => by
    fin_cases a
    · exact counter_toInt j.val j.isLt
    all_goals rfl) z h k

theorem b30_at (z h : Fin 4) (i : Fin 64) (e : Fin 512) :
    b30 j.val s (ix4 z h i e) = s.main_v115_4 (ix5 j z h i e)
      + ∑ c : Fin 256, s.main_v115_0 (ix5 j z h i c) * s.main_v115_6 (ix4 z h c e) := by
  have h1 := b28_at j s z h i e
  have h2 := fun c => b5_at j s z h i c
  unfold b30 b29
  revert h1 h2
  generalize b28 j.val s = x
  generalize b5 j.val s = y
  intro h1 h2
  pointwise [dot_S4x4x64x256_S4x4x256x512_S4x4x64x512_3_2_2_3_01_01]
  simp only [h1, h2]

theorem b35_at (z h : Fin 4) (c : Fin 256) (e : Fin 512) :
    b35 j.val s (ix4 z h c e) = s.main_v115_6 (ix4 z h c e) * s.main_v115_3 (ix4 j z h c)
      + ∑ i : Fin 64, s.main_v115_1 (ix5 j z h i c) * s.main_v115_2 (ix5 j z h i e) := by
  have h1 := b22_at j s z h c
  have h2 := fun i => b11_at j s z h i c
  have h3 := fun i => b17_at j s z h i e
  unfold b35 b34 b33 b32 b31
  revert h1 h2 h3
  generalize b22 j.val s = x
  generalize b11 j.val s = y
  generalize b17 j.val s = w
  intro h1 h2 h3
  pointwise [dot_S4x4x64x256_S4x4x64x512_S4x4x256x512_2_2_3_3_01_01]
  simp only [h1, h2, h3]

theorem b41_at (n : Fin 68) (z h : Fin 4) (i : Fin 64) (e : Fin 512) :
    b41 j.val s (ix5 n z h i e) = if n = j then b30 j.val s (ix4 z h i e) else s.main_v115_7 (ix5 n z h i e) := by
  unfold b41
  refine (row5_write (A := 68) (B := 4) (C := 4) (D := 64) (E := 512) s.main_v115_7 (b36 j.val s) _ _ j (fun a => by
    fin_cases a
    · exact counter_toInt j.val j.isLt
    all_goals rfl) n z h i e).trans ?_
  congr 1
  unfold b36
  generalize b30 j.val s = x
  pointwise

end Trip

/-! ## All trips -/

/-- What the loop has after `n` trips: its five sequences as they were, the carried matrix, and the rows written. -/
structure After (n : ℕ) (s : State Ideal) : Prop where
  q : s.main_v115_0 = A_main_v109 a0 a1 a2 a3
  k : s.main_v115_1 = A_main_v110 a0 a1 a2 a3
  v : s.main_v115_2 = A_main_v111 a0 a1 a2 a3
  l : s.main_v115_3 = A_main_v112 a0 a1 a2 a3
  i : s.main_v115_4 = A_main_v113 a0 a1 a2 a3
  st : ∀ (z h : Fin 4) (c : Fin 256) (e : Fin 512), s.main_v115_6 (ix4 z h c e)
    = state (ks a0 a1 (dir z) (bat z) h) (lgs a0 a1 a2 a3 (dir z) (bat z) h) (vs a0 a1 (dir z) (bat z) h) n c e
  o : ∀ (m : Fin 68) (z h : Fin 4) (i : Fin 64) (e : Fin 512), m.val < n → s.main_v115_7 (ix5 m z h i e)
    = gla a0 a1 a2 a3 (dir z) (bat z) h m i e

theorem after_zero : After a0 a1 a2 a3 0 (init (F := Ideal) a0 a1 a2 a3) := by
  refine ⟨rfl, rfl, rfl, rfl, rfl, fun z h c e => ?_, fun m z h i e hm => absurd hm (Nat.not_lt_zero _)⟩
  exact Ideal.ofBits_zero_f32

theorem after_succ (j : Fin 68) (s : State Ideal) (hs : After a0 a1 a2 a3 j.val s) :
    After a0 a1 a2 a3 (j.val + 1) (step j.val s) := by
  refine ⟨hs.q, hs.k, hs.v, hs.l, hs.i, fun z h c e => ?_, fun m z h i e hm => ?_⟩
  · rw [Step.step_main_v115_6, b35_at, hs.st, hs.l, loop_last, hs.k, hs.v]
    simp only [loop_k, loop_v]
    rfl
  · rw [Step.step_main_v115_7, b41_at]
    by_cases hj : m = j
    · subst hj
      rw [if_pos rfl, b30_at, hs.i, hs.q]
      simp only [loop_intra, loop_q, hs.st]
      rfl
    · rw [if_neg hj]
      exact hs.o m z h i e (by
        have : m.val ≠ j.val := fun h => hj (Fin.ext h)
        omega)

theorem after (it : ℕ → State Ideal) (h0 : it 0 = init (F := Ideal) a0 a1 a2 a3) (hs : ∀ n, it (n + 1) = step n (it n))
    (n : ℕ) (hn : n ≤ 68) : After a0 a1 a2 a3 n (it n) := by
  induction n with
  | zero => rw [h0]; exact after_zero a0 a1 a2 a3
  | succ n ih => rw [hs]; exact after_succ a0 a1 a2 a3 ⟨n, by omega⟩ _ (ih (by omega))

end Cert.GLA.Ref

end
-- ==== Proof.RefOut.lean ====
/- The reference's result, at an index. -/
module

public import proofs.«01_k».proof.Proof.RefStep

@[expose] public section

noncomputable section

namespace Cert.GLA.Ref

open Idealize.ShloMosaic Idealize.ShloMosaic.TcCoe
open Cert.ReferenceIdeal Cert.ReferenceIdeal.Gen Cert.ReferenceIdeal.Step

variable (a0 : (⟨S2x256x6176, .f32⟩ : BufTy).Contents (Elt Ideal)) (a1 : (⟨S2x4096x6176, .f32⟩ : BufTy).Contents (Elt Ideal))
  (a2 : (⟨S2x16x1024, .f32⟩ : BufTy).Contents (Elt Ideal)) (a3 : (⟨S2x1024, .f32⟩ : BufTy).Contents (Elt Ideal))

/-- The recurrence's output for token `t` of direction `d`, column `c` of the four heads' 512 each: the specification
    that both programs meet. -/
def result (d b : Fin 2) (t : Fin 4352) (c : Fin 2048) : EReal :=
  gla a0 a1 a2 a3 d b ⟨c.val / 512, by omega⟩ (pos d t / 64) ⟨pos d t % 64, Nat.mod_lt _ (by norm_num)⟩
    ⟨c.val % 512, Nat.mod_lt _ (by norm_num)⟩

theorem pos_lt (d : Fin 2) (t : Fin 4352) : pos d t < 4352 := by
  unfold pos
  split
  · exact t.isLt
  · split <;> omega

theorem row_at (s : State Ideal) (d b : Fin 2) (t : Fin 4352) (c : Fin 2048) :
    R_main_v130 s (ix4 d b t c) = s.main_v115_7 (ix5 ⟨pos d t / 64, by have := pos_lt d t; omega⟩ ⟨2 * d.val + b.val, by omega⟩
      ⟨c.val / 512, by omega⟩ ⟨pos d t % 64, Nat.mod_lt _ (by norm_num)⟩ ⟨c.val % 512, Nat.mod_lt _ (by norm_num)⟩) := by
  unfold R_main_v130
  generalize s.main_v115_7 = x
  pointwise
  simp only [List.mem_singleton, Fin.reduceEq, ↓reduceIte, if_false, if_true, Fin.val_rev, Fin.isValue, zero_ne_one]
  split <;> rename_i hd
  · have hp : pos d t = t.val := by unfold pos; rw [if_pos (by omega)]
    have hb : 2 * d.val + b.val = b.val := by omega
    simp only [hp, hb]
  · have hb : 2 * d.val + b.val = 2 + b.val := by omega
    split <;> rename_i ht
    · have hp : pos d t = 256 - (t.val + 1) := by unfold pos; rw [if_neg (by omega), if_pos ht]; omega
      simp only [hp, hb]
    · have hp : pos d t = 256 + (4096 - (t.val - 256 + 1)) := by unfold pos; rw [if_neg (by omega), if_neg ht]; omega
      simp only [hp, hb]

theorem result_at (s : State Ideal) (hs : After a0 a1 a2 a3 68 s) (d b : Fin 2) (t : Fin 4352) (c : Fin 2048) :
    R_main_v130 s (ix4 d b t c) = result a0 a1 a2 a3 d b t c := by
  rw [row_at, hs.o _ _ _ _ _ (by simp only; have := pos_lt d t; omega)]
  have e1 : dir ⟨2 * d.val + b.val, by omega⟩ = d := Fin.ext (by unfold dir; simp only; omega)
  have e2 : bat ⟨2 * d.val + b.val, by omega⟩ = b := Fin.ext (by unfold bat; simp only; omega)
  rw [e1, e2]
  rfl

end Cert.GLA.Ref

end
-- ==== Proof.KerOut.lean ====
/- The kernel's result array: every point's state and outputs are the recurrence's, and the points' blocks cover the
   array. -/
module

public import proofs.«01_k».proof.Proof.KerState
public import proofs.«01_k».proof.Proof.RefOut
public import Idealize.ShloMosaic.Lib.Pipeline.ValueKit.Basic

@[expose] public section

set_option maxRecDepth 16384

noncomputable section

namespace Cert.GLA.Ker

open Idealize Idealize.ShloMosaic Idealize.ShloMosaic.TcCoe Idealize.ShloMosaic.Tactic
open Cert.KernelIdeal Cert.KernelIdeal.Gen
open Idealize.ShloMosaic.Pipeline (Dat Cfg Window)

variable (m : (ℓ : Loc nD τ sig) → Buf (Elt Ideal) ℓ) (c : Dev nD)

/-- The state entering a first chunk is zero. -/
theorem enter_first (t : Fin cfg0.N) (h0 : t.val % 68 = 0) (h : Fin 4) (e : Fin 512) (k : Fin 256) :
    k0_pay3 (F := Ideal) (ix3 h e k) = state (kh m c t h) (lh m c t h) (vh m c t h) (t.val % 68) k e := by
  rw [zero_state, h0]; rfl

/-- The direction and the batch row do not change inside a run of chunks. -/
theorem d_pred (n : ℕ) (h0 : ¬ n % 68 = 0) : dOf (n - 1) = dOf n := by unfold dOf; apply Fin.ext; simp only; omega
theorem b_pred (n : ℕ) (h0 : ¬ n % 68 = 0) : bOf (n - 1) = bOf n := by unfold bOf; apply Fin.ext; simp only; omega

theorem first_state (t : Fin cfg0.N) (h0 : t.val % 68 = 0) (h : Fin 4) (e : Fin 512) (k : Fin 256) :
    (outsAt0 m c t.val t.isLt).2 (ix3 h e k) = state (kh m c t h) (lh m c t h) (vh m c t h) (t.val % 68 + 1) k e := by
  rw [outsAt0_A m c t h0]
  dsimp only
  rw [state_A]
  exact next_at m c t _ (enter_first m c t h0) h e k

theorem later_state (t : Fin cfg0.N) (h0 : ¬ t.val % 68 = 0)
    (hx : ∀ (h : Fin 4) (e : Fin 512) (k : Fin 256), (outsAt0 m c (t.val - 1) (Nat.lt_of_le_of_lt (Nat.sub_le _ _) t.isLt)).2 (ix3 h e k)
      = state (kh m c t h) (lh m c t h) (vh m c t h) (t.val % 68) k e)
    (h : Fin 4) (e : Fin 512) (k : Fin 256) :
    (outsAt0 m c t.val t.isLt).2 (ix3 h e k) = state (kh m c t h) (lh m c t h) (vh m c t h) (t.val % 68 + 1) k e := by
  rw [outsAt0_B m c t h0]
  dsimp only
  rw [state_B]
  exact next_at m c t _ hx h e k

theorem first_outputs (t : Fin cfg0.N) (h0 : t.val % 68 = 0) (h : Fin 4) (i : Fin 64) (e : Fin 512) :
    (outsAt0 m c t.val t.isLt).1 (ix4 0 0 (flip (dOf t) i) (vc h e))
      = out (qh m c t h) (kh m c t h) (lh m c t h) (vh m c t h) (t.val % 68) i e := by
  rw [outsAt0_A m c t h0]
  dsimp only
  rw [out_A]
  exact out_at m c t _ (enter_first m c t h0) h i e

theorem later_outputs (t : Fin cfg0.N) (h0 : ¬ t.val % 68 = 0)
    (hx : ∀ (h : Fin 4) (e : Fin 512) (k : Fin 256), (outsAt0 m c (t.val - 1) (Nat.lt_of_le_of_lt (Nat.sub_le _ _) t.isLt)).2 (ix3 h e k)
      = state (kh m c t h) (lh m c t h) (vh m c t h) (t.val % 68) k e)
    (h : Fin 4) (i : Fin 64) (e : Fin 512) :
    (outsAt0 m c t.val t.isLt).1 (ix4 0 0 (flip (dOf t) i) (vc h e))
      = out (qh m c t h) (kh m c t h) (lh m c t h) (vh m c t h) (t.val % 68) i e := by
  rw [outsAt0_B m c t h0]
  dsimp only
  rw [out_B]
  exact out_at m c t _ hx h i e

theorem mod_pred (n : ℕ) (h0 : ¬ n % 68 = 0) : (n - 1) % 68 + 1 = n % 68 := by omega

/-- A grid point leaves the recurrence's state after its chunk. -/
theorem state_at : ∀ (n : ℕ) (hn : n < cfg0.N) (h : Fin 4) (e : Fin 512) (k : Fin 256),
    (outsAt0 m c n hn).2 (ix3 h e k) = state (kh m c n h) (lh m c n h) (vh m c n h) (n % 68 + 1) k e := by
  intro n
  induction n with
  | zero => exact fun hn => first_state m c ⟨0, hn⟩ rfl
  | succ n ih =>
    intro hn
    by_cases h0 : (n + 1) % 68 = 0
    · exact first_state m c ⟨n + 1, hn⟩ h0
    · refine later_state m c ⟨n + 1, hn⟩ h0 fun h e k => ?_
      have hd : dOf n = dOf (n + 1) := d_pred (n + 1) h0
      have hb : bOf n = bOf (n + 1) := b_pred (n + 1) h0
      have hm : n % 68 + 1 = (n + 1) % 68 := mod_pred (n + 1) h0
      have e1 := ih (Nat.lt_of_succ_lt hn) h e k
      unfold kh lh vh at e1 ⊢
      rw [hd, hb, hm] at e1
      exact e1

theorem state_before (n : ℕ) (hn : n < cfg0.N) (hn' : n - 1 < cfg0.N) (h0 : ¬ n % 68 = 0) (h : Fin 4) (e : Fin 512) (k : Fin 256) :
    (outsAt0 m c (n - 1) hn').2 (ix3 h e k) = state (kh m c n h) (lh m c n h) (vh m c n h) (n % 68) k e := by
  have e1 := state_at m c (n - 1) hn' h e k
  unfold kh lh vh at e1 ⊢
  rw [d_pred n h0, b_pred n h0, mod_pred n h0] at e1
  exact e1

/-- A grid point's output block is the recurrence's outputs of its chunk. -/
theorem outputs_at (t : Fin cfg0.N) (h : Fin 4) (i : Fin 64) (e : Fin 512) :
    (outsAt0 m c t.val t.isLt).1 (ix4 0 0 (flip (dOf t) i) (vc h e))
      = out (qh m c t h) (kh m c t h) (lh m c t h) (vh m c t h) (t.val % 68) i e := by
  by_cases h0 : t.val % 68 = 0
  · exact first_outputs m c t h0 h i e
  · exact later_outputs m c t h0 (state_before m c t.val t.isLt _ h0) h i e

theorem pos_pos (d x : ℕ) (hx : x < 4352) : pos d (pos d x) = x := by
  unfold pos
  split
  · rfl
  · split <;> split <;> omega

theorem pos_row (t : ℕ) (r : Fin 64) : pos (dOf t) (row t r) = t % 68 * 64 + (flip (dOf t) r).val := by
  have h := row_flip t (flip (dOf t) r)
  rw [flip_flip] at h
  rw [h]
  exact pos_pos _ _ (by omega)

/-- The same block, at a storage row and a column, as the specification's result. -/
theorem block_at (t : Fin cfg0.N) (r : Fin 64) (k : Fin 2048) :
    (outsAt0 m c t.val t.isLt).1 (ix4 0 0 r k)
      = Ref.result (a0 m c) (a1 m c) (a2 m c) (a3 m c) (dOf t) (bOf t) ⟨row t r, row_lt t r⟩ k := by
  have hk : k = vc ⟨k.val / 512, by omega⟩ ⟨k.val % 512, Nat.mod_lt _ (by norm_num)⟩ :=
    Fin.ext (by simp only [vc]; omega)
  have hr : r = flip (dOf t) (flip (dOf t) r) := (flip_flip _ _).symm
  have e := outputs_at m c t ⟨k.val / 512, by omega⟩ (flip (dOf t) r) ⟨k.val % 512, Nat.mod_lt _ (by norm_num)⟩
  rw [← hk, ← hr] at e
  refine e.trans ?_
  unfold Ref.result gla
  have h1 : pos (dOf t) (row t r) / 64 = t.val % 68 := by rw [pos_row]; omega
  have h2 : (⟨pos (dOf t) (row t r) % 64, Nat.mod_lt _ (by norm_num)⟩ : Fin 64) = flip (dOf t) r := by
    apply Fin.ext; simp only [pos_row]; omega
  simp only [h1, h2]

/-- The array the kernel is to leave. -/
def G (j : S2x2x4352x2048.Idx) : EReal := Ref.result (a0 m c) (a1 m c) (a2 m c) (a3 m c) (j 0) (j 1) (j 2) (j 3)

theorem emb_at (t : Fin cfg0.N) (y : S1x1x64x2048.Idx) :
    G m c ((win0_6.rect t).emb y)
      = Ref.result (a0 m c) (a1 m c) (a2 m c) (a3 m c) (dOf t) (bOf t) ⟨row t (y 2), row_lt t (y 2)⟩ (y 3) := by
  have e : ∀ a, ((win0_6.rect t).emb y a : ℕ) = win0_6.index t a * win0_6.size a + y a := fun a =>
    Pipeline.Window.rect_emb_val win0_6 t y a
  rw [index6] at e
  have y0 : (y 0).val = 0 := Nat.lt_one_iff.mp (y 0).isLt
  have y1 : (y 1).val = 0 := Nat.lt_one_iff.mp (y 1).isLt
  have h0 : (win0_6.rect t).emb y 0 = dOf t := Fin.ext (by
    rw [e 0, y0]; show t.val / 68 % 2 * 1 + 0 = t.val / 68 % 2; rw [Nat.mul_one, Nat.add_zero])
  have h1 : (win0_6.rect t).emb y 1 = bOf t := Fin.ext (by
    rw [e 1, y1]; show t.val / 136 % 2 * 1 + 0 = t.val / 136 % 2; rw [Nat.mul_one, Nat.add_zero])
  have h2 : (win0_6.rect t).emb y 2 = (⟨row t (y 2), row_lt t (y 2)⟩ : Fin 4352) := Fin.ext (by rw [e 2]; rfl)
  have h3 : (win0_6.rect t).emb y 3 = (y 3 : Fin 2048) := Fin.ext (by
    rw [e 3]; show 0 * 2048 + (y 3).val = (y 3).val; rw [Nat.zero_mul, Nat.zero_add])
  unfold G
  rw [h0, h1, h2, h3]

theorem flushed_eq (t : Fin cfg0.N) :
    (dats m 0 c).flushed 6 t = ((cfg0.win 6).blk t).view.read (Elt Ideal) (G m c) := by
  rw [Value.flushed6]
  funext y
  refine Eq.trans ?_ (emb_at m c t y).symm
  have ey : (cfg0.win 6).xinj (grid0.coords t) y = (ix4 0 0 (y 2) (y 3) : S1x1x64x2048.Idx) := by
    refine (ValueIdx.eq_ix4 (n0 := 1) (n1 := 1) (n2 := 64) (n3 := 2048) ((cfg0.win 6).xinj (grid0.coords t) y)).trans ?_
    exact congrArg₂ (fun p q => ix4 p q (y 2) (y 3)) (Subsingleton.elim (α := Fin 1) _ _) (Subsingleton.elim (α := Fin 1) _ _)
  show (outsAt0 m c t.val t.isLt).1 ((cfg0.win 6).xinj (grid0.coords t) y) = _
  rw [ey]
  exact block_at m c t (y 2) (y 3)

/-- Where a token of a direction is written: its grid point. -/
theorem place_place (d x : ℕ) (hx : x < 68) : place d x < 68 ∧ place d (place d x) = x := by
  unfold place
  by_cases h : d = 0
  · simp [h, hx]
  · simp only [h, if_false]
    constructor <;> split <;> (try split) <;> omega

theorem point_at (b d q : ℕ) (hb : b < 2) (hd : d < 2) (hq : q < 68) : b * 136 + d * 68 + q < 272
    ∧ (b * 136 + d * 68 + q) / 68 % 2 = d ∧ (b * 136 + d * 68 + q) / 136 % 2 = b ∧ (b * 136 + d * 68 + q) % 68 = q := by
  omega

theorem mem_block (j : S2x2x4352x2048.Idx) (t : Fin cfg0.N) (hd : t.val / 68 % 2 = (j 0).val) (hb : t.val / 136 % 2 = (j 1).val)
    (hq : place (t.val / 68 % 2) (t.val % 68) = (j 2).val / 64) : j ∈ (win0_6.rect t).set := by
  have j3 : (j 3).val < 2048 := (j 3).isLt
  rw [Pipeline.Window.mem_rect_iff win0_6 t j rfl, index6, hq, hd, hb]
  intro a
  match a with
  | ⟨0, _⟩ => show (j 0).val * 1 ≤ (j 0).val ∧ (j 0).val < (j 0).val * 1 + 1; omega
  | ⟨1, _⟩ => show (j 1).val * 1 ≤ (j 1).val ∧ (j 1).val < (j 1).val * 1 + 1; omega
  | ⟨2, _⟩ => show (j 2).val / 64 * 64 ≤ (j 2).val ∧ (j 2).val < (j 2).val / 64 * 64 + 64; omega
  | ⟨3, _⟩ => show 0 * 2048 ≤ (j 3).val ∧ (j 3).val < 0 * 2048 + 2048; omega

theorem block_set (t : Fin cfg0.N) : ((cfg0.win 6).blk t).view.set = (win0_6.rect t).set := by
  show (View.slice _ (win0_6.rect t)).set = _
  rw [View.set_slice_whole]

theorem point_of (j : S2x2x4352x2048.Idx) : ∃ t : Fin cfg0.N, t.val / 68 % 2 = (j 0).val ∧ t.val / 136 % 2 = (j 1).val
    ∧ place (t.val / 68 % 2) (t.val % 68) = (j 2).val / 64 := by
  have hp := place_place (j 0).val ((j 2).val / 64) (Nat.div_lt_of_lt_mul (j 2).isLt)
  have ht := point_at (j 1).val (j 0).val (place (j 0).val ((j 2).val / 64)) (j 1).isLt (j 0).isLt hp.1
  refine ⟨⟨(j 1).val * 136 + (j 0).val * 68 + place (j 0).val ((j 2).val / 64), lt_of_lt_of_eq ht.1 N_0.symm⟩, ht.2.1, ht.2.2.1, ?_⟩
  exact (congrArg₂ place ht.2.1 ht.2.2.2).trans hp.2

theorem cover (j : S2x2x4352x2048.Idx) :
    ∃ t : Fin cfg0.N, (cfg0.win 6).flush t = true ∧ j ∈ ((cfg0.win 6).blk t).view.set := by
  obtain ⟨t, hd, hb, hq⟩ := point_of j
  refine ⟨t, flush0_6 t, ?_⟩
  rw [block_set]
  exact mem_block j t hd hb hq

/-- THE KERNEL'S RESULT: the final array is the specification's, at every index. -/
theorem final : (dats m 0 c).arrAt 6 cfg0.N = G m c :=
  (dats m 0 c).arrAt_eq_of_cover 6 (G m c) (fun t _ => flushed_eq m c t) cover

end Cert.GLA.Ker
-- ==== Proof.RefRun.lean ====
/- The reference's run, as its scan step iterated: what the operations before the loop leave, what one
   trip does to the carried values, and the result after the last trip. -/
module

public import proofs.«01_k».proof.Proof.Gen.ReferenceIdeal.Run
public import proofs.«01_k».proof.Proof.Gen.ReferenceIdeal.Step

@[expose] public section

noncomputable section

namespace Cert.GLA.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The scan's state, read off a valuation of the buffers. -/
def stateOf (V : Valuation τ sig (Elt F)) : State F where
  main_v115_6 := V (Proc.devRef .tc main_v115_6)
  main_v115_7 := V (Proc.devRef .tc main_v115_7)
  main_v115_0 := V (Proc.devRef .tc main_v115_0)
  main_v115_1 := V (Proc.devRef .tc main_v115_1)
  main_v115_2 := V (Proc.devRef .tc main_v115_2)
  main_v115_3 := V (Proc.devRef .tc main_v115_3)
  main_v115_4 := V (Proc.devRef .tc main_v115_4)

/-- The buffer of the trip's number holds `j`. -/
def Counts (V : Valuation τ sig (Elt F)) (j : ℕ) : Prop :=
  V (Proc.devRef .tc main_v115_5) = constantI S_ 32 (BitVec.ofNat 32 j)

/-- One trip's new carried matrix. -/
theorem trip_6 (V : Valuation τ sig (Elt F)) (j : ℕ) (h : Counts V j) :
    Cert.ReferenceIdeal.Value.step_main_v115_6 V = (step j (stateOf V)).main_v115_6 := by
  unfold Counts at h
  unfold Cert.ReferenceIdeal.Value.step_main_v115_6
  rw [h]
  rfl

/-- One trip's new stack of outputs. -/
theorem trip_7 (V : Valuation τ sig (Elt F)) (j : ℕ) (h : Counts V j) :
    Cert.ReferenceIdeal.Value.step_main_v115_7 V = (step j (stateOf V)).main_v115_7 := by
  unfold Counts at h
  unfold Cert.ReferenceIdeal.Value.step_main_v115_7
  rw [h]
  rfl

/-- One trip's new number. -/
theorem trip_5 (V : Valuation τ sig (Elt F)) (j : ℕ) (h : Counts V j) : Counts (STEP V) (j + 1) := by
  refine (STEP_main_v115_5 V).trans ?_
  unfold Counts at h
  unfold step_main_v115_5
  rw [h]
  funext i
  show BitVec.ofNat 32 j + 1#32 = BitVec.ofNat 32 (j + 1)
  simp only [BitVec.ofNat_add]

/-- One trip of the loop is one step of the state. -/
theorem trip (V : Valuation τ sig (Elt F)) (j : ℕ) (h : Counts V j) :
    stateOf (STEP V) = step j (stateOf V) := by
  have e : ∀ s t : State F, s.main_v115_6 = t.main_v115_6 → s.main_v115_7 = t.main_v115_7 →
      s.main_v115_0 = t.main_v115_0 → s.main_v115_1 = t.main_v115_1 → s.main_v115_2 = t.main_v115_2 →
      s.main_v115_3 = t.main_v115_3 → s.main_v115_4 = t.main_v115_4 → s = t := by
    rintro ⟨⟩ ⟨⟩ h1 h2 h3 h4 h5 h6 h7
    simp only at h1 h2 h3 h4 h5 h6 h7
    subst h1 h2 h3 h4 h5 h6 h7
    rfl
  exact e _ _ ((STEP_main_v115_6 V).trans (trip_6 V j h)) ((STEP_main_v115_7 V).trans (trip_7 V j h))
    (STEP_main_v115_0 V) (STEP_main_v115_1 V) (STEP_main_v115_2 V) (STEP_main_v115_3 V) (STEP_main_v115_4 V)

variable (m : (ℓ : Loc nD τ sig) → Buf (Elt F) ℓ) (ρ : Dev nD → PrngReg) (c : Dev nD)

set_option maxRecDepth 65536 in
set_option maxHeartbeats 4000000 in
/-- The buffer of the trip's number holds zero when the loop is entered. -/
theorem entry_counts : Counts (entryContents preI m c) 0 := by
  unfold Counts
  simp only [entryContents, afterL_cons, afterL_nil]
  after_reads_simp
  simp only [id_eq]

/-- Two equal pairs of pieces lie end to end alike. -/
theorem concat_congr {α : Type} {t s1 s2 : Shape} {a : Fin t.rank} {x x' : s1.Idx → α} {y y' : s2.Idx → α}
    (hx : x = x') (hy : y = y') (h : Shape.Concatenates [s1, s2] t a) :
    concatenate t a [⟨s1, x⟩, ⟨s2, y⟩] h = concatenate t a [⟨s1, x'⟩, ⟨s2, y'⟩] h := by
  subst hx hy; rfl

attribute [local congr] concat_congr

set_option maxRecDepth 65536 in
set_option maxHeartbeats 4000000 in
/-- The carried matrix starts at zero. -/
theorem entry_6 : (entryContents preI m c) (Proc.devRef .tc main_v115_6) = K_main_v68 := by
  simp only [entryContents, afterL_cons, afterL_nil]
  after_reads_simp
  rfl

set_option maxRecDepth 65536 in
set_option maxHeartbeats 4000000 in
/-- The stack of outputs starts at zero. -/
theorem entry_7 : (entryContents preI m c) (Proc.devRef .tc main_v115_7) = K_main_v114 := by
  simp only [entryContents, afterL_cons, afterL_nil]
  after_reads_simp
  rfl

set_option maxRecDepth 65536 in
set_option maxHeartbeats 4000000 in
/-- The decayed queries the loop reads. -/
theorem entry_0 : (entryContents preI m c) (Proc.devRef .tc main_v115_0) = A_main_v109 (m ((c.tc : Thread nD τ).loc main_arg0)) (m ((c.tc : Thread nD τ).loc main_arg1)) (m ((c.tc : Thread nD τ).loc main_arg2)) (m ((c.tc : Thread nD τ).loc main_arg3)) := by
  simp only [entryContents, afterL_cons, afterL_nil]
  after_reads_simp
  simp only [id_eq, K_main_cst, K_main_v6, K_main_call0_cst, K_main_call0_v0, K_main_call0_v2, K_main_call0_v5, K_main_cst_0, K_main_v19, K_main_cst_1, K_main_v32, K_main_call1_cst, K_main_call1_v0, K_main_call1_v2, K_main_call1_v5, K_main_cst_2, K_main_v45, K_main_cst_3, K_main_v68, K_main_call2_cst, K_main_call2_v0, K_main_v87, K_main_v88, K_main_v89, K_main_v90, K_main_v91, K_main_v92, K_main_v93, K_main_v94, K_main_v95, K_main_v96, K_main_v97, K_main_cst_4, K_main_call3_v0, K_main_call3_v1, K_main_call3_v2, K_main_cst_5, K_main_v114, K_main_c, A_main_v0, A_main_v1, A_main_v2, A_main_v4, A_main_v5, A_main_v7, A_main_v8, A_main_v9, A_main_v10, A_main_v11, A_main_v12, A_main_v13, A_main_v14, A_main_v15, A_main_v16, A_main_call0_v1, A_main_call0_v3, A_main_call0_v4, A_main_call0_v6, A_main_call0_v7, A_main_call0_v8, A_main_call0_v9, A_main_call0_v10, A_main_call0_v11, A_main_v17, A_main_v18, A_main_v20, A_main_v21, A_main_v22, A_main_v23, A_main_v24, A_main_v25, A_main_v26, A_main_v27, A_main_v28, A_main_v30, A_main_v31, A_main_v33, A_main_v34, A_main_v35, A_main_v36, A_main_v37, A_main_v38, A_main_v39, A_main_v40, A_main_v41, A_main_v42, A_main_call1_v1, A_main_call1_v3, A_main_call1_v4, A_main_call1_v6, A_main_call1_v7, A_main_call1_v8, A_main_call1_v9, A_main_call1_v10, A_main_call1_v11, A_main_v43, A_main_v44, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, A_main_v64, A_main_v65, A_main_v66, A_main_v67, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v98, A_main_v99, A_main_v100, A_main_v101, A_main_v102, A_main_v103, A_main_v104, A_main_v105, A_main_v106, A_main_v107, A_main_v108, A_main_v109, A_main_v110, A_main_v111, A_main_v112, A_main_v113]
  rfl

set_option maxRecDepth 65536 in
set_option maxHeartbeats 4000000 in
/-- The keys the loop adds to its matrix. -/
theorem entry_1 : (entryContents preI m c) (Proc.devRef .tc main_v115_1) = A_main_v110 (m ((c.tc : Thread nD τ).loc main_arg0)) (m ((c.tc : Thread nD τ).loc main_arg1)) (m ((c.tc : Thread nD τ).loc main_arg2)) (m ((c.tc : Thread nD τ).loc main_arg3)) := by
  simp only [entryContents, afterL_cons, afterL_nil]
  after_reads_simp
  simp only [id_eq, K_main_cst, K_main_v6, K_main_call0_cst, K_main_call0_v0, K_main_call0_v2, K_main_call0_v5, K_main_cst_0, K_main_v19, K_main_cst_1, K_main_v32, K_main_call1_cst, K_main_call1_v0, K_main_call1_v2, K_main_call1_v5, K_main_cst_2, K_main_v45, K_main_cst_3, K_main_v68, K_main_call2_cst, K_main_call2_v0, K_main_v87, K_main_v88, K_main_v89, K_main_v90, K_main_v91, K_main_v92, K_main_v93, K_main_v94, K_main_v95, K_main_v96, K_main_v97, K_main_cst_4, K_main_call3_v0, K_main_call3_v1, K_main_call3_v2, K_main_cst_5, K_main_v114, K_main_c, A_main_v0, A_main_v1, A_main_v2, A_main_v4, A_main_v5, A_main_v7, A_main_v8, A_main_v9, A_main_v10, A_main_v11, A_main_v12, A_main_v13, A_main_v14, A_main_v15, A_main_v16, A_main_call0_v1, A_main_call0_v3, A_main_call0_v4, A_main_call0_v6, A_main_call0_v7, A_main_call0_v8, A_main_call0_v9, A_main_call0_v10, A_main_call0_v11, A_main_v17, A_main_v18, A_main_v20, A_main_v21, A_main_v22, A_main_v23, A_main_v24, A_main_v25, A_main_v26, A_main_v27, A_main_v28, A_main_v30, A_main_v31, A_main_v33, A_main_v34, A_main_v35, A_main_v36, A_main_v37, A_main_v38, A_main_v39, A_main_v40, A_main_v41, A_main_v42, A_main_call1_v1, A_main_call1_v3, A_main_call1_v4, A_main_call1_v6, A_main_call1_v7, A_main_call1_v8, A_main_call1_v9, A_main_call1_v10, A_main_call1_v11, A_main_v43, A_main_v44, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, A_main_v64, A_main_v65, A_main_v66, A_main_v67, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v98, A_main_v99, A_main_v100, A_main_v101, A_main_v102, A_main_v103, A_main_v104, A_main_v105, A_main_v106, A_main_v107, A_main_v108, A_main_v109, A_main_v110, A_main_v111, A_main_v112, A_main_v113]
  rfl

set_option maxRecDepth 65536 in
set_option maxHeartbeats 4000000 in
/-- The values the loop reads. -/
theorem entry_2 : (entryContents preI m c) (Proc.devRef .tc main_v115_2) = A_main_v111 (m ((c.tc : Thread nD τ).loc main_arg0)) (m ((c.tc : Thread nD τ).loc main_arg1)) (m ((c.tc : Thread nD τ).loc main_arg2)) (m ((c.tc : Thread nD τ).loc main_arg3)) := by
  simp only [entryContents, afterL_cons, afterL_nil]
  after_reads_simp
  simp only [id_eq, K_main_cst, K_main_v6, K_main_call0_cst, K_main_call0_v0, K_main_call0_v2, K_main_call0_v5, K_main_cst_0, K_main_v19, K_main_cst_1, K_main_v32, K_main_call1_cst, K_main_call1_v0, K_main_call1_v2, K_main_call1_v5, K_main_cst_2, K_main_v45, K_main_cst_3, K_main_v68, K_main_call2_cst, K_main_call2_v0, K_main_v87, K_main_v88, K_main_v89, K_main_v90, K_main_v91, K_main_v92, K_main_v93, K_main_v94, K_main_v95, K_main_v96, K_main_v97, K_main_cst_4, K_main_call3_v0, K_main_call3_v1, K_main_call3_v2, K_main_cst_5, K_main_v114, K_main_c, A_main_v0, A_main_v1, A_main_v2, A_main_v4, A_main_v5, A_main_v7, A_main_v8, A_main_v9, A_main_v10, A_main_v11, A_main_v12, A_main_v13, A_main_v14, A_main_v15, A_main_v16, A_main_call0_v1, A_main_call0_v3, A_main_call0_v4, A_main_call0_v6, A_main_call0_v7, A_main_call0_v8, A_main_call0_v9, A_main_call0_v10, A_main_call0_v11, A_main_v17, A_main_v18, A_main_v20, A_main_v21, A_main_v22, A_main_v23, A_main_v24, A_main_v25, A_main_v26, A_main_v27, A_main_v28, A_main_v30, A_main_v31, A_main_v33, A_main_v34, A_main_v35, A_main_v36, A_main_v37, A_main_v38, A_main_v39, A_main_v40, A_main_v41, A_main_v42, A_main_call1_v1, A_main_call1_v3, A_main_call1_v4, A_main_call1_v6, A_main_call1_v7, A_main_call1_v8, A_main_call1_v9, A_main_call1_v10, A_main_call1_v11, A_main_v43, A_main_v44, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, A_main_v64, A_main_v65, A_main_v66, A_main_v67, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v98, A_main_v99, A_main_v100, A_main_v101, A_main_v102, A_main_v103, A_main_v104, A_main_v105, A_main_v106, A_main_v107, A_main_v108, A_main_v109, A_main_v110, A_main_v111, A_main_v112, A_main_v113]
  rfl

set_option maxRecDepth 65536 in
set_option maxHeartbeats 4000000 in
/-- The decays over a chunk the loop reads. -/
theorem entry_3 : (entryContents preI m c) (Proc.devRef .tc main_v115_3) = A_main_v112 (m ((c.tc : Thread nD τ).loc main_arg0)) (m ((c.tc : Thread nD τ).loc main_arg1)) (m ((c.tc : Thread nD τ).loc main_arg2)) (m ((c.tc : Thread nD τ).loc main_arg3)) := by
  simp only [entryContents, afterL_cons, afterL_nil]
  after_reads_simp
  simp only [id_eq, K_main_cst, K_main_v6, K_main_call0_cst, K_main_call0_v0, K_main_call0_v2, K_main_call0_v5, K_main_cst_0, K_main_v19, K_main_cst_1, K_main_v32, K_main_call1_cst, K_main_call1_v0, K_main_call1_v2, K_main_call1_v5, K_main_cst_2, K_main_v45, K_main_cst_3, K_main_v68, K_main_call2_cst, K_main_call2_v0, K_main_v87, K_main_v88, K_main_v89, K_main_v90, K_main_v91, K_main_v92, K_main_v93, K_main_v94, K_main_v95, K_main_v96, K_main_v97, K_main_cst_4, K_main_call3_v0, K_main_call3_v1, K_main_call3_v2, K_main_cst_5, K_main_v114, K_main_c, A_main_v0, A_main_v1, A_main_v2, A_main_v4, A_main_v5, A_main_v7, A_main_v8, A_main_v9, A_main_v10, A_main_v11, A_main_v12, A_main_v13, A_main_v14, A_main_v15, A_main_v16, A_main_call0_v1, A_main_call0_v3, A_main_call0_v4, A_main_call0_v6, A_main_call0_v7, A_main_call0_v8, A_main_call0_v9, A_main_call0_v10, A_main_call0_v11, A_main_v17, A_main_v18, A_main_v20, A_main_v21, A_main_v22, A_main_v23, A_main_v24, A_main_v25, A_main_v26, A_main_v27, A_main_v28, A_main_v30, A_main_v31, A_main_v33, A_main_v34, A_main_v35, A_main_v36, A_main_v37, A_main_v38, A_main_v39, A_main_v40, A_main_v41, A_main_v42, A_main_call1_v1, A_main_call1_v3, A_main_call1_v4, A_main_call1_v6, A_main_call1_v7, A_main_call1_v8, A_main_call1_v9, A_main_call1_v10, A_main_call1_v11, A_main_v43, A_main_v44, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, A_main_v64, A_main_v65, A_main_v66, A_main_v67, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v98, A_main_v99, A_main_v100, A_main_v101, A_main_v102, A_main_v103, A_main_v104, A_main_v105, A_main_v106, A_main_v107, A_main_v108, A_main_v109, A_main_v110, A_main_v111, A_main_v112, A_main_v113]
  rfl

set_option maxRecDepth 65536 in
set_option maxHeartbeats 4000000 in
/-- The within-chunk outputs the loop reads. -/
theorem entry_4 : (entryContents preI m c) (Proc.devRef .tc main_v115_4) = A_main_v113 (m ((c.tc : Thread nD τ).loc main_arg0)) (m ((c.tc : Thread nD τ).loc main_arg1)) (m ((c.tc : Thread nD τ).loc main_arg2)) (m ((c.tc : Thread nD τ).loc main_arg3)) := by
  simp only [entryContents, afterL_cons, afterL_nil]
  after_reads_simp
  simp only [id_eq, K_main_cst, K_main_v6, K_main_call0_cst, K_main_call0_v0, K_main_call0_v2, K_main_call0_v5, K_main_cst_0, K_main_v19, K_main_cst_1, K_main_v32, K_main_call1_cst, K_main_call1_v0, K_main_call1_v2, K_main_call1_v5, K_main_cst_2, K_main_v45, K_main_cst_3, K_main_v68, K_main_call2_cst, K_main_call2_v0, K_main_v87, K_main_v88, K_main_v89, K_main_v90, K_main_v91, K_main_v92, K_main_v93, K_main_v94, K_main_v95, K_main_v96, K_main_v97, K_main_cst_4, K_main_call3_v0, K_main_call3_v1, K_main_call3_v2, K_main_cst_5, K_main_v114, K_main_c, A_main_v0, A_main_v1, A_main_v2, A_main_v4, A_main_v5, A_main_v7, A_main_v8, A_main_v9, A_main_v10, A_main_v11, A_main_v12, A_main_v13, A_main_v14, A_main_v15, A_main_v16, A_main_call0_v1, A_main_call0_v3, A_main_call0_v4, A_main_call0_v6, A_main_call0_v7, A_main_call0_v8, A_main_call0_v9, A_main_call0_v10, A_main_call0_v11, A_main_v17, A_main_v18, A_main_v20, A_main_v21, A_main_v22, A_main_v23, A_main_v24, A_main_v25, A_main_v26, A_main_v27, A_main_v28, A_main_v30, A_main_v31, A_main_v33, A_main_v34, A_main_v35, A_main_v36, A_main_v37, A_main_v38, A_main_v39, A_main_v40, A_main_v41, A_main_v42, A_main_call1_v1, A_main_call1_v3, A_main_call1_v4, A_main_call1_v6, A_main_call1_v7, A_main_call1_v8, A_main_call1_v9, A_main_call1_v10, A_main_call1_v11, A_main_v43, A_main_v44, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, A_main_v64, A_main_v65, A_main_v66, A_main_v67, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v98, A_main_v99, A_main_v100, A_main_v101, A_main_v102, A_main_v103, A_main_v104, A_main_v105, A_main_v106, A_main_v107, A_main_v108, A_main_v109, A_main_v110, A_main_v111, A_main_v112, A_main_v113]
  rfl

/-- The scan's first state, of the four arguments. -/
abbrev first : State F := init (m ((c.tc : Thread nD τ).loc main_arg0)) (m ((c.tc : Thread nD τ).loc main_arg1)) (m ((c.tc : Thread nD τ).loc main_arg2)) (m ((c.tc : Thread nD τ).loc main_arg3))

/-- The loop is entered at the first state. -/
theorem entry : stateOf (entryContents preI m c) = first m c := by
  unfold stateOf first init
  rw [entry_6, entry_7, entry_0, entry_1, entry_2, entry_3, entry_4]

/-- Before trip `k` the buffers hold the `k`-th state of the sequence that `step` makes. -/
theorem iterates (it : ℕ → State F) (h0 : it 0 = first m c) (hs : ∀ n, it (n + 1) = step n (it n)) :
    ∀ k, stateOf (STEP^[k] (entryContents preI m c)) = it k ∧ Counts (STEP^[k] (entryContents preI m c)) k
  | 0 => ⟨(entry m c).trans h0.symm, entry_counts m c⟩
  | k + 1 => by
    obtain ⟨e, n⟩ := iterates it h0 hs k
    rw [Function.iterate_succ_apply', hs k, ← e]
    exact ⟨trip _ k n, trip_5 _ k n⟩

set_option maxRecDepth 65536 in
/-- The result is read off the last state. -/
theorem out_eq (V : Valuation τ sig (Elt F)) : out_main_v130 V = R_main_v130 (stateOf V) := by
  unfold out_main_v130 R_main_v130
  rfl

/-- Every weakly fair execution of the reference ends with its result read off the state after 68 steps, and its
    four arguments as they were. -/
theorem run (it : Dev nD → ℕ → State F) (h0 : ∀ c, it c 0 = first m c)
    (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v130) = R_main_v130 (it c 68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (Value.run m ρ)
  obtain ⟨h1, h2⟩ := h c
  refine ⟨h1.trans ?_, h2⟩
  rw [out_eq, (iterates m c (it c) (h0 c) (hs c) 68).1]

end Cert.GLA.RefRun

end
-- ==== Proof.Product.lean ====
/- A projection of tokens: rows of a batch of sequences times a weight matrix, as one sum per entry. Names no program. -/
module

public import Idealize.ShloMosaic.Lib.Claim
public import Idealize.ShloMosaic.Lib.KernelVsHost
public import Idealize.ShloMosaic.Lib.Pointwise
public import Idealize.ShloMosaic.Lib.Pipeline.FrameBody
public import Idealize.ShloMosaic.Lib.ValueIdx

@[expose] public section

noncomputable section

namespace Cert.Projection

open Idealize.ShloMosaic
open scoped BigOperators

/-- Entry `(b, s, n)` of a batch of sequences times the weights. -/
def product {B L K N : ℕ} (x : (⟨3, ![B, L, K]⟩ : Shape).Idx → EReal) (w : (⟨2, ![K, N]⟩ : Shape).Idx → EReal)
    (b : Fin B) (s : Fin L) (n : Fin N) : EReal := ∑ k : Fin K, x (ix3 b s k) * w (ix2 k n)

/-- The sequence and the token that row `r` of the flattened batch is. -/
def seqOf {B L M : ℕ} (hM : M = B * L) (r : Fin M) : Fin B :=
  ⟨r.val / L, Nat.div_lt_of_lt_mul (lt_of_lt_of_eq r.isLt (hM.trans (Nat.mul_comm B L)))⟩
def tokOf {B L M : ℕ} (hM : M = B * L) (r : Fin M) : Fin L :=
  ⟨r.val % L, Nat.mod_lt _ (Nat.pos_of_ne_zero fun h => Nat.not_lt_zero _ (lt_of_lt_of_eq r.isLt (by rw [hM, h, Nat.mul_zero])))⟩

/-- A batch of sequences flattened to rows, read at a row. -/
theorem rows_read {α : Type} {B L M K : ℕ} (hM : M = B * L) (x : (⟨3, ![B, L, K]⟩ : Shape).Idx → α)
    (hs : (⟨3, ![B, L, K]⟩ : Shape).ShapeCasts ⟨2, ![M, K]⟩) (r : Fin M) (k : Fin K) :
    shapeCast ⟨2, ![M, K]⟩ x hs (ix2 r k) = x (ix3 (seqOf hM r) (tokOf hM r) k) := by
  rw [Pointwise.shapeCast_apply]
  refine congrArg x (Shape.reshapeEquiv_eq_of_vals _ _ _ _ _ (rowMajor_val3 _ _ _ rfl rfl)
    (rowMajor_val2 _ _ rfl) ?_)
  show r.val / L * (L * K) + r.val % L * K + k.val = r.val * K + k.val
  symm
  have e := Nat.div_add_mod r.val L
  calc r.val * K + k.val = (L * (r.val / L) + r.val % L) * K + k.val := by rw [e]
    _ = _ := by ring

/-- A block stored whole at its origin, and a block loaded whole. -/
theorem stored_whole {M N : ℕ} (inb : ∀ a, (![0, 0] : Fin 2 → ℕ) a + (⟨2, ![M, N]⟩ : Shape).size a ≤ (⟨2, ![M, N]⟩ : Shape).size a)
    (w : (⟨2, ![M, N]⟩ : Shape).Idx → EReal) (r : Fin M) (n : Fin N) :
    View.canon (Val := Elt Ideal) (s := ⟨2, ![M, N]⟩) (e := .f32) [⟨Rect.unit (s := ⟨2, ![M, N]⟩) ![0, 0] (⟨2, ![M, N]⟩ : Shape).size inb, w⟩] (ix2 r n)
      = w (ix2 r n) := by
  have e : (ix2 r n : (⟨2, ![M, N]⟩ : Shape).Idx)
      = (Rect.unit (s := ⟨2, ![M, N]⟩) ![0, 0] (⟨2, ![M, N]⟩ : Shape).size inb).emb (ix2 r n) :=
    funext fun a => Fin.ext (by fin_cases a <;> simp [ix2])
  refine (congrArg _ e).trans ?_
  exact View.canon_cons_emb _ _ _ _

end Cert.Projection
-- ==== Proof.EvenInValue.lean ====
/- The call of the even layers' input projection of the latent tokens: every block it writes is a block of the product, and the blocks cover
   the array; the reference's array is the same product. -/
module

public import proofs.«01_k».proof.Proof.Product
public import proofs.«01_k».proof.Defs
public import proofs.«01_k».proof.Proof.Gen.EvenInIdeal.Value
public import proofs.«01_k».proof.Proof.Gen.EvenInReferenceIdeal.Run
public import Idealize.ShloMosaic.Lib.Pipeline.ValueKit.Basic
public import Idealize.ShloMosaic.Adequacy
public import Idealize.ShloMosaic.Init

@[expose] public section

set_option maxRecDepth 16384

noncomputable section

namespace Cert.Projection.EvenIn

open Idealize Idealize.ShloMosaic Idealize.ShloMosaic.TcCoe Idealize.ShloMosaic.Tactic Idealize.SL.Sem
open Cert.EvenInIdeal Cert.EvenInIdeal.Gen
open Idealize.ShloMosaic.Pipeline (Dat Cfg Window)
open scoped BigOperators

theorem index0 : ∀ t : Fin grid0.N, win0_0.index t = ![t.val % 16, 0] := by decide +kernel
theorem index1 : ∀ t : Fin grid0.N, win0_1.index t = ![0, t.val / 16] := by decide +kernel
theorem index2 : ∀ t : Fin grid0.N, win0_2.index t = ![t.val % 16, t.val / 16] := by decide +kernel

theorem point_lt (t : Fin cfg0.N) : t.val < 336 := lt_of_lt_of_eq t.isLt N_0

/-- The row and the column of the array that an entry of grid point `t`'s block is. -/
def row (t : Fin cfg0.N) (r : Fin 512) : Fin 8192 := ⟨t.val % 16 * 512 + r.val, by omega⟩
def col (t : Fin cfg0.N) (n : Fin 640) : Fin 13440 := ⟨t.val / 16 * 640 + n.val, by have := point_lt t; omega⟩

/-- What one grid point computes from its two blocks. -/
theorem point_at (x : Vec Ideal S512x2048 .f32) (y : Vec Ideal S2048x640 .f32) (r : Fin 512) (n : Fin 640) :
    k0_pay1 x y (ix2 r n) = ∑ k : Fin 2048, x (ix2 r k) * y (ix2 k n) := by
  unfold k0_pay1
  pointwise

theorem out_at (x : Vec Ideal S512x2048 .f32) (y : Vec Ideal S2048x640 .f32) (r : Fin 512) (n : Fin 640) :
    out0_2 x y (ix2 r n) = ∑ k : Fin 2048, x (ix2 r k) * y (ix2 k n) := by
  refine Eq.trans ?_ (point_at x y r n)
  unfold out0_2
  have ex : View.ld x r0_0 = x := funext fun i => congrArg x (funext fun a => Fin.ext (by fin_cases a <;> simp [Rect.emb]))
  have ey : View.ld y r0_1 = y := funext fun i => congrArg y (funext fun a => Fin.ext (by fin_cases a <;> simp [Rect.emb]))
  rw [ex, ey]
  exact stored_whole _ _ r n

variable (m : (ℓ : Loc nD τ sig) → Buf (Elt Ideal) ℓ) (c : Dev nD)

/-- The arguments as arrays. -/
abbrev a0 : (⟨3, ![2, 4096, 2048]⟩ : Shape).Idx → EReal := m (c.tc.loc main_arg0)
abbrev a1 : (⟨2, ![2048, 13440]⟩ : Shape).Idx → EReal := m (c.tc.loc main_arg1)

/-- The array the call is to leave. -/
def entry (x : (⟨3, ![2, 4096, 2048]⟩ : Shape).Idx → EReal) (w : (⟨2, ![2048, 13440]⟩ : Shape).Idx → EReal) (r : Fin 8192) (n : Fin 13440) : EReal :=
  product x w (seqOf (B := 2) (L := 4096) rfl r) (tokOf (B := 2) (L := 4096) rfl r) n
def G (j : S8192x13440.Idx) : EReal := entry (a0 m c) (a1 m c) (j 0) (j 1)

/-- The rows the call reads, and its weights. -/
theorem rows_at (r : Fin 8192) (k : Fin 2048) : V m c main_v0 (ix2 r k)
    = a0 m c (ix3 (seqOf (B := 2) (L := 4096) rfl r) (tokOf (B := 2) (L := 4096) rfl r) k) := by
  unfold V
  simp only [hostOps0]
  after_results
  exact rows_read rfl (a0 m c) shapeCasts_S2x4096x2048_S8192x2048 r k
theorem weights_at (k : Fin 2048) (n : Fin 13440) : V m c main_arg1 (ix2 k n) = a1 m c (ix2 k n) := congrFun (V_main_arg1 m c) _

/-- The two blocks a grid point reads. -/
theorem block0_at (t : Fin cfg0.N) (r : Fin 512) (k : Fin 2048) : iblk m c 0 t (ix2 r k) = V m c main_v0 (ix2 (row t r) k) := by
  refine congrArg (V m c main_v0) (funext fun a => Fin.ext ?_)
  refine (Pipeline.Window.rect_emb_val win0_0 t _ a).trans ?_
  rw [index0]
  fin_cases a <;> simp [ix2, row]
theorem block1_at (t : Fin cfg0.N) (k : Fin 2048) (n : Fin 640) : iblk m c 1 t (ix2 k n) = V m c main_arg1 (ix2 k (col t n)) := by
  refine congrArg (V m c main_arg1) (funext fun a => Fin.ext ?_)
  refine (Pipeline.Window.rect_emb_val win0_1 t _ a).trans ?_
  rw [index1]
  fin_cases a <;> simp [ix2, col]

/-- A grid point's output block. -/
theorem block_at (t : Fin cfg0.N) (r : Fin 512) (n : Fin 640) :
    out0_2 (iblk m c 0 t) (iblk m c 1 t) (ix2 r n) = entry (a0 m c) (a1 m c) (row t r) (col t n) := by
  refine (out_at (iblk m c 0 t) (iblk m c 1 t) r n).trans ?_
  refine Eq.trans (b := ∑ k : Fin 2048, a0 m c (ix3 (seqOf (B := 2) (L := 4096) rfl (row t r)) (tokOf (B := 2) (L := 4096) rfl (row t r)) k) * a1 m c (ix2 k (col t n))) (Finset.sum_congr rfl fun k _ => ?_) (rfl)
  exact congrArg₂ (· * ·) ((block0_at m c t r k).trans (rows_at m c _ k)) ((block1_at m c t k n).trans (weights_at m c k _))

theorem emb_at (t : Fin cfg0.N) (y : S512x640.Idx) : G m c ((win0_2.rect t).emb y) = entry (a0 m c) (a1 m c) (row t (y 0)) (col t (y 1)) := by
  have e : ∀ a, ((win0_2.rect t).emb y a : ℕ) = win0_2.index t a * win0_2.size a + y a := fun a =>
    Pipeline.Window.rect_emb_val win0_2 t y a
  rw [index2] at e
  have h0 : (win0_2.rect t).emb y 0 = row t (y 0) := Fin.ext (by rw [e 0]; rfl)
  have h1 : (win0_2.rect t).emb y 1 = col t (y 1) := Fin.ext (by rw [e 1]; rfl)
  unfold G
  rw [h0, h1]

theorem flushed_eq (t : Fin cfg0.N) : (dats m 0 c).flushed 2 t = ((cfg0.win 2).blk t).view.read (Elt Ideal) (G m c) := by
  rw [Value.flushed2]
  funext y
  refine Eq.trans ?_ (emb_at m c t y).symm
  have ey : (cfg0.win 2).xinj (grid0.coords t) y = (ix2 (y 0) (y 1) : S512x640.Idx) :=
    ValueIdx.eq_ix2 (n0 := 512) (n1 := 640) ((cfg0.win 2).xinj (grid0.coords t) y)
  show out0_2 (iblk m c 0 t) (iblk m c 1 t) ((cfg0.win 2).xinj (grid0.coords t) y) = _
  rw [ey]
  exact block_at m c t (y 0) (y 1)

theorem mem_block (j : S8192x13440.Idx) (t : Fin cfg0.N) (h0 : t.val % 16 = (j 0).val / 512) (h1 : t.val / 16 = (j 1).val / 640) :
    j ∈ (win0_2.rect t).set := by
  rw [Pipeline.Window.mem_rect_iff win0_2 t j rfl, index2, h0, h1]
  intro a
  match a with
  | ⟨0, _⟩ => show (j 0).val / 512 * 512 ≤ (j 0).val ∧ (j 0).val < (j 0).val / 512 * 512 + 512; omega
  | ⟨1, _⟩ => show (j 1).val / 640 * 640 ≤ (j 1).val ∧ (j 1).val < (j 1).val / 640 * 640 + 640; omega

theorem block_set (t : Fin cfg0.N) : ((cfg0.win 2).blk t).view.set = (win0_2.rect t).set := by
  show (View.slice _ (win0_2.rect t)).set = _
  rw [View.set_slice_whole]

theorem place_of (p q : ℕ) (hp : p < 16) (hq : q < 21) : q * 16 + p < 336 ∧ (q * 16 + p) % 16 = p ∧ (q * 16 + p) / 16 = q := by
  omega

theorem cover (j : S8192x13440.Idx) : ∃ t : Fin cfg0.N, (cfg0.win 2).flush t = true ∧ j ∈ ((cfg0.win 2).blk t).view.set := by
  have hp := place_of ((j 0).val / 512) ((j 1).val / 640) (Nat.div_lt_of_lt_mul (j 0).isLt) (Nat.div_lt_of_lt_mul (j 1).isLt)
  refine ⟨⟨(j 1).val / 640 * 16 + (j 0).val / 512, lt_of_lt_of_eq hp.1 N_0.symm⟩, flush0_2 _, ?_⟩
  rw [block_set]
  exact mem_block j _ hp.2.1 hp.2.2

/-- The call's array is the product, at every index. -/
theorem final : (dats m 0 c).arrAt 2 cfg0.N = G m c :=
  (dats m 0 c).arrAt_eq_of_cover 2 (G m c) (fun t _ => flushed_eq m c t) cover

/-- The reference's product, read at a sequence, a token and a column. -/
theorem dot_at (x : FVec Ideal Cert.EvenInReferenceIdeal.S2x4096x2048 .f32) (w : FVec Ideal Cert.EvenInReferenceIdeal.S2048x13440 .f32) (b : Fin 2) (s : Fin 4096) (n : Fin 13440) :
    Host.dotGeneral Cert.EvenInReferenceIdeal.dot_S2x4096x2048_S2048x13440_S2x4096x13440_2_0_01_1_n_n none x w (ix3 b s n) = product x w b s n := by
  pointwise [Cert.EvenInReferenceIdeal.dot_S2x4096x2048_S2048x13440_S2x4096x13440_2_0_01_1_n_n]
  rfl

theorem reference_at (x : FVec Ideal Cert.EvenInReferenceIdeal.S2x4096x2048 .f32) (w : FVec Ideal Cert.EvenInReferenceIdeal.S2048x13440 .f32) (j : S8192x13440.Idx) :
    shapeCast Cert.EvenInReferenceIdeal.S8192x13440 (Host.dotGeneral Cert.EvenInReferenceIdeal.dot_S2x4096x2048_S2048x13440_S2x4096x13440_2_0_01_1_n_n none x w) Cert.EvenInReferenceIdeal.Gen.facts.shapeCasts_S2x4096x13440_S8192x13440 j
      = entry x w (j 0) (j 1) := by
  have hj : j = ix2 (j 0) (j 1) := ValueIdx.eq_ix2 (n0 := 8192) (n1 := 13440) j
  refine (congrArg _ hj).trans ?_
  refine (rows_read (B := 2) (L := 4096) (M := 8192) (K := 13440) rfl _ _ (j 0) (j 1)).trans ?_
  exact dot_at x w _ _ (j 1)

/-- The reference runs, keeps its arguments and leaves every counter at zero: it has no semaphore. -/
theorem frame_reference : Cert.quiescent_EvenInReferenceIdeal := fun m ρ _ =>
  (θ_run Cert.EvenInReferenceIdeal.defs _ _).mono (fun r h => ⟨fun c => (h c).2, sem_eq_zero_of_no_sems (by decide) r.2⟩) (Cert.EvenInReferenceIdeal.Value.run m ρ)

/-- Both arrays are the product, at every index. -/
theorem algebraic : Cert.algebraic_EvenInIdeal_EvenInReferenceIdeal := by
  intro m ρ m' ρ' _ hagree
  refine ⟨fun c => G m c, (θ_run Cert.EvenInIdeal.defs _ _).mono (fun _ h c => ⟨(h c).1.trans (final m c), (h c).2⟩)
    (Cert.EvenInIdeal.Value.run_blocks m ρ), ?_⟩
  refine (θ_run Cert.EvenInReferenceIdeal.defs _ _).mono (fun r h c => ⟨(h c).1.trans ?_, (h c).2⟩) (Cert.EvenInReferenceIdeal.Value.run m' ρ')
  rw [(hagree c).1, (hagree c).2]
  funext j
  exact reference_at (m (c.tc.loc main_arg0)) (m (c.tc.loc main_arg1)) j

end Cert.Projection.EvenIn
-- ==== Proof.EvenInContextValue.lean ====
/- The call of the even layers' input projection of the context tokens: every block it writes is a block of the product, and the blocks cover
   the array; the reference's array is the same product. -/
module

public import proofs.«01_k».proof.Proof.Product
public import proofs.«01_k».proof.Defs
public import proofs.«01_k».proof.Proof.Gen.EvenInContextIdeal.Value
public import proofs.«01_k».proof.Proof.Gen.EvenInContextReferenceIdeal.Run
public import Idealize.ShloMosaic.Lib.Pipeline.ValueKit.Basic
public import Idealize.ShloMosaic.Adequacy
public import Idealize.ShloMosaic.Init

@[expose] public section

set_option maxRecDepth 16384

noncomputable section

namespace Cert.Projection.EvenInContext

open Idealize Idealize.ShloMosaic Idealize.ShloMosaic.TcCoe Idealize.ShloMosaic.Tactic Idealize.SL.Sem
open Cert.EvenInContextIdeal Cert.EvenInContextIdeal.Gen
open Idealize.ShloMosaic.Pipeline (Dat Cfg Window)
open scoped BigOperators

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel

theorem point_lt (t : Fin cfg0.N) : t.val < 21 := lt_of_lt_of_eq t.isLt N_0

/-- The row and the column of the array that an entry of grid point `t`'s block is. -/
def row (t : Fin cfg0.N) (r : Fin 512) : Fin 512 := ⟨0 * 512 + r.val, by have := r.isLt; omega⟩
def col (t : Fin cfg0.N) (n : Fin 640) : Fin 13440 := ⟨t.val * 640 + n.val, by have := point_lt t; omega⟩

/-- What one grid point computes from its two blocks. -/
theorem point_at (x : Vec Ideal S512x2048 .f32) (y : Vec Ideal S2048x640 .f32) (r : Fin 512) (n : Fin 640) :
    k0_pay1 x y (ix2 r n) = ∑ k : Fin 2048, x (ix2 r k) * y (ix2 k n) := by
  unfold k0_pay1
  pointwise

theorem out_at (x : Vec Ideal S512x2048 .f32) (y : Vec Ideal S2048x640 .f32) (r : Fin 512) (n : Fin 640) :
    out0_2 x y (ix2 r n) = ∑ k : Fin 2048, x (ix2 r k) * y (ix2 k n) := by
  refine Eq.trans ?_ (point_at x y r n)
  unfold out0_2
  have ex : View.ld x r0_0 = x := funext fun i => congrArg x (funext fun a => Fin.ext (by fin_cases a <;> simp [Rect.emb]))
  have ey : View.ld y r0_1 = y := funext fun i => congrArg y (funext fun a => Fin.ext (by fin_cases a <;> simp [Rect.emb]))
  rw [ex, ey]
  exact stored_whole _ _ r n

variable (m : (ℓ : Loc nD τ sig) → Buf (Elt Ideal) ℓ) (c : Dev nD)

/-- The arguments as arrays. -/
abbrev a0 : (⟨3, ![2, 256, 2048]⟩ : Shape).Idx → EReal := m (c.tc.loc main_arg0)
abbrev a1 : (⟨2, ![2048, 13440]⟩ : Shape).Idx → EReal := m (c.tc.loc main_arg1)

/-- The array the call is to leave. -/
def entry (x : (⟨3, ![2, 256, 2048]⟩ : Shape).Idx → EReal) (w : (⟨2, ![2048, 13440]⟩ : Shape).Idx → EReal) (r : Fin 512) (n : Fin 13440) : EReal :=
  product x w (seqOf (B := 2) (L := 256) rfl r) (tokOf (B := 2) (L := 256) rfl r) n
def G (j : S512x13440.Idx) : EReal := entry (a0 m c) (a1 m c) (j 0) (j 1)

/-- The rows the call reads, and its weights. -/
theorem rows_at (r : Fin 512) (k : Fin 2048) : V m c main_v0 (ix2 r k)
    = a0 m c (ix3 (seqOf (B := 2) (L := 256) rfl r) (tokOf (B := 2) (L := 256) rfl r) k) := by
  unfold V
  simp only [hostOps0]
  after_results
  exact rows_read rfl (a0 m c) shapeCasts_S2x256x2048_S512x2048 r k
theorem weights_at (k : Fin 2048) (n : Fin 13440) : V m c main_arg1 (ix2 k n) = a1 m c (ix2 k n) := congrFun (V_main_arg1 m c) _

/-- The two blocks a grid point reads. -/
theorem block0_at (t : Fin cfg0.N) (r : Fin 512) (k : Fin 2048) : iblk m c 0 t (ix2 r k) = V m c main_v0 (ix2 (row t r) k) := by
  refine congrArg (V m c main_v0) (funext fun a => Fin.ext ?_)
  refine (Pipeline.Window.rect_emb_val win0_0 t _ a).trans ?_
  rw [index0]
  fin_cases a <;> simp [ix2, row]
theorem block1_at (t : Fin cfg0.N) (k : Fin 2048) (n : Fin 640) : iblk m c 1 t (ix2 k n) = V m c main_arg1 (ix2 k (col t n)) := by
  refine congrArg (V m c main_arg1) (funext fun a => Fin.ext ?_)
  refine (Pipeline.Window.rect_emb_val win0_1 t _ a).trans ?_
  rw [index1]
  fin_cases a <;> simp [ix2, col]

/-- A grid point's output block. -/
theorem block_at (t : Fin cfg0.N) (r : Fin 512) (n : Fin 640) :
    out0_2 (iblk m c 0 t) (iblk m c 1 t) (ix2 r n) = entry (a0 m c) (a1 m c) (row t r) (col t n) := by
  refine (out_at (iblk m c 0 t) (iblk m c 1 t) r n).trans ?_
  refine Eq.trans (b := ∑ k : Fin 2048, a0 m c (ix3 (seqOf (B := 2) (L := 256) rfl (row t r)) (tokOf (B := 2) (L := 256) rfl (row t r)) k) * a1 m c (ix2 k (col t n))) (Finset.sum_congr rfl fun k _ => ?_) (rfl)
  exact congrArg₂ (· * ·) ((block0_at m c t r k).trans (rows_at m c _ k)) ((block1_at m c t k n).trans (weights_at m c k _))

theorem emb_at (t : Fin cfg0.N) (y : S512x640.Idx) : G m c ((win0_2.rect t).emb y) = entry (a0 m c) (a1 m c) (row t (y 0)) (col t (y 1)) := by
  have e : ∀ a, ((win0_2.rect t).emb y a : ℕ) = win0_2.index t a * win0_2.size a + y a := fun a =>
    Pipeline.Window.rect_emb_val win0_2 t y a
  rw [index2] at e
  have h0 : (win0_2.rect t).emb y 0 = row t (y 0) := Fin.ext (by rw [e 0]; rfl)
  have h1 : (win0_2.rect t).emb y 1 = col t (y 1) := Fin.ext (by rw [e 1]; rfl)
  unfold G
  rw [h0, h1]

theorem flushed_eq (t : Fin cfg0.N) : (dats m 0 c).flushed 2 t = ((cfg0.win 2).blk t).view.read (Elt Ideal) (G m c) := by
  rw [Value.flushed2]
  funext y
  refine Eq.trans ?_ (emb_at m c t y).symm
  have ey : (cfg0.win 2).xinj (grid0.coords t) y = (ix2 (y 0) (y 1) : S512x640.Idx) :=
    ValueIdx.eq_ix2 (n0 := 512) (n1 := 640) ((cfg0.win 2).xinj (grid0.coords t) y)
  show out0_2 (iblk m c 0 t) (iblk m c 1 t) ((cfg0.win 2).xinj (grid0.coords t) y) = _
  rw [ey]
  exact block_at m c t (y 0) (y 1)

theorem mem_block (j : S512x13440.Idx) (t : Fin cfg0.N) (h0 : 0 = (j 0).val / 512) (h1 : t.val = (j 1).val / 640) :
    j ∈ (win0_2.rect t).set := by
  rw [Pipeline.Window.mem_rect_iff win0_2 t j rfl, index2, h1]
  intro a
  match a with
  | ⟨0, _⟩ => show 0 * 512 ≤ (j 0).val ∧ (j 0).val < 0 * 512 + 512; omega
  | ⟨1, _⟩ => show (j 1).val / 640 * 640 ≤ (j 1).val ∧ (j 1).val < (j 1).val / 640 * 640 + 640; omega

theorem block_set (t : Fin cfg0.N) : ((cfg0.win 2).blk t).view.set = (win0_2.rect t).set := by
  show (View.slice _ (win0_2.rect t)).set = _
  rw [View.set_slice_whole]

theorem place_of (p q : ℕ) (hp : p < 1) (hq : q < 21) : q * 1 + p < 21 ∧ (q * 1 + p) % 1 = p ∧ (q * 1 + p) / 1 = q := by
  omega

theorem cover (j : S512x13440.Idx) : ∃ t : Fin cfg0.N, (cfg0.win 2).flush t = true ∧ j ∈ ((cfg0.win 2).blk t).view.set := by
  have hp := place_of ((j 0).val / 512) ((j 1).val / 640) (Nat.div_lt_of_lt_mul (j 0).isLt) (Nat.div_lt_of_lt_mul (j 1).isLt)
  refine ⟨⟨(j 1).val / 640 * 1 + (j 0).val / 512, lt_of_lt_of_eq hp.1 N_0.symm⟩, flush0_2 _, ?_⟩
  rw [block_set]
  exact mem_block j _ ((Nat.mod_one _).symm.trans hp.2.1) ((Nat.div_one _).symm.trans hp.2.2)

/-- The call's array is the product, at every index. -/
theorem final : (dats m 0 c).arrAt 2 cfg0.N = G m c :=
  (dats m 0 c).arrAt_eq_of_cover 2 (G m c) (fun t _ => flushed_eq m c t) cover

/-- The reference's product, read at a sequence, a token and a column. -/
theorem dot_at (x : FVec Ideal Cert.EvenInContextReferenceIdeal.S2x256x2048 .f32) (w : FVec Ideal Cert.EvenInContextReferenceIdeal.S2048x13440 .f32) (b : Fin 2) (s : Fin 256) (n : Fin 13440) :
    Host.dotGeneral Cert.EvenInContextReferenceIdeal.dot_S2x256x2048_S2048x13440_S2x256x13440_2_0_01_1_n_n none x w (ix3 b s n) = product x w b s n := by
  pointwise [Cert.EvenInContextReferenceIdeal.dot_S2x256x2048_S2048x13440_S2x256x13440_2_0_01_1_n_n]
  rfl

theorem reference_at (x : FVec Ideal Cert.EvenInContextReferenceIdeal.S2x256x2048 .f32) (w : FVec Ideal Cert.EvenInContextReferenceIdeal.S2048x13440 .f32) (j : S512x13440.Idx) :
    shapeCast Cert.EvenInContextReferenceIdeal.S512x13440 (Host.dotGeneral Cert.EvenInContextReferenceIdeal.dot_S2x256x2048_S2048x13440_S2x256x13440_2_0_01_1_n_n none x w) Cert.EvenInContextReferenceIdeal.Gen.facts.shapeCasts_S2x256x13440_S512x13440 j
      = entry x w (j 0) (j 1) := by
  have hj : j = ix2 (j 0) (j 1) := ValueIdx.eq_ix2 (n0 := 512) (n1 := 13440) j
  refine (congrArg _ hj).trans ?_
  refine (rows_read (B := 2) (L := 256) (M := 512) (K := 13440) rfl _ _ (j 0) (j 1)).trans ?_
  exact dot_at x w _ _ (j 1)

/-- The reference runs, keeps its arguments and leaves every counter at zero: it has no semaphore. -/
theorem frame_reference : Cert.quiescent_EvenInContextReferenceIdeal := fun m ρ _ =>
  (θ_run Cert.EvenInContextReferenceIdeal.defs _ _).mono (fun r h => ⟨fun c => (h c).2, sem_eq_zero_of_no_sems (by decide) r.2⟩) (Cert.EvenInContextReferenceIdeal.Value.run m ρ)

/-- Both arrays are the product, at every index. -/
theorem algebraic : Cert.algebraic_EvenInContextIdeal_EvenInContextReferenceIdeal := by
  intro m ρ m' ρ' _ hagree
  refine ⟨fun c => G m c, (θ_run Cert.EvenInContextIdeal.defs _ _).mono (fun _ h c => ⟨(h c).1.trans (final m c), (h c).2⟩)
    (Cert.EvenInContextIdeal.Value.run_blocks m ρ), ?_⟩
  refine (θ_run Cert.EvenInContextReferenceIdeal.defs _ _).mono (fun r h c => ⟨(h c).1.trans ?_, (h c).2⟩) (Cert.EvenInContextReferenceIdeal.Value.run m' ρ')
  rw [(hagree c).1, (hagree c).2]
  funext j
  exact reference_at (m (c.tc.loc main_arg0)) (m (c.tc.loc main_arg1)) j

end Cert.Projection.EvenInContext
-- ==== Proof.OddInValue.lean ====
/- The call of the odd layers' input projection: every block it writes is a block of the product, and the blocks cover
   the array; the reference's array is the same product. -/
module

public import proofs.«01_k».proof.Proof.Product
public import proofs.«01_k».proof.Defs
public import proofs.«01_k».proof.Proof.Gen.OddInIdeal.Value
public import proofs.«01_k».proof.Proof.Gen.OddInReferenceIdeal.Run
public import Idealize.ShloMosaic.Lib.Pipeline.ValueKit.Basic
public import Idealize.ShloMosaic.Adequacy
public import Idealize.ShloMosaic.Init

@[expose] public section

set_option maxRecDepth 16384

noncomputable section

namespace Cert.Projection.OddIn

open Idealize Idealize.ShloMosaic Idealize.ShloMosaic.TcCoe Idealize.ShloMosaic.Tactic Idealize.SL.Sem
open Cert.OddInIdeal Cert.OddInIdeal.Gen
open Idealize.ShloMosaic.Pipeline (Dat Cfg Window)
open scoped BigOperators

theorem index0 : ∀ t : Fin grid0.N, win0_0.index t = ![t.val % 17, 0] := by decide +kernel
theorem index1 : ∀ t : Fin grid0.N, win0_1.index t = ![0, t.val / 17] := by decide +kernel
theorem index2 : ∀ t : Fin grid0.N, win0_2.index t = ![t.val % 17, t.val / 17] := by decide +kernel

theorem point_lt (t : Fin cfg0.N) : t.val < 119 := lt_of_lt_of_eq t.isLt N_0

/-- The row and the column of the array that an entry of grid point `t`'s block is. -/
def row (t : Fin cfg0.N) (r : Fin 512) : Fin 8704 := ⟨t.val % 17 * 512 + r.val, by omega⟩
def col (t : Fin cfg0.N) (n : Fin 896) : Fin 6272 := ⟨t.val / 17 * 896 + n.val, by have := point_lt t; omega⟩

/-- What one grid point computes from its two blocks. -/
theorem point_at (x : Vec Ideal S512x2048 .f32) (y : Vec Ideal S2048x896 .f32) (r : Fin 512) (n : Fin 896) :
    k0_pay1 x y (ix2 r n) = ∑ k : Fin 2048, x (ix2 r k) * y (ix2 k n) := by
  unfold k0_pay1
  pointwise

theorem out_at (x : Vec Ideal S512x2048 .f32) (y : Vec Ideal S2048x896 .f32) (r : Fin 512) (n : Fin 896) :
    out0_2 x y (ix2 r n) = ∑ k : Fin 2048, x (ix2 r k) * y (ix2 k n) := by
  refine Eq.trans ?_ (point_at x y r n)
  unfold out0_2
  have ex : View.ld x r0_0 = x := funext fun i => congrArg x (funext fun a => Fin.ext (by fin_cases a <;> simp [Rect.emb]))
  have ey : View.ld y r0_1 = y := funext fun i => congrArg y (funext fun a => Fin.ext (by fin_cases a <;> simp [Rect.emb]))
  rw [ex, ey]
  exact stored_whole _ _ r n

variable (m : (ℓ : Loc nD τ sig) → Buf (Elt Ideal) ℓ) (c : Dev nD)

/-- The arguments as arrays. -/
abbrev a0 : (⟨3, ![2, 256, 2048]⟩ : Shape).Idx → EReal := m (c.tc.loc main_arg0)
abbrev a1 : (⟨3, ![2, 4096, 2048]⟩ : Shape).Idx → EReal := m (c.tc.loc main_arg1)
abbrev a2 : (⟨2, ![2048, 6176]⟩ : Shape).Idx → EReal := m (c.tc.loc main_arg2)

/-- The array the call is to leave: the context's product, then the latents', and zero in the columns of padding. -/
def entry (p : (⟨3, ![2, 256, 2048]⟩ : Shape).Idx → EReal) (q : (⟨3, ![2, 4096, 2048]⟩ : Shape).Idx → EReal)
    (w : (⟨2, ![2048, 6176]⟩ : Shape).Idx → EReal) (r : Fin 8704) (n : Fin 6272) : EReal :=
  if hn : n.val < 6176 then
    if h : (tokOf (B := 2) (L := 4352) rfl r).val < 256 then
      product p w (seqOf (B := 2) (L := 4352) rfl r) ⟨(tokOf (B := 2) (L := 4352) rfl r).val, h⟩ ⟨n.val, hn⟩
    else product q w (seqOf (B := 2) (L := 4352) rfl r) ⟨(tokOf (B := 2) (L := 4352) rfl r).val - 256, by omega⟩ ⟨n.val, hn⟩
  else 0
def G (j : S8704x6272.Idx) : EReal := entry (a0 m c) (a1 m c) (a2 m c) (j 0) (j 1)

/-- The tokens the call reads, context first. -/
def joined (p : (⟨3, ![2, 256, 2048]⟩ : Shape).Idx → EReal) (q : (⟨3, ![2, 4096, 2048]⟩ : Shape).Idx → EReal) (b : Fin 2) (s : Fin 4352)
    (k : Fin 2048) : EReal := if h : s.val < 256 then p (ix3 b ⟨s.val, h⟩ k) else q (ix3 b ⟨s.val - 256, by omega⟩ k)
/-- The weights the call reads, with their columns of padding. -/
def padded (w : (⟨2, ![2048, 6176]⟩ : Shape).Idx → EReal) (k : Fin 2048) (n : Fin 6272) : EReal :=
  if h : n.val < 6176 then w (ix2 k ⟨n.val, h⟩) else 0

/-- Two sequences joined along their second axis, read at an index. -/
theorem joined_read {K : ℕ} (p : (⟨3, ![2, 256, K]⟩ : Shape).Idx → EReal) (q : (⟨3, ![2, 4096, K]⟩ : Shape).Idx → EReal)
    (hc : Shape.Concatenates [⟨3, ![2, 256, K]⟩, ⟨3, ![2, 4096, K]⟩] ⟨3, ![2, 4352, K]⟩ 1) (b : Fin 2) (s : Fin 4352) (k : Fin K) :
    concatenate ⟨3, ![2, 4352, K]⟩ 1 [⟨⟨3, ![2, 256, K]⟩, p⟩, ⟨⟨3, ![2, 4096, K]⟩, q⟩] hc (ix3 b s k)
      = if h : s.val < 256 then p (ix3 b ⟨s.val, h⟩ k) else q (ix3 b ⟨s.val - 256, by omega⟩ k) := by
  split
  next h =>
    exact concatenate_pair_apply_left (t := ⟨3, ![2, 4352, K]⟩) 1 p q _ _ rfl (ix3 b (⟨s.val, h⟩ : Fin 256) k)
      (fun a => by fin_cases a <;> simp [ix3])
  next h =>
    exact concatenate_pair_apply_right (t := ⟨3, ![2, 4352, K]⟩) 1 p q _ _ rfl rfl (ix3 b (⟨s.val - 256, by omega⟩ : Fin 4096) k)
      (fun a ha => by fin_cases a <;> simp [ix3] at ha ⊢) (by show s.val - 256 + 256 = s.val; omega)

theorem rows_at (r : Fin 8704) (k : Fin 2048) : V m c main_v2 (ix2 r k)
    = joined (a0 m c) (a1 m c) (seqOf (B := 2) (L := 4352) rfl r) (tokOf (B := 2) (L := 4352) rfl r) k := by
  unfold V
  simp only [hostOps0, hostOps0_1, hostOps0_2, List.flatten_cons, List.flatten_nil, List.append_nil, List.cons_append, List.nil_append]
  after_results
  refine (rows_read rfl _ shapeCasts_S2x4352x2048_S8704x2048 r k).trans ?_
  exact joined_read (a0 m c) (a1 m c) concatenates_S2x256x2048_S2x4096x2048_S2x4352x2048_d1 _ _ k

theorem zero_at (i : S_.Idx) : sitofp (F := Ideal) .f32 (constantI S_ 32 0#32) i = 0 := by
  show (((0#32 : BitVec 32).toInt : ℝ) : EReal) = 0
  simp

theorem weights_at (k : Fin 2048) (n : Fin 6272) : V m c main_v1 (ix2 k n) = padded (a2 m c) k n := by
  unfold V
  simp only [hostOps0, hostOps0_1, hostOps0_2, List.flatten_cons, List.flatten_nil, List.append_nil, List.cons_append, List.nil_append]
  after_results
  change pad S2048x6272 ![0, 0] ![0, 96] ![0, 0] (a2 m c) (sitofp (F := Ideal) .f32 (constantI S_ 32 0#32))
    pads_S2048x6176_S2048x6272_000_0960 h_S_ (ix2 k n) = _
  unfold padded
  split
  next h =>
    exact pad_apply_of_inside _ _ _ _ _ _ _ _ (ix2 k (⟨n.val, h⟩ : Fin 6176)) (fun a => by fin_cases a <;> simp [ix2])
  next h =>
    refine (pad_apply_of_not_inside _ _ _ _ _ _ _ _ 1 (fun hin => h ?_)).trans (zero_at _)
    have := hin.2.2
    simpa [ix2] using this

theorem block_sum (t : Fin cfg0.N) (r : Fin 512) (n : Fin 896) :
    ∑ k : Fin 2048, joined (a0 m c) (a1 m c) (seqOf (B := 2) (L := 4352) rfl (row t r)) (tokOf (B := 2) (L := 4352) rfl (row t r)) k
      * padded (a2 m c) k (col t n) = entry (a0 m c) (a1 m c) (a2 m c) (row t r) (col t n) := by
  unfold entry product
  split
  next hn =>
    split
    next h => exact Finset.sum_congr rfl fun k _ => by unfold joined padded; rw [dif_pos h, dif_pos hn]
    next h => exact Finset.sum_congr rfl fun k _ => by unfold joined padded; rw [dif_neg h, dif_pos hn]
  next hn => exact Finset.sum_eq_zero fun k _ => by unfold padded; rw [dif_neg hn, mul_zero]

/-- The two blocks a grid point reads. -/
theorem block0_at (t : Fin cfg0.N) (r : Fin 512) (k : Fin 2048) : iblk m c 0 t (ix2 r k) = V m c main_v2 (ix2 (row t r) k) := by
  refine congrArg (V m c main_v2) (funext fun a => Fin.ext ?_)
  refine (Pipeline.Window.rect_emb_val win0_0 t _ a).trans ?_
  rw [index0]
  fin_cases a <;> simp [ix2, row]
theorem block1_at (t : Fin cfg0.N) (k : Fin 2048) (n : Fin 896) : iblk m c 1 t (ix2 k n) = V m c main_v1 (ix2 k (col t n)) := by
  refine congrArg (V m c main_v1) (funext fun a => Fin.ext ?_)
  refine (Pipeline.Window.rect_emb_val win0_1 t _ a).trans ?_
  rw [index1]
  fin_cases a <;> simp [ix2, col]

/-- A grid point's output block. -/
theorem block_at (t : Fin cfg0.N) (r : Fin 512) (n : Fin 896) :
    out0_2 (iblk m c 0 t) (iblk m c 1 t) (ix2 r n) = entry (a0 m c) (a1 m c) (a2 m c) (row t r) (col t n) := by
  refine (out_at (iblk m c 0 t) (iblk m c 1 t) r n).trans ?_
  refine Eq.trans (b := ∑ k : Fin 2048, joined (a0 m c) (a1 m c) (seqOf (B := 2) (L := 4352) rfl (row t r)) (tokOf (B := 2) (L := 4352) rfl (row t r)) k * padded (a2 m c) k (col t n)) (Finset.sum_congr rfl fun k _ => ?_) (block_sum m c t r n)
  exact congrArg₂ (· * ·) ((block0_at m c t r k).trans (rows_at m c _ k)) ((block1_at m c t k n).trans (weights_at m c k _))

theorem emb_at (t : Fin cfg0.N) (y : S512x896.Idx) : G m c ((win0_2.rect t).emb y) = entry (a0 m c) (a1 m c) (a2 m c) (row t (y 0)) (col t (y 1)) := by
  have e : ∀ a, ((win0_2.rect t).emb y a : ℕ) = win0_2.index t a * win0_2.size a + y a := fun a =>
    Pipeline.Window.rect_emb_val win0_2 t y a
  rw [index2] at e
  have h0 : (win0_2.rect t).emb y 0 = row t (y 0) := Fin.ext (by rw [e 0]; rfl)
  have h1 : (win0_2.rect t).emb y 1 = col t (y 1) := Fin.ext (by rw [e 1]; rfl)
  unfold G
  rw [h0, h1]

theorem flushed_eq (t : Fin cfg0.N) : (dats m 0 c).flushed 2 t = ((cfg0.win 2).blk t).view.read (Elt Ideal) (G m c) := by
  rw [Value.flushed2]
  funext y
  refine Eq.trans ?_ (emb_at m c t y).symm
  have ey : (cfg0.win 2).xinj (grid0.coords t) y = (ix2 (y 0) (y 1) : S512x896.Idx) :=
    ValueIdx.eq_ix2 (n0 := 512) (n1 := 896) ((cfg0.win 2).xinj (grid0.coords t) y)
  show out0_2 (iblk m c 0 t) (iblk m c 1 t) ((cfg0.win 2).xinj (grid0.coords t) y) = _
  rw [ey]
  exact block_at m c t (y 0) (y 1)

theorem mem_block (j : S8704x6272.Idx) (t : Fin cfg0.N) (h0 : t.val % 17 = (j 0).val / 512) (h1 : t.val / 17 = (j 1).val / 896) :
    j ∈ (win0_2.rect t).set := by
  rw [Pipeline.Window.mem_rect_iff win0_2 t j rfl, index2, h0, h1]
  intro a
  match a with
  | ⟨0, _⟩ => show (j 0).val / 512 * 512 ≤ (j 0).val ∧ (j 0).val < (j 0).val / 512 * 512 + 512; omega
  | ⟨1, _⟩ => show (j 1).val / 896 * 896 ≤ (j 1).val ∧ (j 1).val < (j 1).val / 896 * 896 + 896; omega

theorem block_set (t : Fin cfg0.N) : ((cfg0.win 2).blk t).view.set = (win0_2.rect t).set := by
  show (View.slice _ (win0_2.rect t)).set = _
  rw [View.set_slice_whole]

theorem place_of (p q : ℕ) (hp : p < 17) (hq : q < 7) : q * 17 + p < 119 ∧ (q * 17 + p) % 17 = p ∧ (q * 17 + p) / 17 = q := by
  omega

theorem cover (j : S8704x6272.Idx) : ∃ t : Fin cfg0.N, (cfg0.win 2).flush t = true ∧ j ∈ ((cfg0.win 2).blk t).view.set := by
  have hp := place_of ((j 0).val / 512) ((j 1).val / 896) (Nat.div_lt_of_lt_mul (j 0).isLt) (Nat.div_lt_of_lt_mul (j 1).isLt)
  refine ⟨⟨(j 1).val / 896 * 17 + (j 0).val / 512, lt_of_lt_of_eq hp.1 N_0.symm⟩, flush0_2 _, ?_⟩
  rw [block_set]
  exact mem_block j _ hp.2.1 hp.2.2

/-- The call's array is the product, at every index. -/
theorem final : (dats m 0 c).arrAt 2 cfg0.N = G m c :=
  (dats m 0 c).arrAt_eq_of_cover 2 (G m c) (fun t _ => flushed_eq m c t) cover

/-- The reference's products, read at a sequence, a token and a column. -/
theorem dot_context (x : FVec Ideal Cert.OddInReferenceIdeal.S2x256x2048 .f32) (w : FVec Ideal Cert.OddInReferenceIdeal.S2048x6176 .f32) (b : Fin 2) (s : Fin 256) (n : Fin 6176) :
    Host.dotGeneral Cert.OddInReferenceIdeal.dot_S2x256x2048_S2048x6176_S2x256x6176_2_0_01_1_n_n none x w (ix3 b s n) = product x w b s n := by
  pointwise [Cert.OddInReferenceIdeal.dot_S2x256x2048_S2048x6176_S2x256x6176_2_0_01_1_n_n]
  rfl
theorem dot_latent (x : FVec Ideal Cert.OddInReferenceIdeal.S2x4096x2048 .f32) (w : FVec Ideal Cert.OddInReferenceIdeal.S2048x6176 .f32) (b : Fin 2) (s : Fin 4096) (n : Fin 6176) :
    Host.dotGeneral Cert.OddInReferenceIdeal.dot_S2x4096x2048_S2048x6176_S2x4096x6176_2_0_01_1_n_n none x w (ix3 b s n) = product x w b s n := by
  pointwise [Cert.OddInReferenceIdeal.dot_S2x4096x2048_S2048x6176_S2x4096x6176_2_0_01_1_n_n]
  rfl

/-- Two arrays of rows joined, flattened and padded with zero columns, read at a row and a column. -/
theorem stacked_read (u : (⟨3, ![2, 256, 6176]⟩ : Shape).Idx → EReal) (v : (⟨3, ![2, 4096, 6176]⟩ : Shape).Idx → EReal) (r : Fin 8704) (n : Fin 6272) :
    pad Cert.OddInReferenceIdeal.S8704x6272 ![0, 0] ![0, 96] ![0, 0] (shapeCast Cert.OddInReferenceIdeal.S8704x6176 (concatenate Cert.OddInReferenceIdeal.S2x4352x6176 1
      [⟨Cert.OddInReferenceIdeal.S2x256x6176, u⟩, ⟨Cert.OddInReferenceIdeal.S2x4096x6176, v⟩]
      Cert.OddInReferenceIdeal.Gen.facts.concatenates_S2x256x6176_S2x4096x6176_S2x4352x6176_d1) Cert.OddInReferenceIdeal.Gen.facts.shapeCasts_S2x4352x6176_S8704x6176)
      (sitofp (F := Ideal) .f32 (constantI Cert.OddInReferenceIdeal.S_ 32 0#32)) Cert.OddInReferenceIdeal.Gen.facts.pads_S8704x6176_S8704x6272_000_0960 Cert.OddInReferenceIdeal.Gen.facts.h_S_ (ix2 r n)
      = if hn : n.val < 6176 then
          if h : (tokOf (B := 2) (L := 4352) rfl r).val < 256 then u (ix3 (seqOf (B := 2) (L := 4352) rfl r) ⟨(tokOf (B := 2) (L := 4352) rfl r).val, h⟩ ⟨n.val, hn⟩)
          else v (ix3 (seqOf (B := 2) (L := 4352) rfl r) ⟨(tokOf (B := 2) (L := 4352) rfl r).val - 256, by omega⟩ ⟨n.val, hn⟩)
        else 0 := by
  split
  next hn =>
    refine (pad_apply_of_inside _ _ _ _ _ _ _ _ (ix2 r (⟨n.val, hn⟩ : Fin 6176)) (fun a => by fin_cases a <;> simp [ix2])).trans ?_
    refine (rows_read (B := 2) (L := 4352) (M := 8704) (K := 6176) rfl _ _ r _).trans ?_
    exact joined_read u v Cert.OddInReferenceIdeal.Gen.facts.concatenates_S2x256x6176_S2x4096x6176_S2x4352x6176_d1 _ _ _
  next hn =>
    refine (pad_apply_of_not_inside _ _ _ _ _ _ _ _ 1 (fun hin => hn ?_)).trans (zero_at _)
    have := hin.2.2
    simpa [ix2] using this

theorem reference_at (p : FVec Ideal Cert.OddInReferenceIdeal.S2x256x2048 .f32) (q : FVec Ideal Cert.OddInReferenceIdeal.S2x4096x2048 .f32) (w : FVec Ideal Cert.OddInReferenceIdeal.S2048x6176 .f32) (j : S8704x6272.Idx) :
    pad Cert.OddInReferenceIdeal.S8704x6272 ![0, 0] ![0, 96] ![0, 0] (shapeCast Cert.OddInReferenceIdeal.S8704x6176 (concatenate Cert.OddInReferenceIdeal.S2x4352x6176 1
      [⟨Cert.OddInReferenceIdeal.S2x256x6176, Host.dotGeneral Cert.OddInReferenceIdeal.dot_S2x256x2048_S2048x6176_S2x256x6176_2_0_01_1_n_n none p w⟩,
       ⟨Cert.OddInReferenceIdeal.S2x4096x6176, Host.dotGeneral Cert.OddInReferenceIdeal.dot_S2x4096x2048_S2048x6176_S2x4096x6176_2_0_01_1_n_n none q w⟩]
      Cert.OddInReferenceIdeal.Gen.facts.concatenates_S2x256x6176_S2x4096x6176_S2x4352x6176_d1) Cert.OddInReferenceIdeal.Gen.facts.shapeCasts_S2x4352x6176_S8704x6176)
      (sitofp (F := Ideal) .f32 (constantI Cert.OddInReferenceIdeal.S_ 32 0#32)) Cert.OddInReferenceIdeal.Gen.facts.pads_S8704x6176_S8704x6272_000_0960 Cert.OddInReferenceIdeal.Gen.facts.h_S_ j
      = entry p q w (j 0) (j 1) := by
  have h1 := dot_context p w
  have h2 := dot_latent q w
  revert h1 h2
  generalize Host.dotGeneral Cert.OddInReferenceIdeal.dot_S2x256x2048_S2048x6176_S2x256x6176_2_0_01_1_n_n none p w = u
  generalize Host.dotGeneral Cert.OddInReferenceIdeal.dot_S2x4096x2048_S2048x6176_S2x4096x6176_2_0_01_1_n_n none q w = v
  intro h1 h2
  have hj : j = ix2 (j 0) (j 1) := ValueIdx.eq_ix2 (n0 := 8704) (n1 := 6272) j
  refine (congrArg _ hj).trans ?_
  refine (stacked_read u v (j 0) (j 1)).trans ?_
  unfold entry
  simp only [h1, h2]

/-- The reference runs, keeps its arguments and leaves every counter at zero: it has no semaphore. -/
theorem frame_reference : Cert.quiescent_OddInReferenceIdeal := fun m ρ _ =>
  (θ_run Cert.OddInReferenceIdeal.defs _ _).mono (fun r h => ⟨fun c => (h c).2, sem_eq_zero_of_no_sems (by decide) r.2⟩) (Cert.OddInReferenceIdeal.Value.run m ρ)

/-- Both arrays are the product, at every index. -/
theorem algebraic : Cert.algebraic_OddInIdeal_OddInReferenceIdeal := by
  intro m ρ m' ρ' _ hagree
  refine ⟨fun c => G m c, (θ_run Cert.OddInIdeal.defs _ _).mono (fun _ h c => ⟨(h c).1.trans (final m c), (h c).2⟩)
    (Cert.OddInIdeal.Value.run_blocks m ρ), ?_⟩
  refine (θ_run Cert.OddInReferenceIdeal.defs _ _).mono (fun r h c => ⟨(h c).1.trans ?_, (h c).2⟩) (Cert.OddInReferenceIdeal.Value.run m' ρ')
  rw [(hagree c).1, (hagree c).2.1, (hagree c).2.2]
  funext j
  exact reference_at (m (c.tc.loc main_arg0)) (m (c.tc.loc main_arg1)) (m (c.tc.loc main_arg2)) j

end Cert.Projection.OddIn
-- ==== Proof.EvenOutValue.lean ====
/- The call of the even layers' output projection of the latent tokens: every block it writes is a block of the product, and the blocks cover
   the array; the reference's array is the same product. -/
module

public import proofs.«01_k».proof.Proof.Product
public import proofs.«01_k».proof.Defs
public import proofs.«01_k».proof.Proof.Gen.EvenOutIdeal.Value
public import proofs.«01_k».proof.Proof.Gen.EvenOutReferenceIdeal.Run
public import Idealize.ShloMosaic.Lib.Pipeline.ValueKit.Basic
public import Idealize.ShloMosaic.Adequacy
public import Idealize.ShloMosaic.Init

@[expose] public section

set_option maxRecDepth 16384

noncomputable section

namespace Cert.Projection.EvenOut

open Idealize Idealize.ShloMosaic Idealize.ShloMosaic.TcCoe Idealize.ShloMosaic.Tactic Idealize.SL.Sem
open Cert.EvenOutIdeal Cert.EvenOutIdeal.Gen
open Idealize.ShloMosaic.Pipeline (Dat Cfg Window)
open scoped BigOperators

theorem index0 : ∀ t : Fin grid0.N, win0_0.index t = ![t.val % 16, 0] := by decide +kernel
theorem index1 : ∀ t : Fin grid0.N, win0_1.index t = ![0, t.val / 16] := by decide +kernel
theorem index2 : ∀ t : Fin grid0.N, win0_2.index t = ![t.val % 16, t.val / 16] := by decide +kernel

theorem point_lt (t : Fin cfg0.N) : t.val < 64 := lt_of_lt_of_eq t.isLt N_0

/-- The row and the column of the array that an entry of grid point `t`'s block is. -/
def row (t : Fin cfg0.N) (r : Fin 512) : Fin 8192 := ⟨t.val % 16 * 512 + r.val, by omega⟩
def col (t : Fin cfg0.N) (n : Fin 512) : Fin 2048 := ⟨t.val / 16 * 512 + n.val, by have := point_lt t; omega⟩

/-- What one grid point computes from its two blocks. -/
theorem point_at (x : Vec Ideal S512x4096 .f32) (y : Vec Ideal S4096x512 .f32) (r : Fin 512) (n : Fin 512) :
    k0_pay1 x y (ix2 r n) = ∑ k : Fin 4096, x (ix2 r k) * y (ix2 k n) := by
  unfold k0_pay1
  pointwise

theorem out_at (x : Vec Ideal S512x4096 .f32) (y : Vec Ideal S4096x512 .f32) (r : Fin 512) (n : Fin 512) :
    out0_2 x y (ix2 r n) = ∑ k : Fin 4096, x (ix2 r k) * y (ix2 k n) := by
  refine Eq.trans ?_ (point_at x y r n)
  unfold out0_2
  have ex : View.ld x r0_0 = x := funext fun i => congrArg x (funext fun a => Fin.ext (by fin_cases a <;> simp [Rect.emb]))
  have ey : View.ld y r0_1 = y := funext fun i => congrArg y (funext fun a => Fin.ext (by fin_cases a <;> simp [Rect.emb]))
  rw [ex, ey]
  exact stored_whole _ _ r n

variable (m : (ℓ : Loc nD τ sig) → Buf (Elt Ideal) ℓ) (c : Dev nD)

/-- The arguments as arrays. -/
abbrev a0 : (⟨3, ![2, 4096, 4096]⟩ : Shape).Idx → EReal := m (c.tc.loc main_arg0)
abbrev a1 : (⟨2, ![4096, 2048]⟩ : Shape).Idx → EReal := m (c.tc.loc main_arg1)

/-- The array the call is to leave. -/
def entry (x : (⟨3, ![2, 4096, 4096]⟩ : Shape).Idx → EReal) (w : (⟨2, ![4096, 2048]⟩ : Shape).Idx → EReal) (r : Fin 8192) (n : Fin 2048) : EReal :=
  product x w (seqOf (B := 2) (L := 4096) rfl r) (tokOf (B := 2) (L := 4096) rfl r) n
def G (j : S8192x2048.Idx) : EReal := entry (a0 m c) (a1 m c) (j 0) (j 1)

/-- The rows the call reads, and its weights. -/
theorem rows_at (r : Fin 8192) (k : Fin 4096) : V m c main_v0 (ix2 r k)
    = a0 m c (ix3 (seqOf (B := 2) (L := 4096) rfl r) (tokOf (B := 2) (L := 4096) rfl r) k) := by
  unfold V
  simp only [hostOps0]
  after_results
  exact rows_read rfl (a0 m c) shapeCasts_S2x4096x4096_S8192x4096 r k
theorem weights_at (k : Fin 4096) (n : Fin 2048) : V m c main_arg1 (ix2 k n) = a1 m c (ix2 k n) := congrFun (V_main_arg1 m c) _

/-- The two blocks a grid point reads. -/
theorem block0_at (t : Fin cfg0.N) (r : Fin 512) (k : Fin 4096) : iblk m c 0 t (ix2 r k) = V m c main_v0 (ix2 (row t r) k) := by
  refine congrArg (V m c main_v0) (funext fun a => Fin.ext ?_)
  refine (Pipeline.Window.rect_emb_val win0_0 t _ a).trans ?_
  rw [index0]
  fin_cases a <;> simp [ix2, row]
theorem block1_at (t : Fin cfg0.N) (k : Fin 4096) (n : Fin 512) : iblk m c 1 t (ix2 k n) = V m c main_arg1 (ix2 k (col t n)) := by
  refine congrArg (V m c main_arg1) (funext fun a => Fin.ext ?_)
  refine (Pipeline.Window.rect_emb_val win0_1 t _ a).trans ?_
  rw [index1]
  fin_cases a <;> simp [ix2, col]

/-- A grid point's output block. -/
theorem block_at (t : Fin cfg0.N) (r : Fin 512) (n : Fin 512) :
    out0_2 (iblk m c 0 t) (iblk m c 1 t) (ix2 r n) = entry (a0 m c) (a1 m c) (row t r) (col t n) := by
  refine (out_at (iblk m c 0 t) (iblk m c 1 t) r n).trans ?_
  refine Eq.trans (b := ∑ k : Fin 4096, a0 m c (ix3 (seqOf (B := 2) (L := 4096) rfl (row t r)) (tokOf (B := 2) (L := 4096) rfl (row t r)) k) * a1 m c (ix2 k (col t n))) (Finset.sum_congr rfl fun k _ => ?_) (rfl)
  exact congrArg₂ (· * ·) ((block0_at m c t r k).trans (rows_at m c _ k)) ((block1_at m c t k n).trans (weights_at m c k _))

theorem emb_at (t : Fin cfg0.N) (y : S512x512.Idx) : G m c ((win0_2.rect t).emb y) = entry (a0 m c) (a1 m c) (row t (y 0)) (col t (y 1)) := by
  have e : ∀ a, ((win0_2.rect t).emb y a : ℕ) = win0_2.index t a * win0_2.size a + y a := fun a =>
    Pipeline.Window.rect_emb_val win0_2 t y a
  rw [index2] at e
  have h0 : (win0_2.rect t).emb y 0 = row t (y 0) := Fin.ext (by rw [e 0]; rfl)
  have h1 : (win0_2.rect t).emb y 1 = col t (y 1) := Fin.ext (by rw [e 1]; rfl)
  unfold G
  rw [h0, h1]

theorem flushed_eq (t : Fin cfg0.N) : (dats m 0 c).flushed 2 t = ((cfg0.win 2).blk t).view.read (Elt Ideal) (G m c) := by
  rw [Value.flushed2]
  funext y
  refine Eq.trans ?_ (emb_at m c t y).symm
  have ey : (cfg0.win 2).xinj (grid0.coords t) y = (ix2 (y 0) (y 1) : S512x512.Idx) :=
    ValueIdx.eq_ix2 (n0 := 512) (n1 := 512) ((cfg0.win 2).xinj (grid0.coords t) y)
  show out0_2 (iblk m c 0 t) (iblk m c 1 t) ((cfg0.win 2).xinj (grid0.coords t) y) = _
  rw [ey]
  exact block_at m c t (y 0) (y 1)

theorem mem_block (j : S8192x2048.Idx) (t : Fin cfg0.N) (h0 : t.val % 16 = (j 0).val / 512) (h1 : t.val / 16 = (j 1).val / 512) :
    j ∈ (win0_2.rect t).set := by
  rw [Pipeline.Window.mem_rect_iff win0_2 t j rfl, index2, h0, h1]
  intro a
  match a with
  | ⟨0, _⟩ => show (j 0).val / 512 * 512 ≤ (j 0).val ∧ (j 0).val < (j 0).val / 512 * 512 + 512; omega
  | ⟨1, _⟩ => show (j 1).val / 512 * 512 ≤ (j 1).val ∧ (j 1).val < (j 1).val / 512 * 512 + 512; omega

theorem block_set (t : Fin cfg0.N) : ((cfg0.win 2).blk t).view.set = (win0_2.rect t).set := by
  show (View.slice _ (win0_2.rect t)).set = _
  rw [View.set_slice_whole]

theorem place_of (p q : ℕ) (hp : p < 16) (hq : q < 4) : q * 16 + p < 64 ∧ (q * 16 + p) % 16 = p ∧ (q * 16 + p) / 16 = q := by
  omega

theorem cover (j : S8192x2048.Idx) : ∃ t : Fin cfg0.N, (cfg0.win 2).flush t = true ∧ j ∈ ((cfg0.win 2).blk t).view.set := by
  have hp := place_of ((j 0).val / 512) ((j 1).val / 512) (Nat.div_lt_of_lt_mul (j 0).isLt) (Nat.div_lt_of_lt_mul (j 1).isLt)
  refine ⟨⟨(j 1).val / 512 * 16 + (j 0).val / 512, lt_of_lt_of_eq hp.1 N_0.symm⟩, flush0_2 _, ?_⟩
  rw [block_set]
  exact mem_block j _ hp.2.1 hp.2.2

/-- The call's array is the product, at every index. -/
theorem final : (dats m 0 c).arrAt 2 cfg0.N = G m c :=
  (dats m 0 c).arrAt_eq_of_cover 2 (G m c) (fun t _ => flushed_eq m c t) cover

/-- The reference's product, read at a sequence, a token and a column. -/
theorem dot_at (x : FVec Ideal Cert.EvenOutReferenceIdeal.S2x4096x4096 .f32) (w : FVec Ideal Cert.EvenOutReferenceIdeal.S4096x2048 .f32) (b : Fin 2) (s : Fin 4096) (n : Fin 2048) :
    Host.dotGeneral Cert.EvenOutReferenceIdeal.dot_S2x4096x4096_S4096x2048_S2x4096x2048_2_0_01_1_n_n none x w (ix3 b s n) = product x w b s n := by
  pointwise [Cert.EvenOutReferenceIdeal.dot_S2x4096x4096_S4096x2048_S2x4096x2048_2_0_01_1_n_n]
  rfl

theorem reference_at (x : FVec Ideal Cert.EvenOutReferenceIdeal.S2x4096x4096 .f32) (w : FVec Ideal Cert.EvenOutReferenceIdeal.S4096x2048 .f32) (j : S8192x2048.Idx) :
    shapeCast Cert.EvenOutReferenceIdeal.S8192x2048 (Host.dotGeneral Cert.EvenOutReferenceIdeal.dot_S2x4096x4096_S4096x2048_S2x4096x2048_2_0_01_1_n_n none x w) Cert.EvenOutReferenceIdeal.Gen.facts.shapeCasts_S2x4096x2048_S8192x2048 j
      = entry x w (j 0) (j 1) := by
  have hj : j = ix2 (j 0) (j 1) := ValueIdx.eq_ix2 (n0 := 8192) (n1 := 2048) j
  refine (congrArg _ hj).trans ?_
  refine (rows_read (B := 2) (L := 4096) (M := 8192) (K := 2048) rfl _ _ (j 0) (j 1)).trans ?_
  exact dot_at x w _ _ (j 1)

/-- The reference runs, keeps its arguments and leaves every counter at zero: it has no semaphore. -/
theorem frame_reference : Cert.quiescent_EvenOutReferenceIdeal := fun m ρ _ =>
  (θ_run Cert.EvenOutReferenceIdeal.defs _ _).mono (fun r h => ⟨fun c => (h c).2, sem_eq_zero_of_no_sems (by decide) r.2⟩) (Cert.EvenOutReferenceIdeal.Value.run m ρ)

/-- Both arrays are the product, at every index. -/
theorem algebraic : Cert.algebraic_EvenOutIdeal_EvenOutReferenceIdeal := by
  intro m ρ m' ρ' _ hagree
  refine ⟨fun c => G m c, (θ_run Cert.EvenOutIdeal.defs _ _).mono (fun _ h c => ⟨(h c).1.trans (final m c), (h c).2⟩)
    (Cert.EvenOutIdeal.Value.run_blocks m ρ), ?_⟩
  refine (θ_run Cert.EvenOutReferenceIdeal.defs _ _).mono (fun r h c => ⟨(h c).1.trans ?_, (h c).2⟩) (Cert.EvenOutReferenceIdeal.Value.run m' ρ')
  rw [(hagree c).1, (hagree c).2]
  funext j
  exact reference_at (m (c.tc.loc main_arg0)) (m (c.tc.loc main_arg1)) j

end Cert.Projection.EvenOut
-- ==== Proof.EvenOutContextValue.lean ====
/- The call of the even layers' output projection of the context tokens: every block it writes is a block of the product, and the blocks cover
   the array; the reference's array is the same product. -/
module

public import proofs.«01_k».proof.Proof.Product
public import proofs.«01_k».proof.Defs
public import proofs.«01_k».proof.Proof.Gen.EvenOutContextIdeal.Value
public import proofs.«01_k».proof.Proof.Gen.EvenOutContextReferenceIdeal.Run
public import Idealize.ShloMosaic.Lib.Pipeline.ValueKit.Basic
public import Idealize.ShloMosaic.Adequacy
public import Idealize.ShloMosaic.Init

@[expose] public section

set_option maxRecDepth 16384

noncomputable section

namespace Cert.Projection.EvenOutContext

open Idealize Idealize.ShloMosaic Idealize.ShloMosaic.TcCoe Idealize.ShloMosaic.Tactic Idealize.SL.Sem
open Cert.EvenOutContextIdeal Cert.EvenOutContextIdeal.Gen
open Idealize.ShloMosaic.Pipeline (Dat Cfg Window)
open scoped BigOperators

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel

theorem point_lt (t : Fin cfg0.N) : t.val < 4 := lt_of_lt_of_eq t.isLt N_0

/-- The row and the column of the array that an entry of grid point `t`'s block is. -/
def row (t : Fin cfg0.N) (r : Fin 512) : Fin 512 := ⟨0 * 512 + r.val, by have := r.isLt; omega⟩
def col (t : Fin cfg0.N) (n : Fin 512) : Fin 2048 := ⟨t.val * 512 + n.val, by have := point_lt t; omega⟩

/-- What one grid point computes from its two blocks. -/
theorem point_at (x : Vec Ideal S512x4096 .f32) (y : Vec Ideal S4096x512 .f32) (r : Fin 512) (n : Fin 512) :
    k0_pay1 x y (ix2 r n) = ∑ k : Fin 4096, x (ix2 r k) * y (ix2 k n) := by
  unfold k0_pay1
  pointwise

theorem out_at (x : Vec Ideal S512x4096 .f32) (y : Vec Ideal S4096x512 .f32) (r : Fin 512) (n : Fin 512) :
    out0_2 x y (ix2 r n) = ∑ k : Fin 4096, x (ix2 r k) * y (ix2 k n) := by
  refine Eq.trans ?_ (point_at x y r n)
  unfold out0_2
  have ex : View.ld x r0_0 = x := funext fun i => congrArg x (funext fun a => Fin.ext (by fin_cases a <;> simp [Rect.emb]))
  have ey : View.ld y r0_1 = y := funext fun i => congrArg y (funext fun a => Fin.ext (by fin_cases a <;> simp [Rect.emb]))
  rw [ex, ey]
  exact stored_whole _ _ r n

variable (m : (ℓ : Loc nD τ sig) → Buf (Elt Ideal) ℓ) (c : Dev nD)

/-- The arguments as arrays. -/
abbrev a0 : (⟨3, ![2, 256, 4096]⟩ : Shape).Idx → EReal := m (c.tc.loc main_arg0)
abbrev a1 : (⟨2, ![4096, 2048]⟩ : Shape).Idx → EReal := m (c.tc.loc main_arg1)

/-- The array the call is to leave. -/
def entry (x : (⟨3, ![2, 256, 4096]⟩ : Shape).Idx → EReal) (w : (⟨2, ![4096, 2048]⟩ : Shape).Idx → EReal) (r : Fin 512) (n : Fin 2048) : EReal :=
  product x w (seqOf (B := 2) (L := 256) rfl r) (tokOf (B := 2) (L := 256) rfl r) n
def G (j : S512x2048.Idx) : EReal := entry (a0 m c) (a1 m c) (j 0) (j 1)

/-- The rows the call reads, and its weights. -/
theorem rows_at (r : Fin 512) (k : Fin 4096) : V m c main_v0 (ix2 r k)
    = a0 m c (ix3 (seqOf (B := 2) (L := 256) rfl r) (tokOf (B := 2) (L := 256) rfl r) k) := by
  unfold V
  simp only [hostOps0]
  after_results
  exact rows_read rfl (a0 m c) shapeCasts_S2x256x4096_S512x4096 r k
theorem weights_at (k : Fin 4096) (n : Fin 2048) : V m c main_arg1 (ix2 k n) = a1 m c (ix2 k n) := congrFun (V_main_arg1 m c) _

/-- The two blocks a grid point reads. -/
theorem block0_at (t : Fin cfg0.N) (r : Fin 512) (k : Fin 4096) : iblk m c 0 t (ix2 r k) = V m c main_v0 (ix2 (row t r) k) := by
  refine congrArg (V m c main_v0) (funext fun a => Fin.ext ?_)
  refine (Pipeline.Window.rect_emb_val win0_0 t _ a).trans ?_
  rw [index0]
  fin_cases a <;> simp [ix2, row]
theorem block1_at (t : Fin cfg0.N) (k : Fin 4096) (n : Fin 512) : iblk m c 1 t (ix2 k n) = V m c main_arg1 (ix2 k (col t n)) := by
  refine congrArg (V m c main_arg1) (funext fun a => Fin.ext ?_)
  refine (Pipeline.Window.rect_emb_val win0_1 t _ a).trans ?_
  rw [index1]
  fin_cases a <;> simp [ix2, col]

/-- A grid point's output block. -/
theorem block_at (t : Fin cfg0.N) (r : Fin 512) (n : Fin 512) :
    out0_2 (iblk m c 0 t) (iblk m c 1 t) (ix2 r n) = entry (a0 m c) (a1 m c) (row t r) (col t n) := by
  refine (out_at (iblk m c 0 t) (iblk m c 1 t) r n).trans ?_
  refine Eq.trans (b := ∑ k : Fin 4096, a0 m c (ix3 (seqOf (B := 2) (L := 256) rfl (row t r)) (tokOf (B := 2) (L := 256) rfl (row t r)) k) * a1 m c (ix2 k (col t n))) (Finset.sum_congr rfl fun k _ => ?_) (rfl)
  exact congrArg₂ (· * ·) ((block0_at m c t r k).trans (rows_at m c _ k)) ((block1_at m c t k n).trans (weights_at m c k _))

theorem emb_at (t : Fin cfg0.N) (y : S512x512.Idx) : G m c ((win0_2.rect t).emb y) = entry (a0 m c) (a1 m c) (row t (y 0)) (col t (y 1)) := by
  have e : ∀ a, ((win0_2.rect t).emb y a : ℕ) = win0_2.index t a * win0_2.size a + y a := fun a =>
    Pipeline.Window.rect_emb_val win0_2 t y a
  rw [index2] at e
  have h0 : (win0_2.rect t).emb y 0 = row t (y 0) := Fin.ext (by rw [e 0]; rfl)
  have h1 : (win0_2.rect t).emb y 1 = col t (y 1) := Fin.ext (by rw [e 1]; rfl)
  unfold G
  rw [h0, h1]

theorem flushed_eq (t : Fin cfg0.N) : (dats m 0 c).flushed 2 t = ((cfg0.win 2).blk t).view.read (Elt Ideal) (G m c) := by
  rw [Value.flushed2]
  funext y
  refine Eq.trans ?_ (emb_at m c t y).symm
  have ey : (cfg0.win 2).xinj (grid0.coords t) y = (ix2 (y 0) (y 1) : S512x512.Idx) :=
    ValueIdx.eq_ix2 (n0 := 512) (n1 := 512) ((cfg0.win 2).xinj (grid0.coords t) y)
  show out0_2 (iblk m c 0 t) (iblk m c 1 t) ((cfg0.win 2).xinj (grid0.coords t) y) = _
  rw [ey]
  exact block_at m c t (y 0) (y 1)

theorem mem_block (j : S512x2048.Idx) (t : Fin cfg0.N) (h0 : 0 = (j 0).val / 512) (h1 : t.val = (j 1).val / 512) :
    j ∈ (win0_2.rect t).set := by
  rw [Pipeline.Window.mem_rect_iff win0_2 t j rfl, index2, h1]
  intro a
  match a with
  | ⟨0, _⟩ => show 0 * 512 ≤ (j 0).val ∧ (j 0).val < 0 * 512 + 512; omega
  | ⟨1, _⟩ => show (j 1).val / 512 * 512 ≤ (j 1).val ∧ (j 1).val < (j 1).val / 512 * 512 + 512; omega

theorem block_set (t : Fin cfg0.N) : ((cfg0.win 2).blk t).view.set = (win0_2.rect t).set := by
  show (View.slice _ (win0_2.rect t)).set = _
  rw [View.set_slice_whole]

theorem place_of (p q : ℕ) (hp : p < 1) (hq : q < 4) : q * 1 + p < 4 ∧ (q * 1 + p) % 1 = p ∧ (q * 1 + p) / 1 = q := by
  omega

theorem cover (j : S512x2048.Idx) : ∃ t : Fin cfg0.N, (cfg0.win 2).flush t = true ∧ j ∈ ((cfg0.win 2).blk t).view.set := by
  have hp := place_of ((j 0).val / 512) ((j 1).val / 512) (Nat.div_lt_of_lt_mul (j 0).isLt) (Nat.div_lt_of_lt_mul (j 1).isLt)
  refine ⟨⟨(j 1).val / 512 * 1 + (j 0).val / 512, lt_of_lt_of_eq hp.1 N_0.symm⟩, flush0_2 _, ?_⟩
  rw [block_set]
  exact mem_block j _ ((Nat.mod_one _).symm.trans hp.2.1) ((Nat.div_one _).symm.trans hp.2.2)

/-- The call's array is the product, at every index. -/
theorem final : (dats m 0 c).arrAt 2 cfg0.N = G m c :=
  (dats m 0 c).arrAt_eq_of_cover 2 (G m c) (fun t _ => flushed_eq m c t) cover

/-- The reference's product, read at a sequence, a token and a column. -/
theorem dot_at (x : FVec Ideal Cert.EvenOutContextReferenceIdeal.S2x256x4096 .f32) (w : FVec Ideal Cert.EvenOutContextReferenceIdeal.S4096x2048 .f32) (b : Fin 2) (s : Fin 256) (n : Fin 2048) :
    Host.dotGeneral Cert.EvenOutContextReferenceIdeal.dot_S2x256x4096_S4096x2048_S2x256x2048_2_0_01_1_n_n none x w (ix3 b s n) = product x w b s n := by
  pointwise [Cert.EvenOutContextReferenceIdeal.dot_S2x256x4096_S4096x2048_S2x256x2048_2_0_01_1_n_n]
  rfl

theorem reference_at (x : FVec Ideal Cert.EvenOutContextReferenceIdeal.S2x256x4096 .f32) (w : FVec Ideal Cert.EvenOutContextReferenceIdeal.S4096x2048 .f32) (j : S512x2048.Idx) :
    shapeCast Cert.EvenOutContextReferenceIdeal.S512x2048 (Host.dotGeneral Cert.EvenOutContextReferenceIdeal.dot_S2x256x4096_S4096x2048_S2x256x2048_2_0_01_1_n_n none x w) Cert.EvenOutContextReferenceIdeal.Gen.facts.shapeCasts_S2x256x2048_S512x2048 j
      = entry x w (j 0) (j 1) := by
  have hj : j = ix2 (j 0) (j 1) := ValueIdx.eq_ix2 (n0 := 512) (n1 := 2048) j
  refine (congrArg _ hj).trans ?_
  refine (rows_read (B := 2) (L := 256) (M := 512) (K := 2048) rfl _ _ (j 0) (j 1)).trans ?_
  exact dot_at x w _ _ (j 1)

/-- The reference runs, keeps its arguments and leaves every counter at zero: it has no semaphore. -/
theorem frame_reference : Cert.quiescent_EvenOutContextReferenceIdeal := fun m ρ _ =>
  (θ_run Cert.EvenOutContextReferenceIdeal.defs _ _).mono (fun r h => ⟨fun c => (h c).2, sem_eq_zero_of_no_sems (by decide) r.2⟩) (Cert.EvenOutContextReferenceIdeal.Value.run m ρ)

/-- Both arrays are the product, at every index. -/
theorem algebraic : Cert.algebraic_EvenOutContextIdeal_EvenOutContextReferenceIdeal := by
  intro m ρ m' ρ' _ hagree
  refine ⟨fun c => G m c, (θ_run Cert.EvenOutContextIdeal.defs _ _).mono (fun _ h c => ⟨(h c).1.trans (final m c), (h c).2⟩)
    (Cert.EvenOutContextIdeal.Value.run_blocks m ρ), ?_⟩
  refine (θ_run Cert.EvenOutContextReferenceIdeal.defs _ _).mono (fun r h c => ⟨(h c).1.trans ?_, (h c).2⟩) (Cert.EvenOutContextReferenceIdeal.Value.run m' ρ')
  rw [(hagree c).1, (hagree c).2]
  funext j
  exact reference_at (m (c.tc.loc main_arg0)) (m (c.tc.loc main_arg1)) j

end Cert.Projection.EvenOutContext
-- ==== Proof.OddOutValue.lean ====
/- The call of the odd layers' output projection: every block it writes is a block of the product, and the blocks cover
   the array; the reference's array is the same product. -/
module

public import proofs.«01_k».proof.Proof.Product
public import proofs.«01_k».proof.Defs
public import proofs.«01_k».proof.Proof.Gen.OddOutIdeal.Value
public import proofs.«01_k».proof.Proof.Gen.OddOutReferenceIdeal.Run
public import Idealize.ShloMosaic.Lib.Pipeline.ValueKit.Basic
public import Idealize.ShloMosaic.Adequacy
public import Idealize.ShloMosaic.Init

@[expose] public section

set_option maxRecDepth 16384

noncomputable section

namespace Cert.Projection.OddOut

open Idealize Idealize.ShloMosaic Idealize.ShloMosaic.TcCoe Idealize.ShloMosaic.Tactic Idealize.SL.Sem
open Cert.OddOutIdeal Cert.OddOutIdeal.Gen
open Idealize.ShloMosaic.Pipeline (Dat Cfg Window)
open scoped BigOperators

theorem index0 : ∀ t : Fin grid0.N, win0_0.index t = ![t.val % 17, 0] := by decide +kernel
theorem index1 : ∀ t : Fin grid0.N, win0_1.index t = ![0, t.val / 17] := by decide +kernel
theorem index2 : ∀ t : Fin grid0.N, win0_2.index t = ![t.val % 17, t.val / 17] := by decide +kernel

theorem point_lt (t : Fin cfg0.N) : t.val < 68 := lt_of_lt_of_eq t.isLt N_0

/-- The row and the column of the array that an entry of grid point `t`'s block is. -/
def row (t : Fin cfg0.N) (r : Fin 512) : Fin 8704 := ⟨t.val % 17 * 512 + r.val, by omega⟩
def col (t : Fin cfg0.N) (n : Fin 512) : Fin 2048 := ⟨t.val / 17 * 512 + n.val, by have := point_lt t; omega⟩

/-- What one grid point computes from its two blocks. -/
theorem point_at (x : Vec Ideal S512x2048 .f32) (y : Vec Ideal S2048x512 .f32) (r : Fin 512) (n : Fin 512) :
    k0_pay1 x y (ix2 r n) = ∑ k : Fin 2048, x (ix2 r k) * y (ix2 k n) := by
  unfold k0_pay1
  pointwise

theorem out_at (x : Vec Ideal S512x2048 .f32) (y : Vec Ideal S2048x512 .f32) (r : Fin 512) (n : Fin 512) :
    out0_2 x y (ix2 r n) = ∑ k : Fin 2048, x (ix2 r k) * y (ix2 k n) := by
  refine Eq.trans ?_ (point_at x y r n)
  unfold out0_2
  have ex : View.ld x r0_0 = x := funext fun i => congrArg x (funext fun a => Fin.ext (by fin_cases a <;> simp [Rect.emb]))
  have ey : View.ld y r0_1 = y := funext fun i => congrArg y (funext fun a => Fin.ext (by fin_cases a <;> simp [Rect.emb]))
  rw [ex, ey]
  exact stored_whole _ _ r n

variable (m : (ℓ : Loc nD τ sig) → Buf (Elt Ideal) ℓ) (c : Dev nD)

/-- The arguments as arrays. -/
abbrev a0 : (⟨3, ![2, 4352, 2048]⟩ : Shape).Idx → EReal := m (c.tc.loc main_arg0)
abbrev a1 : (⟨2, ![2048, 2048]⟩ : Shape).Idx → EReal := m (c.tc.loc main_arg1)

/-- The array the call is to leave. -/
def entry (x : (⟨3, ![2, 4352, 2048]⟩ : Shape).Idx → EReal) (w : (⟨2, ![2048, 2048]⟩ : Shape).Idx → EReal) (r : Fin 8704) (n : Fin 2048) : EReal :=
  product x w (seqOf (B := 2) (L := 4352) rfl r) (tokOf (B := 2) (L := 4352) rfl r) n
def G (j : S8704x2048.Idx) : EReal := entry (a0 m c) (a1 m c) (j 0) (j 1)

/-- The rows the call reads, and its weights. -/
theorem rows_at (r : Fin 8704) (k : Fin 2048) : V m c main_v0 (ix2 r k)
    = a0 m c (ix3 (seqOf (B := 2) (L := 4352) rfl r) (tokOf (B := 2) (L := 4352) rfl r) k) := by
  unfold V
  simp only [hostOps0]
  after_results
  exact rows_read rfl (a0 m c) shapeCasts_S2x4352x2048_S8704x2048 r k
theorem weights_at (k : Fin 2048) (n : Fin 2048) : V m c main_arg1 (ix2 k n) = a1 m c (ix2 k n) := congrFun (V_main_arg1 m c) _

/-- The two blocks a grid point reads. -/
theorem block0_at (t : Fin cfg0.N) (r : Fin 512) (k : Fin 2048) : iblk m c 0 t (ix2 r k) = V m c main_v0 (ix2 (row t r) k) := by
  refine congrArg (V m c main_v0) (funext fun a => Fin.ext ?_)
  refine (Pipeline.Window.rect_emb_val win0_0 t _ a).trans ?_
  rw [index0]
  fin_cases a <;> simp [ix2, row]
theorem block1_at (t : Fin cfg0.N) (k : Fin 2048) (n : Fin 512) : iblk m c 1 t (ix2 k n) = V m c main_arg1 (ix2 k (col t n)) := by
  refine congrArg (V m c main_arg1) (funext fun a => Fin.ext ?_)
  refine (Pipeline.Window.rect_emb_val win0_1 t _ a).trans ?_
  rw [index1]
  fin_cases a <;> simp [ix2, col]

/-- A grid point's output block. -/
theorem block_at (t : Fin cfg0.N) (r : Fin 512) (n : Fin 512) :
    out0_2 (iblk m c 0 t) (iblk m c 1 t) (ix2 r n) = entry (a0 m c) (a1 m c) (row t r) (col t n) := by
  refine (out_at (iblk m c 0 t) (iblk m c 1 t) r n).trans ?_
  refine Eq.trans (b := ∑ k : Fin 2048, a0 m c (ix3 (seqOf (B := 2) (L := 4352) rfl (row t r)) (tokOf (B := 2) (L := 4352) rfl (row t r)) k) * a1 m c (ix2 k (col t n))) (Finset.sum_congr rfl fun k _ => ?_) (rfl)
  exact congrArg₂ (· * ·) ((block0_at m c t r k).trans (rows_at m c _ k)) ((block1_at m c t k n).trans (weights_at m c k _))

theorem emb_at (t : Fin cfg0.N) (y : S512x512.Idx) : G m c ((win0_2.rect t).emb y) = entry (a0 m c) (a1 m c) (row t (y 0)) (col t (y 1)) := by
  have e : ∀ a, ((win0_2.rect t).emb y a : ℕ) = win0_2.index t a * win0_2.size a + y a := fun a =>
    Pipeline.Window.rect_emb_val win0_2 t y a
  rw [index2] at e
  have h0 : (win0_2.rect t).emb y 0 = row t (y 0) := Fin.ext (by rw [e 0]; rfl)
  have h1 : (win0_2.rect t).emb y 1 = col t (y 1) := Fin.ext (by rw [e 1]; rfl)
  unfold G
  rw [h0, h1]

theorem flushed_eq (t : Fin cfg0.N) : (dats m 0 c).flushed 2 t = ((cfg0.win 2).blk t).view.read (Elt Ideal) (G m c) := by
  rw [Value.flushed2]
  funext y
  refine Eq.trans ?_ (emb_at m c t y).symm
  have ey : (cfg0.win 2).xinj (grid0.coords t) y = (ix2 (y 0) (y 1) : S512x512.Idx) :=
    ValueIdx.eq_ix2 (n0 := 512) (n1 := 512) ((cfg0.win 2).xinj (grid0.coords t) y)
  show out0_2 (iblk m c 0 t) (iblk m c 1 t) ((cfg0.win 2).xinj (grid0.coords t) y) = _
  rw [ey]
  exact block_at m c t (y 0) (y 1)

theorem mem_block (j : S8704x2048.Idx) (t : Fin cfg0.N) (h0 : t.val % 17 = (j 0).val / 512) (h1 : t.val / 17 = (j 1).val / 512) :
    j ∈ (win0_2.rect t).set := by
  rw [Pipeline.Window.mem_rect_iff win0_2 t j rfl, index2, h0, h1]
  intro a
  match a with
  | ⟨0, _⟩ => show (j 0).val / 512 * 512 ≤ (j 0).val ∧ (j 0).val < (j 0).val / 512 * 512 + 512; omega
  | ⟨1, _⟩ => show (j 1).val / 512 * 512 ≤ (j 1).val ∧ (j 1).val < (j 1).val / 512 * 512 + 512; omega

theorem block_set (t : Fin cfg0.N) : ((cfg0.win 2).blk t).view.set = (win0_2.rect t).set := by
  show (View.slice _ (win0_2.rect t)).set = _
  rw [View.set_slice_whole]

theorem place_of (p q : ℕ) (hp : p < 17) (hq : q < 4) : q * 17 + p < 68 ∧ (q * 17 + p) % 17 = p ∧ (q * 17 + p) / 17 = q := by
  omega

theorem cover (j : S8704x2048.Idx) : ∃ t : Fin cfg0.N, (cfg0.win 2).flush t = true ∧ j ∈ ((cfg0.win 2).blk t).view.set := by
  have hp := place_of ((j 0).val / 512) ((j 1).val / 512) (Nat.div_lt_of_lt_mul (j 0).isLt) (Nat.div_lt_of_lt_mul (j 1).isLt)
  refine ⟨⟨(j 1).val / 512 * 17 + (j 0).val / 512, lt_of_lt_of_eq hp.1 N_0.symm⟩, flush0_2 _, ?_⟩
  rw [block_set]
  exact mem_block j _ hp.2.1 hp.2.2

/-- The call's array is the product, at every index. -/
theorem final : (dats m 0 c).arrAt 2 cfg0.N = G m c :=
  (dats m 0 c).arrAt_eq_of_cover 2 (G m c) (fun t _ => flushed_eq m c t) cover

/-- The reference's product, read at a sequence, a token and a column. -/
theorem dot_at (x : FVec Ideal Cert.OddOutReferenceIdeal.S2x4352x2048 .f32) (w : FVec Ideal Cert.OddOutReferenceIdeal.S2048x2048 .f32) (b : Fin 2) (s : Fin 4352) (n : Fin 2048) :
    Host.dotGeneral Cert.OddOutReferenceIdeal.dot_S2x4352x2048_S2048x2048_S2x4352x2048_2_0_01_1_n_n none x w (ix3 b s n) = product x w b s n := by
  pointwise [Cert.OddOutReferenceIdeal.dot_S2x4352x2048_S2048x2048_S2x4352x2048_2_0_01_1_n_n]
  rfl

theorem reference_at (x : FVec Ideal Cert.OddOutReferenceIdeal.S2x4352x2048 .f32) (w : FVec Ideal Cert.OddOutReferenceIdeal.S2048x2048 .f32) (j : S8704x2048.Idx) :
    shapeCast Cert.OddOutReferenceIdeal.S8704x2048 (Host.dotGeneral Cert.OddOutReferenceIdeal.dot_S2x4352x2048_S2048x2048_S2x4352x2048_2_0_01_1_n_n none x w) Cert.OddOutReferenceIdeal.Gen.facts.shapeCasts_S2x4352x2048_S8704x2048 j
      = entry x w (j 0) (j 1) := by
  have hj : j = ix2 (j 0) (j 1) := ValueIdx.eq_ix2 (n0 := 8704) (n1 := 2048) j
  refine (congrArg _ hj).trans ?_
  refine (rows_read (B := 2) (L := 4352) (M := 8704) (K := 2048) rfl _ _ (j 0) (j 1)).trans ?_
  exact dot_at x w _ _ (j 1)

/-- The reference runs, keeps its arguments and leaves every counter at zero: it has no semaphore. -/
theorem frame_reference : Cert.quiescent_OddOutReferenceIdeal := fun m ρ _ =>
  (θ_run Cert.OddOutReferenceIdeal.defs _ _).mono (fun r h => ⟨fun c => (h c).2, sem_eq_zero_of_no_sems (by decide) r.2⟩) (Cert.OddOutReferenceIdeal.Value.run m ρ)

/-- Both arrays are the product, at every index. -/
theorem algebraic : Cert.algebraic_OddOutIdeal_OddOutReferenceIdeal := by
  intro m ρ m' ρ' _ hagree
  refine ⟨fun c => G m c, (θ_run Cert.OddOutIdeal.defs _ _).mono (fun _ h c => ⟨(h c).1.trans (final m c), (h c).2⟩)
    (Cert.OddOutIdeal.Value.run_blocks m ρ), ?_⟩
  refine (θ_run Cert.OddOutReferenceIdeal.defs _ _).mono (fun r h c => ⟨(h c).1.trans ?_, (h c).2⟩) (Cert.OddOutReferenceIdeal.Value.run m' ρ')
  rw [(hagree c).1, (hagree c).2]
  funext j
  exact reference_at (m (c.tc.loc main_arg0)) (m (c.tc.loc main_arg1)) j

end Cert.Projection.OddOut
-- ==== Proof.KeyScoresHead.lean ====
/- What the retrieval kernel computes for one head's second sub-keys, entry by entry: keys times queries, and the queries a block's
   tokens times the query weights. -/
module

public import proofs.«01_k».proof.Proof.Gen.KeyScoresIdeal.Skeleton
public import Idealize.ShloMosaic.Lib.Pointwise
public import Idealize.ShloMosaic.Lib.KernelVsHost
public import Idealize.ShloMosaic.Lib.Pipeline.FrameBody
public import Idealize.ShloMosaic.Lib.Pipeline.ValueKit.Basic
public import Idealize.ShloMosaic.Lib.ValueIdx

@[expose] public section

set_option maxRecDepth 16384

noncomputable section

namespace Cert.Retrieval

open Idealize Idealize.ShloMosaic Idealize.ShloMosaic.TcCoe Idealize.ShloMosaic.Tactic
open Cert.KeyScoresIdeal Cert.KeyScoresIdeal.Gen
open scoped BigOperators

variable (x : Vec Ideal S256x2048 .bf16) (w : Vec Ideal S2048x2048 .bf16) (q : FVec Ideal S256x2048 .bf16) (key : Vec Ideal S1x128x128 .bf16)

theorem block_queries_at (t : Fin 256) (n : Fin 2048) : k0_pay2 x w (ix2 t n) = ∑ k : Fin 2048, x (ix2 t k) * w (ix2 k n) := by
  unfold k0_pay2
  pointwise

theorem key_at (a d : Fin 128) : shapeCast S128x128 key shapeCasts_S1x128x128_S128x128 (ix2 a d) = key (ix3 (0 : Fin 1) a d) := by
  rw [Pointwise.shapeCast_apply]
  refine congrArg key (Shape.reshapeEquiv_eq_of_vals _ _ _ _ _ (rowMajor_val3 _ _ _ rfl rfl) (rowMajor_val2 _ _ rfl) ?_)
  show 0 * (128 * 128) + a.val * 128 + d.val = a.val * 128 + d.val
  omega

theorem keys_dot_at (k : FVec Ideal S128x128 .bf16) (p : FVec Ideal S256x128 .bf16) (a : Fin 128) (t : Fin 256) :
    matmul dot_S128x128_S256x128_S128x256_1_1_0_0_n_n none k p (constant S128x256 .f32 0x00000000#32) (ix2 a t)
      = ∑ d : Fin 128, k (ix2 a d) * p (ix2 t d) := by
  pointwise

/-- A head's scores: its keys against 128 columns of the queries. -/
theorem head_at (o : ℕ) (ho : o + 128 ≤ 2048) (hs : S256x2048.Slices ![0, o] S256x128) (a : Fin 128) (t : Fin 256) :
    shapeCast S1x128x256 (matmul dot_S128x128_S256x128_S128x256_1_1_0_0_n_n none (shapeCast S128x128 key shapeCasts_S1x128x128_S128x128 : FVec Ideal S128x128 .bf16)
      (extractStridedSlice S256x128 ![0, o] q hs) (constant S128x256 .f32 0x00000000#32)) shapeCasts_S128x256_S1x128x256 (ix3 (0 : Fin 1) a t)
      = ∑ d : Fin 128, key (ix3 (0 : Fin 1) a d) * q (ix2 t ⟨o + d.val, by omega⟩) := by
  rw [Pointwise.shapeCast_apply]
  refine (congrArg _ (Shape.reshapeEquiv_eq_of_vals _ _ (ix2 a t) _ _ (rowMajor_val2 _ _ rfl) (rowMajor_val3 _ _ _ rfl rfl) ?_)).trans ?_
  · show a.val * 256 + t.val = 0 * (128 * 256) + a.val * 256 + t.val
    omega
  refine (keys_dot_at _ _ a t).trans (Finset.sum_congr rfl fun d _ => ?_)
  refine congrArg₂ (· * ·) (key_at key a d) ?_
  exact extractStridedSlice_apply ![0, o] q hs (ix2 t d) (ix2 t (⟨o + d.val, by omega⟩ : Fin 2048)) (by intro b; fin_cases b <;> simp [ix2])

/-- The keys of one head loaded out of all of them. -/
theorem loaded_key (keys : Vec Ideal S16x128x128 .bf16) (j : Fin 16) (o : ℕ) (ho : o = j.val)
    (inb : ∀ a, (![o, 0, 0] : Fin 3 → ℕ) a + S1x128x128.size a ≤ S16x128x128.size a) (a d : Fin 128) :
    View.ld keys (Rect.unit (s := S16x128x128) ![o, 0, 0] S1x128x128.size inb) (ix3 (0 : Fin 1) a d) = keys (ix3 j a d) := by
  subst ho
  refine congrArg keys (funext fun b => Fin.ext ?_)
  fin_cases b <;> simp [ix3, Rect.emb]

theorem head_not_mem (h : Fin 8) (o : ℕ) (ho : o ≠ h.val) (a : Fin 128) (t : Fin 256)
    (inb : ∀ b, (![o, 0, 0] : Fin 3 → ℕ) b + (![1, 128, 256] : Fin 3 → ℕ) b ≤ S8x128x256.size b) :
    (ix3 h a t : S8x128x256.Idx) ∉ (Rect.unit ![o, 0, 0] ![1, 128, 256] inb).set := by
  intro hm
  have h0 : o ≤ h.val ∧ h.val < o + 1 := (Rect.mem_set_unit.1 hm) 0
  omega

/-- A head's scores stored in the block of all heads: reading another head's passes it by, reading its own finds it. -/
theorem head_skip (h : Fin 8) (o : ℕ) (ho : o ≠ h.val) (a : Fin 128) (t : Fin 256)
    (inb : ∀ b, (![o, 0, 0] : Fin 3 → ℕ) b + (![1, 128, 256] : Fin 3 → ℕ) b ≤ S8x128x256.size b)
    (v : FVec Ideal S1x128x256 .f32) (L : List (View.Piece (Elt Ideal) S8x128x256 .f32)) :
    View.canon (⟨Rect.unit ![o, 0, 0] ![1, 128, 256] inb, v⟩ :: L) (ix3 h a t) = View.canon L (ix3 h a t) :=
  View.canon_cons_of_not_mem _ _ (head_not_mem h o ho a t inb)

theorem head_emb (h : Fin 8) (a : Fin 128) (t : Fin 256)
    (inb : ∀ b, (![h.val, 0, 0] : Fin 3 → ℕ) b + (![1, 128, 256] : Fin 3 → ℕ) b ≤ S8x128x256.size b) :
    (ix3 h a t : S8x128x256.Idx) = (Rect.unit ![h.val, 0, 0] ![1, 128, 256] inb).emb (ix3 (0 : Fin 1) a t) := by
  show _ = (Rect.unit (s := S8x128x256) ![h.val, 0, 0] ![1, 128, 256] inb).idx (ix3 (0 : Fin 1) a t)
  exact funext fun b => Fin.ext (by fin_cases b <;> simp [ix3])

theorem head_hit (h : Fin 8) (a : Fin 128) (t : Fin 256)
    (inb : ∀ b, (![h.val, 0, 0] : Fin 3 → ℕ) b + (![1, 128, 256] : Fin 3 → ℕ) b ≤ S8x128x256.size b)
    (v : FVec Ideal S1x128x256 .f32) (L : List (View.Piece (Elt Ideal) S8x128x256 .f32)) :
    View.canon (⟨Rect.unit ![h.val, 0, 0] ![1, 128, 256] inb, v⟩ :: L) (ix3 h a t) = v (ix3 (0 : Fin 1) a t) := by
  refine (congrArg _ (head_emb h a t inb)).trans ?_
  exact View.canon_cons_emb _ _ _ _

/-- The stores of the eight heads, last first. -/
abbrev headPiece (h : Fin 8) (inb : ∀ b, (![h.val, 0, 0] : Fin 3 → ℕ) b + (![1, 128, 256] : Fin 3 → ℕ) b ≤ S8x128x256.size b)
    (v : FVec Ideal S1x128x256 .f32) : View.Piece (Elt Ideal) S8x128x256 .f32 := ⟨Rect.unit ![h.val, 0, 0] ![1, 128, 256] inb, v⟩

theorem one_of_eight : ∀ h : Fin 8, h = 7 ∨ h = 6 ∨ h = 5 ∨ h = 4 ∨ h = 3 ∨ h = 2 ∨ h = 1 ∨ h = 0 := by decide

theorem heads_at (inb : ∀ h : Fin 8, ∀ b, (![h.val, 0, 0] : Fin 3 → ℕ) b + (![1, 128, 256] : Fin 3 → ℕ) b ≤ S8x128x256.size b)
    (v : Fin 8 → FVec Ideal S1x128x256 .f32) (h : Fin 8) (a : Fin 128) (t : Fin 256) :
    View.canon [headPiece 7 (inb 7) (v 7), headPiece 6 (inb 6) (v 6), headPiece 5 (inb 5) (v 5), headPiece 4 (inb 4) (v 4),
      headPiece 3 (inb 3) (v 3), headPiece 2 (inb 2) (v 2), headPiece 1 (inb 1) (v 1), headPiece 0 (inb 0) (v 0)] (ix3 h a t)
      = v h (ix3 (0 : Fin 1) a t) := by
  have skip : ∀ (g : Fin 8) (L : List (View.Piece (Elt Ideal) S8x128x256 .f32)), g ≠ h →
      View.canon (headPiece g (inb g) (v g) :: L) (ix3 h a t) = View.canon L (ix3 h a t) := fun g L hg =>
    head_skip h g.val (fun e => hg (Fin.ext e)) a t (inb g) (v g) L
  have hit : ∀ (L : List (View.Piece (Elt Ideal) S8x128x256 .f32)),
      View.canon (headPiece h (inb h) (v h) :: L) (ix3 h a t) = v h (ix3 (0 : Fin 1) a t) := fun L => head_hit h a t (inb h) (v h) L
  rcases one_of_eight h with rfl | rfl | rfl | rfl | rfl | rfl | rfl | rfl
  · exact hit _
  · exact (skip 7 _ (by decide)).trans (hit _)
  · exact (skip 7 _ (by decide)).trans ((skip 6 _ (by decide)).trans (hit _))
  · exact (skip 7 _ (by decide)).trans ((skip 6 _ (by decide)).trans ((skip 5 _ (by decide)).trans (hit _)))
  · exact (skip 7 _ (by decide)).trans ((skip 6 _ (by decide)).trans ((skip 5 _ (by decide)).trans ((skip 4 _ (by decide)).trans (hit _))))
  · exact (skip 7 _ (by decide)).trans ((skip 6 _ (by decide)).trans ((skip 5 _ (by decide)).trans ((skip 4 _ (by decide)).trans ((skip 3 _ (by decide)).trans (hit _)))))
  · exact (skip 7 _ (by decide)).trans ((skip 6 _ (by decide)).trans ((skip 5 _ (by decide)).trans ((skip 4 _ (by decide)).trans ((skip 3 _ (by decide)).trans ((skip 2 _ (by decide)).trans (hit _))))))
  · exact (skip 7 _ (by decide)).trans ((skip 6 _ (by decide)).trans ((skip 5 _ (by decide)).trans ((skip 4 _ (by decide)).trans ((skip 3 _ (by decide)).trans ((skip 2 _ (by decide)).trans ((skip 1 _ (by decide)).trans (hit _)))))))

end Cert.Retrieval
-- ==== Proof.KeyScoresReference.lean ====
/- The retrieval's second key scores: each entry as one sum over a sub-key's coordinates of query times key, and the reference's array
   read as that sum. -/
module

public import proofs.«01_k».proof.Proof.Product
public import proofs.«01_k».proof.Proof.Gen.KeyScoresReferenceIdeal.Run

@[expose] public section

set_option maxRecDepth 16384

noncomputable section

namespace Cert.Retrieval

open Idealize Idealize.ShloMosaic Idealize.ShloMosaic.TcCoe Idealize.ShloMosaic.Tactic Idealize.SL.Sem
open Cert.Projection (product seqOf tokOf rows_read)
open scoped BigOperators

/-- The column of the queries that coordinate `d` of head `h`'s second half is. -/
def queryCol (h : Fin 8) (d : Fin 128) : Fin 2048 := ⟨h.val * 256 + 128 + d.val, by omega⟩

/-- The score of token `t` against the second sub-key `a` of head `h`: the sum over the sub-key's coordinates of key times query, the
    query the token's row times the query weights. -/
def score (x : (⟨3, ![2, 4096, 2048]⟩ : Shape).Idx → EReal) (w : (⟨2, ![2048, 2048]⟩ : Shape).Idx → EReal)
    (keys : (⟨4, ![8, 2, 128, 128]⟩ : Shape).Idx → EReal) (h : Fin 8) (a : Fin 128) (t : Fin 8192) : EReal :=
  ∑ d : Fin 128, keys (ix4 h 1 a d)
    * product x w (seqOf (B := 2) (L := 4096) rfl t) (tokOf (B := 2) (L := 4096) rfl t) (queryCol h d)

section
open Cert.KeyScoresReferenceIdeal

variable (x : FVec Ideal S2x4096x2048 .f32) (w : FVec Ideal S2048x2048 .f32) (keys : FVec Ideal S8x2x128x128 .f32)

/-- The reference's queries. -/
abbrev queries : FVec Ideal S8192x2048 .f32 :=
  Host.dotGeneral dot_S8192x2048_S2048x2048_S8192x2048_1_0_0_1_n_n none (shapeCast S8192x2048 x Gen.facts.shapeCasts_S2x4096x2048_S8192x2048) w

theorem queries_at (t : Fin 8192) (n : Fin 2048) : queries x w (ix2 t n)
    = product x w (seqOf (B := 2) (L := 4096) rfl t) (tokOf (B := 2) (L := 4096) rfl t) n := by
  unfold queries
  have e := rows_read (B := 2) (L := 4096) (M := 8192) (K := 2048) rfl x Gen.facts.shapeCasts_S2x4096x2048_S8192x2048 t
  generalize shapeCast S8192x2048 x Gen.facts.shapeCasts_S2x4096x2048_S8192x2048 = y at e ⊢
  refine Eq.trans (b := ∑ k : Fin 2048, y (ix2 t k) * w (ix2 k n)) ?_ (Finset.sum_congr rfl fun k _ => by rw [e k])
  pointwise [dot_S8192x2048_S2048x2048_S8192x2048_1_0_0_1_n_n]

/-- The queries by head and half, read at a coordinate of the second half. -/
theorem halves_at (q : FVec Ideal S8192x2048 .f32) (t : Fin 8192) (h : Fin 8) (d : Fin 128) :
    shapeCast S8192x8x2x128 q Gen.facts.shapeCasts_S8192x2048_S8192x8x2x128 (ix4 t h 1 d) = q (ix2 t (queryCol h d)) := by
  rw [Pointwise.shapeCast_apply]
  refine congrArg q (Shape.reshapeEquiv_eq_of_vals _ _ _ _ _ (rowMajor_val2 _ _ rfl) (rowMajor_val4 _ _ _ _ rfl rfl rfl) ?_)
  show t.val * 2048 + (h.val * 256 + 128 + d.val) = t.val * (8 * (2 * 128)) + h.val * (2 * 128) + 1 * 128 + d.val
  omega

theorem scores_dot_at (q : FVec Ideal S8192x8x2x128 .f32) (h : Fin 8) (p : Fin 2) (a : Fin 128) (t : Fin 8192) :
    Host.dotGeneral dot_S8x2x128x128_S8192x8x2x128_S8x2x128x8192_3_3_2_0_01_12 none keys q (ix4 h p a t)
      = ∑ d : Fin 128, keys (ix4 h p a d) * q (ix4 t h p d) := by
  pointwise [dot_S8x2x128x128_S8192x8x2x128_S8x2x128x8192_3_3_2_0_01_12]

/-- Picking the second half of the scores and putting heads, keys and tokens in that order. -/
theorem picked_at (s : FVec Ideal S8x2x128x8192 .f32) (h : Fin 8) (a : Fin 128) (t : Fin 8192) :
    transpose S8x128x8192 [1, 2, 0] (shapeCast S8192x8x128 (extractStridedSlice S8192x8x1x128 ![0, 0, 1, 0]
      (transpose S8192x8x2x128 [3, 0, 1, 2] s Gen.facts.transposes_S8x2x128x8192_S8192x8x2x128_3_0_1_2)
      Gen.facts.slices_S8192x8x2x128_S8192x8x1x128_0_0_1_0) Gen.facts.shapeCasts_S8192x8x1x128_S8192x8x128)
      Gen.facts.transposes_S8192x8x128_S8x128x8192_1_2_0 (ix3 h a t) = s (ix4 h 1 a t) := by
  refine (transpose_apply [1, 2, 0] _ _ (ix3 h a t) (ix3 t h a) (by intro b; fin_cases b <;> rfl)).trans ?_
  rw [Pointwise.shapeCast_apply]
  refine (congrArg _ (Shape.reshapeEquiv_eq_of_vals _ _ (ix4 t h (0 : Fin 1) a) _ _ (rowMajor_val4 _ _ _ _ rfl rfl rfl) (rowMajor_val3 _ _ _ rfl rfl) ?_)).trans ?_
  · show t.val * (8 * (1 * 128)) + h.val * (1 * 128) + 0 * 128 + a.val = t.val * (8 * 128) + h.val * 128 + a.val
    omega
  refine (extractStridedSlice_apply ![0, 0, 1, 0] _ _ (ix4 t h (0 : Fin 1) a) (ix4 t h (1 : Fin 2) a) (by intro b; fin_cases b <;> simp [ix4])).trans ?_
  exact transpose_apply [3, 0, 1, 2] s _ (ix4 t h (1 : Fin 2) a) (ix4 h (1 : Fin 2) a t) (by intro b; fin_cases b <;> rfl)

/-- The reference's array is the scores. -/
theorem reference_at (h : Fin 8) (a : Fin 128) (t : Fin 8192) :
    transpose S8x128x8192 [1, 2, 0] (shapeCast S8192x8x128 (extractStridedSlice S8192x8x1x128 ![0, 0, 1, 0]
      (transpose S8192x8x2x128 [3, 0, 1, 2] (Host.dotGeneral dot_S8x2x128x128_S8192x8x2x128_S8x2x128x8192_3_3_2_0_01_12 none keys
        (shapeCast S8192x8x2x128 (queries x w) Gen.facts.shapeCasts_S8192x2048_S8192x8x2x128))
        Gen.facts.transposes_S8x2x128x8192_S8192x8x2x128_3_0_1_2)
      Gen.facts.slices_S8192x8x2x128_S8192x8x1x128_0_0_1_0) Gen.facts.shapeCasts_S8192x8x1x128_S8192x8x128)
      Gen.facts.transposes_S8192x8x128_S8x128x8192_1_2_0 (ix3 h a t) = score x w keys h a t := by
  refine (picked_at _ h a t).trans ((scores_dot_at keys _ h 1 a t).trans (Finset.sum_congr rfl fun d _ => ?_))
  exact congrArg (keys (ix4 h 1 a d) * ·) ((halves_at _ t h d).trans (queries_at x w t _))

end

end Cert.Retrieval
-- ==== Proof.KeyScoresValue.lean ====
/- The retrieval kernel's second key scores: every block it writes is a block of the scores, and the blocks cover the array; the
   reference's array is the same scores. -/
module

public import proofs.«01_k».proof.Proof.KeyScoresHead
public import proofs.«01_k».proof.Proof.KeyScoresReference
public import proofs.«01_k».proof.Defs
public import proofs.«01_k».proof.Proof.Gen.KeyScoresIdeal.Value
public import Idealize.ShloMosaic.Adequacy
public import Idealize.ShloMosaic.Init

@[expose] public section

set_option maxRecDepth 16384

noncomputable section

namespace Cert.Retrieval

open Idealize Idealize.ShloMosaic Idealize.ShloMosaic.TcCoe Idealize.ShloMosaic.Tactic Idealize.SL.Sem
open Cert.KeyScoresIdeal Cert.KeyScoresIdeal.Gen
open Cert.Projection (product seqOf tokOf rows_read)
open Idealize.ShloMosaic.Pipeline (Dat Cfg Window)
open scoped BigOperators

section block

variable (x : Vec Ideal S256x2048 .bf16) (w : Vec Ideal S2048x2048 .bf16) (keys : Vec Ideal S16x128x128 .bf16)

/-- The index of a head's second sub-keys among all sixteen. -/
def second (h : Fin 8) : Fin 16 := ⟨2 * h.val + 1, by omega⟩

/-- A head's scores of a block of tokens. -/
def blockScore (h : Fin 8) (a : Fin 128) (t : Fin 256) : EReal :=
  ∑ d : Fin 128, keys (ix3 (second h) a d) * ∑ k : Fin 2048, x (ix2 t k) * w (ix2 k (queryCol h d))

/-- The tokens and the weights as the kernel loads them: whole. -/
abbrev lx : Vec Ideal S256x2048 .bf16 := View.ld x (Rect.unit ![0, 0] ![256, 2048] inb_S256x2048_S256x2048_0_0)
abbrev lw : Vec Ideal S2048x2048 .bf16 := View.ld w (Rect.unit ![0, 0] ![2048, 2048] inb_S2048x2048_S2048x2048_0_0)

theorem zero_pair : (![0, 0] : Fin 2 → ℕ) = fun _ => 0 := funext fun a => by fin_cases a <;> rfl
theorem lx_eq : lx x = x := View.ld_unit_zero (S := S256x2048) zero_pair _ _
theorem lw_eq : lw w = w := View.ld_unit_zero (S := S2048x2048) zero_pair _ _

theorem head_score (h : Fin 8) (o l : ℕ) (ho : o = h.val * 256 + 128) (hl : l = (second h).val) (hs : S256x2048.Slices ![0, o] S256x128)
    (inb : ∀ a, (![l, 0, 0] : Fin 3 → ℕ) a + S1x128x128.size a ≤ S16x128x128.size a) (a : Fin 128) (t : Fin 256) :
    shapeCast S1x128x256 (matmul dot_S128x128_S256x128_S128x256_1_1_0_0_n_n none
      (shapeCast S128x128 (View.ld keys (Rect.unit (s := S16x128x128) ![l, 0, 0] S1x128x128.size inb)) shapeCasts_S1x128x128_S128x128 : FVec Ideal S128x128 .bf16)
      (extractStridedSlice S256x128 ![0, o] (k0_pay2 (lx x) (lw w)) hs) (constant S128x256 .f32 0x00000000#32)) shapeCasts_S128x256_S1x128x256 (ix3 (0 : Fin 1) a t)
      = blockScore x w keys h a t := by
  refine (head_at _ _ o (by omega) hs a t).trans (Finset.sum_congr rfl fun d _ => ?_)
  refine congrArg₂ (· * ·) (loaded_key keys (second h) l hl inb a d) ?_
  rw [lx_eq, lw_eq]
  refine (block_queries_at x w t _).trans (Finset.sum_congr rfl fun k _ => ?_)
  refine congrArg (fun n => x (ix2 t k) * w (ix2 k n)) (Fin.ext ?_)
  show o + d.val = h.val * 256 + 128 + d.val
  rw [ho]

/-- What the kernel stores for each head. -/
abbrev stored0 : FVec Ideal S1x128x256 .f32 := k0_pay491 (k0_pay2 (lx x) (lw w)) (View.ld keys (Rect.unit ![1, 0, 0] ![1, 128, 128] inb_S16x128x128_S1x128x128_1_0_0))
abbrev stored1 : FVec Ideal S1x128x256 .f32 := k0_pay1477 (k0_pay2 (lx x) (lw w)) (View.ld keys (Rect.unit ![3, 0, 0] ![1, 128, 128] inb_S16x128x128_S1x128x128_3_0_0))
abbrev stored2 : FVec Ideal S1x128x256 .f32 := k0_pay2458 (k0_pay2 (lx x) (lw w)) (View.ld keys (Rect.unit ![5, 0, 0] ![1, 128, 128] inb_S16x128x128_S1x128x128_5_0_0))
abbrev stored3 : FVec Ideal S1x128x256 .f32 := k0_pay3449 (k0_pay2 (lx x) (lw w)) (View.ld keys (Rect.unit ![7, 0, 0] ![1, 128, 128] inb_S16x128x128_S1x128x128_7_0_0))
abbrev stored4 : FVec Ideal S1x128x256 .f32 := k0_pay4441 (k0_pay2 (lx x) (lw w)) (View.ld keys (Rect.unit ![9, 0, 0] ![1, 128, 128] inb_S16x128x128_S1x128x128_9_0_0))
abbrev stored5 : FVec Ideal S1x128x256 .f32 := k0_pay5427 (k0_pay2 (lx x) (lw w)) (View.ld keys (Rect.unit ![11, 0, 0] ![1, 128, 128] inb_S16x128x128_S1x128x128_11_0_0))
abbrev stored6 : FVec Ideal S1x128x256 .f32 := k0_pay6429 (k0_pay2 (lx x) (lw w)) (View.ld keys (Rect.unit ![13, 0, 0] ![1, 128, 128] inb_S16x128x128_S1x128x128_13_0_0))
abbrev stored7 : FVec Ideal S1x128x256 .f32 := k0_pay7410 (k0_pay2 (lx x) (lw w)) (View.ld keys (Rect.unit ![15, 0, 0] ![1, 128, 128] inb_S16x128x128_S1x128x128_15_0_0))

theorem stored0_at (a : Fin 128) (t : Fin 256) : stored0 x w keys (ix3 (0 : Fin 1) a t) = blockScore x w keys 0 a t :=
  head_score x w keys 0 128 1 rfl rfl slices_S256x2048_o0_128_S256x128 inb_S16x128x128_S1x128x128_1_0_0 a t
theorem stored1_at (a : Fin 128) (t : Fin 256) : stored1 x w keys (ix3 (0 : Fin 1) a t) = blockScore x w keys 1 a t :=
  head_score x w keys 1 384 3 rfl rfl slices_S256x2048_o0_384_S256x128 inb_S16x128x128_S1x128x128_3_0_0 a t
theorem stored2_at (a : Fin 128) (t : Fin 256) : stored2 x w keys (ix3 (0 : Fin 1) a t) = blockScore x w keys 2 a t :=
  head_score x w keys 2 640 5 rfl rfl slices_S256x2048_o0_640_S256x128 inb_S16x128x128_S1x128x128_5_0_0 a t
theorem stored3_at (a : Fin 128) (t : Fin 256) : stored3 x w keys (ix3 (0 : Fin 1) a t) = blockScore x w keys 3 a t :=
  head_score x w keys 3 896 7 rfl rfl slices_S256x2048_o0_896_S256x128 inb_S16x128x128_S1x128x128_7_0_0 a t
theorem stored4_at (a : Fin 128) (t : Fin 256) : stored4 x w keys (ix3 (0 : Fin 1) a t) = blockScore x w keys 4 a t :=
  head_score x w keys 4 1152 9 rfl rfl slices_S256x2048_o0_1152_S256x128 inb_S16x128x128_S1x128x128_9_0_0 a t
theorem stored5_at (a : Fin 128) (t : Fin 256) : stored5 x w keys (ix3 (0 : Fin 1) a t) = blockScore x w keys 5 a t :=
  head_score x w keys 5 1408 11 rfl rfl slices_S256x2048_o0_1408_S256x128 inb_S16x128x128_S1x128x128_11_0_0 a t
theorem stored6_at (a : Fin 128) (t : Fin 256) : stored6 x w keys (ix3 (0 : Fin 1) a t) = blockScore x w keys 6 a t :=
  head_score x w keys 6 1664 13 rfl rfl slices_S256x2048_o0_1664_S256x128 inb_S16x128x128_S1x128x128_13_0_0 a t
theorem stored7_at (a : Fin 128) (t : Fin 256) : stored7 x w keys (ix3 (0 : Fin 1) a t) = blockScore x w keys 7 a t :=
  head_score x w keys 7 1920 15 rfl rfl slices_S256x2048_o0_1920_S256x128 inb_S16x128x128_S1x128x128_15_0_0 a t

def stored (h : Fin 8) : FVec Ideal S1x128x256 .f32 :=
  match h with
  | 0 => stored0 x w keys
  | 1 => stored1 x w keys
  | 2 => stored2 x w keys
  | 3 => stored3 x w keys
  | 4 => stored4 x w keys
  | 5 => stored5 x w keys
  | 6 => stored6 x w keys
  | 7 => stored7 x w keys

theorem stored_at (h : Fin 8) (a : Fin 128) (t : Fin 256) : stored x w keys h (ix3 (0 : Fin 1) a t) = blockScore x w keys h a t := by
  rcases one_of_eight h with rfl | rfl | rfl | rfl | rfl | rfl | rfl | rfl
  · exact stored7_at x w keys a t
  · exact stored6_at x w keys a t
  · exact stored5_at x w keys a t
  · exact stored4_at x w keys a t
  · exact stored3_at x w keys a t
  · exact stored2_at x w keys a t
  · exact stored1_at x w keys a t
  · exact stored0_at x w keys a t

abbrev pieces : List (View.Piece (Elt Ideal) S8x128x256 .f32) :=
  [⟨Rect.unit ![7, 0, 0] ![1, 128, 256] inb_S8x128x256_S1x128x256_7_0_0, stored7 x w keys⟩, ⟨Rect.unit ![6, 0, 0] ![1, 128, 256] inb_S8x128x256_S1x128x256_6_0_0, stored6 x w keys⟩, ⟨Rect.unit ![5, 0, 0] ![1, 128, 256] inb_S8x128x256_S1x128x256_5_0_0, stored5 x w keys⟩, ⟨Rect.unit ![4, 0, 0] ![1, 128, 256] inb_S8x128x256_S1x128x256_4_0_0, stored4 x w keys⟩, ⟨Rect.unit ![3, 0, 0] ![1, 128, 256] inb_S8x128x256_S1x128x256_3_0_0, stored3 x w keys⟩, ⟨Rect.unit ![2, 0, 0] ![1, 128, 256] inb_S8x128x256_S1x128x256_2_0_0, stored2 x w keys⟩, ⟨Rect.unit ![1, 0, 0] ![1, 128, 256] inb_S8x128x256_S1x128x256_1_0_0, stored1 x w keys⟩, ⟨Rect.unit ![0, 0, 0] ![1, 128, 256] inb_S8x128x256_S1x128x256_0_0_0, stored0 x w keys⟩]

theorem inb_head (h : Fin 8) : ∀ b, (![h.val, 0, 0] : Fin 3 → ℕ) b + (![1, 128, 256] : Fin 3 → ℕ) b ≤ S8x128x256.size b := by
  intro b
  fin_cases b
  · show h.val + 1 ≤ 8; omega
  · exact Nat.le_refl 128
  · exact Nat.le_refl 256

theorem pieces_at (h : Fin 8) (a : Fin 128) (t : Fin 256) : View.canon (pieces x w keys) (ix3 h a t) = blockScore x w keys h a t :=
  (heads_at inb_head (stored x w keys) h a t).trans (stored_at x w keys h a t)

variable (c : Dev nD) (i : grid0.Coords) (a1 : Memref sig .tc .vmem S256x2048 .bf16) (h1 : a1.IsWhole) (a2 : Memref sig .tc .vmem S2048x2048 .bf16) (h2 : a2.IsWhole) (a3 : Memref sig .tc .vmem S16x128x128 .bf16) (h3 : a3.IsWhole) (a4 : Memref sig .tc .vmem S8x128x256 .f32) (h4 : a4.IsWhole) (a5 : Memref sig .tc .vmem S8x128x256 .f32) (h5 : a5.IsWhole) (a6 : Memref sig .tc .vmem S8x128x256 .f32) (h6 : a6.IsWhole) (a7 : Memref sig .tc .vmem S8x128x256 .f32) (h7 : a7.IsWhole) (a8 : Memref sig .tc .vmem S8x128x256 .f32) (h8 : a8.IsWhole)

theorem run_pieces : (kernelRun0_A (F := Ideal) c i a1 h1 a2 h2 a3 h3 a4 h4 a5 h5 a6 h6 a7 h7 a8 h8 x w keys).1 = pieces x w keys := by
  unfold kernelRun0_A
  dsimp only
  sl_unfold_words
  simp only [View.readAt_eq_ld, h1.read_unread, h2.read_unread, h3.read_unread]

theorem out_at (h : Fin 8) (a : Fin 128) (t : Fin 256) : out0_A_3 c i a1 h1 a2 h2 a3 h3 a4 h4 a5 h5 a6 h6 a7 h7 a8 h8 x w keys (ix3 h a t) = blockScore x w keys h a t := by
  unfold out0_A_3
  rw [View.read_writes_eq_canon _ _ _ (cover0_A_3 c i a1 h1 a2 h2 a3 h3 a4 h4 a5 h5 a6 h6 a7 h7 a8 h8 x w keys), run_pieces]
  exact pieces_at x w keys h a t

end block

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0, 0] := by decide +kernel
theorem index3 : ∀ t : Fin grid0.N, win0_3.index t = ![0, 0, t.val] := by decide +kernel

theorem point_lt (t : Fin cfg0.N) : t.val < 32 := lt_of_lt_of_eq t.isLt N_0

/-- The token of the array that a token of grid point `t`'s block is. -/
def token (t : Fin cfg0.N) (r : Fin 256) : Fin 8192 := ⟨t.val * 256 + r.val, by have := point_lt t; omega⟩

variable (m : (ℓ : Loc nD τ sig) → Buf (Elt Ideal) ℓ) (c : Dev nD)

/-- The arguments as arrays. -/
abbrev a0 : (⟨3, ![2, 4096, 2048]⟩ : Shape).Idx → EReal := m (c.tc.loc main_arg0)
abbrev a1 : (⟨2, ![2048, 2048]⟩ : Shape).Idx → EReal := m (c.tc.loc main_arg1)
abbrev a2 : (⟨4, ![8, 2, 128, 128]⟩ : Shape).Idx → EReal := m (c.tc.loc main_arg2)

/-- The array the call is to leave. -/
def G (j : S8x128x8192.Idx) : EReal := score (a0 m c) (a1 m c) (a2 m c) (j 0) (j 1) (j 2)

/-- The tokens' rows the call reads, its weights and its keys. -/
theorem rows_at (r : Fin 8192) (k : Fin 2048) : V m c main_v1 (ix2 r k)
    = a0 m c (ix3 (seqOf (B := 2) (L := 4096) rfl r) (tokOf (B := 2) (L := 4096) rfl r) k) := by
  unfold V
  simp only [hostOps0]
  after_results
  exact rows_read rfl (a0 m c) shapeCasts_S2x4096x2048_S8192x2048 r k

theorem weights_at (k n : Fin 2048) : V m c main_v4 (ix2 k n) = a1 m c (ix2 k n) := by
  unfold V
  simp only [hostOps0]
  after_results
  rfl

theorem keys_read (x : (⟨4, ![8, 2, 128, 128]⟩ : Shape).Idx → EReal) (h : Fin 8) (a d : Fin 128) :
    shapeCast S16x128x128 x shapeCasts_S8x2x128x128_S16x128x128 (ix3 (second h) a d) = x (ix4 h (1 : Fin 2) a d) := by
  rw [Pointwise.shapeCast_apply]
  refine congrArg x (Shape.reshapeEquiv_eq_of_vals _ _ _ _ _ (rowMajor_val4 _ _ _ _ rfl rfl rfl) (rowMajor_val3 _ _ _ rfl rfl) ?_)
  show h.val * (2 * (128 * 128)) + 1 * (128 * 128) + a.val * 128 + d.val = (2 * h.val + 1) * (128 * 128) + a.val * 128 + d.val
  omega

theorem keys_at (h : Fin 8) (a d : Fin 128) : V m c main_v3 (ix3 (second h) a d) = a2 m c (ix4 h (1 : Fin 2) a d) := by
  unfold V
  simp only [hostOps0]
  after_results
  exact keys_read (a2 m c) h a d

/-- The three blocks a grid point reads. -/
theorem block0_at (t : Fin cfg0.N) (r : Fin 256) (k : Fin 2048) : iblk m c 0 t (ix2 r k) = V m c main_v1 (ix2 (token t r) k) := by
  refine congrArg (V m c main_v1) (funext fun a => Fin.ext ?_)
  refine (Pipeline.Window.rect_emb_val win0_0 t _ a).trans ?_
  rw [index0]
  fin_cases a <;> simp [ix2, token]
theorem block1_at (t : Fin cfg0.N) (k n : Fin 2048) : iblk m c 1 t (ix2 k n) = V m c main_v4 (ix2 k n) := by
  refine congrArg (V m c main_v4) (funext fun a => Fin.ext ?_)
  refine (Pipeline.Window.rect_emb_val win0_1 t _ a).trans ?_
  rw [index1]
  fin_cases a <;> simp [ix2]
theorem block2_at (t : Fin cfg0.N) (j : Fin 16) (a d : Fin 128) : iblk m c 2 t (ix3 j a d) = V m c main_v3 (ix3 j a d) := by
  refine congrArg (V m c main_v3) (funext fun b => Fin.ext ?_)
  refine (Pipeline.Window.rect_emb_val win0_2 t _ b).trans ?_
  rw [index2]
  fin_cases b <;> simp [ix3]

/-- A grid point's block of scores. -/
theorem block_at (t : Fin cfg0.N) (h : Fin 8) (a : Fin 128) (r : Fin 256) :
    blockScore (iblk m c 0 t) (iblk m c 1 t) (iblk m c 2 t) h a r = score (a0 m c) (a1 m c) (a2 m c) h a (token t r) := by
  refine Finset.sum_congr rfl fun d _ => ?_
  refine congrArg₂ (· * ·) ((block2_at m c t (second h) a d).trans (keys_at m c h a d)) (Finset.sum_congr rfl fun k _ => ?_)
  exact congrArg₂ (· * ·) ((block0_at m c t r k).trans (rows_at m c _ k)) ((block1_at m c t k _).trans (weights_at m c k _))

theorem emb_at (t : Fin cfg0.N) (y : S8x128x256.Idx) :
    G m c ((win0_3.rect t).emb y) = score (a0 m c) (a1 m c) (a2 m c) (y 0) (y 1) (token t (y 2)) := by
  have e : ∀ a, ((win0_3.rect t).emb y a : ℕ) = win0_3.index t a * win0_3.size a + y a := fun a =>
    Pipeline.Window.rect_emb_val win0_3 t y a
  rw [index3] at e
  have h0 : (win0_3.rect t).emb y 0 = y 0 := Fin.ext (by rw [e 0]; simp)
  have h1 : (win0_3.rect t).emb y 1 = y 1 := Fin.ext (by rw [e 1]; simp)
  have h2 : (win0_3.rect t).emb y 2 = token t (y 2) := Fin.ext (by rw [e 2]; rfl)
  unfold G
  rw [h0, h1, h2]

theorem flushed_eq (t : Fin cfg0.N) : (dats m 0 c).flushed 3 t = ((cfg0.win 3).blk t).view.read (Elt Ideal) (G m c) := by
  rw [Value.flushed3_A]
  funext y
  refine Eq.trans ?_ (emb_at m c t y).symm
  have ey : (cfg0.win 3).xinj (grid0.coords t) y = (ix3 (y 0) (y 1) (y 2) : S8x128x256.Idx) :=
    ValueIdx.eq_ix3 (n0 := 8) (n1 := 128) (n2 := 256) ((cfg0.win 3).xinj (grid0.coords t) y)
  refine (congrArg _ ey).trans ?_
  exact (out_at (iblk m c 0 t) (iblk m c 1 t) (iblk m c 2 t) c _ _ _ _ _ _ _ _ _ _ _ _ _ _ _ _ _ (y 0) (y 1) (y 2)).trans (block_at m c t (y 0) (y 1) (y 2))

theorem mem_block (j : S8x128x8192.Idx) (t : Fin cfg0.N) (h : t.val = (j 2).val / 256) : j ∈ (win0_3.rect t).set := by
  rw [Pipeline.Window.mem_rect_iff win0_3 t j rfl, index3, h]
  intro a
  match a with
  | ⟨0, _⟩ => show 0 * 8 ≤ (j 0).val ∧ (j 0).val < 0 * 8 + 8; have : (j 0).val < 8 := (j 0).isLt; omega
  | ⟨1, _⟩ => show 0 * 128 ≤ (j 1).val ∧ (j 1).val < 0 * 128 + 128; have : (j 1).val < 128 := (j 1).isLt; omega
  | ⟨2, _⟩ => show (j 2).val / 256 * 256 ≤ (j 2).val ∧ (j 2).val < (j 2).val / 256 * 256 + 256; omega

theorem block_set (t : Fin cfg0.N) : ((cfg0.win 3).blk t).view.set = (win0_3.rect t).set := by
  show (View.slice _ (win0_3.rect t)).set = _
  rw [View.set_slice_whole]

theorem cover (j : S8x128x8192.Idx) : ∃ t : Fin cfg0.N, (cfg0.win 3).flush t = true ∧ j ∈ ((cfg0.win 3).blk t).view.set := by
  have hp : (j 2).val / 256 < 32 := Nat.div_lt_of_lt_mul (j 2).isLt
  refine ⟨⟨(j 2).val / 256, lt_of_lt_of_eq hp N_0.symm⟩, flush0_3 _, ?_⟩
  rw [block_set]
  exact mem_block j _ rfl

/-- The call's first array is the scores, at every index. -/
theorem final : (dats m 0 c).arrAt 3 cfg0.N = G m c :=
  (dats m 0 c).arrAt_eq_of_cover 3 (G m c) (fun t _ => flushed_eq m c t) cover

/-- The reference runs, keeps its arguments and leaves every counter at zero: it has no semaphore. -/
theorem frame_reference : Cert.quiescent_KeyScoresReferenceIdeal := fun m ρ _ =>
  (θ_run Cert.KeyScoresReferenceIdeal.defs _ _).mono (fun r h => ⟨fun c => (h c).2, sem_eq_zero_of_no_sems (by decide) r.2⟩) (Cert.KeyScoresReferenceIdeal.Value.run m ρ)

/-- Both arrays are the scores, at every index. -/
theorem algebraic : Cert.algebraic_KeyScoresIdeal_KeyScoresReferenceIdeal := by
  intro m ρ m' ρ' _ hagree
  refine ⟨fun c => G m c, (θ_run Cert.KeyScoresIdeal.defs _ _).mono (fun _ h c => ⟨(h c).1.trans (final m c), (h c).2.2.2.2⟩)
    (Cert.KeyScoresIdeal.Value.run_blocks m ρ), ?_⟩
  refine (θ_run Cert.KeyScoresReferenceIdeal.defs _ _).mono (fun r h c => ⟨(h c).1.trans ?_, (h c).2⟩) (Cert.KeyScoresReferenceIdeal.Value.run m' ρ')
  rw [(hagree c).1, (hagree c).2.1, (hagree c).2.2]
  funext j
  have hj : j = ix3 (j 0) (j 1) (j 2) := ValueIdx.eq_ix3 (n0 := 8) (n1 := 128) (n2 := 8192) j
  refine (congrArg _ hj).trans ?_
  exact reference_at (a0 m c) (a1 m c) (a2 m c) (j 0) (j 1) (j 2)

end Cert.Retrieval
-- ==== Proof.SsdSpec.lean ====
/- The state-space scan on the extended reals, written once: the chunked recurrence of one head, and the sequences that
   the layer feeds it. Neither program is named here; the reference and the kernel are each shown to compute `out`. -/
module

public import proofs.«01_k».proof.Proof.Spec

@[expose] public section

noncomputable section

namespace Cert.SSD

open Idealize.ShloMosaic
open Cert.GLA (pos tok)

/-! ## The recurrence of one head, over chunks of 64 positions -/

section Head

variable (x : ℕ → Fin 64 → Fin 64 → EReal) (bk ck : ℕ → Fin 64 → Fin 128 → EReal) (dt da : ℕ → Fin 64 → EReal)

/-- The running sum of the log decays inside chunk `n`, up to and with position `i`. -/
def cum (n : ℕ) (i : Fin 64) : EReal := ∑ s : Fin 64, if s ≤ i then da n s else 0

/-- The input of a position, scaled by its step. -/
def xd (n : ℕ) (i p : Fin 64) : EReal := x n i p * dt n i

/-- The decay from position `s` to position `i` of the same chunk. -/
def seg (n : ℕ) (i s : Fin 64) : EReal := if s ≤ i then Ideal.exp (cum da n i - cum da n s) else 0

/-- The score of position `i` against position `s` of the same chunk. -/
def score (n : ℕ) (i s : Fin 64) : EReal := ∑ k : Fin 128, ck n i k * bk n s k

/-- What position `i` takes from its own chunk. -/
def intra (n : ℕ) (i p : Fin 64) : EReal := ∑ s : Fin 64, score bk ck n i s * seg da n i s * xd x dt n s p

/-- The scaled input with the decay left to the end of its chunk. -/
def xw (n : ℕ) (i p : Fin 64) : EReal := xd x dt n i p * Ideal.exp (cum da n 63 - cum da n i)

/-- The carried matrix before chunk `n`. -/
def state : ℕ → Fin 64 → Fin 128 → EReal
  | 0 => fun _ _ => 0
  | n + 1 => fun p k => state n p k * Ideal.exp (cum da n 63) + ∑ i : Fin 64, xw x dt da n i p * bk n i k

/-- The output of position `i` of chunk `n`. -/
def out (n : ℕ) (i p : Fin 64) : EReal :=
  intra x bk ck dt da n i p + (∑ k : Fin 128, state x bk dt da n p k * ck n i k) * Ideal.exp (cum da n i)

end Head

/-! ## The layer's sequences -/

/-- Column `c` of token `t` of batch row `b`. -/
def el {K : ℕ} (f : (⟨3, ![2, 4352, K]⟩ : Shape).Idx → EReal) (b : Fin 2) (t : ℕ) (c : Fin K) : EReal :=
  if h : t < 4352 then f (ix3 b ⟨t, h⟩ c) else 0

theorem el_at {K : ℕ} (f : (⟨3, ![2, 4352, K]⟩ : Shape).Idx → EReal) (b : Fin 2) (t : Fin 4352) (c : Fin K) :
    f (ix3 b t c) = el f b t.val c := by
  unfold el; rw [dif_pos t.isLt]

/-- The gate of direction `d`, head `h` of token `t` of batch row `b`. -/
def gate (f : (⟨4, ![2, 4352, 2, 32]⟩ : Shape).Idx → EReal) (d b : Fin 2) (t : ℕ) (h : Fin 32) : EReal :=
  if ht : t < 4352 then f (ix4 b ⟨t, ht⟩ d h) else 0

theorem gate_at (f : (⟨4, ![2, 4352, 2, 32]⟩ : Shape).Idx → EReal) (d b : Fin 2) (t : Fin 4352) (h : Fin 32) :
    f (ix4 b t d h) = gate f d b t.val h := by
  unfold gate; rw [dif_pos t.isLt]

/-- The group of eight heads that a head lies in. -/
def grp (h : Fin 32) : Fin 4 := ⟨h.val / 8, by omega⟩

/-- The input of a head. -/
def xs (f : (⟨3, ![2, 4352, 2048]⟩ : Shape).Idx → EReal) (d b : Fin 2) (h : Fin 32) (n : ℕ) (i p : Fin 64) : EReal :=
  el f b (tok d n i) ⟨h.val * 64 + p.val, by omega⟩

/-- The vectors of a group: what a token writes to the carried matrix, or how it reads it. -/
def vs (f : (⟨3, ![2, 4352, 512]⟩ : Shape).Idx → EReal) (d b : Fin 2) (g : Fin 4) (n : ℕ) (i : Fin 64) (k : Fin 128) : EReal :=
  el f b (tok d n i) ⟨g.val * 128 + k.val, by omega⟩

/-- The steps of a head, or its log decays. -/
def gs (f : (⟨4, ![2, 4352, 2, 32]⟩ : Shape).Idx → EReal) (d b : Fin 2) (h : Fin 32) (n : ℕ) (i : Fin 64) : EReal :=
  gate f d b (tok d n i) h

variable (a0 : (⟨3, ![2, 4352, 2048]⟩ : Shape).Idx → EReal) (a1 a2 : (⟨3, ![2, 4352, 512]⟩ : Shape).Idx → EReal)
  (a3 a4 : (⟨4, ![2, 4352, 2, 32]⟩ : Shape).Idx → EReal)

/-- The carried matrix of direction `d`, batch row `b`, head `h` before chunk `n`. -/
def mat (d b : Fin 2) (h : Fin 32) (n : ℕ) (p : Fin 64) (k : Fin 128) : EReal :=
  state (xs a0 d b h) (vs a1 d b (grp h)) (gs a3 d b h) (gs a4 d b h) n p k

/-- The output of direction `d`, batch row `b`, head `h`. -/
def ssd (d b : Fin 2) (h : Fin 32) (n : ℕ) (i p : Fin 64) : EReal :=
  out (xs a0 d b h) (vs a1 d b (grp h)) (vs a2 d b (grp h)) (gs a3 d b h) (gs a4 d b h) n i p

/-- The output for token `t` of direction `d`, column `c` of the 32 heads' 64 each: the specification that both
    programs meet. -/
def result (d b : Fin 2) (t : Fin 4352) (c : Fin 2048) : EReal :=
  ssd a0 a1 a2 a3 a4 d b ⟨c.val / 64, by omega⟩ (pos d t / 64) ⟨pos d t % 64, Nat.mod_lt _ (by norm_num)⟩
    ⟨c.val % 64, Nat.mod_lt _ (by norm_num)⟩

end Cert.SSD

end
-- ==== Proof.SsdKerPoint.lean ====
/- One grid point of the state-space scan, one head at a time, read at an index. -/
module

public import proofs.«01_k».proof.Proof.SsdSpec
public import proofs.«01_k».proof.Proof.Gen.SsdIdeal.Skeleton
public import Idealize.ShloMosaic.Lib.MatmulPlain
public import Idealize.ShloMosaic.Lib.Pointwise
public import Idealize.ShloMosaic.Lib.ValueIdx
public import Idealize.ShloMosaic.Lib.ValueLayout
public import Idealize.ShloMosaic.Lib.WordCmp

@[expose] public section

set_option maxRecDepth 16384

noncomputable section

namespace Cert.SSD.Ker

open Idealize Idealize.ShloMosaic
open Cert.SsdIdeal Cert.SsdIdeal.Gen
open scoped BigOperators

variable (m : IVec S64x64 1) (b cc : Vec Ideal S1x64x128 .f32) (dt cu tl : FVec Ideal S64x1 .f32) (ro : FVec Ideal S1x64 .f32)
  (x : Vec Ideal S1x64x64 .f32) (S : Vec Ideal S1x64x128 .f32)

/-- One head's inputs scaled by their steps. -/
def headX : FVec Ideal S64x64 .f32 :=
  mulf (shapeCast S64x64 x shapeCasts_S1x64x64_S64x64) (broadcastTo S64x64 dt broadcasts_S64x1_S64x64)

/-- One head's differences of running decays. -/
def headDiff : FVec Ideal S64x64 .f32 :=
  subf (broadcastTo S64x64 cu broadcasts_S64x1_S64x64) (broadcastTo S64x64 ro broadcasts_S1x64_S64x64)

/-- The block of outputs of one head, and its state after the point. -/
def headOut : FVec Ideal S1x1x64x64 .f32 :=
  k0_pay16 m (k0_pay7 cc) (k0_pay8 b cc) cu (headX dt x) (headDiff cu ro) S
def headState : FVec Ideal S1x64x128 .f32 := k0_pay17 (k0_pay6 b) cu tl (headX dt x) S

theorem headX_at (s p : Fin 64) : headX dt x (ix2 s p) = x (ix3 0 s p) * dt (ix2 s 0) := by
  unfold headX
  pointwise

theorem headDiff_at (r s : Fin 64) : headDiff cu ro (ix2 r s) = cu (ix2 r 0) - ro (ix2 0 s) := by
  unfold headDiff
  pointwise

theorem pay7_at (r : Fin 64) (k : Fin 128) : k0_pay7 cc (ix2 r k) = cc (ix3 0 r k) := by
  unfold k0_pay7
  pointwise

theorem pay6_at (r : Fin 64) (k : Fin 128) : k0_pay6 b (ix2 r k) = b (ix3 0 r k) := by
  unfold k0_pay6
  pointwise

theorem pay8_at (r s : Fin 64) : k0_pay8 b cc (ix2 r s) = ∑ k : Fin 128, cc (ix3 0 r k) * b (ix3 0 s k) := by
  unfold k0_pay8 k0_pay7 k0_pay6
  pointwise

theorem pay16_at (C : FVec Ideal S64x128 .f32) (A X D : FVec Ideal S64x64 .f32) (r p : Fin 64) :
    k0_pay16 m C A cu X D S (ix4 0 0 r p)
      = (∑ s : Fin 64, (A (ix2 r s) * (if m (ix2 r s) = 1#1 then Ideal.exp (D (ix2 r s)) else 0)) * X (ix2 s p))
        + (∑ k : Fin 128, C (ix2 r k) * S (ix3 0 p k)) * Ideal.exp (cu (ix2 r 0)) := by
  unfold k0_pay16 k0_pay15
  pointwise
  refine congrArg₂ (· + ·) (Finset.sum_congr rfl fun s _ => ?_) rfl
  unfold Scalar.select
  by_cases h : m (ix2 r s) = 1#1
  · simp [h]
  · simp [h]

theorem pay17_at (B : FVec Ideal S64x128 .f32) (X : FVec Ideal S64x64 .f32) (p : Fin 64) (k : Fin 128) :
    k0_pay17 B cu tl X S (ix3 0 p k)
      = S (ix3 0 p k) * Ideal.exp (tl (ix2 0 0))
        + ∑ s : Fin 64, (X (ix2 s p) * Ideal.exp (tl (ix2 s 0) - cu (ix2 s 0))) * B (ix2 s k) := by
  unfold k0_pay17 k0_pay15
  pointwise [dot_S64x64_S64x128_S64x128_0_0_1_1_n_n]

/-- One head's outputs: the masked, decayed scores times the inputs, plus what is read of the state before. -/
theorem headOut_at (r p : Fin 64) :
    headOut m b cc dt cu ro x S (ix4 0 0 r p)
      = (∑ s : Fin 64, ((∑ k : Fin 128, cc (ix3 0 r k) * b (ix3 0 s k))
            * (if m (ix2 r s) = 1#1 then Ideal.exp (cu (ix2 r 0) - ro (ix2 0 s)) else 0)) * (x (ix3 0 s p) * dt (ix2 s 0)))
        + (∑ k : Fin 128, cc (ix3 0 r k) * S (ix3 0 p k)) * Ideal.exp (cu (ix2 r 0)) := by
  unfold headOut
  rw [pay16_at]
  simp only [pay8_at, pay7_at, headX_at, headDiff_at]

/-- One head's state after the point: the decayed state before plus the chunk's inputs times what they write. -/
theorem headState_at (p : Fin 64) (k : Fin 128) :
    headState b dt cu tl x S (ix3 0 p k)
      = S (ix3 0 p k) * Ideal.exp (tl (ix2 0 0))
        + ∑ s : Fin 64, ((x (ix3 0 s p) * dt (ix2 s 0)) * Ideal.exp (tl (ix2 s 0) - cu (ix2 s 0))) * b (ix3 0 s k) := by
  unfold headState
  rw [pay17_at]
  simp only [pay6_at, headX_at]

/-- The kernel's mask: the positions at or before the row's own, in the direction's order. -/
theorem mask_at (i : grid0.Coords) (r s : Fin 64) :
    k0_pay5 i (ix2 r s) = 1#1 ↔ (if (i 1).val = 0 then s ≤ r else r ≤ s) := by
  have hi : (i 1).val < 2 := (i 1).isLt
  unfold k0_pay5
  generalize (i 1).val = d at *
  interval_cases d
  · have h0 : Scalar.cmpi .eq (BitVec.ofNat 32 0) 0#32 = 1#1 := by decide
    simp only [h0]
    pointwise
    exact WordCmp.cmpi_sge_ofNat_eq_one_iff (by omega) (by omega)
  · have h0 : Scalar.cmpi .eq (BitVec.ofNat 32 1) 0#32 = 0#1 := by decide
    simp only [h0]
    pointwise
    exact WordCmp.cmpi_sge_ofNat_eq_one_iff (by omega) (by omega)

end Cert.SSD.Ker

end
-- ==== Proof.SsdKerRun.lean ====
/- What the body of the state-space scan leaves at one grid point, in its output block and in its carried state. -/
module

public import proofs.«01_k».proof.Proof.SsdKerPoint
public import proofs.«01_k».proof.Proof.Gen.SsdIdeal.Value
public import Idealize.ShloMosaic.Lib.Pipeline.ReadBack

@[expose] public section

set_option maxRecDepth 16384

noncomputable section

namespace Cert.SSD.Ker

open Idealize Idealize.ShloMosaic Idealize.ShloMosaic.TcCoe Idealize.ShloMosaic.Tactic
open Cert.SsdIdeal Cert.SsdIdeal.Gen
open scoped BigOperators

variable (i : grid0.Coords) (x0 : Vec Ideal S1x64x512 .f32) (x1 x2 : Vec Ideal S1x64x128 .f32)
  (x3 : Vec Ideal S1x1x1x64x128 .f32) (x4 : Vec Ideal S1x1x1x1x8x64 .f32) (xs : Vec Ideal S8x64x128 .f32)

/-- The chunk's blocks as the body loads them: what tokens write, how they read, and the two tables of gates. -/
abbrev bl : Vec Ideal S1x64x128 .f32 := View.ld x1 (Rect.unit ![0, 0, 0] ![1, 64, 128] inb_S1x64x128_S1x64x128_0_0_0)
abbrev cl : Vec Ideal S1x64x128 .f32 := View.ld x2 (Rect.unit ![0, 0, 0] ![1, 64, 128] inb_S1x64x128_S1x64x128_0_0_0)
abbrev gl : FVec Ideal S64x128 .f32 :=
  k0_pay9 (View.ld x3 (Rect.unit ![0, 0, 0, 0, 0] ![1, 1, 1, 64, 128] inb_S1x1x1x64x128_S1x1x1x64x128_0_0_0_0_0))
abbrev rl : FVec Ideal S8x64 .f32 :=
  k0_pay10 (View.ld x4 (Rect.unit ![0, 0, 0, 0, 0, 0] ![1, 1, 1, 1, 8, 64] inb_S1x1x1x1x8x64_S1x1x1x1x8x64_0_0_0_0_0_0))

/-- Head 0's step, running decay and total, its running decay as a row, its inputs and its state before. -/
abbrev dt0 : FVec Ideal S64x1 .f32 := extractStridedSlice S64x1 ![0, 0] (gl x3) slices_S64x128_o0_0_S64x1
abbrev cu0 : FVec Ideal S64x1 .f32 := extractStridedSlice S64x1 ![0, 1] (gl x3) slices_S64x128_o0_1_S64x1
abbrev tl0 : FVec Ideal S64x1 .f32 := extractStridedSlice S64x1 ![0, 2] (gl x3) slices_S64x128_o0_2_S64x1
abbrev ro0 : FVec Ideal S1x64 .f32 := extractStridedSlice S1x64 ![0, 0] (rl x4) slices_S8x64_o0_0_S1x64
abbrev xl0 : Vec Ideal S1x64x64 .f32 := View.ld x0 (Rect.unit ![0, 0, 0] ![1, 64, 64] inb_S1x64x512_S1x64x64_0_0_0)
abbrev sl0 : Vec Ideal S1x64x128 .f32 := View.ld xs (Rect.unit ![0, 0, 0] ![1, 64, 128] inb_S8x64x128_S1x64x128_0_0_0)
/-- Head 0's block of outputs and its state after the point. -/
def ho0 : FVec Ideal S1x1x64x64 .f32 := headOut (k0_pay5 i) (bl x1) (cl x2) (dt0 x3) (cu0 x3) (ro0 x4) (xl0 x0) (sl0 xs)
def hs0 : FVec Ideal S1x64x128 .f32 := headState (bl x1) (dt0 x3) (cu0 x3) (tl0 x3) (xl0 x0) (sl0 xs)

/-- Head 1's step, running decay and total, its running decay as a row, its inputs and its state before. -/
abbrev dt1 : FVec Ideal S64x1 .f32 := extractStridedSlice S64x1 ![0, 3] (gl x3) slices_S64x128_o0_3_S64x1
abbrev cu1 : FVec Ideal S64x1 .f32 := extractStridedSlice S64x1 ![0, 4] (gl x3) slices_S64x128_o0_4_S64x1
abbrev tl1 : FVec Ideal S64x1 .f32 := extractStridedSlice S64x1 ![0, 5] (gl x3) slices_S64x128_o0_5_S64x1
abbrev ro1 : FVec Ideal S1x64 .f32 := extractStridedSlice S1x64 ![1, 0] (rl x4) slices_S8x64_o1_0_S1x64
abbrev xl1 : Vec Ideal S1x64x64 .f32 := View.ld x0 (Rect.unit ![0, 0, 64] ![1, 64, 64] inb_S1x64x512_S1x64x64_0_0_64)
abbrev sl1 : Vec Ideal S1x64x128 .f32 := View.ld xs (Rect.unit ![1, 0, 0] ![1, 64, 128] inb_S8x64x128_S1x64x128_1_0_0)
/-- Head 1's block of outputs and its state after the point. -/
def ho1 : FVec Ideal S1x1x64x64 .f32 := headOut (k0_pay5 i) (bl x1) (cl x2) (dt1 x3) (cu1 x3) (ro1 x4) (xl1 x0) (sl1 xs)
def hs1 : FVec Ideal S1x64x128 .f32 := headState (bl x1) (dt1 x3) (cu1 x3) (tl1 x3) (xl1 x0) (sl1 xs)

/-- Head 2's step, running decay and total, its running decay as a row, its inputs and its state before. -/
abbrev dt2 : FVec Ideal S64x1 .f32 := extractStridedSlice S64x1 ![0, 6] (gl x3) slices_S64x128_o0_6_S64x1
abbrev cu2 : FVec Ideal S64x1 .f32 := extractStridedSlice S64x1 ![0, 7] (gl x3) slices_S64x128_o0_7_S64x1
abbrev tl2 : FVec Ideal S64x1 .f32 := extractStridedSlice S64x1 ![0, 8] (gl x3) slices_S64x128_o0_8_S64x1
abbrev ro2 : FVec Ideal S1x64 .f32 := extractStridedSlice S1x64 ![2, 0] (rl x4) slices_S8x64_o2_0_S1x64
abbrev xl2 : Vec Ideal S1x64x64 .f32 := View.ld x0 (Rect.unit ![0, 0, 128] ![1, 64, 64] inb_S1x64x512_S1x64x64_0_0_128)
abbrev sl2 : Vec Ideal S1x64x128 .f32 := View.ld xs (Rect.unit ![2, 0, 0] ![1, 64, 128] inb_S8x64x128_S1x64x128_2_0_0)
/-- Head 2's block of outputs and its state after the point. -/
def ho2 : FVec Ideal S1x1x64x64 .f32 := headOut (k0_pay5 i) (bl x1) (cl x2) (dt2 x3) (cu2 x3) (ro2 x4) (xl2 x0) (sl2 xs)
def hs2 : FVec Ideal S1x64x128 .f32 := headState (bl x1) (dt2 x3) (cu2 x3) (tl2 x3) (xl2 x0) (sl2 xs)

/-- Head 3's step, running decay and total, its running decay as a row, its inputs and its state before. -/
abbrev dt3 : FVec Ideal S64x1 .f32 := extractStridedSlice S64x1 ![0, 9] (gl x3) slices_S64x128_o0_9_S64x1
abbrev cu3 : FVec Ideal S64x1 .f32 := extractStridedSlice S64x1 ![0, 10] (gl x3) slices_S64x128_o0_10_S64x1
abbrev tl3 : FVec Ideal S64x1 .f32 := extractStridedSlice S64x1 ![0, 11] (gl x3) slices_S64x128_o0_11_S64x1
abbrev ro3 : FVec Ideal S1x64 .f32 := extractStridedSlice S1x64 ![3, 0] (rl x4) slices_S8x64_o3_0_S1x64
abbrev xl3 : Vec Ideal S1x64x64 .f32 := View.ld x0 (Rect.unit ![0, 0, 192] ![1, 64, 64] inb_S1x64x512_S1x64x64_0_0_192)
abbrev sl3 : Vec Ideal S1x64x128 .f32 := View.ld xs (Rect.unit ![3, 0, 0] ![1, 64, 128] inb_S8x64x128_S1x64x128_3_0_0)
/-- Head 3's block of outputs and its state after the point. -/
def ho3 : FVec Ideal S1x1x64x64 .f32 := headOut (k0_pay5 i) (bl x1) (cl x2) (dt3 x3) (cu3 x3) (ro3 x4) (xl3 x0) (sl3 xs)
def hs3 : FVec Ideal S1x64x128 .f32 := headState (bl x1) (dt3 x3) (cu3 x3) (tl3 x3) (xl3 x0) (sl3 xs)

/-- Head 4's step, running decay and total, its running decay as a row, its inputs and its state before. -/
abbrev dt4 : FVec Ideal S64x1 .f32 := extractStridedSlice S64x1 ![0, 12] (gl x3) slices_S64x128_o0_12_S64x1
abbrev cu4 : FVec Ideal S64x1 .f32 := extractStridedSlice S64x1 ![0, 13] (gl x3) slices_S64x128_o0_13_S64x1
abbrev tl4 : FVec Ideal S64x1 .f32 := extractStridedSlice S64x1 ![0, 14] (gl x3) slices_S64x128_o0_14_S64x1
abbrev ro4 : FVec Ideal S1x64 .f32 := extractStridedSlice S1x64 ![4, 0] (rl x4) slices_S8x64_o4_0_S1x64
abbrev xl4 : Vec Ideal S1x64x64 .f32 := View.ld x0 (Rect.unit ![0, 0, 256] ![1, 64, 64] inb_S1x64x512_S1x64x64_0_0_256)
abbrev sl4 : Vec Ideal S1x64x128 .f32 := View.ld xs (Rect.unit ![4, 0, 0] ![1, 64, 128] inb_S8x64x128_S1x64x128_4_0_0)
/-- Head 4's block of outputs and its state after the point. -/
def ho4 : FVec Ideal S1x1x64x64 .f32 := headOut (k0_pay5 i) (bl x1) (cl x2) (dt4 x3) (cu4 x3) (ro4 x4) (xl4 x0) (sl4 xs)
def hs4 : FVec Ideal S1x64x128 .f32 := headState (bl x1) (dt4 x3) (cu4 x3) (tl4 x3) (xl4 x0) (sl4 xs)

/-- Head 5's step, running decay and total, its running decay as a row, its inputs and its state before. -/
abbrev dt5 : FVec Ideal S64x1 .f32 := extractStridedSlice S64x1 ![0, 15] (gl x3) slices_S64x128_o0_15_S64x1
abbrev cu5 : FVec Ideal S64x1 .f32 := extractStridedSlice S64x1 ![0, 16] (gl x3) slices_S64x128_o0_16_S64x1
abbrev tl5 : FVec Ideal S64x1 .f32 := extractStridedSlice S64x1 ![0, 17] (gl x3) slices_S64x128_o0_17_S64x1
abbrev ro5 : FVec Ideal S1x64 .f32 := extractStridedSlice S1x64 ![5, 0] (rl x4) slices_S8x64_o5_0_S1x64
abbrev xl5 : Vec Ideal S1x64x64 .f32 := View.ld x0 (Rect.unit ![0, 0, 320] ![1, 64, 64] inb_S1x64x512_S1x64x64_0_0_320)
abbrev sl5 : Vec Ideal S1x64x128 .f32 := View.ld xs (Rect.unit ![5, 0, 0] ![1, 64, 128] inb_S8x64x128_S1x64x128_5_0_0)
/-- Head 5's block of outputs and its state after the point. -/
def ho5 : FVec Ideal S1x1x64x64 .f32 := headOut (k0_pay5 i) (bl x1) (cl x2) (dt5 x3) (cu5 x3) (ro5 x4) (xl5 x0) (sl5 xs)
def hs5 : FVec Ideal S1x64x128 .f32 := headState (bl x1) (dt5 x3) (cu5 x3) (tl5 x3) (xl5 x0) (sl5 xs)

/-- Head 6's step, running decay and total, its running decay as a row, its inputs and its state before. -/
abbrev dt6 : FVec Ideal S64x1 .f32 := extractStridedSlice S64x1 ![0, 18] (gl x3) slices_S64x128_o0_18_S64x1
abbrev cu6 : FVec Ideal S64x1 .f32 := extractStridedSlice S64x1 ![0, 19] (gl x3) slices_S64x128_o0_19_S64x1
abbrev tl6 : FVec Ideal S64x1 .f32 := extractStridedSlice S64x1 ![0, 20] (gl x3) slices_S64x128_o0_20_S64x1
abbrev ro6 : FVec Ideal S1x64 .f32 := extractStridedSlice S1x64 ![6, 0] (rl x4) slices_S8x64_o6_0_S1x64
abbrev xl6 : Vec Ideal S1x64x64 .f32 := View.ld x0 (Rect.unit ![0, 0, 384] ![1, 64, 64] inb_S1x64x512_S1x64x64_0_0_384)
abbrev sl6 : Vec Ideal S1x64x128 .f32 := View.ld xs (Rect.unit ![6, 0, 0] ![1, 64, 128] inb_S8x64x128_S1x64x128_6_0_0)
/-- Head 6's block of outputs and its state after the point. -/
def ho6 : FVec Ideal S1x1x64x64 .f32 := headOut (k0_pay5 i) (bl x1) (cl x2) (dt6 x3) (cu6 x3) (ro6 x4) (xl6 x0) (sl6 xs)
def hs6 : FVec Ideal S1x64x128 .f32 := headState (bl x1) (dt6 x3) (cu6 x3) (tl6 x3) (xl6 x0) (sl6 xs)

/-- Head 7's step, running decay and total, its running decay as a row, its inputs and its state before. -/
abbrev dt7 : FVec Ideal S64x1 .f32 := extractStridedSlice S64x1 ![0, 21] (gl x3) slices_S64x128_o0_21_S64x1
abbrev cu7 : FVec Ideal S64x1 .f32 := extractStridedSlice S64x1 ![0, 22] (gl x3) slices_S64x128_o0_22_S64x1
abbrev tl7 : FVec Ideal S64x1 .f32 := extractStridedSlice S64x1 ![0, 23] (gl x3) slices_S64x128_o0_23_S64x1
abbrev ro7 : FVec Ideal S1x64 .f32 := extractStridedSlice S1x64 ![7, 0] (rl x4) slices_S8x64_o7_0_S1x64
abbrev xl7 : Vec Ideal S1x64x64 .f32 := View.ld x0 (Rect.unit ![0, 0, 448] ![1, 64, 64] inb_S1x64x512_S1x64x64_0_0_448)
abbrev sl7 : Vec Ideal S1x64x128 .f32 := View.ld xs (Rect.unit ![7, 0, 0] ![1, 64, 128] inb_S8x64x128_S1x64x128_7_0_0)
/-- Head 7's block of outputs and its state after the point. -/
def ho7 : FVec Ideal S1x1x64x64 .f32 := headOut (k0_pay5 i) (bl x1) (cl x2) (dt7 x3) (cu7 x3) (ro7 x4) (xl7 x0) (sl7 xs)
def hs7 : FVec Ideal S1x64x128 .f32 := headState (bl x1) (dt7 x3) (cu7 x3) (tl7 x3) (xl7 x0) (sl7 xs)

/-- The stores into the output block, last first. -/
def outPieces : List (View.Piece (Elt Ideal) S1x1x64x512 .f32) :=
  [⟨Rect.unit ![0, 0, 0, 448] ![1, 1, 64, 64] inb_S1x1x64x512_S1x1x64x64_0_0_0_448, ho7 i x0 x1 x2 x3 x4 xs⟩,
   ⟨Rect.unit ![0, 0, 0, 384] ![1, 1, 64, 64] inb_S1x1x64x512_S1x1x64x64_0_0_0_384, ho6 i x0 x1 x2 x3 x4 xs⟩,
   ⟨Rect.unit ![0, 0, 0, 320] ![1, 1, 64, 64] inb_S1x1x64x512_S1x1x64x64_0_0_0_320, ho5 i x0 x1 x2 x3 x4 xs⟩,
   ⟨Rect.unit ![0, 0, 0, 256] ![1, 1, 64, 64] inb_S1x1x64x512_S1x1x64x64_0_0_0_256, ho4 i x0 x1 x2 x3 x4 xs⟩,
   ⟨Rect.unit ![0, 0, 0, 192] ![1, 1, 64, 64] inb_S1x1x64x512_S1x1x64x64_0_0_0_192, ho3 i x0 x1 x2 x3 x4 xs⟩,
   ⟨Rect.unit ![0, 0, 0, 128] ![1, 1, 64, 64] inb_S1x1x64x512_S1x1x64x64_0_0_0_128, ho2 i x0 x1 x2 x3 x4 xs⟩,
   ⟨Rect.unit ![0, 0, 0, 64] ![1, 1, 64, 64] inb_S1x1x64x512_S1x1x64x64_0_0_0_64, ho1 i x0 x1 x2 x3 x4 xs⟩,
   ⟨Rect.unit ![0, 0, 0, 0] ![1, 1, 64, 64] inb_S1x1x64x512_S1x1x64x64_0_0_0_0, ho0 i x0 x1 x2 x3 x4 xs⟩]
/-- The stores into the carried state, last first. -/
def statePieces : List (View.Piece (Elt Ideal) S8x64x128 .f32) :=
  [⟨Rect.unit ![7, 0, 0] ![1, 64, 128] inb_S8x64x128_S1x64x128_7_0_0, hs7 x0 x1 x3 xs⟩,
   ⟨Rect.unit ![6, 0, 0] ![1, 64, 128] inb_S8x64x128_S1x64x128_6_0_0, hs6 x0 x1 x3 xs⟩,
   ⟨Rect.unit ![5, 0, 0] ![1, 64, 128] inb_S8x64x128_S1x64x128_5_0_0, hs5 x0 x1 x3 xs⟩,
   ⟨Rect.unit ![4, 0, 0] ![1, 64, 128] inb_S8x64x128_S1x64x128_4_0_0, hs4 x0 x1 x3 xs⟩,
   ⟨Rect.unit ![3, 0, 0] ![1, 64, 128] inb_S8x64x128_S1x64x128_3_0_0, hs3 x0 x1 x3 xs⟩,
   ⟨Rect.unit ![2, 0, 0] ![1, 64, 128] inb_S8x64x128_S1x64x128_2_0_0, hs2 x0 x1 x3 xs⟩,
   ⟨Rect.unit ![1, 0, 0] ![1, 64, 128] inb_S8x64x128_S1x64x128_1_0_0, hs1 x0 x1 x3 xs⟩,
   ⟨Rect.unit ![0, 0, 0] ![1, 64, 128] inb_S8x64x128_S1x64x128_0_0_0, hs0 x0 x1 x3 xs⟩]

variable (c : Dev nD) (a4 : Memref sig .tc .vmem S1x64x512 .f32) (h4 : a4.IsWhole) (a5 : Memref sig .tc .vmem S1x64x128 .f32) (h5 : a5.IsWhole) (a6 : Memref sig .tc .vmem S1x64x128 .f32) (h6 : a6.IsWhole) (a7 : Memref sig .tc .vmem S1x1x1x64x128 .f32) (h7 : a7.IsWhole) (a8 : Memref sig .tc .vmem S1x1x1x1x8x64 .f32) (h8 : a8.IsWhole) (a9 : Memref sig .tc .vmem S1x1x64x512 .f32) (h9 : a9.IsWhole) (a10 : Memref sig .tc .vmem S8x64x128 .f32) (h10 : a10.IsWhole)

theorem out_pieces_B (hc0 : ¬ cond0_0 i) :
    (kernelRun0_B (F := Ideal) c i a4 h4 a5 h5 a6 h6 a7 h7 a8 h8 a9 h9 a10 h10 hc0 x0 x1 x2 x3 x4 xs).1 = outPieces i x0 x1 x2 x3 x4 xs := by
  unfold kernelRun0_B
  dsimp only
  sl_unfold_words
  simp only [View.readAt_eq_ld, h4.read_unread, h5.read_unread, h6.read_unread, h7.read_unread, h8.read_unread, h10.read_unread]
  rfl

theorem state_pieces_B (hc0 : ¬ cond0_0 i) :
    (kernelRun0_B (F := Ideal) c i a4 h4 a5 h5 a6 h6 a7 h7 a8 h8 a9 h9 a10 h10 hc0 x0 x1 x2 x3 x4 xs).2.1 = statePieces x0 x1 x3 xs := by
  unfold kernelRun0_B
  dsimp only
  sl_unfold_words
  simp only [View.readAt_eq_ld, h4.read_unread, h5.read_unread, h6.read_unread, h7.read_unread, h8.read_unread, h10.read_unread]
  rfl

/-- Contents stored whole and read back through a rectangle. -/
theorem whole_read {sp : Space} {S : Shape} (v : View sig .tc sp S .f32) {off : Fin S.rank → ℕ} (h : off = fun _ => 0)
    (inb : ∀ a, off a + S.size a ≤ S.size a) (w : S.Idx → Elt Ideal .f32) (r : Rect S) :
    v.readCov [(⟨Rect.unit off S.size inb, w⟩ : View.Piece (Elt Ideal) S .f32)] r.toLoadRect = View.ld w r := by
  rw [View.readCov_eq_canon_ld v _ r (fun y => ⟨_, List.mem_singleton_self _, View.mem_set_unit_zero h inb y⟩)]
  rw [View.canon_unit_zero h]

theorem hz3 : (![0, 0, 0] : Fin 3 → ℕ) = fun _ => 0 := by funext a; fin_cases a <;> rfl

set_option maxHeartbeats 4000000 in
theorem out_pieces_A (hc0 : cond0_0 i) :
    (kernelRun0_A (F := Ideal) c i a4 h4 a5 h5 a6 h6 a7 h7 a8 h8 a9 h9 a10 h10 hc0 x0 x1 x2 x3 x4).1 = outPieces i x0 x1 x2 x3 x4 (k0_pay4 (F := Ideal)) := by
  unfold kernelRun0_A
  dsimp only
  sl_unfold_words
  simp only [View.readAt_eq_ld, h4.read_unread, h5.read_unread, h6.read_unread, h7.read_unread, h8.read_unread, h10.read_unread]
  simp (discharger := decide) only [↓View.readCov_skip, whole_read (S := S8x64x128) _ hz3]
  generalize k0_pay4 (F := Ideal) = z
  rfl

set_option maxHeartbeats 4000000 in
theorem state_pieces_A (hc0 : cond0_0 i) :
    (kernelRun0_A (F := Ideal) c i a4 h4 a5 h5 a6 h6 a7 h7 a8 h8 a9 h9 a10 h10 hc0 x0 x1 x2 x3 x4).2.1
      = statePieces x0 x1 x3 (k0_pay4 (F := Ideal)) ++ [⟨Rect.unit ![0, 0, 0] S8x64x128.size inb_S8x64x128_S8x64x128_0_0_0, k0_pay4 (F := Ideal)⟩] := by
  unfold kernelRun0_A
  dsimp only
  sl_unfold_words
  simp only [View.readAt_eq_ld, h4.read_unread, h5.read_unread, h6.read_unread, h7.read_unread, h8.read_unread, h10.read_unread]
  simp (discharger := decide) only [↓View.readCov_skip, whole_read (S := S8x64x128) _ hz3]
  generalize k0_pay4 (F := Ideal) = z
  rfl

end Cert.SSD.Ker

end
-- ==== Proof.SsdKerHead.lean ====
/- The state-space scan's output block and carried state after one grid point, at an index. -/
module

public import proofs.«01_k».proof.Proof.SsdKerRun

@[expose] public section

set_option maxRecDepth 16384

noncomputable section

namespace Cert.SSD.Ker

open Idealize Idealize.ShloMosaic Idealize.ShloMosaic.TcCoe Idealize.ShloMosaic.Tactic
open Cert.SsdIdeal Cert.SsdIdeal.Gen
open scoped BigOperators

/-- Head `h`'s column `p` of the group's 512. -/
def vc (h : Fin 8) (p : Fin 64) : Fin 512 := ⟨h.val * 64 + p.val, by omega⟩

theorem ld_x (x : Vec Ideal S1x64x512 .f32) (h : Fin 8) (o : ℕ) (ho : o = h.val * 64)
    (inb : ∀ a, (![0, 0, o] : Fin 3 → ℕ) a + (![1, 64, 64] : Fin 3 → ℕ) a ≤ S1x64x512.size a) (s p : Fin 64) :
    View.ld x (Rect.unit ![0, 0, o] ![1, 64, 64] inb) (ix3 0 s p) = x (ix3 0 s (vc h p)) := by
  subst ho
  refine congrArg x (funext fun a => Fin.ext ?_)
  fin_cases a <;> simp [Rect.emb, vc, ix3]

theorem ld_s (x : Vec Ideal S8x64x128 .f32) (h : Fin 8) (o : ℕ) (ho : o = h.val)
    (inb : ∀ a, (![o, 0, 0] : Fin 3 → ℕ) a + (![1, 64, 128] : Fin 3 → ℕ) a ≤ S8x64x128.size a) (p : Fin 64) (k : Fin 128) :
    View.ld x (Rect.unit ![o, 0, 0] ![1, 64, 128] inb) (ix3 0 p k) = x (ix3 h p k) := by
  subst ho
  refine congrArg x (funext fun a => Fin.ext ?_)
  fin_cases a <;> simp [Rect.emb, ix3]

theorem hz5 : (![0, 0, 0, 0, 0] : Fin 5 → ℕ) = fun _ => 0 := by funext a; fin_cases a <;> rfl
theorem hz6 : (![0, 0, 0, 0, 0, 0] : Fin 6 → ℕ) = fun _ => 0 := by funext a; fin_cases a <;> rfl

variable (i : grid0.Coords) (x0 : Vec Ideal S1x64x512 .f32) (x1 x2 : Vec Ideal S1x64x128 .f32)
  (x3 : Vec Ideal S1x1x1x64x128 .f32) (x4 : Vec Ideal S1x1x1x1x8x64 .f32) (xs : Vec Ideal S8x64x128 .f32)

theorem bl_eq : bl x1 = x1 := View.ld_unit_zero (S := S1x64x128) hz3 _ _
theorem cl_eq : cl x2 = x2 := View.ld_unit_zero (S := S1x64x128) hz3 _ _

theorem gl_at (s : Fin 64) (k : Fin 128) : gl x3 (ix2 s k) = x3 (ix5 0 0 0 s k) := by
  have h : View.ld x3 (Rect.unit ![0, 0, 0, 0, 0] ![1, 1, 1, 64, 128] inb_S1x1x1x64x128_S1x1x1x64x128_0_0_0_0_0) = x3 :=
    View.ld_unit_zero (S := S1x1x1x64x128) hz5 _ _
  show k0_pay9 (View.ld x3 (Rect.unit ![0, 0, 0, 0, 0] ![1, 1, 1, 64, 128] inb_S1x1x1x64x128_S1x1x1x64x128_0_0_0_0_0)) (ix2 s k) = _
  rw [h]
  unfold k0_pay9
  pointwise

theorem rl_at (h : Fin 8) (s : Fin 64) : rl x4 (ix2 h s) = x4 (ix6 0 0 0 0 h s) := by
  have e : View.ld x4 (Rect.unit ![0, 0, 0, 0, 0, 0] ![1, 1, 1, 1, 8, 64] inb_S1x1x1x1x8x64_S1x1x1x1x8x64_0_0_0_0_0_0) = x4 :=
    View.ld_unit_zero (S := S1x1x1x1x8x64) hz6 _ _
  show k0_pay10 (View.ld x4 (Rect.unit ![0, 0, 0, 0, 0, 0] ![1, 1, 1, 1, 8, 64] inb_S1x1x1x1x8x64_S1x1x1x1x8x64_0_0_0_0_0_0)) (ix2 h s) = _
  rw [e]
  unfold k0_pay10
  pointwise

/-- A column of the table of columns, and a row of the table of rows. -/
theorem col_at (o : ℕ) (ho : o < 128) (hs : S64x128.Slices ![0, o] S64x1) (s : Fin 64) :
    extractStridedSlice S64x1 ![0, o] (gl x3) hs (ix2 s 0) = x3 (ix5 0 0 0 s ⟨o, ho⟩) := by
  rw [← gl_at x3 s ⟨o, ho⟩]
  exact extractStridedSlice_apply _ _ _ _ (ix2 s (⟨o, ho⟩ : Fin 128)) (fun a => by fin_cases a <;> simp [ix2])

theorem row_slice (h : Fin 8) (o : ℕ) (ho : o = h.val) (hs : S8x64.Slices ![o, 0] S1x64) (s : Fin 64) :
    extractStridedSlice S1x64 ![o, 0] (rl x4) hs (ix2 0 s) = x4 (ix6 0 0 0 0 h s) := by
  subst ho
  rw [← rl_at x4 h s]
  exact extractStridedSlice_apply _ _ _ _ (ix2 h s) (fun a => by fin_cases a <;> simp [ix2])

/-- Row `s` is at or before row `r` in the direction's order. -/
abbrev upto (r s : Fin 64) : Prop := if (i 1).val = 0 then s ≤ r else r ≤ s
/-- Head `h`'s step, running decay and total at a storage row, and its running decay from the table of rows. -/
def dtK (h : Fin 8) (s : Fin 64) : EReal := x3 (ix5 0 0 0 s ⟨3 * h.val, by omega⟩)
def cuK (h : Fin 8) (s : Fin 64) : EReal := x3 (ix5 0 0 0 s ⟨3 * h.val + 1, by omega⟩)
def toK (h : Fin 8) (s : Fin 64) : EReal := x3 (ix5 0 0 0 s ⟨3 * h.val + 2, by omega⟩)
def rwK (h : Fin 8) (s : Fin 64) : EReal := x4 (ix6 0 0 0 0 h s)

/-- Head `h`'s outputs and state after the point, from the point's blocks and the state before. -/
def outK (h : Fin 8) (r p : Fin 64) : EReal :=
  (∑ s : Fin 64, ((∑ k : Fin 128, x2 (ix3 0 r k) * x1 (ix3 0 s k))
      * (if upto i r s then Ideal.exp (cuK x3 h r - rwK x4 h s) else 0)) * (x0 (ix3 0 s (vc h p)) * dtK x3 h s))
    + (∑ k : Fin 128, x2 (ix3 0 r k) * xs (ix3 h p k)) * Ideal.exp (cuK x3 h r)
def stateK (h : Fin 8) (p : Fin 64) (k : Fin 128) : EReal :=
  xs (ix3 h p k) * Ideal.exp (toK x3 h 0)
    + ∑ s : Fin 64, ((x0 (ix3 0 s (vc h p)) * dtK x3 h s) * Ideal.exp (toK x3 h s - cuK x3 h s)) * x1 (ix3 0 s k)

theorem headOut_of {b cc : Vec Ideal S1x64x128 .f32} {dt cu : FVec Ideal S64x1 .f32} {ro : FVec Ideal S1x64 .f32}
    {x : Vec Ideal S1x64x64 .f32} {S : Vec Ideal S1x64x128 .f32} (h : Fin 8) (hb : b = x1) (hc : cc = x2)
    (hdt : ∀ s, dt (ix2 s 0) = dtK x3 h s) (hcu : ∀ s, cu (ix2 s 0) = cuK x3 h s) (hro : ∀ s, ro (ix2 0 s) = rwK x4 h s)
    (hx : ∀ s p, x (ix3 0 s p) = x0 (ix3 0 s (vc h p))) (hS : ∀ p k, S (ix3 0 p k) = xs (ix3 h p k)) (r p : Fin 64) :
    headOut (k0_pay5 i) b cc dt cu ro x S (ix4 0 0 r p) = outK i x0 x1 x2 x3 x4 xs h r p := by
  subst hb hc
  rw [headOut_at]
  unfold outK
  simp only [mask_at, hdt, hcu, hro, hx, hS]

theorem headState_of {b : Vec Ideal S1x64x128 .f32} {dt cu tl : FVec Ideal S64x1 .f32}
    {x : Vec Ideal S1x64x64 .f32} {S : Vec Ideal S1x64x128 .f32} (h : Fin 8) (hb : b = x1)
    (hdt : ∀ s, dt (ix2 s 0) = dtK x3 h s) (hcu : ∀ s, cu (ix2 s 0) = cuK x3 h s) (htl : ∀ s, tl (ix2 s 0) = toK x3 h s)
    (hx : ∀ s p, x (ix3 0 s p) = x0 (ix3 0 s (vc h p))) (hS : ∀ p k, S (ix3 0 p k) = xs (ix3 h p k)) (p : Fin 64) (k : Fin 128) :
    headState b dt cu tl x S (ix3 0 p k) = stateK x0 x1 x3 xs h p k := by
  subst hb
  rw [headState_at]
  unfold stateK
  simp only [hdt, hcu, htl, hx, hS]

theorem ho0_at (r p : Fin 64) : ho0 i x0 x1 x2 x3 x4 xs (ix4 0 0 r p) = outK i x0 x1 x2 x3 x4 xs 0 r p :=
  headOut_of i x0 x1 x2 x3 x4 xs 0 (bl_eq x1) (cl_eq x2) (fun s => col_at x3 0 (by decide) _ s) (fun s => col_at x3 1 (by decide) _ s)
    (fun s => row_slice x4 0 0 rfl _ s) (fun s p => ld_x x0 0 0 rfl _ s p) (fun p k => ld_s xs 0 0 rfl _ p k) r p

theorem hs0_at (p : Fin 64) (k : Fin 128) : hs0 x0 x1 x3 xs (ix3 0 p k) = stateK x0 x1 x3 xs 0 p k :=
  headState_of x0 x1 x3 xs 0 (bl_eq x1) (fun s => col_at x3 0 (by decide) _ s) (fun s => col_at x3 1 (by decide) _ s)
    (fun s => col_at x3 2 (by decide) _ s) (fun s p => ld_x x0 0 0 rfl _ s p) (fun p k => ld_s xs 0 0 rfl _ p k) p k

theorem ho1_at (r p : Fin 64) : ho1 i x0 x1 x2 x3 x4 xs (ix4 0 0 r p) = outK i x0 x1 x2 x3 x4 xs 1 r p :=
  headOut_of i x0 x1 x2 x3 x4 xs 1 (bl_eq x1) (cl_eq x2) (fun s => col_at x3 3 (by decide) _ s) (fun s => col_at x3 4 (by decide) _ s)
    (fun s => row_slice x4 1 1 rfl _ s) (fun s p => ld_x x0 1 64 rfl _ s p) (fun p k => ld_s xs 1 1 rfl _ p k) r p

theorem hs1_at (p : Fin 64) (k : Fin 128) : hs1 x0 x1 x3 xs (ix3 0 p k) = stateK x0 x1 x3 xs 1 p k :=
  headState_of x0 x1 x3 xs 1 (bl_eq x1) (fun s => col_at x3 3 (by decide) _ s) (fun s => col_at x3 4 (by decide) _ s)
    (fun s => col_at x3 5 (by decide) _ s) (fun s p => ld_x x0 1 64 rfl _ s p) (fun p k => ld_s xs 1 1 rfl _ p k) p k

theorem ho2_at (r p : Fin 64) : ho2 i x0 x1 x2 x3 x4 xs (ix4 0 0 r p) = outK i x0 x1 x2 x3 x4 xs 2 r p :=
  headOut_of i x0 x1 x2 x3 x4 xs 2 (bl_eq x1) (cl_eq x2) (fun s => col_at x3 6 (by decide) _ s) (fun s => col_at x3 7 (by decide) _ s)
    (fun s => row_slice x4 2 2 rfl _ s) (fun s p => ld_x x0 2 128 rfl _ s p) (fun p k => ld_s xs 2 2 rfl _ p k) r p

theorem hs2_at (p : Fin 64) (k : Fin 128) : hs2 x0 x1 x3 xs (ix3 0 p k) = stateK x0 x1 x3 xs 2 p k :=
  headState_of x0 x1 x3 xs 2 (bl_eq x1) (fun s => col_at x3 6 (by decide) _ s) (fun s => col_at x3 7 (by decide) _ s)
    (fun s => col_at x3 8 (by decide) _ s) (fun s p => ld_x x0 2 128 rfl _ s p) (fun p k => ld_s xs 2 2 rfl _ p k) p k

theorem ho3_at (r p : Fin 64) : ho3 i x0 x1 x2 x3 x4 xs (ix4 0 0 r p) = outK i x0 x1 x2 x3 x4 xs 3 r p :=
  headOut_of i x0 x1 x2 x3 x4 xs 3 (bl_eq x1) (cl_eq x2) (fun s => col_at x3 9 (by decide) _ s) (fun s => col_at x3 10 (by decide) _ s)
    (fun s => row_slice x4 3 3 rfl _ s) (fun s p => ld_x x0 3 192 rfl _ s p) (fun p k => ld_s xs 3 3 rfl _ p k) r p

theorem hs3_at (p : Fin 64) (k : Fin 128) : hs3 x0 x1 x3 xs (ix3 0 p k) = stateK x0 x1 x3 xs 3 p k :=
  headState_of x0 x1 x3 xs 3 (bl_eq x1) (fun s => col_at x3 9 (by decide) _ s) (fun s => col_at x3 10 (by decide) _ s)
    (fun s => col_at x3 11 (by decide) _ s) (fun s p => ld_x x0 3 192 rfl _ s p) (fun p k => ld_s xs 3 3 rfl _ p k) p k

theorem ho4_at (r p : Fin 64) : ho4 i x0 x1 x2 x3 x4 xs (ix4 0 0 r p) = outK i x0 x1 x2 x3 x4 xs 4 r p :=
  headOut_of i x0 x1 x2 x3 x4 xs 4 (bl_eq x1) (cl_eq x2) (fun s => col_at x3 12 (by decide) _ s) (fun s => col_at x3 13 (by decide) _ s)
    (fun s => row_slice x4 4 4 rfl _ s) (fun s p => ld_x x0 4 256 rfl _ s p) (fun p k => ld_s xs 4 4 rfl _ p k) r p

theorem hs4_at (p : Fin 64) (k : Fin 128) : hs4 x0 x1 x3 xs (ix3 0 p k) = stateK x0 x1 x3 xs 4 p k :=
  headState_of x0 x1 x3 xs 4 (bl_eq x1) (fun s => col_at x3 12 (by decide) _ s) (fun s => col_at x3 13 (by decide) _ s)
    (fun s => col_at x3 14 (by decide) _ s) (fun s p => ld_x x0 4 256 rfl _ s p) (fun p k => ld_s xs 4 4 rfl _ p k) p k

theorem ho5_at (r p : Fin 64) : ho5 i x0 x1 x2 x3 x4 xs (ix4 0 0 r p) = outK i x0 x1 x2 x3 x4 xs 5 r p :=
  headOut_of i x0 x1 x2 x3 x4 xs 5 (bl_eq x1) (cl_eq x2) (fun s => col_at x3 15 (by decide) _ s) (fun s => col_at x3 16 (by decide) _ s)
    (fun s => row_slice x4 5 5 rfl _ s) (fun s p => ld_x x0 5 320 rfl _ s p) (fun p k => ld_s xs 5 5 rfl _ p k) r p

theorem hs5_at (p : Fin 64) (k : Fin 128) : hs5 x0 x1 x3 xs (ix3 0 p k) = stateK x0 x1 x3 xs 5 p k :=
  headState_of x0 x1 x3 xs 5 (bl_eq x1) (fun s => col_at x3 15 (by decide) _ s) (fun s => col_at x3 16 (by decide) _ s)
    (fun s => col_at x3 17 (by decide) _ s) (fun s p => ld_x x0 5 320 rfl _ s p) (fun p k => ld_s xs 5 5 rfl _ p k) p k

theorem ho6_at (r p : Fin 64) : ho6 i x0 x1 x2 x3 x4 xs (ix4 0 0 r p) = outK i x0 x1 x2 x3 x4 xs 6 r p :=
  headOut_of i x0 x1 x2 x3 x4 xs 6 (bl_eq x1) (cl_eq x2) (fun s => col_at x3 18 (by decide) _ s) (fun s => col_at x3 19 (by decide) _ s)
    (fun s => row_slice x4 6 6 rfl _ s) (fun s p => ld_x x0 6 384 rfl _ s p) (fun p k => ld_s xs 6 6 rfl _ p k) r p

theorem hs6_at (p : Fin 64) (k : Fin 128) : hs6 x0 x1 x3 xs (ix3 0 p k) = stateK x0 x1 x3 xs 6 p k :=
  headState_of x0 x1 x3 xs 6 (bl_eq x1) (fun s => col_at x3 18 (by decide) _ s) (fun s => col_at x3 19 (by decide) _ s)
    (fun s => col_at x3 20 (by decide) _ s) (fun s p => ld_x x0 6 384 rfl _ s p) (fun p k => ld_s xs 6 6 rfl _ p k) p k

theorem ho7_at (r p : Fin 64) : ho7 i x0 x1 x2 x3 x4 xs (ix4 0 0 r p) = outK i x0 x1 x2 x3 x4 xs 7 r p :=
  headOut_of i x0 x1 x2 x3 x4 xs 7 (bl_eq x1) (cl_eq x2) (fun s => col_at x3 21 (by decide) _ s) (fun s => col_at x3 22 (by decide) _ s)
    (fun s => row_slice x4 7 7 rfl _ s) (fun s p => ld_x x0 7 448 rfl _ s p) (fun p k => ld_s xs 7 7 rfl _ p k) r p

theorem hs7_at (p : Fin 64) (k : Fin 128) : hs7 x0 x1 x3 xs (ix3 0 p k) = stateK x0 x1 x3 xs 7 p k :=
  headState_of x0 x1 x3 xs 7 (bl_eq x1) (fun s => col_at x3 21 (by decide) _ s) (fun s => col_at x3 22 (by decide) _ s)
    (fun s => col_at x3 23 (by decide) _ s) (fun s p => ld_x x0 7 448 rfl _ s p) (fun p k => ld_s xs 7 7 rfl _ p k) p k

end Cert.SSD.Ker

end
-- ==== Proof.SsdKerBlock.lean ====
/- What a grid point of the state-space scan leaves, read off its stores. -/
module

public import proofs.«01_k».proof.Proof.SsdKerHead

@[expose] public section

set_option maxRecDepth 16384

noncomputable section

namespace Cert.SSD.Ker

open Idealize Idealize.ShloMosaic Idealize.ShloMosaic.TcCoe Idealize.ShloMosaic.Tactic
open Cert.SsdIdeal Cert.SsdIdeal.Gen
open scoped BigOperators

variable (i : grid0.Coords) (x0 : Vec Ideal S1x64x512 .f32) (x1 x2 : Vec Ideal S1x64x128 .f32)
  (x3 : Vec Ideal S1x1x1x64x128 .f32) (x4 : Vec Ideal S1x1x1x1x8x64 .f32) (xs : Vec Ideal S8x64x128 .f32)

theorem out_notmem (h : Fin 8) (r p : Fin 64) (o : ℕ) (ho : ∃ g : ℕ, o = g * 64 ∧ g ≠ h.val)
    (inb : ∀ a, (![0, 0, 0, o] : Fin 4 → ℕ) a + (![1, 1, 64, 64] : Fin 4 → ℕ) a ≤ S1x1x64x512.size a) :
    (ix4 0 0 r (vc h p) : S1x1x64x512.Idx) ∉ (Rect.unit ![0, 0, 0, o] ![1, 1, 64, 64] inb).set := by
  intro hm
  have h3 : o ≤ h.val * 64 + p.val ∧ h.val * 64 + p.val < o + 64 := (Rect.mem_set_unit.1 hm) 3
  obtain ⟨g, rfl, hg⟩ := ho
  omega

theorem out_emb (h : Fin 8) (r p : Fin 64) (o : ℕ) (ho : o = h.val * 64)
    (inb : ∀ a, (![0, 0, 0, o] : Fin 4 → ℕ) a + (![1, 1, 64, 64] : Fin 4 → ℕ) a ≤ S1x1x64x512.size a) :
    (ix4 0 0 r (vc h p) : S1x1x64x512.Idx) = (Rect.unit ![0, 0, 0, o] ![1, 1, 64, 64] inb).emb (ix4 0 0 r p) := by
  subst ho
  show _ = (Rect.unit (s := S1x1x64x512) ![0, 0, 0, h.val * 64] ![1, 1, 64, 64] inb).idx (ix4 (0 : Fin 1) (0 : Fin 1) r p)
  refine funext fun a => Fin.ext ?_
  fin_cases a <;> simp [vc, ix4]

theorem state_notmem (h : Fin 8) (p : Fin 64) (k : Fin 128) (o : ℕ) (ho : o ≠ h.val)
    (inb : ∀ a, (![o, 0, 0] : Fin 3 → ℕ) a + (![1, 64, 128] : Fin 3 → ℕ) a ≤ S8x64x128.size a) :
    (ix3 h p k : S8x64x128.Idx) ∉ (Rect.unit ![o, 0, 0] ![1, 64, 128] inb).set := by
  intro hm
  have h3 : o ≤ h.val ∧ h.val < o + 1 := (Rect.mem_set_unit.1 hm) 0
  omega

theorem state_emb (h : Fin 8) (p : Fin 64) (k : Fin 128) (o : ℕ) (ho : o = h.val)
    (inb : ∀ a, (![o, 0, 0] : Fin 3 → ℕ) a + (![1, 64, 128] : Fin 3 → ℕ) a ≤ S8x64x128.size a) :
    (ix3 h p k : S8x64x128.Idx) = (Rect.unit ![o, 0, 0] ![1, 64, 128] inb).emb (ix3 0 p k) := by
  subst ho
  show _ = (Rect.unit (s := S8x64x128) ![h.val, 0, 0] ![1, 64, 128] inb).idx (ix3 (0 : Fin 1) p k)
  refine funext fun a => Fin.ext ?_
  fin_cases a <;> simp [ix3]

theorem out_skip (h : Fin 8) (r p : Fin 64) (o : ℕ) (ho : ∃ g : ℕ, o = g * 64 ∧ g ≠ h.val)
    (inb : ∀ a, (![0, 0, 0, o] : Fin 4 → ℕ) a + (![1, 1, 64, 64] : Fin 4 → ℕ) a ≤ S1x1x64x512.size a)
    (w : FVec Ideal S1x1x64x64 .f32) (L : List (View.Piece (Elt Ideal) S1x1x64x512 .f32)) :
    View.canon (⟨Rect.unit ![0, 0, 0, o] ![1, 1, 64, 64] inb, w⟩ :: L) (ix4 0 0 r (vc h p)) = View.canon L (ix4 0 0 r (vc h p)) :=
  View.canon_cons_of_not_mem _ _ (out_notmem h r p o ho inb)

theorem out_hit (h : Fin 8) (r p : Fin 64) (o : ℕ) (ho : o = h.val * 64)
    (inb : ∀ a, (![0, 0, 0, o] : Fin 4 → ℕ) a + (![1, 1, 64, 64] : Fin 4 → ℕ) a ≤ S1x1x64x512.size a)
    (w : FVec Ideal S1x1x64x64 .f32) (L : List (View.Piece (Elt Ideal) S1x1x64x512 .f32)) :
    View.canon (⟨Rect.unit ![0, 0, 0, o] ![1, 1, 64, 64] inb, w⟩ :: L) (ix4 0 0 r (vc h p)) = w (ix4 0 0 r p) := by
  rw [out_emb h r p o ho inb]
  exact View.canon_cons_emb _ _ _ _

theorem state_skip (h : Fin 8) (p : Fin 64) (k : Fin 128) (o : ℕ) (ho : o ≠ h.val)
    (inb : ∀ a, (![o, 0, 0] : Fin 3 → ℕ) a + (![1, 64, 128] : Fin 3 → ℕ) a ≤ S8x64x128.size a)
    (w : FVec Ideal S1x64x128 .f32) (L : List (View.Piece (Elt Ideal) S8x64x128 .f32)) :
    View.canon (⟨Rect.unit ![o, 0, 0] ![1, 64, 128] inb, w⟩ :: L) (ix3 h p k) = View.canon L (ix3 h p k) :=
  View.canon_cons_of_not_mem _ _ (state_notmem h p k o ho inb)

theorem state_hit (h : Fin 8) (p : Fin 64) (k : Fin 128) (o : ℕ) (ho : o = h.val)
    (inb : ∀ a, (![o, 0, 0] : Fin 3 → ℕ) a + (![1, 64, 128] : Fin 3 → ℕ) a ≤ S8x64x128.size a)
    (w : FVec Ideal S1x64x128 .f32) (L : List (View.Piece (Elt Ideal) S8x64x128 .f32)) :
    View.canon (⟨Rect.unit ![o, 0, 0] ![1, 64, 128] inb, w⟩ :: L) (ix3 h p k) = w (ix3 0 p k) := by
  rw [state_emb h p k o ho inb]
  exact View.canon_cons_emb _ _ _ _

theorem out_canon_0 (r p : Fin 64) :
    View.canon (outPieces i x0 x1 x2 x3 x4 xs) (ix4 0 0 r (vc 0 p)) = outK i x0 x1 x2 x3 x4 xs 0 r p := by
  unfold outPieces
  exact (out_skip 0 r p 448 ⟨7, rfl, by decide⟩ _ _ _).trans ((out_skip 0 r p 384 ⟨6, rfl, by decide⟩ _ _ _).trans ((out_skip 0 r p 320 ⟨5, rfl, by decide⟩ _ _ _).trans ((out_skip 0 r p 256 ⟨4, rfl, by decide⟩ _ _ _).trans ((out_skip 0 r p 192 ⟨3, rfl, by decide⟩ _ _ _).trans ((out_skip 0 r p 128 ⟨2, rfl, by decide⟩ _ _ _).trans ((out_skip 0 r p 64 ⟨1, rfl, by decide⟩ _ _ _).trans ((out_hit 0 r p 0 rfl _ _ _).trans (ho0_at i x0 x1 x2 x3 x4 xs r p))))))))

theorem state_canon_0 (L : List (View.Piece (Elt Ideal) S8x64x128 .f32)) (p : Fin 64) (k : Fin 128) :
    View.canon (statePieces x0 x1 x3 xs ++ L) (ix3 0 p k) = stateK x0 x1 x3 xs 0 p k := by
  unfold statePieces
  simp only [List.cons_append, List.nil_append]
  exact (state_skip 0 p k 7 (by decide) _ _ _).trans ((state_skip 0 p k 6 (by decide) _ _ _).trans ((state_skip 0 p k 5 (by decide) _ _ _).trans ((state_skip 0 p k 4 (by decide) _ _ _).trans ((state_skip 0 p k 3 (by decide) _ _ _).trans ((state_skip 0 p k 2 (by decide) _ _ _).trans ((state_skip 0 p k 1 (by decide) _ _ _).trans ((state_hit 0 p k 0 rfl _ _ _).trans (hs0_at x0 x1 x3 xs p k))))))))

theorem out_canon_1 (r p : Fin 64) :
    View.canon (outPieces i x0 x1 x2 x3 x4 xs) (ix4 0 0 r (vc 1 p)) = outK i x0 x1 x2 x3 x4 xs 1 r p := by
  unfold outPieces
  exact (out_skip 1 r p 448 ⟨7, rfl, by decide⟩ _ _ _).trans ((out_skip 1 r p 384 ⟨6, rfl, by decide⟩ _ _ _).trans ((out_skip 1 r p 320 ⟨5, rfl, by decide⟩ _ _ _).trans ((out_skip 1 r p 256 ⟨4, rfl, by decide⟩ _ _ _).trans ((out_skip 1 r p 192 ⟨3, rfl, by decide⟩ _ _ _).trans ((out_skip 1 r p 128 ⟨2, rfl, by decide⟩ _ _ _).trans ((out_hit 1 r p 64 rfl _ _ _).trans (ho1_at i x0 x1 x2 x3 x4 xs r p)))))))

theorem state_canon_1 (L : List (View.Piece (Elt Ideal) S8x64x128 .f32)) (p : Fin 64) (k : Fin 128) :
    View.canon (statePieces x0 x1 x3 xs ++ L) (ix3 1 p k) = stateK x0 x1 x3 xs 1 p k := by
  unfold statePieces
  simp only [List.cons_append, List.nil_append]
  exact (state_skip 1 p k 7 (by decide) _ _ _).trans ((state_skip 1 p k 6 (by decide) _ _ _).trans ((state_skip 1 p k 5 (by decide) _ _ _).trans ((state_skip 1 p k 4 (by decide) _ _ _).trans ((state_skip 1 p k 3 (by decide) _ _ _).trans ((state_skip 1 p k 2 (by decide) _ _ _).trans ((state_hit 1 p k 1 rfl _ _ _).trans (hs1_at x0 x1 x3 xs p k)))))))

theorem out_canon_2 (r p : Fin 64) :
    View.canon (outPieces i x0 x1 x2 x3 x4 xs) (ix4 0 0 r (vc 2 p)) = outK i x0 x1 x2 x3 x4 xs 2 r p := by
  unfold outPieces
  exact (out_skip 2 r p 448 ⟨7, rfl, by decide⟩ _ _ _).trans ((out_skip 2 r p 384 ⟨6, rfl, by decide⟩ _ _ _).trans ((out_skip 2 r p 320 ⟨5, rfl, by decide⟩ _ _ _).trans ((out_skip 2 r p 256 ⟨4, rfl, by decide⟩ _ _ _).trans ((out_skip 2 r p 192 ⟨3, rfl, by decide⟩ _ _ _).trans ((out_hit 2 r p 128 rfl _ _ _).trans (ho2_at i x0 x1 x2 x3 x4 xs r p))))))

theorem state_canon_2 (L : List (View.Piece (Elt Ideal) S8x64x128 .f32)) (p : Fin 64) (k : Fin 128) :
    View.canon (statePieces x0 x1 x3 xs ++ L) (ix3 2 p k) = stateK x0 x1 x3 xs 2 p k := by
  unfold statePieces
  simp only [List.cons_append, List.nil_append]
  exact (state_skip 2 p k 7 (by decide) _ _ _).trans ((state_skip 2 p k 6 (by decide) _ _ _).trans ((state_skip 2 p k 5 (by decide) _ _ _).trans ((state_skip 2 p k 4 (by decide) _ _ _).trans ((state_skip 2 p k 3 (by decide) _ _ _).trans ((state_hit 2 p k 2 rfl _ _ _).trans (hs2_at x0 x1 x3 xs p k))))))

theorem out_canon_3 (r p : Fin 64) :
    View.canon (outPieces i x0 x1 x2 x3 x4 xs) (ix4 0 0 r (vc 3 p)) = outK i x0 x1 x2 x3 x4 xs 3 r p := by
  unfold outPieces
  exact (out_skip 3 r p 448 ⟨7, rfl, by decide⟩ _ _ _).trans ((out_skip 3 r p 384 ⟨6, rfl, by decide⟩ _ _ _).trans ((out_skip 3 r p 320 ⟨5, rfl, by decide⟩ _ _ _).trans ((out_skip 3 r p 256 ⟨4, rfl, by decide⟩ _ _ _).trans ((out_hit 3 r p 192 rfl _ _ _).trans (ho3_at i x0 x1 x2 x3 x4 xs r p)))))

theorem state_canon_3 (L : List (View.Piece (Elt Ideal) S8x64x128 .f32)) (p : Fin 64) (k : Fin 128) :
    View.canon (statePieces x0 x1 x3 xs ++ L) (ix3 3 p k) = stateK x0 x1 x3 xs 3 p k := by
  unfold statePieces
  simp only [List.cons_append, List.nil_append]
  exact (state_skip 3 p k 7 (by decide) _ _ _).trans ((state_skip 3 p k 6 (by decide) _ _ _).trans ((state_skip 3 p k 5 (by decide) _ _ _).trans ((state_skip 3 p k 4 (by decide) _ _ _).trans ((state_hit 3 p k 3 rfl _ _ _).trans (hs3_at x0 x1 x3 xs p k)))))

theorem out_canon_4 (r p : Fin 64) :
    View.canon (outPieces i x0 x1 x2 x3 x4 xs) (ix4 0 0 r (vc 4 p)) = outK i x0 x1 x2 x3 x4 xs 4 r p := by
  unfold outPieces
  exact (out_skip 4 r p 448 ⟨7, rfl, by decide⟩ _ _ _).trans ((out_skip 4 r p 384 ⟨6, rfl, by decide⟩ _ _ _).trans ((out_skip 4 r p 320 ⟨5, rfl, by decide⟩ _ _ _).trans ((out_hit 4 r p 256 rfl _ _ _).trans (ho4_at i x0 x1 x2 x3 x4 xs r p))))

theorem state_canon_4 (L : List (View.Piece (Elt Ideal) S8x64x128 .f32)) (p : Fin 64) (k : Fin 128) :
    View.canon (statePieces x0 x1 x3 xs ++ L) (ix3 4 p k) = stateK x0 x1 x3 xs 4 p k := by
  unfold statePieces
  simp only [List.cons_append, List.nil_append]
  exact (state_skip 4 p k 7 (by decide) _ _ _).trans ((state_skip 4 p k 6 (by decide) _ _ _).trans ((state_skip 4 p k 5 (by decide) _ _ _).trans ((state_hit 4 p k 4 rfl _ _ _).trans (hs4_at x0 x1 x3 xs p k))))

theorem out_canon_5 (r p : Fin 64) :
    View.canon (outPieces i x0 x1 x2 x3 x4 xs) (ix4 0 0 r (vc 5 p)) = outK i x0 x1 x2 x3 x4 xs 5 r p := by
  unfold outPieces
  exact (out_skip 5 r p 448 ⟨7, rfl, by decide⟩ _ _ _).trans ((out_skip 5 r p 384 ⟨6, rfl, by decide⟩ _ _ _).trans ((out_hit 5 r p 320 rfl _ _ _).trans (ho5_at i x0 x1 x2 x3 x4 xs r p)))

theorem state_canon_5 (L : List (View.Piece (Elt Ideal) S8x64x128 .f32)) (p : Fin 64) (k : Fin 128) :
    View.canon (statePieces x0 x1 x3 xs ++ L) (ix3 5 p k) = stateK x0 x1 x3 xs 5 p k := by
  unfold statePieces
  simp only [List.cons_append, List.nil_append]
  exact (state_skip 5 p k 7 (by decide) _ _ _).trans ((state_skip 5 p k 6 (by decide) _ _ _).trans ((state_hit 5 p k 5 rfl _ _ _).trans (hs5_at x0 x1 x3 xs p k)))

theorem out_canon_6 (r p : Fin 64) :
    View.canon (outPieces i x0 x1 x2 x3 x4 xs) (ix4 0 0 r (vc 6 p)) = outK i x0 x1 x2 x3 x4 xs 6 r p := by
  unfold outPieces
  exact (out_skip 6 r p 448 ⟨7, rfl, by decide⟩ _ _ _).trans ((out_hit 6 r p 384 rfl _ _ _).trans (ho6_at i x0 x1 x2 x3 x4 xs r p))

theorem state_canon_6 (L : List (View.Piece (Elt Ideal) S8x64x128 .f32)) (p : Fin 64) (k : Fin 128) :
    View.canon (statePieces x0 x1 x3 xs ++ L) (ix3 6 p k) = stateK x0 x1 x3 xs 6 p k := by
  unfold statePieces
  simp only [List.cons_append, List.nil_append]
  exact (state_skip 6 p k 7 (by decide) _ _ _).trans ((state_hit 6 p k 6 rfl _ _ _).trans (hs6_at x0 x1 x3 xs p k))

theorem out_canon_7 (r p : Fin 64) :
    View.canon (outPieces i x0 x1 x2 x3 x4 xs) (ix4 0 0 r (vc 7 p)) = outK i x0 x1 x2 x3 x4 xs 7 r p := by
  unfold outPieces
  exact (out_hit 7 r p 448 rfl _ _ _).trans (ho7_at i x0 x1 x2 x3 x4 xs r p)

theorem state_canon_7 (L : List (View.Piece (Elt Ideal) S8x64x128 .f32)) (p : Fin 64) (k : Fin 128) :
    View.canon (statePieces x0 x1 x3 xs ++ L) (ix3 7 p k) = stateK x0 x1 x3 xs 7 p k := by
  unfold statePieces
  simp only [List.cons_append, List.nil_append]
  exact (state_hit 7 p k 7 rfl _ _ _).trans (hs7_at x0 x1 x3 xs p k)

theorem one_of_eight (h : Fin 8) : h = 0 ∨ h = 1 ∨ h = 2 ∨ h = 3 ∨ h = 4 ∨ h = 5 ∨ h = 6 ∨ h = 7 := by omega

/-- The output block is every head's outputs; -/
theorem out_canon (h : Fin 8) (r p : Fin 64) :
    View.canon (outPieces i x0 x1 x2 x3 x4 xs) (ix4 0 0 r (vc h p)) = outK i x0 x1 x2 x3 x4 xs h r p := by
  rcases one_of_eight h with rfl | rfl | rfl | rfl | rfl | rfl | rfl | rfl
  · exact out_canon_0 i x0 x1 x2 x3 x4 xs r p
  · exact out_canon_1 i x0 x1 x2 x3 x4 xs r p
  · exact out_canon_2 i x0 x1 x2 x3 x4 xs r p
  · exact out_canon_3 i x0 x1 x2 x3 x4 xs r p
  · exact out_canon_4 i x0 x1 x2 x3 x4 xs r p
  · exact out_canon_5 i x0 x1 x2 x3 x4 xs r p
  · exact out_canon_6 i x0 x1 x2 x3 x4 xs r p
  · exact out_canon_7 i x0 x1 x2 x3 x4 xs r p

/-- the carried state is every head's state. -/
theorem state_canon (L : List (View.Piece (Elt Ideal) S8x64x128 .f32)) (h : Fin 8) (p : Fin 64) (k : Fin 128) :
    View.canon (statePieces x0 x1 x3 xs ++ L) (ix3 h p k) = stateK x0 x1 x3 xs h p k := by
  rcases one_of_eight h with rfl | rfl | rfl | rfl | rfl | rfl | rfl | rfl
  · exact state_canon_0 x0 x1 x3 xs L p k
  · exact state_canon_1 x0 x1 x3 xs L p k
  · exact state_canon_2 x0 x1 x3 xs L p k
  · exact state_canon_3 x0 x1 x3 xs L p k
  · exact state_canon_4 x0 x1 x3 xs L p k
  · exact state_canon_5 x0 x1 x3 xs L p k
  · exact state_canon_6 x0 x1 x3 xs L p k
  · exact state_canon_7 x0 x1 x3 xs L p k

variable (c : Dev nD) (a4 : Memref sig .tc .vmem S1x64x512 .f32) (h4 : a4.IsWhole) (a5 : Memref sig .tc .vmem S1x64x128 .f32) (h5 : a5.IsWhole) (a6 : Memref sig .tc .vmem S1x64x128 .f32) (h6 : a6.IsWhole) (a7 : Memref sig .tc .vmem S1x1x1x64x128 .f32) (h7 : a7.IsWhole) (a8 : Memref sig .tc .vmem S1x1x1x1x8x64 .f32) (h8 : a8.IsWhole) (a9 : Memref sig .tc .vmem S1x1x64x512 .f32) (h9 : a9.IsWhole) (a10 : Memref sig .tc .vmem S8x64x128 .f32) (h10 : a10.IsWhole)

theorem out_A (hc0 : cond0_0 i) (h : Fin 8) (r p : Fin 64) :
    out0_A_5 c i a4 h4 a5 h5 a6 h6 a7 h7 a8 h8 a9 h9 a10 h10 hc0 x0 x1 x2 x3 x4 (ix4 0 0 r (vc h p)) = outK i x0 x1 x2 x3 x4 (k0_pay4 (F := Ideal)) h r p := by
  unfold out0_A_5
  rw [View.read_writes_eq_canon _ _ _ (cover0_A_5 c i a4 h4 a5 h5 a6 h6 a7 h7 a8 h8 a9 h9 a10 h10 hc0 x0 x1 x2 x3 x4), out_pieces_A]
  exact out_canon i x0 x1 x2 x3 x4 _ h r p

theorem out_B (hc0 : ¬ cond0_0 i) (h : Fin 8) (r p : Fin 64) :
    out0_B_5 c i a4 h4 a5 h5 a6 h6 a7 h7 a8 h8 a9 h9 a10 h10 hc0 x0 x1 x2 x3 x4 xs (ix4 0 0 r (vc h p)) = outK i x0 x1 x2 x3 x4 xs h r p := by
  unfold out0_B_5
  rw [View.read_writes_eq_canon _ _ _ (cover0_B_5 c i a4 h4 a5 h5 a6 h6 a7 h7 a8 h8 a9 h9 a10 h10 hc0 x0 x1 x2 x3 x4 xs), out_pieces_B]
  exact out_canon i x0 x1 x2 x3 x4 xs h r p

theorem state_A (hc0 : cond0_0 i) (h : Fin 8) (p : Fin 64) (k : Fin 128) :
    sout0_A_0 c i a4 h4 a5 h5 a6 h6 a7 h7 a8 h8 a9 h9 a10 h10 hc0 x0 x1 x2 x3 x4 (ix3 h p k) = stateK x0 x1 x3 (k0_pay4 (F := Ideal)) h p k := by
  unfold sout0_A_0
  rw [View.read_writes_eq_canon _ _ _ (scover0_A_0 c i a4 h4 a5 h5 a6 h6 a7 h7 a8 h8 a9 h9 a10 h10 hc0 x0 x1 x2 x3 x4), state_pieces_A]
  exact state_canon x0 x1 x3 _ _ h p k

theorem state_B (hc0 : ¬ cond0_0 i) (h : Fin 8) (p : Fin 64) (k : Fin 128) :
    sout0_B_0 c i a4 h4 a5 h5 a6 h6 a7 h7 a8 h8 a9 h9 a10 h10 hc0 x0 x1 x2 x3 x4 xs (ix3 h p k) = stateK x0 x1 x3 xs h p k := by
  unfold sout0_B_0
  rw [View.read_writes_eq_canon _ _ _ (scover0_B_0 c i a4 h4 a5 h5 a6 h6 a7 h7 a8 h8 a9 h9 a10 h10 hc0 x0 x1 x2 x3 x4 xs), state_pieces_B]
  have := state_canon x0 x1 x3 xs [] h p k
  rwa [List.append_nil] at this

theorem zero_state (j : S8x64x128.Idx) : k0_pay4 (F := Ideal) j = 0 := by
  unfold k0_pay4
  rw [eq_ix3 j]
  pointwise

end Cert.SSD.Ker

end
-- ==== Proof.SsdCumsum.lean ====
/- The running sum inside chunks of 64, along the third or the fourth of four axes. -/
module

public import proofs.«01_k».proof.Proof.RefChunk

@[expose] public section

noncomputable section

namespace Cert.SSD

open Idealize.ShloMosaic
open Cert.GLA.Ref (foldl_add_sum window_sum)

/-- The indices of a window that is longer than one along axis 2 only. -/
def windowEquiv2 : (⟨4, ![1, 1, 64, 1]⟩ : Shape).Idx ≃ Fin 64 where
  toFun w := w 2
  invFun r := ix4 0 0 r 0
  left_inv w := by
    funext a
    fin_cases a <;> first | rfl | exact Subsingleton.elim (α := Fin 1) _ _
  right_inv r := rfl

theorem cumsum2_read {A B D : ℕ} {u : Shape} (x : (⟨4, ![A, B, 64, D]⟩ : Shape).Idx → EReal) (init : u.Idx → EReal)
    (hr : (⟨4, ![A, B, 64, D]⟩ : Shape).ReduceWindows ![1, 1, 64, 1] ![1, 1, 1, 1] ![0, 0, 63, 0] ![0, 0, 0, 0]
      (⟨4, ![A, B, 64, D]⟩ : Shape)) (hu : 0 < u.numel) (h0 : init (Shape.Idx.first hu) = 0)
    (a : Fin A) (b : Fin B) (i : Fin 64) (d : Fin D) :
    Host.reduceWindow (t := (⟨4, ![A, B, 64, D]⟩ : Shape)) (· + ·) ![1, 1, 64, 1] ![1, 1, 1, 1] ![0, 0, 63, 0] ![0, 0, 0, 0] x init hr hu
      (ix4 a b i d) = ∑ s : Fin 64, if s ≤ i then x (ix4 a b s d) else 0 := by
  unfold Host.reduceWindow
  simp only
  rw [foldl_add_sum, h0, zero_add, ← Fin.sum_univ_def, ← window_sum]
  refine Fintype.sum_equiv ((Shape.rowMajor (⟨4, ![1, 1, 64, 1]⟩ : Shape)).symm.trans windowEquiv2) _ _ fun n => ?_
  obtain ⟨w, rfl⟩ := (Shape.rowMajor (⟨4, ![1, 1, 64, 1]⟩ : Shape)).surjective n
  obtain ⟨r, rfl⟩ := windowEquiv2.symm.surjective w
  simp only [Equiv.trans_apply, Equiv.symm_apply_apply, Equiv.apply_symm_apply]
  by_cases h : 63 ≤ i.val + r.val ∧ i.val + r.val - 63 < 64
  · rw [dif_pos h, dif_pos]
    · refine congrArg x (funext fun t => Fin.ext ?_)
      fin_cases t
      · show a.val * 1 + 0 - 0 = a.val; omega
      · show b.val * 1 + 0 - 0 = b.val; omega
      · show i.val * 1 + r.val - 63 = i.val + r.val - 63; omega
      · show d.val * 1 + 0 - 0 = d.val; omega
    · intro t
      fin_cases t
      · exact ⟨Nat.zero_le _, show a.val * 1 + 0 - 0 < A by omega⟩
      · exact ⟨Nat.zero_le _, show b.val * 1 + 0 - 0 < B by omega⟩
      · exact ⟨show 63 ≤ i.val * 1 + r.val by omega, show i.val * 1 + r.val - 63 < 64 by omega⟩
      · exact ⟨Nat.zero_le _, show d.val * 1 + 0 - 0 < D by omega⟩
  · rw [dif_neg h, dif_neg]
    intro hall
    have h3 := hall 2
    apply h
    refine ⟨?_, ?_⟩
    · have : 63 ≤ i.val * 1 + r.val := h3.1
      omega
    · have : i.val * 1 + r.val - 63 < 64 := h3.2
      omega

theorem cumsum2_at {A B D : ℕ} (x : FVec Ideal (⟨4, ![A, B, 64, D]⟩ : Shape) .f32) (init : (⟨0, ![]⟩ : Shape).Idx → EReal)
    (hr : (⟨4, ![A, B, 64, D]⟩ : Shape).ReduceWindows ![1, 1, 64, 1] ![1, 1, 1, 1] ![0, 0, 63, 0] ![0, 0, 0, 0]
      (⟨4, ![A, B, 64, D]⟩ : Shape)) (hu : 0 < (⟨0, ![]⟩ : Shape).numel) (h0 : ∀ j, init j = 0)
    (a : Fin A) (b : Fin B) (i : Fin 64) (d : Fin D) :
    Host.reduceWindowAdd (F := Ideal) (φ := .f32) (t := (⟨4, ![A, B, 64, D]⟩ : Shape)) ![1, 1, 64, 1] ![1, 1, 1, 1] ![0, 0, 63, 0]
      ![0, 0, 0, 0] x init hr hu (ix4 a b i d) = ∑ s : Fin 64, if s ≤ i then x (ix4 a b s d) else 0 := by
  have hu' : 0 < (⟨0, ![]⟩ : Shape).numel := by decide
  rw [← cumsum2_read x (fun _ => 0) hr hu' rfl a b i d]
  unfold Host.reduceWindowAdd
  rw [h0]
  rfl

/-- The indices of a window that is longer than one along axis 3 only. -/
def windowEquiv3 : (⟨4, ![1, 1, 1, 64]⟩ : Shape).Idx ≃ Fin 64 where
  toFun w := w 3
  invFun r := ix4 0 0 0 r
  left_inv w := by
    funext a
    fin_cases a <;> first | rfl | exact Subsingleton.elim (α := Fin 1) _ _
  right_inv r := rfl

theorem cumsum3_read {A B C : ℕ} {u : Shape} (x : (⟨4, ![A, B, C, 64]⟩ : Shape).Idx → EReal) (init : u.Idx → EReal)
    (hr : (⟨4, ![A, B, C, 64]⟩ : Shape).ReduceWindows ![1, 1, 1, 64] ![1, 1, 1, 1] ![0, 0, 0, 63] ![0, 0, 0, 0]
      (⟨4, ![A, B, C, 64]⟩ : Shape)) (hu : 0 < u.numel) (h0 : init (Shape.Idx.first hu) = 0)
    (a : Fin A) (b : Fin B) (c : Fin C) (i : Fin 64) :
    Host.reduceWindow (t := (⟨4, ![A, B, C, 64]⟩ : Shape)) (· + ·) ![1, 1, 1, 64] ![1, 1, 1, 1] ![0, 0, 0, 63] ![0, 0, 0, 0] x init hr hu
      (ix4 a b c i) = ∑ s : Fin 64, if s ≤ i then x (ix4 a b c s) else 0 := by
  unfold Host.reduceWindow
  simp only
  rw [foldl_add_sum, h0, zero_add, ← Fin.sum_univ_def, ← window_sum]
  refine Fintype.sum_equiv ((Shape.rowMajor (⟨4, ![1, 1, 1, 64]⟩ : Shape)).symm.trans windowEquiv3) _ _ fun n => ?_
  obtain ⟨w, rfl⟩ := (Shape.rowMajor (⟨4, ![1, 1, 1, 64]⟩ : Shape)).surjective n
  obtain ⟨r, rfl⟩ := windowEquiv3.symm.surjective w
  simp only [Equiv.trans_apply, Equiv.symm_apply_apply, Equiv.apply_symm_apply]
  by_cases h : 63 ≤ i.val + r.val ∧ i.val + r.val - 63 < 64
  · rw [dif_pos h, dif_pos]
    · refine congrArg x (funext fun t => Fin.ext ?_)
      fin_cases t
      · show a.val * 1 + 0 - 0 = a.val; omega
      · show b.val * 1 + 0 - 0 = b.val; omega
      · show c.val * 1 + 0 - 0 = c.val; omega
      · show i.val * 1 + r.val - 63 = i.val + r.val - 63; omega
    · intro t
      fin_cases t
      · exact ⟨Nat.zero_le _, show a.val * 1 + 0 - 0 < A by omega⟩
      · exact ⟨Nat.zero_le _, show b.val * 1 + 0 - 0 < B by omega⟩
      · exact ⟨Nat.zero_le _, show c.val * 1 + 0 - 0 < C by omega⟩
      · exact ⟨show 63 ≤ i.val * 1 + r.val by omega, show i.val * 1 + r.val - 63 < 64 by omega⟩
  · rw [dif_neg h, dif_neg]
    intro hall
    have h3 := hall 3
    apply h
    refine ⟨?_, ?_⟩
    · have : 63 ≤ i.val * 1 + r.val := h3.1
      omega
    · have : i.val * 1 + r.val - 63 < 64 := h3.2
      omega

theorem cumsum3_at {A B C : ℕ} (x : FVec Ideal (⟨4, ![A, B, C, 64]⟩ : Shape) .f32) (init : (⟨0, ![]⟩ : Shape).Idx → EReal)
    (hr : (⟨4, ![A, B, C, 64]⟩ : Shape).ReduceWindows ![1, 1, 1, 64] ![1, 1, 1, 1] ![0, 0, 0, 63] ![0, 0, 0, 0]
      (⟨4, ![A, B, C, 64]⟩ : Shape)) (hu : 0 < (⟨0, ![]⟩ : Shape).numel) (h0 : ∀ j, init j = 0)
    (a : Fin A) (b : Fin B) (c : Fin C) (i : Fin 64) :
    Host.reduceWindowAdd (F := Ideal) (φ := .f32) (t := (⟨4, ![A, B, C, 64]⟩ : Shape)) ![1, 1, 1, 64] ![1, 1, 1, 1] ![0, 0, 0, 63]
      ![0, 0, 0, 0] x init hr hu (ix4 a b c i) = ∑ s : Fin 64, if s ≤ i then x (ix4 a b c s) else 0 := by
  have hu' : 0 < (⟨0, ![]⟩ : Shape).numel := by decide
  rw [← cumsum3_read x (fun _ => 0) hr hu' rfl a b c i]
  unfold Host.reduceWindowAdd
  rw [h0]
  rfl

end Cert.SSD

end
-- ==== Proof.SsdKerHost.lean ====
/- The tables that the host computes before the state-space scan, at an index. -/
module

public import proofs.«01_k».proof.Proof.SsdCumsum
public import proofs.«01_k».proof.Proof.SsdSpec
public import proofs.«01_k».proof.Proof.KerState
public import proofs.«01_k».proof.Proof.Gen.SsdIdeal.Value
public import Idealize.ShloMosaic.Lib.Claim
public import Idealize.ShloMosaic.Lib.KernelVsHost

@[expose] public section

set_option maxRecDepth 16384

noncomputable section

namespace Cert.SSD.Ker

open Idealize Idealize.ShloMosaic Idealize.ShloMosaic.TcCoe Idealize.ShloMosaic.Tactic
open Cert.SsdIdeal Cert.SsdIdeal.Gen
open Cert.GLA.Ker (flip flip_val flip_flip)
open scoped BigOperators

section Tables

variable (g l : FVec Ideal S2x4352x2x32 .f32)

/-- The zero that running sums start from. -/
def hz : FVec Ideal S_ .f32 := broadcastInDim S_ ![] bcast_S_S_ (constant S_ .f32 0x00000000#32)
/-- The log decays in chunks. -/
def h0 : FVec Ideal S2x68x64x2x32 .f32 := shapeCast S2x68x64x2x32 l shapeCasts_S2x4352x2x32_S2x68x64x2x32
/-- The forward direction's, and their running sums. -/
def h2 : FVec Ideal S2x68x64x32 .f32 :=
  shapeCast S2x68x64x32 (extractStridedSlice S2x68x64x1x32 ![0, 0, 0, 0, 0] (h0 l) slices_S2x68x64x2x32_S2x68x64x1x32_0_0_0_0_0) shapeCasts_S2x68x64x1x32_S2x68x64x32
def h3 : FVec Ideal S2x68x64x32 .f32 :=
  Host.reduceWindowAdd ![1, 1, 64, 1] ![1, 1, 1, 1] ![0, 0, 63, 0] ![0, 0, 0, 0] (h2 l) hz reduceWindows_S2x68x64x32_S2x68x64x32_w1s1p0_0_w1s1p0_0_w64s1p63_0_w1s1p0_0 h_S_
/-- The backward direction's, each chunk in reverse, and their running sums. -/
def h6 : FVec Ideal S2x68x64x32 .f32 :=
  shapeCast S2x68x64x32 (Host.reverse [2] (extractStridedSlice S2x68x64x1x32 ![0, 0, 0, 1, 0] (h0 l) slices_S2x68x64x2x32_S2x68x64x1x32_0_0_0_1_0)) shapeCasts_S2x68x64x1x32_S2x68x64x32
def h7 : FVec Ideal S2x68x64x32 .f32 :=
  Host.reduceWindowAdd ![1, 1, 64, 1] ![1, 1, 1, 1] ![0, 0, 63, 0] ![0, 0, 0, 0] (h6 l) hz reduceWindows_S2x68x64x32_S2x68x64x32_w1s1p0_0_w1s1p0_0_w64s1p63_0_w1s1p0_0 h_S_
/-- Both directions' running sums. -/
def h11 : FVec Ideal S2x68x64x2x32 .f32 :=
  concatenate S2x68x64x2x32 3 [⟨S2x68x64x1x32, broadcastInDim S2x68x64x1x32 ![0, 1, 2, 4] bcast_S2x68x64x32_S2x68x64x1x32_0_1_2_4 (h3 l)⟩, ⟨S2x68x64x1x32, broadcastInDim S2x68x64x1x32 ![0, 1, 2, 4] bcast_S2x68x64x32_S2x68x64x1x32_0_1_2_4 (Host.reverse [2] (h7 l))⟩] concatenates_S2x68x64x1x32_S2x68x64x1x32_S2x68x64x2x32_d3
/-- The chunks' totals, at every position. -/
def h14 : FVec Ideal S2x68x64x2x32 .f32 :=
  broadcastInDim S2x68x64x2x32 ![0, 1, 2, 3, 4] bcast_S2x68x1x2x32_S2x68x64x2x32_0_1_2_3_4
    (broadcastInDim S2x68x1x2x32 ![0, 1, 3, 4] bcast_S2x68x2x32_S2x68x1x2x32_0_1_3_4
      (Host.reduceAdd (h0 l) (constant S_ .f32 0x00000000#32) reducesTo_S2x68x64x2x32_S2x68x2x32_d2 h_S_))
/-- The three columns of every head. -/
def h19 : FVec Ideal S2x68x64x2x32x3 .f32 :=
  concatenate S2x68x64x2x32x3 5 [⟨S2x68x64x2x32x1, broadcastInDim S2x68x64x2x32x1 ![0, 1, 2, 3, 4] bcast_S2x68x64x2x32_S2x68x64x2x32x1_0_1_2_3_4 (h0 g)⟩, ⟨S2x68x64x2x32x1, broadcastInDim S2x68x64x2x32x1 ![0, 1, 2, 3, 4] bcast_S2x68x64x2x32_S2x68x64x2x32x1_0_1_2_3_4 (h11 l)⟩, ⟨S2x68x64x2x32x1, broadcastInDim S2x68x64x2x32x1 ![0, 1, 2, 3, 4] bcast_S2x68x64x2x32_S2x68x64x2x32x1_0_1_2_3_4 (h14 l)⟩] concatenates_S2x68x64x2x32x1_S2x68x64x2x32x1_S2x68x64x2x32x1_S2x68x64x2x32x3_d5
/-- The table of columns: what the scan reads down its positions. -/
def h22 : FVec Ideal S2x2x4x4352x128 .f32 :=
  pad S2x2x4x4352x128 ![0, 0, 0, 0, 0] ![0, 0, 0, 0, 104] ![0, 0, 0, 0, 0]
    (transpose S2x2x4x4352x24 [0, 2, 3, 1, 4] (shapeCast S2x4352x2x4x24 (h19 g l) shapeCasts_S2x68x64x2x32x3_S2x4352x2x4x24) transposes_S2x4352x2x4x24_S2x2x4x4352x24_0_2_3_1_4)
    (sitofp .f32 (constantI S_ 32 0#32)) pads_S2x2x4x4352x24_S2x2x4x4352x128_000_000_000_000_01040 h_S_
/-- The table of rows: what it reads across them. -/
def h25 : FVec Ideal S2x2x4x68x8x64 .f32 :=
  pad S2x2x4x68x8x64 ![0, 0, 0, 0, 0, 0] ![0, 0, 0, 0, 0, 0] ![0, 0, 0, 0, 0, 0]
    (transpose S2x2x4x68x8x64 [0, 3, 4, 1, 5, 2] (shapeCast S2x68x64x2x4x8 (h11 l) shapeCasts_S2x68x64x2x32_S2x68x64x2x4x8) transposes_S2x68x64x2x4x8_S2x2x4x68x8x64_0_3_4_1_5_2)
    (sitofp .f32 (constantI S_ 32 0#32)) pads_S2x2x4x68x8x64_S2x2x4x68x8x64_000_000_000_000_000_000 h_S_

theorem hz_at (j : S_.Idx) : hz j = 0 := Ideal.ofBits_zero_f32

theorem h0_at (b : Fin 2) (n : Fin 68) (i : Fin 64) (d : Fin 2) (h : Fin 32) :
    h0 l (ix5 b n i d h) = l (ix4 b ⟨n.val * 64 + i.val, by omega⟩ d h) :=
  Cert.GLA.Ref.chunk_read (A := 2) (L := 4352) (H := 2) (K := 32) (N := 68) (M := 64) (by norm_num) l _ b n i d h (by omega)

theorem h2_at (b : Fin 2) (n : Fin 68) (i : Fin 64) (h : Fin 32) : h2 l (ix4 b n i h) = h0 l (ix5 b n i 0 h) := by
  unfold h2
  generalize h0 l = x
  pointwise

theorem h6_at (b : Fin 2) (n : Fin 68) (i : Fin 64) (h : Fin 32) : h6 l (ix4 b n i h) = h0 l (ix5 b n (Fin.rev i) 1 h) := by
  unfold h6
  generalize h0 l = x
  pointwise
  try rfl

theorem h3_at (b : Fin 2) (n : Fin 68) (i : Fin 64) (h : Fin 32) :
    h3 l (ix4 b n i h) = ∑ s : Fin 64, if s ≤ i then h0 l (ix5 b n s 0 h) else 0 := by
  unfold h3
  refine (cumsum2_at (A := 2) (B := 68) (D := 32) (h2 l) hz _ _ hz_at b n i h).trans ?_
  simp only [h2_at]

theorem h7_at (b : Fin 2) (n : Fin 68) (i : Fin 64) (h : Fin 32) :
    h7 l (ix4 b n i h) = ∑ s : Fin 64, if s ≤ i then h0 l (ix5 b n (Fin.rev s) 1 h) else 0 := by
  unfold h7
  refine (cumsum2_at (A := 2) (B := 68) (D := 32) (h6 l) hz _ _ hz_at b n i h).trans ?_
  simp only [h6_at]

theorem h11_fwd (b : Fin 2) (n : Fin 68) (i : Fin 64) (h : Fin 32) : h11 l (ix5 b n i 0 h) = h3 l (ix4 b n i h) := by
  unfold h11
  generalize h3 l = x
  generalize h7 l = y
  pointwise
  try rfl

theorem h11_bwd (b : Fin 2) (n : Fin 68) (i : Fin 64) (h : Fin 32) : h11 l (ix5 b n i 1 h) = h7 l (ix4 b n (Fin.rev i) h) := by
  unfold h11
  generalize h3 l = x
  generalize h7 l = y
  pointwise
  try rfl

/-- The running sum at the storage row of position `i`. -/
theorem h11_at (b : Fin 2) (n : Fin 68) (i : Fin 64) (d : Fin 2) (h : Fin 32) :
    h11 l (ix5 b n (flip d i) d h) = ∑ s : Fin 64, if s ≤ i then l (ix4 b ⟨n.val * 64 + (flip d s).val, by omega⟩ d h) else 0 := by
  simp only [← h0_at]
  have hd : d = 0 ∨ d = 1 := by omega
  rcases hd with rfl | rfl
  · rw [h11_fwd, h3_at]
    rfl
  · rw [h11_bwd, h7_at]
    have e : Fin.rev (flip 1 i) = i := Fin.ext (by rw [Fin.val_rev, flip_val]; simp; omega)
    rw [e]
    rfl

theorem h14_at (b : Fin 2) (n : Fin 68) (i : Fin 64) (d : Fin 2) (h : Fin 32) :
    h14 l (ix5 b n i d h) = ∑ s : Fin 64, l (ix4 b ⟨n.val * 64 + s.val, by omega⟩ d h) := by
  simp only [← h0_at]
  unfold h14
  generalize h0 l = x
  pointwise

theorem h19_step (b : Fin 2) (n : Fin 68) (i : Fin 64) (d : Fin 2) (h : Fin 32) :
    h19 g l (ix6 b n i d h 0) = h0 g (ix5 b n i d h) := by
  unfold h19
  generalize h0 g = x
  generalize h11 l = y
  generalize h14 l = w
  pointwise
  try rfl

theorem h19_cum (b : Fin 2) (n : Fin 68) (i : Fin 64) (d : Fin 2) (h : Fin 32) :
    h19 g l (ix6 b n i d h 1) = h11 l (ix5 b n i d h) := by
  unfold h19
  generalize h0 g = x
  generalize h11 l = y
  generalize h14 l = w
  pointwise
  try rfl

theorem h19_tot (b : Fin 2) (n : Fin 68) (i : Fin 64) (d : Fin 2) (h : Fin 32) :
    h19 g l (ix6 b n i d h 2) = h14 l (ix5 b n i d h) := by
  unfold h19
  generalize h0 g = x
  generalize h11 l = y
  generalize h14 l = w
  pointwise
  try rfl

theorem h22_at (b d : Fin 2) (gr : Fin 4) (t : Fin 4352) (n : Fin 68) (i : Fin 64) (ht : t.val = n.val * 64 + i.val)
    (c : Fin 128) (k : Fin 8) (j : Fin 3) (hc : c.val = 3 * k.val + j.val) :
    h22 g l (ix5 b d gr t c) = h19 g l (ix6 b n i d ⟨gr.val * 8 + k.val, by omega⟩ j) := by
  unfold h22
  generalize h19 g l = x
  refine (pad_apply_of_inside _ _ _ _ _ _ _ _ (ix5 b d gr t (⟨c.val, by omega⟩ : Fin 24))
    (fun a => by fin_cases a <;> simp [ix5])).trans ?_
  refine (transpose_apply _ _ _ _ (ix5 b t d gr (⟨c.val, by omega⟩ : Fin 24)) fun a => ?_).trans ?_
  · fin_cases a <;> rfl
  rw [Pointwise.shapeCast_apply]
  refine congrArg x (Shape.reshapeEquiv_eq_of_vals _ _ _ _ _ (rowMajor_val6 _ _ _ _ _ _ rfl rfl rfl rfl rfl)
    (rowMajor_val5 _ _ _ _ _ rfl rfl rfl rfl) ?_)
  show b.val * (68 * (64 * (2 * (32 * 3)))) + n.val * (64 * (2 * (32 * 3))) + i.val * (2 * (32 * 3)) + d.val * (32 * 3)
      + (gr.val * 8 + k.val) * 3 + j.val
    = b.val * (4352 * (2 * (4 * 24))) + t.val * (2 * (4 * 24)) + d.val * (4 * 24) + gr.val * 24 + c.val
  omega

theorem h25_at (b d : Fin 2) (gr : Fin 4) (n : Fin 68) (k : Fin 8) (i : Fin 64) :
    h25 l (ix6 b d gr n k i) = h11 l (ix5 b n i d ⟨gr.val * 8 + k.val, by omega⟩) := by
  unfold h25
  generalize h11 l = x
  refine (pad_apply_of_inside _ _ _ _ _ _ _ _ (ix6 b d gr n k i)
    (fun a => by fin_cases a <;> simp [ix6])).trans ?_
  refine (transpose_apply _ _ _ _ (ix6 b n i d gr k) fun a => ?_).trans ?_
  · fin_cases a <;> rfl
  rw [Pointwise.shapeCast_apply]
  refine congrArg x (Shape.reshapeEquiv_eq_of_vals _ _ _ _ _ (rowMajor_val5 _ _ _ _ _ rfl rfl rfl rfl)
    (rowMajor_val6 _ _ _ _ _ _ rfl rfl rfl rfl rfl) ?_)
  show b.val * (68 * (64 * (2 * 32))) + n.val * (64 * (2 * 32)) + i.val * (2 * 32) + d.val * 32 + (gr.val * 8 + k.val)
    = b.val * (68 * (64 * (2 * (4 * 8)))) + n.val * (64 * (2 * (4 * 8))) + i.val * (2 * (4 * 8)) + d.val * (4 * 8) + gr.val * 8 + k.val
  omega

end Tables

/-! ## The tables as the region finds them -/

variable (m : (ℓ : Loc nD τ sig) → Buf (Elt Ideal) ℓ) (c : Dev nD)

/-- The arguments as arrays. -/
abbrev a0 : (⟨3, ![2, 4352, 2048]⟩ : Shape).Idx → EReal := m (c.tc.loc main_arg0)
abbrev a1 : (⟨3, ![2, 4352, 512]⟩ : Shape).Idx → EReal := m (c.tc.loc main_arg1)
abbrev a2 : (⟨3, ![2, 4352, 512]⟩ : Shape).Idx → EReal := m (c.tc.loc main_arg2)
abbrev a3 : (⟨4, ![2, 4352, 2, 32]⟩ : Shape).Idx → EReal := m (c.tc.loc main_arg3)
abbrev a4 : (⟨4, ![2, 4352, 2, 32]⟩ : Shape).Idx → EReal := m (c.tc.loc main_arg4)

theorem V_col : V m c main_v22 = h22 (a3 m c) (a4 m c) := by
  unfold V
  simp only [hostOps0, hostOps0_1, hostOps0_2, hostOps0_3, hostOps0_4, hostOps0_5, hostOps0_6, hostOps0_7, List.flatten_cons, List.flatten_nil, List.append_nil, List.cons_append, List.nil_append]
  after_results
  rfl

theorem V_row : V m c main_v25 = h25 (a4 m c) := by
  unfold V
  simp only [hostOps0, hostOps0_1, hostOps0_2, hostOps0_3, hostOps0_4, hostOps0_5, hostOps0_6, hostOps0_7, List.flatten_cons, List.flatten_nil, List.append_nil, List.cons_append, List.nil_append]
  after_results
  rfl

end Cert.SSD.Ker

end
-- ==== Proof.SsdKerInput.lean ====
/- The blocks that a grid point of the state-space scan reads, at an index of the arguments. -/
module

public import proofs.«01_k».proof.Proof.SsdKerHost

@[expose] public section

set_option maxRecDepth 16384

noncomputable section

namespace Cert.SSD.Ker

open Idealize Idealize.ShloMosaic Idealize.ShloMosaic.TcCoe Idealize.ShloMosaic.Tactic
open Cert.SsdIdeal Cert.SsdIdeal.Gen
open Idealize.ShloMosaic.Pipeline (Dat Cfg Window)
open Cert.GLA (pos tok)
open Cert.GLA.Ker (flip flip_val flip_flip place)
open scoped BigOperators

/-- The batch row, the direction and the group of heads of grid point `t`; its chunk is `t % 68`. -/
def bOf (t : ℕ) : Fin 2 := ⟨t / 544 % 2, Nat.mod_lt _ (by decide)⟩
def dOf (t : ℕ) : Fin 2 := ⟨t / 272 % 2, Nat.mod_lt _ (by decide)⟩
def gOf (t : ℕ) : Fin 4 := ⟨t / 68 % 4, Nat.mod_lt _ (by decide)⟩

theorem coord_d (t : Fin cfg0.N) : (grid0.coords t 1).val = t.val / 272 % 2 := Pipeline.Grid.coords_val t 1 (by decide) rfl

theorem index0 : ∀ t : Fin grid0.N, win0_0.index t = ![t.val / 544 % 2, place (t.val / 272 % 2) (t.val % 68), t.val / 68 % 4] := by decide +kernel
theorem index1 : ∀ t : Fin grid0.N, win0_1.index t = ![t.val / 544 % 2, place (t.val / 272 % 2) (t.val % 68), t.val / 68 % 4] := by decide +kernel
theorem index2 : ∀ t : Fin grid0.N, win0_2.index t = ![t.val / 544 % 2, place (t.val / 272 % 2) (t.val % 68), t.val / 68 % 4] := by decide +kernel
theorem index3 : ∀ t : Fin grid0.N, win0_3.index t = ![t.val / 544 % 2, t.val / 272 % 2, t.val / 68 % 4, place (t.val / 272 % 2) (t.val % 68), 0] := by decide +kernel
theorem index4 : ∀ t : Fin grid0.N, win0_4.index t = ![t.val / 544 % 2, t.val / 272 % 2, t.val / 68 % 4, place (t.val / 272 % 2) (t.val % 68), 0, 0] := by decide +kernel
theorem index5 : ∀ t : Fin grid0.N, win0_5.index t = ![t.val / 272 % 2, t.val / 544 % 2, place (t.val / 272 % 2) (t.val % 68), t.val / 68 % 4] := by decide +kernel

theorem place_lt (t : ℕ) : place (dOf t) (t % 68) < 68 := by
  unfold place; split <;> [omega; split <;> omega]

/-- The chunk's place in the arrays, and the token of its storage row `s`. -/
def pl (t : ℕ) : Fin 68 := ⟨place (dOf t) (t % 68), place_lt t⟩
def row (t : ℕ) (s : Fin 64) : ℕ := place (dOf t) (t % 68) * 64 + s.val

theorem row_lt (t : ℕ) (s : Fin 64) : row t s < 4352 := by have := place_lt t; unfold row; omega

variable (m : (ℓ : Loc nD τ sig) → Buf (Elt Ideal) ℓ) (c : Dev nD)

/-- The inputs' block. -/
theorem X0_at (t : Fin cfg0.N) (s : Fin 64) (k : Fin 512) :
    iblk m c 0 t (ix3 0 s k) = el (a0 m c) (bOf t) (row t s) ⟨(gOf t).val * 512 + k.val, by omega⟩ := by
  refine Eq.trans ?_ (el_at (a0 m c) (bOf t) ⟨row t s, row_lt t s⟩ ⟨(gOf t).val * 512 + k.val, by omega⟩)
  refine Eq.trans (b := V m c main_arg0 (ix3 (bOf t) ⟨row t s, row_lt t s⟩ ⟨(gOf t).val * 512 + k.val, by omega⟩)) ?_
    (congrFun (V_main_arg0 m c) _)
  refine congrArg (V m c main_arg0) (funext fun a => Fin.ext ?_)
  refine (Pipeline.Window.rect_emb_val win0_0 t _ a).trans ?_
  rw [index0]
  fin_cases a <;> simp [ix3, bOf, dOf, gOf, row]

/-- The block of what the tokens write. -/
theorem X1_at (t : Fin cfg0.N) (s : Fin 64) (k : Fin 128) :
    iblk m c 1 t (ix3 0 s k) = el (a1 m c) (bOf t) (row t s) ⟨(gOf t).val * 128 + k.val, by omega⟩ := by
  refine Eq.trans ?_ (el_at (a1 m c) (bOf t) ⟨row t s, row_lt t s⟩ ⟨(gOf t).val * 128 + k.val, by omega⟩)
  refine Eq.trans (b := V m c main_arg1 (ix3 (bOf t) ⟨row t s, row_lt t s⟩ ⟨(gOf t).val * 128 + k.val, by omega⟩)) ?_
    (congrFun (V_main_arg1 m c) _)
  refine congrArg (V m c main_arg1) (funext fun a => Fin.ext ?_)
  refine (Pipeline.Window.rect_emb_val win0_1 t _ a).trans ?_
  rw [index1]
  fin_cases a <;> simp [ix3, bOf, dOf, gOf, row]

/-- The block of how they read. -/
theorem X2_at (t : Fin cfg0.N) (s : Fin 64) (k : Fin 128) :
    iblk m c 2 t (ix3 0 s k) = el (a2 m c) (bOf t) (row t s) ⟨(gOf t).val * 128 + k.val, by omega⟩ := by
  refine Eq.trans ?_ (el_at (a2 m c) (bOf t) ⟨row t s, row_lt t s⟩ ⟨(gOf t).val * 128 + k.val, by omega⟩)
  refine Eq.trans (b := V m c main_arg2 (ix3 (bOf t) ⟨row t s, row_lt t s⟩ ⟨(gOf t).val * 128 + k.val, by omega⟩)) ?_
    (congrFun (V_main_arg2 m c) _)
  refine congrArg (V m c main_arg2) (funext fun a => Fin.ext ?_)
  refine (Pipeline.Window.rect_emb_val win0_2 t _ a).trans ?_
  rw [index2]
  fin_cases a <;> simp [ix3, bOf, dOf, gOf, row]

/-- The block of the table of columns. -/
theorem X3_at (t : Fin cfg0.N) (s : Fin 64) (k : Fin 128) :
    iblk m c 3 t (ix5 0 0 0 s k) = h22 (a3 m c) (a4 m c) (ix5 (bOf t) (dOf t) (gOf t) ⟨row t s, row_lt t s⟩ k) := by
  refine Eq.trans (b := V m c main_v22 (ix5 (bOf t) (dOf t) (gOf t) ⟨row t s, row_lt t s⟩ k)) ?_ (congrFun (V_col m c) _)
  refine congrArg (V m c main_v22) (funext fun a => Fin.ext ?_)
  refine (Pipeline.Window.rect_emb_val win0_3 t _ a).trans ?_
  rw [index3]
  fin_cases a <;> simp [ix5, bOf, dOf, gOf, row]

/-- The block of the table of rows. -/
theorem X4_at (t : Fin cfg0.N) (h : Fin 8) (s : Fin 64) :
    iblk m c 4 t (ix6 0 0 0 0 h s) = h25 (a4 m c) (ix6 (bOf t) (dOf t) (gOf t) (pl t) h s) := by
  refine Eq.trans (b := V m c main_v25 (ix6 (bOf t) (dOf t) (gOf t) (pl t) h s)) ?_ (congrFun (V_row m c) _)
  refine congrArg (V m c main_v25) (funext fun a => Fin.ext ?_)
  refine (Pipeline.Window.rect_emb_val win0_4 t _ a).trans ?_
  rw [index4]
  fin_cases a <;> simp [ix6, bOf, dOf, gOf, pl]

end Cert.SSD.Ker

end
-- ==== Proof.SsdKerState.lean ====
/- One grid point of the state-space scan as one chunk of the recurrence: its storage rows in the direction's order, and
   its outputs and state as the recurrence's. -/
module

public import proofs.«01_k».proof.Proof.SsdKerBlock
public import proofs.«01_k».proof.Proof.SsdKerInput

@[expose] public section

set_option maxRecDepth 16384

noncomputable section

namespace Cert.SSD.Ker

open Idealize Idealize.ShloMosaic Idealize.ShloMosaic.TcCoe Idealize.ShloMosaic.Tactic
open Cert.SsdIdeal Cert.SsdIdeal.Gen
open Idealize.ShloMosaic.Pipeline (Dat Cfg Window)
open Cert.GLA (pos tok)
open Cert.GLA.Ker (flip flip_val flip_flip place)
open scoped BigOperators

theorem row_flip (t : ℕ) (i : Fin 64) : row t (flip (dOf t) i) = tok (dOf t) (t % 68) i := by
  unfold row place tok pos
  rw [flip_val]
  have h : t % 68 < 68 := Nat.mod_lt _ (by decide)
  have hd : (dOf t = 0) ↔ ((dOf t : Fin 2) : ℕ) = 0 := by rw [Fin.ext_iff]; rfl
  generalize dOf t = d at hd ⊢
  by_cases h0 : d = 0
  · simp [h0]
  · have : ¬ (d : ℕ) = 0 := fun h => h0 (hd.mpr h)
    simp only [h0, this, if_false]
    split <;> split <;> omega

theorem coord_zero (t : Fin cfg0.N) : (grid0.coords t 1).val = 0 ↔ dOf t = 0 := by
  rw [coord_d, Fin.ext_iff]; rfl

theorem upto_flip (t : Fin cfg0.N) (i s : Fin 64) :
    upto (grid0.coords t) (flip (dOf t) i) (flip (dOf t) s) ↔ s ≤ i := by
  unfold upto
  simp only [coord_zero, Fin.le_def, flip_val]
  split <;> omega

/-- The head that is head `h` of the point's group. -/
def hd (t : ℕ) (h : Fin 8) : Fin 32 := ⟨(gOf t).val * 8 + h.val, by omega⟩

theorem grp_hd (t : ℕ) (h : Fin 8) : grp (hd t h) = gOf t := Fin.ext (by unfold grp hd; simp only; omega)

variable (m : (ℓ : Loc nD τ sig) → Buf (Elt Ideal) ℓ) (c : Dev nD)

/-- The sequences of head `h` of the point's group, in its direction and batch row. -/
abbrev xh (t : ℕ) (h : Fin 8) := xs (a0 m c) (dOf t) (bOf t) (hd t h)
abbrev bh (t : ℕ) (h : Fin 8) := vs (a1 m c) (dOf t) (bOf t) (grp (hd t h))
abbrev ch (t : ℕ) (h : Fin 8) := vs (a2 m c) (dOf t) (bOf t) (grp (hd t h))
abbrev eh (t : ℕ) (h : Fin 8) := gs (a3 m c) (dOf t) (bOf t) (hd t h)
abbrev lh (t : ℕ) (h : Fin 8) := gs (a4 m c) (dOf t) (bOf t) (hd t h)

variable (t : Fin cfg0.N)

theorem gate_row (f : (⟨4, ![2, 4352, 2, 32]⟩ : Shape).Idx → EReal) (h : Fin 8) (i : Fin 64)
    (hp : (pl t).val * 64 + (flip (dOf t) i).val < 4352) :
    f (ix4 (bOf t) ⟨(pl t).val * 64 + (flip (dOf t) i).val, hp⟩ (dOf t) (hd t h))
      = gs f (dOf t) (bOf t) (hd t h) (t.val % 68) i := by
  refine (gate_at f (dOf t) (bOf t) _ (hd t h)).trans ?_
  unfold gs
  rw [← row_flip]
  rfl

theorem dt_at (h : Fin 8) (i : Fin 64) : dtK (iblk m c 3 t) h (flip (dOf t) i) = eh m c t h (t.val % 68) i := by
  unfold dtK
  rw [X3_at, h22_at (a3 m c) (a4 m c) _ _ _ _ (pl t) (flip (dOf t) i) rfl _ h 0 rfl, h19_step, h0_at]
  exact gate_row t (a3 m c) h i _

theorem run_at (h : Fin 8) (i : Fin 64) :
    h11 (a4 m c) (ix5 (bOf t) (pl t) (flip (dOf t) i) (dOf t) (hd t h)) = cum (lh m c t h) (t.val % 68) i := by
  rw [h11_at]
  unfold cum
  refine Finset.sum_congr rfl fun s _ => ?_
  rw [gate_row t (a4 m c) h s]

theorem cu_at (h : Fin 8) (i : Fin 64) : cuK (iblk m c 3 t) h (flip (dOf t) i) = cum (lh m c t h) (t.val % 68) i := by
  unfold cuK
  rw [X3_at, h22_at (a3 m c) (a4 m c) _ _ _ _ (pl t) (flip (dOf t) i) rfl _ h 1 rfl, h19_cum]
  exact run_at m c t h i

theorem rw_at (h : Fin 8) (i : Fin 64) : rwK (iblk m c 4 t) h (flip (dOf t) i) = cum (lh m c t h) (t.val % 68) i := by
  unfold rwK
  rw [X4_at, h25_at]
  exact run_at m c t h i

/-- The total of the point's chunk is the running sum at its last position. -/
theorem tot_at (h : Fin 8) (s : Fin 64) : toK (iblk m c 3 t) h s = cum (lh m c t h) (t.val % 68) 63 := by
  unfold toK
  rw [X3_at, h22_at (a3 m c) (a4 m c) _ _ _ _ (pl t) s rfl _ h 2 rfl, h19_tot, h14_at]
  rw [← Equiv.sum_comp (flip (dOf t))]
  unfold cum
  refine Finset.sum_congr rfl fun i _ => ?_
  rw [if_pos (by rw [Fin.le_def]; have := i.isLt; show i.val ≤ 63; omega)]
  exact gate_row t (a4 m c) h i _

theorem x_at (h : Fin 8) (i p : Fin 64) : iblk m c 0 t (ix3 0 (flip (dOf t) i) (vc h p)) = xh m c t h (t.val % 68) i p := by
  rw [X0_at, row_flip]
  refine congrArg (el (a0 m c) (bOf t) (tok (dOf t) (t.val % 68) i)) (Fin.ext ?_)
  unfold vc hd
  simp only
  omega

theorem b_at (h : Fin 8) (i : Fin 64) (k : Fin 128) : iblk m c 1 t (ix3 0 (flip (dOf t) i) k) = bh m c t h (t.val % 68) i k := by
  unfold bh vs
  rw [X1_at, row_flip, grp_hd]

theorem c_at (h : Fin 8) (i : Fin 64) (k : Fin 128) : iblk m c 2 t (ix3 0 (flip (dOf t) i) k) = ch m c t h (t.val % 68) i k := by
  unfold ch vs
  rw [X2_at, row_flip, grp_hd]

variable (S : Vec Ideal S8x64x128 .f32)

/-- A grid point's outputs are its chunk's outputs, when the state it finds is the recurrence's. -/
theorem out_at (hx : ∀ (h : Fin 8) (p : Fin 64) (k : Fin 128),
      S (ix3 h p k) = state (xh m c t h) (bh m c t h) (eh m c t h) (lh m c t h) (t.val % 68) p k)
    (h : Fin 8) (i p : Fin 64) :
    outK (grid0.coords t) (iblk m c 0 t) (iblk m c 1 t) (iblk m c 2 t) (iblk m c 3 t) (iblk m c 4 t) S h (flip (dOf t) i) p
      = out (xh m c t h) (bh m c t h) (ch m c t h) (eh m c t h) (lh m c t h) (t.val % 68) i p := by
  unfold outK out intra
  refine congrArg₂ (· + ·) ?_ ?_
  · rw [← Equiv.sum_comp (flip (dOf t))]
    refine Finset.sum_congr rfl fun s _ => ?_
    rw [x_at, dt_at, cu_at, rw_at]
    refine congrArg₂ (fun a b : EReal => a * b * _) (Finset.sum_congr rfl fun k _ => ?_) (if_congr (upto_flip t i s) rfl rfl)
    rw [b_at m c t h, c_at m c t h]
  · rw [cu_at]
    refine congrArg (· * _) (Finset.sum_congr rfl fun k _ => ?_)
    rw [c_at m c t h, hx, mul_comm]

/-- A grid point leaves the next chunk's state. -/
theorem next_at (hx : ∀ (h : Fin 8) (p : Fin 64) (k : Fin 128),
      S (ix3 h p k) = state (xh m c t h) (bh m c t h) (eh m c t h) (lh m c t h) (t.val % 68) p k)
    (h : Fin 8) (p : Fin 64) (k : Fin 128) :
    stateK (iblk m c 0 t) (iblk m c 1 t) (iblk m c 3 t) S h p k
      = state (xh m c t h) (bh m c t h) (eh m c t h) (lh m c t h) (t.val % 68 + 1) p k := by
  unfold stateK
  rw [tot_at, hx]
  refine congrArg (fun z : EReal => state (xh m c t h) (bh m c t h) (eh m c t h) (lh m c t h) (t.val % 68) p k
    * Ideal.exp (cum (lh m c t h) (t.val % 68) 63) + z) ?_
  rw [← Equiv.sum_comp (flip (dOf t))]
  refine Finset.sum_congr rfl fun s _ => ?_
  rw [x_at, dt_at, tot_at, cu_at, b_at m c t h]
  rfl

end Cert.SSD.Ker

end
-- ==== Proof.SsdKerOut.lean ====
/- The state-space scan's result array: every point's state and outputs are the recurrence's, and the points' blocks cover
   the array. -/
module

public import proofs.«01_k».proof.Proof.SsdKerState
public import proofs.«01_k».proof.Proof.KerOut

@[expose] public section

set_option maxRecDepth 16384

noncomputable section

namespace Cert.SSD.Ker

open Idealize Idealize.ShloMosaic Idealize.ShloMosaic.TcCoe Idealize.ShloMosaic.Tactic
open Cert.SsdIdeal Cert.SsdIdeal.Gen
open Idealize.ShloMosaic.Pipeline (Dat Cfg Window)
open Cert.GLA (pos tok)
open Cert.GLA.Ker (flip flip_val place pos_pos place_place)
open scoped BigOperators

variable (m : (ℓ : Loc nD τ sig) → Buf (Elt Ideal) ℓ) (c : Dev nD)

/-- The state entering a first chunk is zero. -/
theorem enter_first (t : Fin cfg0.N) (h0 : t.val % 68 = 0) (h : Fin 8) (p : Fin 64) (k : Fin 128) :
    k0_pay4 (F := Ideal) (ix3 h p k) = state (xh m c t h) (bh m c t h) (eh m c t h) (lh m c t h) (t.val % 68) p k := by
  rw [zero_state, h0]; rfl

/-- The direction, the batch row and the group do not change inside a run of chunks. -/
theorem d_pred (n : ℕ) (h0 : ¬ n % 68 = 0) : dOf (n - 1) = dOf n := by unfold dOf; apply Fin.ext; simp only; omega
theorem b_pred (n : ℕ) (h0 : ¬ n % 68 = 0) : bOf (n - 1) = bOf n := by unfold bOf; apply Fin.ext; simp only; omega
theorem g_pred (n : ℕ) (h0 : ¬ n % 68 = 0) : gOf (n - 1) = gOf n := by unfold gOf; apply Fin.ext; simp only; omega

theorem first_state (t : Fin cfg0.N) (h0 : t.val % 68 = 0) (h : Fin 8) (p : Fin 64) (k : Fin 128) :
    (outsAt0 m c t.val t.isLt).2 (ix3 h p k) = state (xh m c t h) (bh m c t h) (eh m c t h) (lh m c t h) (t.val % 68 + 1) p k := by
  rw [outsAt0_A m c t h0]
  dsimp only
  rw [state_A]
  exact next_at m c t _ (enter_first m c t h0) h p k

theorem later_state (t : Fin cfg0.N) (h0 : ¬ t.val % 68 = 0)
    (hx : ∀ (h : Fin 8) (p : Fin 64) (k : Fin 128), (outsAt0 m c (t.val - 1) (Nat.lt_of_le_of_lt (Nat.sub_le _ _) t.isLt)).2 (ix3 h p k)
      = state (xh m c t h) (bh m c t h) (eh m c t h) (lh m c t h) (t.val % 68) p k)
    (h : Fin 8) (p : Fin 64) (k : Fin 128) :
    (outsAt0 m c t.val t.isLt).2 (ix3 h p k) = state (xh m c t h) (bh m c t h) (eh m c t h) (lh m c t h) (t.val % 68 + 1) p k := by
  rw [outsAt0_B m c t h0]
  dsimp only
  rw [state_B]
  exact next_at m c t _ hx h p k

theorem first_outputs (t : Fin cfg0.N) (h0 : t.val % 68 = 0) (h : Fin 8) (i p : Fin 64) :
    (outsAt0 m c t.val t.isLt).1 (ix4 0 0 (flip (dOf t) i) (vc h p))
      = out (xh m c t h) (bh m c t h) (ch m c t h) (eh m c t h) (lh m c t h) (t.val % 68) i p := by
  rw [outsAt0_A m c t h0]
  dsimp only
  rw [out_A]
  exact out_at m c t _ (enter_first m c t h0) h i p

theorem later_outputs (t : Fin cfg0.N) (h0 : ¬ t.val % 68 = 0)
    (hx : ∀ (h : Fin 8) (p : Fin 64) (k : Fin 128), (outsAt0 m c (t.val - 1) (Nat.lt_of_le_of_lt (Nat.sub_le _ _) t.isLt)).2 (ix3 h p k)
      = state (xh m c t h) (bh m c t h) (eh m c t h) (lh m c t h) (t.val % 68) p k)
    (h : Fin 8) (i p : Fin 64) :
    (outsAt0 m c t.val t.isLt).1 (ix4 0 0 (flip (dOf t) i) (vc h p))
      = out (xh m c t h) (bh m c t h) (ch m c t h) (eh m c t h) (lh m c t h) (t.val % 68) i p := by
  rw [outsAt0_B m c t h0]
  dsimp only
  rw [out_B]
  exact out_at m c t _ hx h i p

theorem mod_pred (n : ℕ) (h0 : ¬ n % 68 = 0) : (n - 1) % 68 + 1 = n % 68 := by omega

/-- A grid point leaves the recurrence's state after its chunk. -/
theorem state_at : ∀ (n : ℕ) (hn : n < cfg0.N) (h : Fin 8) (p : Fin 64) (k : Fin 128),
    (outsAt0 m c n hn).2 (ix3 h p k) = state (xh m c n h) (bh m c n h) (eh m c n h) (lh m c n h) (n % 68 + 1) p k := by
  intro n
  induction n with
  | zero => exact fun hn => first_state m c ⟨0, hn⟩ rfl
  | succ n ih =>
    intro hn
    by_cases h0 : (n + 1) % 68 = 0
    · exact first_state m c ⟨n + 1, hn⟩ h0
    · refine later_state m c ⟨n + 1, hn⟩ h0 fun h p k => ?_
      have hdir : dOf n = dOf (n + 1) := d_pred (n + 1) h0
      have hb : bOf n = bOf (n + 1) := b_pred (n + 1) h0
      have hg : gOf n = gOf (n + 1) := g_pred (n + 1) h0
      have hm : n % 68 + 1 = (n + 1) % 68 := mod_pred (n + 1) h0
      have e1 := ih (Nat.lt_of_succ_lt hn) h p k
      unfold xh bh eh lh hd at e1 ⊢
      simp only [hdir, hb, hg, hm] at e1
      exact e1

theorem state_before (n : ℕ) (hn : n < cfg0.N) (hn' : n - 1 < cfg0.N) (h0 : ¬ n % 68 = 0) (h : Fin 8) (p : Fin 64) (k : Fin 128) :
    (outsAt0 m c (n - 1) hn').2 (ix3 h p k) = state (xh m c n h) (bh m c n h) (eh m c n h) (lh m c n h) (n % 68) p k := by
  have e1 := state_at m c (n - 1) hn' h p k
  unfold xh bh eh lh hd at e1 ⊢
  simp only [d_pred n h0, b_pred n h0, g_pred n h0, mod_pred n h0] at e1
  exact e1

/-- A grid point's output block is the recurrence's outputs of its chunk. -/
theorem outputs_at (t : Fin cfg0.N) (h : Fin 8) (i p : Fin 64) :
    (outsAt0 m c t.val t.isLt).1 (ix4 0 0 (flip (dOf t) i) (vc h p))
      = out (xh m c t h) (bh m c t h) (ch m c t h) (eh m c t h) (lh m c t h) (t.val % 68) i p := by
  by_cases h0 : t.val % 68 = 0
  · exact first_outputs m c t h0 h i p
  · exact later_outputs m c t h0 (state_before m c t.val t.isLt _ h0) h i p

theorem pos_row (t : ℕ) (r : Fin 64) : pos (dOf t) (row t r) = t % 68 * 64 + (flip (dOf t) r).val := by
  have h := row_flip t (flip (dOf t) r)
  rw [Cert.GLA.Ker.flip_flip] at h
  rw [h]
  exact pos_pos _ _ (by omega)

/-- The result's column of column `k` of the point's group. -/
def colOf (t : ℕ) (k : Fin 512) : Fin 2048 := ⟨(gOf t).val * 512 + k.val, by omega⟩

/-- The same block, at a storage row and a column, as the specification's result. -/
theorem block_at (t : Fin cfg0.N) (r : Fin 64) (k : Fin 512) :
    (outsAt0 m c t.val t.isLt).1 (ix4 0 0 r k)
      = result (a0 m c) (a1 m c) (a2 m c) (a3 m c) (a4 m c) (dOf t) (bOf t) ⟨row t r, row_lt t r⟩ (colOf t k) := by
  have hk : k = vc ⟨k.val / 64, by omega⟩ ⟨k.val % 64, Nat.mod_lt _ (by norm_num)⟩ :=
    Fin.ext (by simp only [vc]; omega)
  have hr : r = flip (dOf t) (flip (dOf t) r) := (Cert.GLA.Ker.flip_flip _ _).symm
  have e := outputs_at m c t ⟨k.val / 64, by omega⟩ (flip (dOf t) r) ⟨k.val % 64, Nat.mod_lt _ (by norm_num)⟩
  rw [← hk, ← hr] at e
  refine e.trans ?_
  unfold result ssd
  have h1 : pos (dOf t) (row t r) / 64 = t.val % 68 := by rw [pos_row]; omega
  have h2 : (⟨pos (dOf t) (row t r) % 64, Nat.mod_lt _ (by norm_num)⟩ : Fin 64) = flip (dOf t) r := by
    apply Fin.ext; simp only [pos_row]; omega
  have h3 : (⟨(colOf t k).val / 64, by omega⟩ : Fin 32) = hd t ⟨k.val / 64, by omega⟩ := by
    apply Fin.ext; simp only [colOf, hd]; omega
  have h4 : (⟨(colOf t k).val % 64, Nat.mod_lt _ (by norm_num)⟩ : Fin 64) = ⟨k.val % 64, Nat.mod_lt _ (by norm_num)⟩ := by
    apply Fin.ext; simp only [colOf]; omega
  simp only [h1, h2, h3, h4]

/-- The array the kernel is to leave. -/
def G (j : S2x2x4352x2048.Idx) : EReal :=
  result (a0 m c) (a1 m c) (a2 m c) (a3 m c) (a4 m c) (j 0) (j 1) (j 2) (j 3)

theorem emb_at (t : Fin cfg0.N) (y : S1x1x64x512.Idx) :
    G m c ((win0_5.rect t).emb y)
      = result (a0 m c) (a1 m c) (a2 m c) (a3 m c) (a4 m c) (dOf t) (bOf t) ⟨row t (y 2), row_lt t (y 2)⟩ (colOf t (y 3)) := by
  have e : ∀ a, ((win0_5.rect t).emb y a : ℕ) = win0_5.index t a * win0_5.size a + y a := fun a =>
    Pipeline.Window.rect_emb_val win0_5 t y a
  rw [index5] at e
  have y0 : (y 0).val = 0 := Nat.lt_one_iff.mp (y 0).isLt
  have y1 : (y 1).val = 0 := Nat.lt_one_iff.mp (y 1).isLt
  have h0 : (win0_5.rect t).emb y 0 = dOf t := Fin.ext (by
    rw [e 0, y0]; show t.val / 272 % 2 * 1 + 0 = t.val / 272 % 2; rw [Nat.mul_one, Nat.add_zero])
  have h1 : (win0_5.rect t).emb y 1 = bOf t := Fin.ext (by
    rw [e 1, y1]; show t.val / 544 % 2 * 1 + 0 = t.val / 544 % 2; rw [Nat.mul_one, Nat.add_zero])
  have h2 : (win0_5.rect t).emb y 2 = (⟨row t (y 2), row_lt t (y 2)⟩ : Fin 4352) := Fin.ext (by rw [e 2]; rfl)
  have h3 : (win0_5.rect t).emb y 3 = colOf t (y 3) := Fin.ext (by rw [e 3]; rfl)
  unfold G
  rw [h0, h1, h2, h3]

theorem flushed_eq (t : Fin cfg0.N) :
    (dats m 0 c).flushed 5 t = ((cfg0.win 5).blk t).view.read (Elt Ideal) (G m c) := by
  rw [Value.flushed5]
  funext y
  refine Eq.trans ?_ (emb_at m c t y).symm
  have ey : (cfg0.win 5).xinj (grid0.coords t) y = (ix4 0 0 (y 2) (y 3) : S1x1x64x512.Idx) := by
    refine (ValueIdx.eq_ix4 (n0 := 1) (n1 := 1) (n2 := 64) (n3 := 512) ((cfg0.win 5).xinj (grid0.coords t) y)).trans ?_
    exact congrArg₂ (fun p q => ix4 p q (y 2) (y 3)) (Subsingleton.elim (α := Fin 1) _ _) (Subsingleton.elim (α := Fin 1) _ _)
  show (outsAt0 m c t.val t.isLt).1 ((cfg0.win 5).xinj (grid0.coords t) y) = _
  rw [ey]
  exact block_at m c t (y 2) (y 3)

theorem point_at (b d g q : ℕ) (hb : b < 2) (hd : d < 2) (hg : g < 4) (hq : q < 68) : b * 544 + d * 272 + g * 68 + q < 1088
    ∧ (b * 544 + d * 272 + g * 68 + q) / 272 % 2 = d ∧ (b * 544 + d * 272 + g * 68 + q) / 544 % 2 = b
    ∧ (b * 544 + d * 272 + g * 68 + q) / 68 % 4 = g ∧ (b * 544 + d * 272 + g * 68 + q) % 68 = q := by
  omega

theorem mem_block (j : S2x2x4352x2048.Idx) (t : Fin cfg0.N) (hd : t.val / 272 % 2 = (j 0).val) (hb : t.val / 544 % 2 = (j 1).val)
    (hg : t.val / 68 % 4 = (j 3).val / 512)
    (hq : place (t.val / 272 % 2) (t.val % 68) = (j 2).val / 64) : j ∈ (win0_5.rect t).set := by
  rw [Pipeline.Window.mem_rect_iff win0_5 t j rfl, index5, hq, hd, hb, hg]
  intro a
  match a with
  | ⟨0, _⟩ => show (j 0).val * 1 ≤ (j 0).val ∧ (j 0).val < (j 0).val * 1 + 1; omega
  | ⟨1, _⟩ => show (j 1).val * 1 ≤ (j 1).val ∧ (j 1).val < (j 1).val * 1 + 1; omega
  | ⟨2, _⟩ => show (j 2).val / 64 * 64 ≤ (j 2).val ∧ (j 2).val < (j 2).val / 64 * 64 + 64; omega
  | ⟨3, _⟩ => show (j 3).val / 512 * 512 ≤ (j 3).val ∧ (j 3).val < (j 3).val / 512 * 512 + 512; omega

theorem block_set (t : Fin cfg0.N) : ((cfg0.win 5).blk t).view.set = (win0_5.rect t).set := by
  show (View.slice _ (win0_5.rect t)).set = _
  rw [View.set_slice_whole]

theorem point_of (j : S2x2x4352x2048.Idx) : ∃ t : Fin cfg0.N, t.val / 272 % 2 = (j 0).val ∧ t.val / 544 % 2 = (j 1).val
    ∧ t.val / 68 % 4 = (j 3).val / 512 ∧ place (t.val / 272 % 2) (t.val % 68) = (j 2).val / 64 := by
  have hp := place_place (j 0).val ((j 2).val / 64) (Nat.div_lt_of_lt_mul (j 2).isLt)
  have ht := point_at (j 1).val (j 0).val ((j 3).val / 512) (place (j 0).val ((j 2).val / 64)) (j 1).isLt (j 0).isLt
    (Nat.div_lt_of_lt_mul (j 3).isLt) hp.1
  refine ⟨⟨(j 1).val * 544 + (j 0).val * 272 + (j 3).val / 512 * 68 + place (j 0).val ((j 2).val / 64), lt_of_lt_of_eq ht.1 N_0.symm⟩,
    ht.2.1, ht.2.2.1, ht.2.2.2.1, ?_⟩
  exact (congrArg₂ place ht.2.1 ht.2.2.2.2).trans hp.2

theorem cover (j : S2x2x4352x2048.Idx) :
    ∃ t : Fin cfg0.N, (cfg0.win 5).flush t = true ∧ j ∈ ((cfg0.win 5).blk t).view.set := by
  obtain ⟨t, hd, hb, hg, hq⟩ := point_of j
  refine ⟨t, flush0_5 t, ?_⟩
  rw [block_set]
  exact mem_block j t hd hb hg hq

/-- THE KERNEL'S RESULT: the final array is the specification's, at every index. -/
theorem final : (dats m 0 c).arrAt 5 cfg0.N = G m c :=
  (dats m 0 c).arrAt_eq_of_cover 5 (G m c) (fun t _ => flushed_eq m c t) cover

end Cert.SSD.Ker

end
-- ==== Proof.SsdRefRun.lean ====
/- The reference's run, as its scan step iterated: what the operations before the loop leave, what one
   trip does to the carried values, and the result after the last trip. -/
module

public import proofs.«01_k».proof.Proof.Gen.SsdReferenceIdeal.Run
public import proofs.«01_k».proof.Proof.Gen.SsdReferenceIdeal.Step

@[expose] public section

noncomputable section

namespace Cert.SSD.RefRun

open Idealize.ShloMosaic Idealize.ShloMosaic.TcCoe Idealize.SL.Sem Idealize.ShloMosaic.StableHlo
open Cert.SsdReferenceIdeal Cert.SsdReferenceIdeal.Gen Cert.SsdReferenceIdeal.Value
open Cert.SsdReferenceIdeal.Step

variable {F : FTy → Type} [FloatOps F]

/-- The scan's state, read off a valuation of the buffers. -/
def stateOf (V : Valuation τ sig (Elt F)) : State F where
  main_v96_7 := V (Proc.devRef .tc main_v96_7)
  main_v96_8 := V (Proc.devRef .tc main_v96_8)
  main_v96_0 := V (Proc.devRef .tc main_v96_0)
  main_v96_1 := V (Proc.devRef .tc main_v96_1)
  main_v96_2 := V (Proc.devRef .tc main_v96_2)
  main_v96_3 := V (Proc.devRef .tc main_v96_3)
  main_v96_4 := V (Proc.devRef .tc main_v96_4)
  main_v96_5 := V (Proc.devRef .tc main_v96_5)

/-- The buffer of the trip's number holds `j`. -/
def Counts (V : Valuation τ sig (Elt F)) (j : ℕ) : Prop :=
  V (Proc.devRef .tc main_v96_6) = constantI S_ 32 (BitVec.ofNat 32 j)

/-- One trip's new carried matrix. -/
theorem trip_7 (V : Valuation τ sig (Elt F)) (j : ℕ) (h : Counts V j) :
    Cert.SsdReferenceIdeal.Value.step_main_v96_7 V = (step j (stateOf V)).main_v96_7 := by
  unfold Counts at h
  unfold Cert.SsdReferenceIdeal.Value.step_main_v96_7
  try rw [h]
  rfl

/-- One trip's new stack of outputs. -/
theorem trip_8 (V : Valuation τ sig (Elt F)) (j : ℕ) (h : Counts V j) :
    Cert.SsdReferenceIdeal.Value.step_main_v96_8 V = (step j (stateOf V)).main_v96_8 := by
  unfold Counts at h
  unfold Cert.SsdReferenceIdeal.Value.step_main_v96_8
  rw [h]
  rfl

/-- One trip's new number. -/
theorem trip_6 (V : Valuation τ sig (Elt F)) (j : ℕ) (h : Counts V j) : Counts (STEP V) (j + 1) := by
  refine (STEP_main_v96_6 V).trans ?_
  unfold Counts at h
  unfold step_main_v96_6
  rw [h]
  funext i
  show BitVec.ofNat 32 j + 1#32 = BitVec.ofNat 32 (j + 1)
  simp only [BitVec.ofNat_add]

/-- One trip of the loop is one step of the state. -/
theorem trip (V : Valuation τ sig (Elt F)) (j : ℕ) (h : Counts V j) :
    stateOf (STEP V) = step j (stateOf V) := by
  have e : ∀ s t : State F, s.main_v96_7 = t.main_v96_7 → s.main_v96_8 = t.main_v96_8 → s.main_v96_0 = t.main_v96_0 → s.main_v96_1 = t.main_v96_1 → s.main_v96_2 = t.main_v96_2 → s.main_v96_3 = t.main_v96_3 → s.main_v96_4 = t.main_v96_4 → s.main_v96_5 = t.main_v96_5 → s = t := by
    rintro ⟨⟩ ⟨⟩ h1 h2 h3 h4 h5 h6 h7 h8
    simp only at h1 h2 h3 h4 h5 h6 h7 h8
    subst h1 h2 h3 h4 h5 h6 h7 h8
    rfl
  exact e _ _ ((STEP_main_v96_7 V).trans (trip_7 V j h)) ((STEP_main_v96_8 V).trans (trip_8 V j h))
    (STEP_main_v96_0 V) (STEP_main_v96_1 V) (STEP_main_v96_2 V) (STEP_main_v96_3 V) (STEP_main_v96_4 V) (STEP_main_v96_5 V)

variable (m : (ℓ : Loc nD τ sig) → Buf (Elt F) ℓ) (ρ : Dev nD → PrngReg) (c : Dev nD)

set_option maxRecDepth 65536 in
set_option maxHeartbeats 4000000 in
/-- The buffer of the trip's number holds zero when the loop is entered. -/
theorem entry_counts : Counts (entryContents preI m c) 0 := by
  unfold Counts
  simp only [entryContents, afterL_cons, afterL_nil]
  after_reads_simp
  simp only [id_eq]

/-- Two equal pairs of pieces lie end to end alike. -/
theorem concat_congr {α : Type} {t s1 s2 : Shape} {a : Fin t.rank} {x x' : s1.Idx → α} {y y' : s2.Idx → α}
    (hx : x = x') (hy : y = y') (h : Shape.Concatenates [s1, s2] t a) :
    concatenate t a [⟨s1, x⟩, ⟨s2, y⟩] h = concatenate t a [⟨s1, x'⟩, ⟨s2, y'⟩] h := by
  subst hx hy; rfl

attribute [local congr] concat_congr

set_option maxRecDepth 65536 in
set_option maxHeartbeats 4000000 in
/-- The carried matrix starts at zero. -/
theorem entry_7 : (entryContents preI m c) (Proc.devRef .tc main_v96_7) = K_main_v36 := by
  simp only [entryContents, afterL_cons, afterL_nil]
  after_reads_simp
  rfl

set_option maxRecDepth 65536 in
set_option maxHeartbeats 4000000 in
/-- The stack of outputs starts at zero. -/
theorem entry_8 : (entryContents preI m c) (Proc.devRef .tc main_v96_8) = K_main_v95 := by
  simp only [entryContents, afterL_cons, afterL_nil]
  after_reads_simp
  rfl

set_option maxRecDepth 65536 in
set_option maxHeartbeats 4000000 in
/-- The vectors that read the matrix. -/
theorem entry_0 : (entryContents preI m c) (Proc.devRef .tc main_v96_0) = A_main_v89 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [entryContents, afterL_cons, afterL_nil]
  after_reads_simp
  simp only [id_eq, K_main_cst, K_main_v36, K_main_call0_cst, K_main_call0_v0, K_main_v54, K_main_v55, K_main_v56, K_main_v57, K_main_v58, K_main_v59, K_main_v60, K_main_v61, K_main_v62, K_main_v63, K_main_v64, K_main_cst_0, K_main_call1_v0, K_main_call1_v1, K_main_call1_v2, K_main_cst_1, K_main_call2_v0, K_main_call2_v1, K_main_call2_v2, K_main_cst_2, K_main_v95, K_main_c, A_main_v0, A_main_v1, A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v65, A_main_v66, A_main_v67, A_main_v68, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v87, A_main_v88, A_main_v89, A_main_v90, A_main_v91, A_main_v92, A_main_v93, A_main_v94]
  rfl

set_option maxRecDepth 65536 in
set_option maxHeartbeats 4000000 in
/-- The vectors that write the matrix. -/
theorem entry_1 : (entryContents preI m c) (Proc.devRef .tc main_v96_1) = A_main_v90 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [entryContents, afterL_cons, afterL_nil]
  after_reads_simp
  simp only [id_eq, K_main_cst, K_main_v36, K_main_call0_cst, K_main_call0_v0, K_main_v54, K_main_v55, K_main_v56, K_main_v57, K_main_v58, K_main_v59, K_main_v60, K_main_v61, K_main_v62, K_main_v63, K_main_v64, K_main_cst_0, K_main_call1_v0, K_main_call1_v1, K_main_call1_v2, K_main_cst_1, K_main_call2_v0, K_main_call2_v1, K_main_call2_v2, K_main_cst_2, K_main_v95, K_main_c, A_main_v0, A_main_v1, A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v65, A_main_v66, A_main_v67, A_main_v68, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v87, A_main_v88, A_main_v89, A_main_v90, A_main_v91, A_main_v92, A_main_v93, A_main_v94]
  rfl

set_option maxRecDepth 65536 in
set_option maxHeartbeats 4000000 in
/-- The scaled inputs with the decay left to the end of their chunk. -/
theorem entry_2 : (entryContents preI m c) (Proc.devRef .tc main_v96_2) = A_main_v91 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [entryContents, afterL_cons, afterL_nil]
  after_reads_simp
  simp only [id_eq, K_main_cst, K_main_v36, K_main_call0_cst, K_main_call0_v0, K_main_v54, K_main_v55, K_main_v56, K_main_v57, K_main_v58, K_main_v59, K_main_v60, K_main_v61, K_main_v62, K_main_v63, K_main_v64, K_main_cst_0, K_main_call1_v0, K_main_call1_v1, K_main_call1_v2, K_main_cst_1, K_main_call2_v0, K_main_call2_v1, K_main_call2_v2, K_main_cst_2, K_main_v95, K_main_c, A_main_v0, A_main_v1, A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v65, A_main_v66, A_main_v67, A_main_v68, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v87, A_main_v88, A_main_v89, A_main_v90, A_main_v91, A_main_v92, A_main_v93, A_main_v94]
  rfl

set_option maxRecDepth 65536 in
set_option maxHeartbeats 4000000 in
/-- The decays inside a chunk. -/
theorem entry_3 : (entryContents preI m c) (Proc.devRef .tc main_v96_3) = A_main_v92 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [entryContents, afterL_cons, afterL_nil]
  after_reads_simp
  simp only [id_eq, K_main_cst, K_main_v36, K_main_call0_cst, K_main_call0_v0, K_main_v54, K_main_v55, K_main_v56, K_main_v57, K_main_v58, K_main_v59, K_main_v60, K_main_v61, K_main_v62, K_main_v63, K_main_v64, K_main_cst_0, K_main_call1_v0, K_main_call1_v1, K_main_call1_v2, K_main_cst_1, K_main_call2_v0, K_main_call2_v1, K_main_call2_v2, K_main_cst_2, K_main_v95, K_main_c, A_main_v0, A_main_v1, A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v65, A_main_v66, A_main_v67, A_main_v68, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v87, A_main_v88, A_main_v89, A_main_v90, A_main_v91, A_main_v92, A_main_v93, A_main_v94]
  rfl

set_option maxRecDepth 65536 in
set_option maxHeartbeats 4000000 in
/-- The decays over a chunk. -/
theorem entry_4 : (entryContents preI m c) (Proc.devRef .tc main_v96_4) = A_main_v93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [entryContents, afterL_cons, afterL_nil]
  after_reads_simp
  simp only [id_eq, K_main_cst, K_main_v36, K_main_call0_cst, K_main_call0_v0, K_main_v54, K_main_v55, K_main_v56, K_main_v57, K_main_v58, K_main_v59, K_main_v60, K_main_v61, K_main_v62, K_main_v63, K_main_v64, K_main_cst_0, K_main_call1_v0, K_main_call1_v1, K_main_call1_v2, K_main_cst_1, K_main_call2_v0, K_main_call2_v1, K_main_call2_v2, K_main_cst_2, K_main_v95, K_main_c, A_main_v0, A_main_v1, A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v65, A_main_v66, A_main_v67, A_main_v68, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v87, A_main_v88, A_main_v89, A_main_v90, A_main_v91, A_main_v92, A_main_v93, A_main_v94]
  rfl

set_option maxRecDepth 65536 in
set_option maxHeartbeats 4000000 in
/-- The within-chunk outputs. -/
theorem entry_5 : (entryContents preI m c) (Proc.devRef .tc main_v96_5) = A_main_v94 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [entryContents, afterL_cons, afterL_nil]
  after_reads_simp
  simp only [id_eq, K_main_cst, K_main_v36, K_main_call0_cst, K_main_call0_v0, K_main_v54, K_main_v55, K_main_v56, K_main_v57, K_main_v58, K_main_v59, K_main_v60, K_main_v61, K_main_v62, K_main_v63, K_main_v64, K_main_cst_0, K_main_call1_v0, K_main_call1_v1, K_main_call1_v2, K_main_cst_1, K_main_call2_v0, K_main_call2_v1, K_main_call2_v2, K_main_cst_2, K_main_v95, K_main_c, A_main_v0, A_main_v1, A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v65, A_main_v66, A_main_v67, A_main_v68, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v87, A_main_v88, A_main_v89, A_main_v90, A_main_v91, A_main_v92, A_main_v93, A_main_v94]
  rfl

/-- The scan's first state, of the five arguments. -/
abbrev first : State F := init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The loop is entered at the first state. -/
theorem entry : stateOf (entryContents preI m c) = first m c := by
  unfold stateOf first init
  rw [entry_7, entry_8, entry_0, entry_1, entry_2, entry_3, entry_4, entry_5]

/-- Before trip `k` the buffers hold the `k`-th state of the sequence that `step` makes. -/
theorem iterates (it : ℕ → State F) (h0 : it 0 = first m c) (hs : ∀ n, it (n + 1) = step n (it n)) :
    ∀ k, stateOf (STEP^[k] (entryContents preI m c)) = it k ∧ Counts (STEP^[k] (entryContents preI m c)) k
  | 0 => ⟨(entry m c).trans h0.symm, entry_counts m c⟩
  | k + 1 => by
    obtain ⟨e, n⟩ := iterates it h0 hs k
    rw [Function.iterate_succ_apply', hs k, ← e]
    exact ⟨trip _ k n, trip_6 _ k n⟩

set_option maxRecDepth 65536 in
/-- The result is read off the last state. -/
theorem out_eq (V : Valuation τ sig (Elt F)) : out_main_v111 V = R_main_v111 (stateOf V) := by
  unfold out_main_v111 R_main_v111
  rfl

/-- Every weakly fair execution of the reference ends with its result read off the state after 68 steps, and its
    five arguments as they were. -/
theorem run (it : Dev nD → ℕ → State F) (h0 : ∀ c, it c 0 = first m c)
    (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v111) = R_main_v111 (it c 68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  obtain ⟨h1, h2⟩ := h c
  refine ⟨h1.trans ?_, h2⟩
  rw [out_eq, (iterates m c (it c) (h0 c) (hs c) 68).1]

end Cert.SSD.RefRun

end
-- ==== Proof.SsdRefValue.lean ====
/- The arrays that the state-space scan's reference cuts into chunks, at an index. -/
module

public import proofs.«01_k».proof.Proof.Gen.SsdReferenceIdeal.Step
public import proofs.«01_k».proof.Proof.SsdSpec
public import proofs.«01_k».proof.Proof.RefOut

@[expose] public section

noncomputable section

namespace Cert.SSD.Ref

open Idealize.ShloMosaic Idealize.ShloMosaic.TcCoe
open Cert.SsdReferenceIdeal Cert.SsdReferenceIdeal.Gen Cert.SsdReferenceIdeal.Step
open Cert.GLA (pos tok)
open Cert.GLA.Ref (dir bat)

variable (a0 : (⟨S2x4352x2048, .f32⟩ : BufTy).Contents (Elt Ideal)) (a1 a2 : (⟨S2x4352x512, .f32⟩ : BufTy).Contents (Elt Ideal))
  (a3 a4 : (⟨S2x4352x2x32, .f32⟩ : BufTy).Contents (Elt Ideal))

theorem x_tok (b : Fin 2) (t : Fin 4352) (h : Fin 32) (p : Fin 64) :
    A_main_v0 a0 a1 a2 a3 a4 (ix4 b t h p) = el a0 b t.val ⟨h.val * 64 + p.val, by omega⟩ := by
  unfold A_main_v0
  pointwise
  exact el_at a0 b t _

theorem b_tok (b : Fin 2) (t : Fin 4352) (g : Fin 4) (k : Fin 128) :
    A_main_v1 a0 a1 a2 a3 a4 (ix4 b t g k) = el a1 b t.val ⟨g.val * 128 + k.val, by omega⟩ := by
  unfold A_main_v1
  pointwise
  exact el_at a1 b t _

theorem c_tok (b : Fin 2) (t : Fin 4352) (g : Fin 4) (k : Fin 128) :
    A_main_v2 a0 a1 a2 a3 a4 (ix4 b t g k) = el a2 b t.val ⟨g.val * 128 + k.val, by omega⟩ := by
  unfold A_main_v2
  pointwise
  exact el_at a2 b t _

theorem dt0_tok (b : Fin 2) (t : Fin 4352) (h : Fin 32) :
    A_main_v4 a0 a1 a2 a3 a4 (ix3 b t h) = gate a3 0 b t.val h := by
  unfold A_main_v4 A_main_v3
  pointwise
  exact gate_at a3 0 b t h

theorem da0_tok (b : Fin 2) (t : Fin 4352) (h : Fin 32) :
    A_main_v6 a0 a1 a2 a3 a4 (ix3 b t h) = gate a4 0 b t.val h := by
  unfold A_main_v6 A_main_v5
  pointwise
  exact gate_at a4 0 b t h

theorem dt1_tok (b : Fin 2) (t : Fin 4352) (h : Fin 32) :
    A_main_v8 a0 a1 a2 a3 a4 (ix3 b t h) = gate a3 1 b t.val h := by
  unfold A_main_v8 A_main_v7
  pointwise
  exact gate_at a3 1 b t h

theorem da1_tok (b : Fin 2) (t : Fin 4352) (h : Fin 32) :
    A_main_v10 a0 a1 a2 a3 a4 (ix3 b t h) = gate a4 1 b t.val h := by
  unfold A_main_v10 A_main_v9
  pointwise
  exact gate_at a4 1 b t h

/-- Reading a stacked sequence: the first two rows forwards, the last two with each part backwards. -/
theorem seq_read (f : Fin 2 → Fin 2 → ℕ → EReal) (z : Fin 4) (t : Fin 4352) :
    (if h1 : z.val < 2 then f 0 ⟨z.val, h1⟩ t.val
    else
      (if h2 : t.val < 256 then f 1 ⟨z.val - 2, by omega⟩ (256 - (t.val + 1))
        else f 1 ⟨z.val - 2, by omega⟩ (256 + (4096 - (t.val - 256 + 1)))))
      = f (dir z) (bat z) (pos (dir z) t) := by
  have ht := t.isLt
  by_cases hz : z.val < 2
  · have e1 : dir z = 0 := Fin.ext (by unfold dir; simp only; show _ = 0; omega)
    have e2 : bat z = ⟨z.val, hz⟩ := Fin.ext (by unfold bat; simp only; omega)
    rw [dif_pos hz, e1, e2]
    rfl
  · have e1 : dir z = 1 := Fin.ext (by unfold dir; simp only; show _ = 1; omega)
    have e2 : bat z = ⟨z.val - 2, by omega⟩ := Fin.ext (by unfold bat; simp only; omega)
    rw [dif_neg hz, e1, e2]
    have e3 : pos (1 : Fin 2).val t = if t.val < 256 then 255 - t.val else 4607 - t.val := rfl
    rw [e3]
    split
    · congr 1; omega
    · congr 1; omega

theorem x_seq (z : Fin 4) (t : Fin 4352) (h : Fin 32) (k : Fin 64) :
    A_main_v37 a0 a1 a2 a3 a4 (ix4 z t h k) = el a0 (bat z) (pos (dir z) t) ⟨h.val * 64 + k.val, by omega⟩ := by
  simp only [A_main_v37, A_main_v15, A_main_v11, A_main_v12, A_main_v13, A_main_v14]
  pointwise
  simp only [List.mem_singleton, Fin.reduceEq, ↓reduceIte, if_false, if_true, x_tok, Fin.val_rev, Fin.isValue, zero_ne_one]
  exact seq_read (fun _ b t => el a0 b t ⟨h.val * 64 + k.val, by omega⟩) z t

theorem b_seq (z : Fin 4) (t : Fin 4352) (h : Fin 4) (k : Fin 128) :
    A_main_v40 a0 a1 a2 a3 a4 (ix4 z t h k) = el a1 (bat z) (pos (dir z) t) ⟨h.val * 128 + k.val, by omega⟩ := by
  simp only [A_main_v40, A_main_v30, A_main_v26, A_main_v27, A_main_v28, A_main_v29]
  pointwise
  simp only [List.mem_singleton, Fin.reduceEq, ↓reduceIte, if_false, if_true, b_tok, Fin.val_rev, Fin.isValue, zero_ne_one]
  exact seq_read (fun _ b t => el a1 b t ⟨h.val * 128 + k.val, by omega⟩) z t

theorem c_seq (z : Fin 4) (t : Fin 4352) (h : Fin 4) (k : Fin 128) :
    A_main_v41 a0 a1 a2 a3 a4 (ix4 z t h k) = el a2 (bat z) (pos (dir z) t) ⟨h.val * 128 + k.val, by omega⟩ := by
  simp only [A_main_v41, A_main_v35, A_main_v31, A_main_v32, A_main_v33, A_main_v34]
  pointwise
  simp only [List.mem_singleton, Fin.reduceEq, ↓reduceIte, if_false, if_true, c_tok, Fin.val_rev, Fin.isValue, zero_ne_one]
  exact seq_read (fun _ b t => el a2 b t ⟨h.val * 128 + k.val, by omega⟩) z t

theorem dt_seq (z : Fin 4) (t : Fin 4352) (h : Fin 32) :
    A_main_v38 a0 a1 a2 a3 a4 (ix3 z t h) = gate a3 (dir z) (bat z) (pos (dir z) t) h := by
  simp only [A_main_v38, A_main_v20, A_main_v16, A_main_v17, A_main_v18, A_main_v19]
  pointwise
  simp only [List.mem_singleton, Fin.reduceEq, ↓reduceIte, if_false, if_true, dt0_tok, dt1_tok, Fin.val_rev, Fin.isValue, zero_ne_one]
  exact seq_read (fun d b t => gate a3 d b t h) z t

theorem da_seq (z : Fin 4) (t : Fin 4352) (h : Fin 32) :
    A_main_v39 a0 a1 a2 a3 a4 (ix3 z t h) = gate a4 (dir z) (bat z) (pos (dir z) t) h := by
  simp only [A_main_v39, A_main_v25, A_main_v21, A_main_v22, A_main_v23, A_main_v24]
  pointwise
  simp only [List.mem_singleton, Fin.reduceEq, ↓reduceIte, if_false, if_true, da0_tok, da1_tok, Fin.val_rev, Fin.isValue, zero_ne_one]
  exact seq_read (fun d b t => gate a4 d b t h) z t

end Cert.SSD.Ref

end
-- ==== Proof.SsdRefChunk.lean ====
/- The arrays of the state-space scan's reference cut into chunks of 64, at an index. -/
module

public import Idealize.ShloMosaic.Lib.WordCmp
public import proofs.«01_k».proof.Proof.SsdRefValue
public import proofs.«01_k».proof.Proof.SsdCumsum
public import proofs.«01_k».proof.Proof.RefStep

@[expose] public section

noncomputable section

namespace Cert.SSD.Ref

open Idealize.ShloMosaic Idealize.ShloMosaic.TcCoe
open Cert.SsdReferenceIdeal Cert.SsdReferenceIdeal.Gen Cert.SsdReferenceIdeal.Step
open Cert.GLA (pos tok)
open Cert.GLA.Ref (dir bat chunk_swap_read swap5_read swap4_read)

variable (a0 : (⟨S2x4352x2048, .f32⟩ : BufTy).Contents (Elt Ideal)) (a1 a2 : (⟨S2x4352x512, .f32⟩ : BufTy).Contents (Elt Ideal))
  (a3 a4 : (⟨S2x4352x2x32, .f32⟩ : BufTy).Contents (Elt Ideal))

/-! ## Chunks of 64 -/

/-- Cutting the second of three axes into chunks, and putting the third before them. -/
theorem chunk_swap3_read {α : Type} {A L H N M : ℕ} (hL : L = N * M) (x : (⟨3, ![A, L, H]⟩ : Shape).Idx → α)
    (hs : (⟨3, ![A, L, H]⟩ : Shape).ShapeCasts ⟨4, ![A, N, M, H]⟩)
    (ht : (⟨4, ![A, N, M, H]⟩ : Shape).Transposes [0, 3, 1, 2] ⟨4, ![A, H, N, M]⟩) (a : Fin A) (n : Fin N) (m : Fin M)
    (h : Fin H) (hlt : n.val * M + m.val < L) :
    transpose ⟨4, ![A, H, N, M]⟩ [0, 3, 1, 2] (shapeCast ⟨4, ![A, N, M, H]⟩ x hs) ht (ix4 a h n m)
      = x (ix3 a ⟨n.val * M + m.val, hlt⟩ h) := by
  refine (transpose_apply _ _ ht _ (ix4 a n m h) fun b => ?_).trans ?_
  · fin_cases b <;> rfl
  rw [Pointwise.shapeCast_apply]
  refine congrArg x (Shape.reshapeEquiv_eq_of_vals _ _ _ _ _ (rowMajor_val3 _ _ _ rfl rfl)
    (rowMajor_val4 _ _ _ _ rfl rfl rfl) ?_)
  subst hL
  show a.val * (N * M * H) + (n.val * M + m.val) * H + h.val = a.val * (N * (M * H)) + n.val * (M * H) + m.val * H + h.val
  ring

theorem xd_tok (z : Fin 4) (t : Fin 4352) (h : Fin 32) (p : Fin 64) :
    A_main_v44 a0 a1 a2 a3 a4 (ix4 z t h p) = A_main_v37 a0 a1 a2 a3 a4 (ix4 z t h p) * A_main_v38 a0 a1 a2 a3 a4 (ix3 z t h) := by
  unfold A_main_v44 A_main_v43 A_main_v42
  generalize A_main_v37 a0 a1 a2 a3 a4 = x
  generalize A_main_v38 a0 a1 a2 a3 a4 = y
  pointwise

theorem xd_at (z : Fin 4) (h : Fin 32) (n : Fin 68) (i p : Fin 64) :
    A_main_v46 a0 a1 a2 a3 a4 (ix5 z h n i p) = xd (xs a0 (dir z) (bat z) h) (gs a3 (dir z) (bat z) h) n i p := by
  unfold A_main_v46 A_main_v45
  refine (chunk_swap_read (A := 4) (L := 4352) (H := 32) (K := 64) (N := 68) (M := 64) (by norm_num) (A_main_v44 a0 a1 a2 a3 a4)
    _ _ z n i h p (by omega)).trans ?_
  rw [xd_tok, x_seq, dt_seq]
  rfl

theorem da_at (z : Fin 4) (h : Fin 32) (n : Fin 68) (i : Fin 64) :
    A_main_v48 a0 a1 a2 a3 a4 (ix4 z h n i) = gs a4 (dir z) (bat z) h n i := by
  unfold A_main_v48 A_main_v47
  exact (chunk_swap3_read (A := 4) (L := 4352) (H := 32) (N := 68) (M := 64) (by norm_num) (A_main_v39 a0 a1 a2 a3 a4)
    _ _ z n i h (by omega)).trans (da_seq a0 a1 a2 a3 a4 z _ h)

theorem bm_at (z g : Fin 4) (n : Fin 68) (i : Fin 64) (k : Fin 128) :
    A_main_v51 a0 a1 a2 a3 a4 (ix5 z g n i k) = vs a1 (dir z) (bat z) g n i k := by
  unfold A_main_v51 A_main_v50
  exact (chunk_swap_read (A := 4) (L := 4352) (H := 4) (K := 128) (N := 68) (M := 64) (by norm_num) (A_main_v40 a0 a1 a2 a3 a4)
    _ _ z n i g k (by omega)).trans (b_seq a0 a1 a2 a3 a4 z _ g k)

theorem cm_at (z g : Fin 4) (n : Fin 68) (i : Fin 64) (k : Fin 128) :
    A_main_v53 a0 a1 a2 a3 a4 (ix5 z g n i k) = vs a2 (dir z) (bat z) g n i k := by
  unfold A_main_v53 A_main_v52
  exact (chunk_swap_read (A := 4) (L := 4352) (H := 4) (K := 128) (N := 68) (M := 64) (by norm_num) (A_main_v41 a0 a1 a2 a3 a4)
    _ _ z n i g k (by omega)).trans (c_seq a0 a1 a2 a3 a4 z _ g k)

theorem zero_const (j : S_.Idx) : K_main_call0_v0 (F := Ideal) j = 0 := by
  unfold K_main_call0_v0
  exact Ideal.ofBits_zero_f32

theorem cum_at (z : Fin 4) (h : Fin 32) (n : Fin 68) (i : Fin 64) :
    A_main_v49 a0 a1 a2 a3 a4 (ix4 z h n i) = cum (gs a4 (dir z) (bat z) h) n i := by
  unfold A_main_v49
  refine (cumsum3_at (A := 4) (B := 32) (C := 68) (A_main_v48 a0 a1 a2 a3 a4) (K_main_call0_v0 (F := Ideal)) _ _ zero_const z h n i).trans ?_
  simp only [da_at]
  unfold cum
  rfl

end Cert.SSD.Ref

end
-- ==== Proof.SsdRefIntra.lean ====
/- What a position of the state-space scan's reference takes from its own chunk, at an index. -/
module

public import Idealize.ShloMosaic.Lib.WordCmp
public import proofs.«01_k».proof.Proof.SsdRefChunk

@[expose] public section

noncomputable section

namespace Cert.SSD.Ref

open Idealize.ShloMosaic Idealize.ShloMosaic.TcCoe
open Cert.SsdReferenceIdeal Cert.SsdReferenceIdeal.Gen Cert.SsdReferenceIdeal.Step
open Cert.GLA (pos tok)
open Cert.GLA.Ref (dir bat chunk_swap_read swap5_read swap4_read)

variable (a0 : (⟨S2x4352x2048, .f32⟩ : BufTy).Contents (Elt Ideal)) (a1 a2 : (⟨S2x4352x512, .f32⟩ : BufTy).Contents (Elt Ideal))
  (a3 a4 : (⟨S2x4352x2x32, .f32⟩ : BufTy).Contents (Elt Ideal))

/-! ## Inside a chunk -/

theorem mask1_at (z : Fin 4) (h : Fin 32) (n : Fin 68) (i s : Fin 64) :
    K_main_call1_v1 (F := Ideal) (ix5 z h n i s) = if s ≤ i then 1#1 else 0#1 := by
  unfold K_main_call1_v1 K_main_v59 K_main_v58 K_main_v57 K_main_v56 K_main_v55 K_main_v54
  pointwise
  rw [WordCmp.cmpi_sge_ofNat (by omega) (by omega)]
  by_cases hs : s ≤ i
  · rw [if_pos hs, decide_eq_true (Fin.le_def.1 hs)]; rfl
  · rw [if_neg hs, decide_eq_false (fun h => hs (Fin.le_def.2 h))]; rfl

theorem mask2_at (z : Fin 4) (h : Fin 32) (n : Fin 68) (i s : Fin 64) :
    K_main_call2_v1 (F := Ideal) (ix5 z h n i s) = if s ≤ i then 1#1 else 0#1 := mask1_at z h n i s

theorem fill2_at (j : S4x32x68x64x64.Idx) : K_main_call2_v2 (F := Ideal) j = 0 := by
  unfold K_main_call2_v2
  exact Ideal.ofBits_zero_f32

theorem diff_at (z : Fin 4) (h : Fin 32) (n : Fin 68) (i s : Fin 64) :
    A_main_v69 a0 a1 a2 a3 a4 (ix5 z h n i s) = cum (gs a4 (dir z) (bat z) h) n i - cum (gs a4 (dir z) (bat z) h) n s := by
  rw [← cum_at, ← cum_at]
  unfold A_main_v69 A_main_v68 A_main_v67 A_main_v66 A_main_v65
  generalize A_main_v49 a0 a1 a2 a3 a4 = x
  pointwise

theorem seg_at (z : Fin 4) (h : Fin 32) (n : Fin 68) (i s : Fin 64) :
    A_main_v72 a0 a1 a2 a3 a4 (ix5 z h n i s) = seg (gs a4 (dir z) (bat z) h) n i s := by
  have h1 := diff_at a0 a1 a2 a3 a4 z h n i s
  have h2 := mask1_at z h n i s
  have h3 := mask2_at z h n i s
  have h4 := fill2_at (ix5 z h n i s)
  unfold A_main_v72 A_main_v71 A_main_v70
  revert h1 h2 h3 h4
  generalize A_main_v69 a0 a1 a2 a3 a4 = x
  generalize K_main_call1_v1 (F := Ideal) = m1
  generalize K_main_call2_v1 (F := Ideal) = m2
  generalize K_main_call2_v2 (F := Ideal) = f2
  generalize K_main_call1_v2 (F := Ideal) = f1
  intro h1 h2 h3 h4
  pointwise
  unfold seg
  by_cases hs : s ≤ i
  · rw [if_pos hs] at h2 h3
    simp [Scalar.select, h1, h2, h3, hs]
  · rw [if_neg hs] at h2 h3
    simp [Scalar.select, h3, h4, hs]

theorem score_at (z g : Fin 4) (n : Fin 68) (i s : Fin 64) :
    A_main_v73 a0 a1 a2 a3 a4 (ix5 z g n i s) = score (vs a1 (dir z) (bat z) g) (vs a2 (dir z) (bat z) g) n i s := by
  have h1 := fun c => cm_at a0 a1 a2 a3 a4 z g n i c
  have h2 := fun c => bm_at a0 a1 a2 a3 a4 z g n s c
  unfold A_main_v73
  revert h1 h2
  generalize A_main_v53 a0 a1 a2 a3 a4 = x1
  generalize A_main_v51 a0 a1 a2 a3 a4 = x2
  intro h1 h2
  pointwise [dot_S4x4x68x64x128_S4x4x68x64x128_S4x4x68x64x64_4_4_3_3_012_012]
  simp only [h1, h2]
  rfl

/-- Repeating a group's scores for its eight heads. -/
theorem rep_at (z : Fin 4) (h : Fin 32) (n : Fin 68) (i s : Fin 64) :
    A_main_v75 a0 a1 a2 a3 a4 (ix5 z h n i s) = A_main_v73 a0 a1 a2 a3 a4 (ix5 z (grp h) n i s) := by
  unfold A_main_v75 A_main_v74
  generalize A_main_v73 a0 a1 a2 a3 a4 = x
  pointwise
  rfl

theorem wts_at (z : Fin 4) (h : Fin 32) (n : Fin 68) (i s : Fin 64) :
    A_main_v76 a0 a1 a2 a3 a4 (ix5 z h n i s)
      = score (vs a1 (dir z) (bat z) (grp h)) (vs a2 (dir z) (bat z) (grp h)) n i s * seg (gs a4 (dir z) (bat z) h) n i s := by
  unfold A_main_v76
  refine (mulf_apply _ _ _).trans ?_
  rw [rep_at, score_at, seg_at]
  rfl

theorem intra_at (z : Fin 4) (h : Fin 32) (n : Fin 68) (i p : Fin 64) :
    A_main_v77 a0 a1 a2 a3 a4 (ix5 z h n i p) = intra (xs a0 (dir z) (bat z) h) (vs a1 (dir z) (bat z) (grp h)) (vs a2 (dir z) (bat z) (grp h)) (gs a3 (dir z) (bat z) h) (gs a4 (dir z) (bat z) h) n i p := by
  have h1 := fun s => wts_at a0 a1 a2 a3 a4 z h n i s
  have h2 := fun s => xd_at a0 a1 a2 a3 a4 z h n s p
  unfold A_main_v77
  revert h1 h2
  generalize A_main_v76 a0 a1 a2 a3 a4 = x1
  generalize A_main_v46 a0 a1 a2 a3 a4 = x2
  intro h1 h2
  pointwise [dot_S4x32x68x64x64_S4x32x68x64x64_S4x32x68x64x64_4_3_3_4_012_012]
  simp only [h1, h2]
  unfold intra
  rfl

end Cert.SSD.Ref

end
-- ==== Proof.SsdRefLoop.lean ====
/- The arrays that the state-space scan's reference loops over, at an index. -/
module

public import proofs.«01_k».proof.Proof.SsdRefIntra

@[expose] public section

noncomputable section

namespace Cert.SSD.Ref

open Idealize.ShloMosaic Idealize.ShloMosaic.TcCoe
open Cert.SsdReferenceIdeal Cert.SsdReferenceIdeal.Gen Cert.SsdReferenceIdeal.Step
open Cert.GLA (pos tok)
open Cert.GLA.Ref (dir bat chunk_swap_read swap5_read swap4_read)

variable (a0 : (⟨S2x4352x2048, .f32⟩ : BufTy).Contents (Elt Ideal)) (a1 a2 : (⟨S2x4352x512, .f32⟩ : BufTy).Contents (Elt Ideal))
  (a3 a4 : (⟨S2x4352x2x32, .f32⟩ : BufTy).Contents (Elt Ideal))

/-! ## What a chunk leaves -/

theorem edge_at (z : Fin 4) (h : Fin 32) (n : Fin 68) :
    A_main_v79 a0 a1 a2 a3 a4 (ix3 z h n) = cum (gs a4 (dir z) (bat z) h) n 63 := by
  rw [← cum_at]
  unfold A_main_v79 A_main_v78
  generalize A_main_v49 a0 a1 a2 a3 a4 = x
  pointwise

theorem edge_wide (z : Fin 4) (h : Fin 32) (n : Fin 68) (i : Fin 64) :
    A_main_v81 a0 a1 a2 a3 a4 (ix4 z h n i) = cum (gs a4 (dir z) (bat z) h) n 63 := by
  rw [← edge_at]
  unfold A_main_v81 A_main_v80
  generalize A_main_v79 a0 a1 a2 a3 a4 = x
  pointwise

theorem left_at (z : Fin 4) (h : Fin 32) (n : Fin 68) (i : Fin 64) :
    A_main_v83 a0 a1 a2 a3 a4 (ix4 z h n i) = Ideal.exp (cum (gs a4 (dir z) (bat z) h) n 63 - cum (gs a4 (dir z) (bat z) h) n i) := by
  unfold A_main_v83 A_main_v82
  refine (Host.exp_apply _ _).trans ?_
  rw [subf_apply, cum_at, edge_wide]
  rfl

theorem left_wide (z : Fin 4) (h : Fin 32) (n : Fin 68) (i p : Fin 64) :
    A_main_v85 a0 a1 a2 a3 a4 (ix5 z h n i p) = A_main_v83 a0 a1 a2 a3 a4 (ix4 z h n i) := by
  unfold A_main_v85 A_main_v84
  generalize A_main_v83 a0 a1 a2 a3 a4 = x
  pointwise

theorem xw_at (z : Fin 4) (h : Fin 32) (n : Fin 68) (i p : Fin 64) :
    A_main_v86 a0 a1 a2 a3 a4 (ix5 z h n i p) = xw (xs a0 (dir z) (bat z) h) (gs a3 (dir z) (bat z) h) (gs a4 (dir z) (bat z) h) n i p := by
  unfold A_main_v86
  refine (mulf_apply _ _ _).trans ?_
  rw [xd_at, left_wide, left_at]
  rfl

theorem ecum_at (z : Fin 4) (h : Fin 32) (n : Fin 68) (i : Fin 64) :
    A_main_v87 a0 a1 a2 a3 a4 (ix4 z h n i) = Ideal.exp (cum (gs a4 (dir z) (bat z) h) n i) := by
  unfold A_main_v87
  refine (Host.exp_apply _ _).trans ?_
  rw [cum_at]
  rfl

theorem last_at (z : Fin 4) (h : Fin 32) (n : Fin 68) :
    A_main_v88 a0 a1 a2 a3 a4 (ix3 z h n) = Ideal.exp (cum (gs a4 (dir z) (bat z) h) n 63) := by
  unfold A_main_v88
  refine (Host.exp_apply _ _).trans ?_
  rw [edge_at]
  rfl

/-! ## The loop's six sequences, chunk first -/

theorem swap3_read {α : Type} {A B C : ℕ} (x : (⟨3, ![A, B, C]⟩ : Shape).Idx → α)
    (ht : (⟨3, ![A, B, C]⟩ : Shape).Transposes [2, 0, 1] ⟨3, ![C, A, B]⟩) (a : Fin A) (b : Fin B) (c : Fin C) :
    transpose ⟨3, ![C, A, B]⟩ [2, 0, 1] x ht (ix3 c a b) = x (ix3 a b c) := by
  refine transpose_apply _ _ ht _ _ fun t => ?_
  fin_cases t <;> rfl

theorem loop_c (n : Fin 68) (z g : Fin 4) (i : Fin 64) (k : Fin 128) :
    A_main_v89 a0 a1 a2 a3 a4 (ix5 n z g i k) = vs a2 (dir z) (bat z) g n i k :=
  (swap5_read (A := 4) (B := 4) (C := 68) (D := 64) (E := 128) (A_main_v53 a0 a1 a2 a3 a4) _ z g n i k).trans (cm_at a0 a1 a2 a3 a4 z g n i k)

theorem loop_b (n : Fin 68) (z g : Fin 4) (i : Fin 64) (k : Fin 128) :
    A_main_v90 a0 a1 a2 a3 a4 (ix5 n z g i k) = vs a1 (dir z) (bat z) g n i k :=
  (swap5_read (A := 4) (B := 4) (C := 68) (D := 64) (E := 128) (A_main_v51 a0 a1 a2 a3 a4) _ z g n i k).trans (bm_at a0 a1 a2 a3 a4 z g n i k)

theorem loop_xw (n : Fin 68) (z : Fin 4) (h : Fin 32) (i p : Fin 64) :
    A_main_v91 a0 a1 a2 a3 a4 (ix5 n z h i p) = xw (xs a0 (dir z) (bat z) h) (gs a3 (dir z) (bat z) h) (gs a4 (dir z) (bat z) h) n i p :=
  (swap5_read (A := 4) (B := 32) (C := 68) (D := 64) (E := 64) (A_main_v86 a0 a1 a2 a3 a4) _ z h n i p).trans (xw_at a0 a1 a2 a3 a4 z h n i p)

theorem loop_cum (n : Fin 68) (z : Fin 4) (h : Fin 32) (i : Fin 64) :
    A_main_v92 a0 a1 a2 a3 a4 (ix4 n z h i) = Ideal.exp (cum (gs a4 (dir z) (bat z) h) n i) :=
  (swap4_read (A := 4) (B := 32) (C := 68) (D := 64) (A_main_v87 a0 a1 a2 a3 a4) _ z h n i).trans (ecum_at a0 a1 a2 a3 a4 z h n i)

theorem loop_last (n : Fin 68) (z : Fin 4) (h : Fin 32) :
    A_main_v93 a0 a1 a2 a3 a4 (ix3 n z h) = Ideal.exp (cum (gs a4 (dir z) (bat z) h) n 63) :=
  (swap3_read (A := 4) (B := 32) (C := 68) (A_main_v88 a0 a1 a2 a3 a4) _ z h n).trans (last_at a0 a1 a2 a3 a4 z h n)

theorem loop_intra (n : Fin 68) (z : Fin 4) (h : Fin 32) (i p : Fin 64) :
    A_main_v94 a0 a1 a2 a3 a4 (ix5 n z h i p) = intra (xs a0 (dir z) (bat z) h) (vs a1 (dir z) (bat z) (grp h)) (vs a2 (dir z) (bat z) (grp h)) (gs a3 (dir z) (bat z) h) (gs a4 (dir z) (bat z) h) n i p :=
  (swap5_read (A := 4) (B := 32) (C := 68) (D := 64) (E := 64) (A_main_v77 a0 a1 a2 a3 a4) _ z h n i p).trans (intra_at a0 a1 a2 a3 a4 z h n i p)

end Cert.SSD.Ref

end
-- ==== Proof.SsdRefStep.lean ====
/- One trip of the loop of the state-space scan's reference, at an index. -/
module

public import proofs.«01_k».proof.Proof.SsdRefLoop

@[expose] public section

noncomputable section

namespace Cert.SSD.Ref

open Idealize.ShloMosaic Idealize.ShloMosaic.TcCoe
open Cert.SsdReferenceIdeal Cert.SsdReferenceIdeal.Gen Cert.SsdReferenceIdeal.Step
open Cert.GLA (pos tok)
open Cert.GLA.Ref (dir bat row5_read row4_read row5_write counter_toInt)

variable (a0 : (⟨S2x4352x2048, .f32⟩ : BufTy).Contents (Elt Ideal)) (a1 a2 : (⟨S2x4352x512, .f32⟩ : BufTy).Contents (Elt Ideal))
  (a3 a4 : (⟨S2x4352x2x32, .f32⟩ : BufTy).Contents (Elt Ideal))

theorem row3_read {α : Type} {A B C : ℕ} (x : (⟨3, ![A, B, C]⟩ : Shape).Idx → α) (st : Fin 3 → Int)
    (h : (⟨3, ![A, B, C]⟩ : Shape).Slices (fun _ => 0) ⟨3, ![1, B, C]⟩)
    (hc : (⟨3, ![1, B, C]⟩ : Shape).ShapeCasts ⟨2, ![B, C]⟩) (j : Fin A)
    (hs : ∀ a, st a = if a = 0 then (j.val : Int) else 0) (b : Fin B) (c : Fin C) :
    shapeCast ⟨2, ![B, C]⟩ (Host.dynamicSlice ⟨3, ![1, B, C]⟩ x st h) hc (ix2 b c) = x (ix3 j b c) := by
  have hsl : (⟨3, ![A, B, C]⟩ : Shape).Slices ![j.val, 0, 0] ⟨3, ![1, B, C]⟩ := by
    refine ⟨rfl, fun a => ?_⟩
    have := j.isLt
    fin_cases a
    · show j.val + 1 ≤ A; omega
    all_goals exact (Nat.zero_add _).le
  rw [Host.dynamicSlice_eq_extractStridedSlice _ _ _ ![j.val, 0, 0] h hsl
    (fun a => by rw [hs a]; fin_cases a <;> rfl), Pointwise.shapeCast_apply]
  rw [show Shape.reshapeEquiv hc (ix2 b c) = ix3 0 b c from
    Shape.reshapeEquiv_eq_of_vals _ _ _ _ _ (rowMajor_val3 _ _ _ rfl rfl) (rowMajor_val2 _ _ rfl)
      (by
        show 0 * (B * C) + b.val * C + c.val = b.val * C + c.val
        rw [Nat.zero_mul, Nat.zero_add])]
  refine extractStridedSlice_apply _ _ _ _ _ fun a => ?_
  fin_cases a
  · show j.val = j.val + 0; rfl
  all_goals exact (Nat.zero_add _).symm

/-! ## The values of one trip -/

section Trip

variable (j : Fin 68) (s : State Ideal)

theorem b5_at (z : Fin 4) (h : Fin 4) (i : Fin 64) (k : Fin 128) :
    b5 j.val s (ix4 z h i k) = s.main_v96_0 (ix5 j z h i k) := by
  unfold b5 b4
  exact row5_read (A := 68) (B := 4) (C := 4) (D := 64) (E := 128) s.main_v96_0 _ _ _ j (fun a => by
    fin_cases a
    · exact counter_toInt j.val j.isLt
    all_goals rfl) z h i k

theorem b11_at (z : Fin 4) (h : Fin 4) (i : Fin 64) (k : Fin 128) :
    b11 j.val s (ix4 z h i k) = s.main_v96_1 (ix5 j z h i k) := by
  unfold b11 b10
  exact row5_read (A := 68) (B := 4) (C := 4) (D := 64) (E := 128) s.main_v96_1 _ _ _ j (fun a => by
    fin_cases a
    · exact counter_toInt j.val j.isLt
    all_goals rfl) z h i k

theorem b17_at (z : Fin 4) (h : Fin 32) (i : Fin 64) (k : Fin 64) :
    b17 j.val s (ix4 z h i k) = s.main_v96_2 (ix5 j z h i k) := by
  unfold b17 b16
  exact row5_read (A := 68) (B := 4) (C := 32) (D := 64) (E := 64) s.main_v96_2 _ _ _ j (fun a => by
    fin_cases a
    · exact counter_toInt j.val j.isLt
    all_goals rfl) z h i k

theorem b32_at (z : Fin 4) (h : Fin 32) (i : Fin 64) (k : Fin 64) :
    b32 j.val s (ix4 z h i k) = s.main_v96_5 (ix5 j z h i k) := by
  unfold b32 b31
  exact row5_read (A := 68) (B := 4) (C := 32) (D := 64) (E := 64) s.main_v96_5 _ _ _ j (fun a => by
    fin_cases a
    · exact counter_toInt j.val j.isLt
    all_goals rfl) z h i k

theorem b22_at (z : Fin 4) (h : Fin 32) (i : Fin 64) : b22 j.val s (ix3 z h i) = s.main_v96_3 (ix4 j z h i) := by
  unfold b22 b21
  exact row4_read (A := 68) (B := 4) (C := 32) (D := 64) s.main_v96_3 _ _ _ j (fun a => by
    fin_cases a
    · exact counter_toInt j.val j.isLt
    all_goals rfl) z h i

theorem b26_at (z : Fin 4) (h : Fin 32) : b26 j.val s (ix2 z h) = s.main_v96_4 (ix3 j z h) := by
  unfold b26 b25
  exact row3_read (A := 68) (B := 4) (C := 32) s.main_v96_4 _ _ _ j (fun a => by
    fin_cases a
    · exact counter_toInt j.val j.isLt
    all_goals rfl) z h

/-- Reading the carried matrix: head `h` as head `h % 8` of group `h / 8`. -/
theorem b33_at (z g : Fin 4) (r : Fin 8) (p : Fin 64) (k : Fin 128) :
    b33 j.val s (ix5 z g r p k) = s.main_v96_7 (ix4 z ⟨g.val * 8 + r.val, by omega⟩ p k) := by
  unfold b33
  generalize s.main_v96_7 = x
  pointwise

theorem b36_at (z : Fin 4) (h : Fin 32) (i p : Fin 64) :
    b36 j.val s (ix4 z h i p) = ∑ k : Fin 128, s.main_v96_7 (ix4 z h p k) * s.main_v96_0 (ix5 j z (grp h) i k) := by
  have h1 := fun (g : Fin 4) (r : Fin 8) k => b33_at j s z g r p k
  have h2 := fun k => b5_at j s z (grp h) i k
  have e : ∀ k, s.main_v96_7 (ix4 z h p k) = b33 j.val s (ix5 z (grp h) ⟨h.val % 8, Nat.mod_lt _ (by norm_num)⟩ p k) := fun k => by
    rw [h1]
    refine congrArg s.main_v96_7 (congrArg (fun a => ix4 z a p k) (Fin.ext ?_))
    show h.val = h.val / 8 * 8 + h.val % 8
    omega
  simp only [e, ← h2]
  unfold b36 b35 b34
  generalize b33 j.val s = x
  generalize b5 j.val s = y
  pointwise [dot_S4x4x8x64x128_S4x4x64x128_S4x4x8x64x64_4_3_23_2_01_01]
  rfl

theorem b47_at (z : Fin 4) (h : Fin 32) (i p : Fin 64) :
    b47 j.val s (ix4 z h i p) = s.main_v96_5 (ix5 j z h i p)
      + (∑ k : Fin 128, s.main_v96_7 (ix4 z h p k) * s.main_v96_0 (ix5 j z (grp h) i k)) * s.main_v96_3 (ix4 j z h i) := by
  rw [← b36_at, ← b32_at, ← b22_at]
  unfold b47 b39 b38 b37
  generalize b36 j.val s = x
  generalize b32 j.val s = y
  generalize b22 j.val s = w
  pointwise

theorem b45_at (z : Fin 4) (h : Fin 32) (p : Fin 64) (k : Fin 128) :
    b45 j.val s (ix4 z h p k) = ∑ i : Fin 64, s.main_v96_2 (ix5 j z h i p) * s.main_v96_1 (ix5 j z (grp h) i k) := by
  have h1 := fun i => b17_at j s z h i p
  have h2 := fun i => b11_at j s z (grp h) i k
  simp only [← h1, ← h2]
  unfold b45 b44 b40
  generalize b17 j.val s = x
  generalize b11 j.val s = y
  pointwise [dot_S4x4x8x64x64_S4x4x64x128_S4x4x8x64x128_3_2_24_3_01_01]
  refine Finset.sum_congr rfl fun i _ => congrArg₂ (· * ·) (congrArg x (congrArg (fun a => ix4 z a i p) (Fin.ext ?_))) rfl
  simp only

theorem b46_at (z : Fin 4) (h : Fin 32) (p : Fin 64) (k : Fin 128) :
    b46 j.val s (ix4 z h p k) = s.main_v96_7 (ix4 z h p k) * s.main_v96_4 (ix3 j z h)
      + ∑ i : Fin 64, s.main_v96_2 (ix5 j z h i p) * s.main_v96_1 (ix5 j z (grp h) i k) := by
  rw [← b45_at, ← b26_at]
  unfold b46 b43 b42 b41
  generalize b45 j.val s = x
  generalize b26 j.val s = y
  generalize s.main_v96_7 = w
  pointwise

theorem b53_at (n : Fin 68) (z : Fin 4) (h : Fin 32) (i p : Fin 64) :
    b53 j.val s (ix5 n z h i p) = if n = j then b47 j.val s (ix4 z h i p) else s.main_v96_8 (ix5 n z h i p) := by
  unfold b53
  refine (row5_write (A := 68) (B := 4) (C := 32) (D := 64) (E := 64) s.main_v96_8 (b48 j.val s) _ _ j (fun a => by
    fin_cases a
    · exact counter_toInt j.val j.isLt
    all_goals rfl) n z h i p).trans ?_
  congr 1

end Trip

/-! ## All trips -/

/-- What the loop has after `n` trips: its six sequences as they were, the carried matrix, and the rows written. -/
structure After (n : ℕ) (s : State Ideal) : Prop where
  c : s.main_v96_0 = A_main_v89 a0 a1 a2 a3 a4
  b : s.main_v96_1 = A_main_v90 a0 a1 a2 a3 a4
  x : s.main_v96_2 = A_main_v91 a0 a1 a2 a3 a4
  e : s.main_v96_3 = A_main_v92 a0 a1 a2 a3 a4
  l : s.main_v96_4 = A_main_v93 a0 a1 a2 a3 a4
  i : s.main_v96_5 = A_main_v94 a0 a1 a2 a3 a4
  st : ∀ (z : Fin 4) (h : Fin 32) (p : Fin 64) (k : Fin 128), s.main_v96_7 (ix4 z h p k)
    = mat a0 a1 a3 a4 (dir z) (bat z) h n p k
  o : ∀ (m : Fin 68) (z : Fin 4) (h : Fin 32) (i p : Fin 64), m.val < n → s.main_v96_8 (ix5 m z h i p)
    = ssd a0 a1 a2 a3 a4 (dir z) (bat z) h m i p

theorem after_zero : After a0 a1 a2 a3 a4 0 (init (F := Ideal) a0 a1 a2 a3 a4) := by
  refine ⟨rfl, rfl, rfl, rfl, rfl, rfl, fun z h p k => ?_, fun m z h i p hm => absurd hm (Nat.not_lt_zero _)⟩
  exact Ideal.ofBits_zero_f32

theorem after_succ (j : Fin 68) (s : State Ideal) (hs : After a0 a1 a2 a3 a4 j.val s) :
    After a0 a1 a2 a3 a4 (j.val + 1) (step j.val s) := by
  refine ⟨hs.c, hs.b, hs.x, hs.e, hs.l, hs.i, fun z h p k => ?_, fun m z h i p hm => ?_⟩
  · rw [Step.step_main_v96_7, b46_at, hs.st, hs.l, loop_last, hs.x, hs.b]
    simp only [loop_xw, loop_b]
    rfl
  · rw [Step.step_main_v96_8, b53_at]
    by_cases hj : m = j
    · subst hj
      rw [if_pos rfl, b47_at, hs.i, hs.c, hs.e]
      simp only [loop_intra, loop_c, loop_cum, hs.st]
      rfl
    · rw [if_neg hj]
      exact hs.o m z h i p (by
        have : m.val ≠ j.val := fun h => hj (Fin.ext h)
        omega)

theorem after (it : ℕ → State Ideal) (h0 : it 0 = init (F := Ideal) a0 a1 a2 a3 a4) (hs : ∀ n, it (n + 1) = step n (it n))
    (n : ℕ) (hn : n ≤ 68) : After a0 a1 a2 a3 a4 n (it n) := by
  induction n with
  | zero => rw [h0]; exact after_zero a0 a1 a2 a3 a4
  | succ n ih => rw [hs]; exact after_succ a0 a1 a2 a3 a4 ⟨n, by omega⟩ _ (ih (by omega))

/-! ## The result -/

theorem row_at (s : State Ideal) (d b : Fin 2) (t : Fin 4352) (c : Fin 2048) :
    R_main_v111 s (ix4 d b t c) = s.main_v96_8 (ix5 ⟨pos d t / 64, by have := Cert.GLA.Ref.pos_lt d t; omega⟩ ⟨2 * d.val + b.val, by omega⟩
      ⟨c.val / 64, by omega⟩ ⟨pos d t % 64, Nat.mod_lt _ (by norm_num)⟩ ⟨c.val % 64, Nat.mod_lt _ (by norm_num)⟩) := by
  unfold R_main_v111
  generalize s.main_v96_8 = x
  pointwise
  simp only [List.mem_singleton, Fin.reduceEq, ↓reduceIte, if_false, if_true, Fin.val_rev, Fin.isValue, zero_ne_one]
  split <;> rename_i hd
  · have hp : pos d t = t.val := by unfold pos; rw [if_pos (by omega)]
    have hb : 2 * d.val + b.val = b.val := by omega
    simp only [hp, hb]
  · have hb : 2 * d.val + b.val = 2 + b.val := by omega
    split <;> rename_i ht
    · have hp : pos d t = 256 - (t.val + 1) := by unfold pos; rw [if_neg (by omega), if_pos ht]; omega
      simp only [hp, hb]
    · have hp : pos d t = 256 + (4096 - (t.val - 256 + 1)) := by unfold pos; rw [if_neg (by omega), if_neg ht]; omega
      simp only [hp, hb]

theorem result_at (s : State Ideal) (hs : After a0 a1 a2 a3 a4 68 s) (d b : Fin 2) (t : Fin 4352) (c : Fin 2048) :
    R_main_v111 s (ix4 d b t c) = result a0 a1 a2 a3 a4 d b t c := by
  rw [row_at, hs.o _ _ _ _ _ (by simp only; have := Cert.GLA.Ref.pos_lt d t; omega)]
  have e1 : dir ⟨2 * d.val + b.val, by omega⟩ = d := Fin.ext (by unfold dir; simp only; omega)
  have e2 : bat ⟨2 * d.val + b.val, by omega⟩ = b := Fin.ext (by unfold bat; simp only; omega)
  rw [e1, e2]
  rfl

end Cert.SSD.Ref

end
-- ==== Proof.SsdValue.lean ====
/- The state-space scan's value: the kernel's and the reference's result arrays are both the specification's. -/
module

public import proofs.«01_k».proof.Defs
public import proofs.«01_k».proof.Proof.SsdKerOut
public import proofs.«01_k».proof.Proof.SsdRefRun
public import proofs.«01_k».proof.Proof.SsdRefStep
public import Idealize.ShloMosaic.Adequacy
public import Idealize.ShloMosaic.Init

@[expose] public section

noncomputable section

namespace Cert.SSD

open Idealize.ShloMosaic Idealize.SL.Sem

/-- The reference's carried values after `n` chunks. -/
def refIter (m : (ℓ : Loc Cert.SsdReferenceIdeal.nD Cert.SsdReferenceIdeal.τ Cert.SsdReferenceIdeal.sig) → Buf (Elt Ideal) ℓ)
    (c : Dev Cert.SsdReferenceIdeal.nD) : ℕ → Cert.SsdReferenceIdeal.Step.State Ideal
  | 0 => Cert.SSD.RefRun.first m c
  | n + 1 => Cert.SsdReferenceIdeal.Step.step n (refIter m c n)

/-- The reference runs, keeps its arguments and leaves every counter at zero: its generated loop run, and it has no
    semaphore. -/
theorem frame_reference : Cert.quiescent_SsdReferenceIdeal := fun m ρ _ =>
  (θ_run Cert.SsdReferenceIdeal.defs _ _).mono (fun r h => ⟨fun c => (h c).2, sem_eq_zero_of_no_sems (by decide) r.2⟩)
    (Cert.SSD.RefRun.run m ρ (refIter m) (fun _ => rfl) (fun _ _ => rfl))

/-- The kernel's result array after the run is the specification's, at every index (`Ker.final`). -/
theorem kernel_value (m : (ℓ : Loc Cert.SsdIdeal.nD Cert.SsdIdeal.τ Cert.SsdIdeal.sig) → Buf (Elt Ideal) ℓ)
    (ρ : Dev Cert.SsdIdeal.nD → PrngReg) :
    θ_run (Cert.SsdIdeal.defs (F := Ideal)) (onTc (τ := Cert.SsdIdeal.τ) (Cert.SsdIdeal.main (F := Ideal))) ⟨m, fun _ => 0, ρ⟩
      fun r => ∀ c : Dev Cert.SsdIdeal.nD,
        r.2.mem ((c.tc : Thread Cert.SsdIdeal.nD Cert.SsdIdeal.τ).loc Cert.SsdIdeal.main_v26) = Cert.SSD.Ker.G m c
        ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
        ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
        ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
        ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
        ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4) :=
  (θ_run Cert.SsdIdeal.defs _ _).mono (fun _ h c => ⟨(h c).1.trans (Cert.SSD.Ker.final m c), (h c).2⟩)
    (Cert.SsdIdeal.Value.run_blocks m ρ)

/-- The reference's result array is the specification's, at every index, of the arguments it finds. -/
theorem reference_value (m : (ℓ : Loc Cert.SsdReferenceIdeal.nD Cert.SsdReferenceIdeal.τ Cert.SsdReferenceIdeal.sig) → Buf (Elt Ideal) ℓ)
    (c : Dev Cert.SsdReferenceIdeal.nD) (j : Cert.SsdIdeal.S2x2x4352x2048.Idx) :
    Cert.SsdReferenceIdeal.Step.R_main_v111 (refIter m c 68) j
      = Cert.SSD.result (m ((c.tc : Thread Cert.SsdReferenceIdeal.nD Cert.SsdReferenceIdeal.τ).loc Cert.SsdReferenceIdeal.main_arg0))
          (m ((c.tc : Thread Cert.SsdReferenceIdeal.nD Cert.SsdReferenceIdeal.τ).loc Cert.SsdReferenceIdeal.main_arg1))
          (m ((c.tc : Thread Cert.SsdReferenceIdeal.nD Cert.SsdReferenceIdeal.τ).loc Cert.SsdReferenceIdeal.main_arg2))
          (m ((c.tc : Thread Cert.SsdReferenceIdeal.nD Cert.SsdReferenceIdeal.τ).loc Cert.SsdReferenceIdeal.main_arg3))
          (m ((c.tc : Thread Cert.SsdReferenceIdeal.nD Cert.SsdReferenceIdeal.τ).loc Cert.SsdReferenceIdeal.main_arg4)) (j 0) (j 1) (j 2) (j 3) := by
  have hs := Cert.SSD.Ref.after _ _ _ _ _ (refIter m c) rfl (fun _ => rfl) 68 le_rfl
  have hj : j = ix4 (j 0) (j 1) (j 2) (j 3) := ValueIdx.eq_ix4 (n0 := 2) (n1 := 2) (n2 := 4352) (n3 := 2048) j
  exact (congrArg (Cert.SsdReferenceIdeal.Step.R_main_v111 (refIter m c 68)) hj).trans
    (Cert.SSD.Ref.result_at _ _ _ _ _ _ hs (j 0) (j 1) (j 2) (j 3))

/-- Kernel and reference compute the same function over the extended reals: both result arrays are the specification's,
    and the arguments agree. -/
theorem algebraic : Cert.algebraic_SsdIdeal_SsdReferenceIdeal := by
  intro m ρ m' ρ' _ hagree
  refine ⟨fun c => Cert.SSD.Ker.G m c, kernel_value m ρ, ?_⟩
  refine (θ_run Cert.SsdReferenceIdeal.defs _ _).mono (fun r h c => ⟨(h c).1.trans ?_, (h c).2⟩)
    (Cert.SSD.RefRun.run m' ρ' (refIter m') (fun _ => rfl) (fun _ _ => rfl))
  funext j
  refine (reference_value m' c j).trans ?_
  rw [(hagree c).1, (hagree c).2.1, (hagree c).2.2.1, (hagree c).2.2.2.1, (hagree c).2.2.2.2]
  rfl

end Cert.SSD

end
-- ==== Proof.lean ====
module

public import proofs.«01_k».proof.Proof.Gen.KernelIdeal.Value
public import proofs.«01_k».proof.Defs
public import proofs.«01_k».proof.Proof.KerOut
public import proofs.«01_k».proof.Proof.RefRun
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.EvenInValue
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInIdeal.Value
public import proofs.«01_k».proof.Proof.Gen.EvenInReferenceIdeal
public import proofs.«01_k».proof.Proof.Gen.EvenInReferenceIdeal.Run
public import proofs.«01_k».proof.Proof.EvenInContextValue
public import proofs.«01_k».proof.Proof.Gen.EvenInContext
public import proofs.«01_k».proof.Proof.Gen.EvenInContext.Skeleton
public import proofs.«01_k».proof.Proof.Gen.EvenInContext.Launch
public import proofs.«01_k».proof.Proof.Gen.EvenInContext.Points
public import proofs.«01_k».proof.Proof.Gen.EvenInContext.Frame
public import proofs.«01_k».proof.Proof.Gen.EvenInContextIdeal
public import proofs.«01_k».proof.Proof.Gen.EvenInContextIdeal.Skeleton
public import proofs.«01_k».proof.Proof.Gen.EvenInContextIdeal.Launch
public import proofs.«01_k».proof.Proof.Gen.EvenInContextIdeal.Points
public import proofs.«01_k».proof.Proof.Gen.EvenInContextIdeal.Frame
public import proofs.«01_k».proof.Proof.Gen.EvenInContextIdeal.Value
public import proofs.«01_k».proof.Proof.Gen.EvenInContextReferenceIdeal
public import proofs.«01_k».proof.Proof.Gen.EvenInContextReferenceIdeal.Run
public import proofs.«01_k».proof.Proof.OddInValue
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInReferenceIdeal
public import proofs.«01_k».proof.Proof.Gen.OddInReferenceIdeal.Run
public import proofs.«01_k».proof.Proof.EvenOutValue
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.EvenOutReferenceIdeal
public import proofs.«01_k».proof.Proof.Gen.EvenOutReferenceIdeal.Run
public import proofs.«01_k».proof.Proof.EvenOutContextValue
public import proofs.«01_k».proof.Proof.Gen.EvenOutContext
public import proofs.«01_k».proof.Proof.Gen.EvenOutContext.Skeleton
public import proofs.«01_k».proof.Proof.Gen.EvenOutContext.Launch
public import proofs.«01_k».proof.Proof.Gen.EvenOutContext.Points
public import proofs.«01_k».proof.Proof.Gen.EvenOutContext.Frame
public import proofs.«01_k».proof.Proof.Gen.EvenOutContextIdeal
public import proofs.«01_k».proof.Proof.Gen.EvenOutContextIdeal.Skeleton
public import proofs.«01_k».proof.Proof.Gen.EvenOutContextIdeal.Launch
public import proofs.«01_k».proof.Proof.Gen.EvenOutContextIdeal.Points
public import proofs.«01_k».proof.Proof.Gen.EvenOutContextIdeal.Frame
public import proofs.«01_k».proof.Proof.Gen.EvenOutContextIdeal.Value
public import proofs.«01_k».proof.Proof.Gen.EvenOutContextReferenceIdeal
public import proofs.«01_k».proof.Proof.Gen.EvenOutContextReferenceIdeal.Run
public import proofs.«01_k».proof.Proof.OddOutValue
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutReferenceIdeal
public import proofs.«01_k».proof.Proof.Gen.OddOutReferenceIdeal.Run
public import proofs.«01_k».proof.Proof.Gen.KeyScores
public import proofs.«01_k».proof.Proof.Gen.KeyScores.Skeleton
public import proofs.«01_k».proof.Proof.Gen.KeyScores.Launch
public import proofs.«01_k».proof.Proof.Gen.KeyScores.Points
public import proofs.«01_k».proof.Proof.Gen.KeyScores.Frame
public import proofs.«01_k».proof.Proof.Gen.KeyScoresIdeal
public import proofs.«01_k».proof.Proof.Gen.KeyScoresIdeal.Skeleton
public import proofs.«01_k».proof.Proof.Gen.KeyScoresIdeal.Launch
public import proofs.«01_k».proof.Proof.Gen.KeyScoresIdeal.Points
public import proofs.«01_k».proof.Proof.Gen.KeyScoresIdeal.Frame
public import proofs.«01_k».proof.Proof.Gen.KeyScoresIdeal.Value
public import proofs.«01_k».proof.Proof.Gen.KeyScoresReferenceIdeal
public import proofs.«01_k».proof.Proof.Gen.KeyScoresReferenceIdeal.Run
public import proofs.«01_k».proof.Proof.KeyScoresValue
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdIdeal.Value
public import proofs.«01_k».proof.Proof.Gen.SsdReferenceIdeal
public import proofs.«01_k».proof.Proof.Gen.SsdReferenceIdeal.Run
public import proofs.«01_k».proof.Proof.Gen.SsdReferenceIdeal.Step
public import proofs.«01_k».proof.Proof.SsdValue
public import Idealize.ShloMosaic.Adequacy
public import Idealize.ShloMosaic.Init

@[expose] public section

noncomputable section

namespace Cert.Proof

open Idealize.ShloMosaic Idealize.SL.Sem

/-- The reference's carried values after `n` chunks. -/
def refIter (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.GLA.RefRun.first m c
  | n + 1 => Cert.ReferenceIdeal.Step.step n (refIter m c n)

/-- The reference runs, keeps its arguments and leaves every counter at zero: its generated loop run, and it has no
    semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.GLA.RefRun.run m ρ (refIter m) (fun _ => rfl) (fun _ _ => rfl))

/-- The kernel's result array after the run is the specification's, at every index (`Ker.final`). -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v3) = Cert.GLA.Ker.G m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  (θ_run Cert.KernelIdeal.defs _ _).mono (fun _ h c => ⟨(h c).1.trans (Cert.GLA.Ker.final m c), (h c).2⟩)
    (Cert.KernelIdeal.Value.run_blocks m ρ)

/-- The reference's result array is the specification's, at every index, of the arguments it finds. -/
theorem reference_value (m : (ℓ : Loc Cert.ReferenceIdeal.nD Cert.ReferenceIdeal.τ Cert.ReferenceIdeal.sig) → Buf (Elt Ideal) ℓ)
    (c : Dev Cert.ReferenceIdeal.nD) (j : Cert.KernelIdeal.S2x2x4352x2048.Idx) :
    Cert.ReferenceIdeal.Step.R_main_v130 (refIter m c 68) j
      = Cert.GLA.Ref.result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) (j 0) (j 1) (j 2) (j 3) := by
  have hs := Cert.GLA.Ref.after _ _ _ _ (refIter m c) rfl (fun _ => rfl) 68 le_rfl
  have hj : j = ix4 (j 0) (j 1) (j 2) (j 3) := ValueIdx.eq_ix4 (n0 := 2) (n1 := 2) (n2 := 4352) (n3 := 2048) j
  exact (congrArg (Cert.ReferenceIdeal.Step.R_main_v130 (refIter m c 68)) hj).trans
    (Cert.GLA.Ref.result_at _ _ _ _ _ hs (j 0) (j 1) (j 2) (j 3))

/-- Kernel and reference compute the same function over the extended reals: both result arrays are the specification's,
    and the arguments agree. -/
theorem algebraic : Cert.algebraic_KernelIdeal_ReferenceIdeal := by
  intro m ρ m' ρ' _ hagree
  refine ⟨fun c => Cert.GLA.Ker.G m c, kernel_value m ρ, ?_⟩
  refine (θ_run Cert.ReferenceIdeal.defs _ _).mono (fun r h c => ⟨(h c).1.trans ?_, (h c).2⟩)
    (Cert.GLA.RefRun.run m' ρ' (refIter m') (fun _ => rfl) (fun _ _ => rfl))
  funext j
  refine (reference_value m' c j).trans ?_
  rw [(hagree c).1, (hagree c).2.1, (hagree c).2.2.1, (hagree c).2.2.2]
  rfl

/-- `Cert.Claim`: for each of the nine calls the two kernel frames and the reference's, the idealization (no rewrites), and
    the value. -/
theorem claim : Cert.Claim := ⟨
  Cert.Kernel.Gen.facts, Cert.KernelIdeal.Gen.facts, Cert.ReferenceIdeal.Gen.facts,
  Cert.EvenIn.Gen.facts, Cert.EvenInIdeal.Gen.facts, Cert.EvenInReferenceIdeal.Gen.facts,
  Cert.EvenInContext.Gen.facts, Cert.EvenInContextIdeal.Gen.facts, Cert.EvenInContextReferenceIdeal.Gen.facts,
  Cert.OddIn.Gen.facts, Cert.OddInIdeal.Gen.facts, Cert.OddInReferenceIdeal.Gen.facts,
  Cert.EvenOut.Gen.facts, Cert.EvenOutIdeal.Gen.facts, Cert.EvenOutReferenceIdeal.Gen.facts,
  Cert.EvenOutContext.Gen.facts, Cert.EvenOutContextIdeal.Gen.facts, Cert.EvenOutContextReferenceIdeal.Gen.facts,
  Cert.OddOut.Gen.facts, Cert.OddOutIdeal.Gen.facts, Cert.OddOutReferenceIdeal.Gen.facts,
  Cert.KeyScores.Gen.facts, Cert.KeyScoresIdeal.Gen.facts, Cert.KeyScoresReferenceIdeal.Gen.facts,
  Cert.Ssd.Gen.facts, Cert.SsdIdeal.Gen.facts, Cert.SsdReferenceIdeal.Gen.facts,
  fun m ρ _ => Cert.Kernel.Gen.frame m ρ, fun m ρ _ => Cert.KernelIdeal.Gen.frame m ρ, frame_reference,
  fun m ρ _ => Cert.EvenIn.Gen.frame m ρ, fun m ρ _ => Cert.EvenInIdeal.Gen.frame m ρ, Cert.Projection.EvenIn.frame_reference,
  fun m ρ _ => Cert.EvenInContext.Gen.frame m ρ, fun m ρ _ => Cert.EvenInContextIdeal.Gen.frame m ρ, Cert.Projection.EvenInContext.frame_reference,
  fun m ρ _ => Cert.OddIn.Gen.frame m ρ, fun m ρ _ => Cert.OddInIdeal.Gen.frame m ρ, Cert.Projection.OddIn.frame_reference,
  fun m ρ _ => Cert.EvenOut.Gen.frame m ρ, fun m ρ _ => Cert.EvenOutIdeal.Gen.frame m ρ, Cert.Projection.EvenOut.frame_reference,
  fun m ρ _ => Cert.EvenOutContext.Gen.frame m ρ, fun m ρ _ => Cert.EvenOutContextIdeal.Gen.frame m ρ, Cert.Projection.EvenOutContext.frame_reference,
  fun m ρ _ => Cert.OddOut.Gen.frame m ρ, fun m ρ _ => Cert.OddOutIdeal.Gen.frame m ρ, Cert.Projection.OddOut.frame_reference,
  fun m ρ _ => Cert.KeyScores.Gen.frame m ρ, fun m ρ _ => Cert.KeyScoresIdeal.Gen.frame m ρ, Cert.Retrieval.frame_reference,
  fun m ρ _ => Cert.Ssd.Gen.frame m ρ, fun m ρ _ => Cert.SsdIdeal.Gen.frame m ρ, Cert.SSD.frame_reference,
  trivial, algebraic,
  trivial, Cert.Projection.EvenIn.algebraic,
  trivial, Cert.Projection.EvenInContext.algebraic,
  trivial, Cert.Projection.OddIn.algebraic,
  trivial, Cert.Projection.EvenOut.algebraic,
  trivial, Cert.Projection.EvenOutContext.algebraic,
  trivial, Cert.Projection.OddOut.algebraic,
  trivial, Cert.Retrieval.algebraic,
  trivial, Cert.SSD.algebraic⟩

end Cert.Proof

end
